-- ==== Defs.lean ====
def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_mla_finite [hPre_mla_finite : Cert.Pre_mla_finite.Facts] (m : (ℓ : Loc Cert.MlaIdeal.nD Cert.MlaIdeal.τ Cert.MlaIdeal.sig) → Buf (Elt Ideal) ℓ) : Prop :=
  ∀ c : Dev Cert.MlaIdeal.nD,
    (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4))) = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_mla_finite [hPre_mla_finite : Cert.Pre_mla_finite.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4))) = (fun _ => 1#1)

def Pre_Sb (m : (ℓ : Loc Cert.Sb.nD Cert.Sb.τ Cert.Sb.sig) → Buf (Elt Bits) ℓ) : Prop :=
  True

def Pre_SbIdeal (m : (ℓ : Loc Cert.SbIdeal.nD Cert.SbIdeal.τ Cert.SbIdeal.sig) → Buf (Elt Ideal) ℓ) : Prop :=
  True

def Pre_SbIdeal_sb_finite [hPre_sb_finite : Cert.Pre_sb_finite.Facts] (m : (ℓ : Loc Cert.SbIdeal.nD Cert.SbIdeal.τ Cert.SbIdeal.sig) → Buf (Elt Ideal) ℓ) : Prop :=
  ∀ c : Dev Cert.SbIdeal.nD,
    (Cert.Pre_sb_finite.fn (F := Ideal) (m ((c.tc : Thread Cert.SbIdeal.nD Cert.SbIdeal.τ).loc Cert.SbIdeal.main_arg0)) (m ((c.tc : Thread Cert.SbIdeal.nD Cert.SbIdeal.τ).loc Cert.SbIdeal.main_arg1)) (m ((c.tc : Thread Cert.SbIdeal.nD Cert.SbIdeal.τ).loc Cert.SbIdeal.main_arg2)) (m ((c.tc : Thread Cert.SbIdeal.nD Cert.SbIdeal.τ).loc Cert.SbIdeal.main_arg3)) (m ((c.tc : Thread Cert.SbIdeal.nD Cert.SbIdeal.τ).loc Cert.SbIdeal.main_arg4))) = (fun _ => 1#1)

def Pre_SbRefIdeal (m : (ℓ : Loc Cert.SbRefIdeal.nD Cert.SbRefIdeal.τ Cert.SbRefIdeal.sig) → Buf (Elt Ideal) ℓ) : Prop :=
  True

def Pre_SbRefIdeal_sb_finite [hPre_sb_finite : Cert.Pre_sb_finite.Facts] (m : (ℓ : Loc Cert.SbRefIdeal.nD Cert.SbRefIdeal.τ Cert.SbRefIdeal.sig) → Buf (Elt Ideal) ℓ) : Prop :=
  ∀ c : Dev Cert.SbRefIdeal.nD,
    (Cert.Pre_sb_finite.fn (F := Ideal) (m ((c.tc : Thread Cert.SbRefIdeal.nD Cert.SbRefIdeal.τ).loc Cert.SbRefIdeal.main_arg0)) (m ((c.tc : Thread Cert.SbRefIdeal.nD Cert.SbRefIdeal.τ).loc Cert.SbRefIdeal.main_arg1)) (m ((c.tc : Thread Cert.SbRefIdeal.nD Cert.SbRefIdeal.τ).loc Cert.SbRefIdeal.main_arg2)) (m ((c.tc : Thread Cert.SbRefIdeal.nD Cert.SbRefIdeal.τ).loc Cert.SbRefIdeal.main_arg3)) (m ((c.tc : Thread Cert.SbRefIdeal.nD Cert.SbRefIdeal.τ).loc Cert.SbRefIdeal.main_arg4))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjIdeal_proj_finite [hPre_proj_finite : Cert.Pre_proj_finite.Facts] (m : (ℓ : Loc Cert.ProjIdeal.nD Cert.ProjIdeal.τ Cert.ProjIdeal.sig) → Buf (Elt Ideal) ℓ) : Prop :=
  ∀ c : Dev Cert.ProjIdeal.nD,
    (Cert.Pre_proj_finite.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8)) (m ((c.tc : Thread Cert.ProjIdeal.nD Cert.ProjIdeal.τ).loc Cert.ProjIdeal.main_arg9)) (m ((c.tc : Thread Cert.ProjIdeal.nD Cert.ProjIdeal.τ).loc Cert.ProjIdeal.main_arg10)) (m ((c.tc : Thread Cert.ProjIdeal.nD Cert.ProjIdeal.τ).loc Cert.ProjIdeal.main_arg11))) = (fun _ => 1#1)

def Pre_ProjRefIdeal (m : (ℓ : Loc Cert.ProjRefIdeal.nD Cert.ProjRefIdeal.τ Cert.ProjRefIdeal.sig) → Buf (Elt Ideal) ℓ) : Prop :=
  True

def Pre_ProjRefIdeal_proj_finite [hPre_proj_finite : Cert.Pre_proj_finite.Facts] (m : (ℓ : Loc Cert.ProjRefIdeal.nD Cert.ProjRefIdeal.τ Cert.ProjRefIdeal.sig) → Buf (Elt Ideal) ℓ) : Prop :=
  ∀ c : Dev Cert.ProjRefIdeal.nD,
    (Cert.Pre_proj_finite.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4)) (m ((c.tc : Thread Cert.ProjRefIdeal.nD Cert.ProjRefIdeal.τ).loc Cert.ProjRefIdeal.main_arg5)) (m ((c.tc : Thread Cert.ProjRefIdeal.nD Cert.ProjRefIdeal.τ).loc Cert.ProjRefIdeal.main_arg6)) (m ((c.tc : Thread Cert.ProjRefIdeal.nD Cert.ProjRefIdeal.τ).loc Cert.ProjRefIdeal.main_arg7)) (m ((c.tc : Thread Cert.ProjRefIdeal.nD Cert.ProjRefIdeal.τ).loc Cert.ProjRefIdeal.main_arg8)) (m ((c.tc : Thread Cert.ProjRefIdeal.nD Cert.ProjRefIdeal.τ).loc Cert.ProjRefIdeal.main_arg9)) (m ((c.tc : Thread Cert.ProjRefIdeal.nD Cert.ProjRefIdeal.τ).loc Cert.ProjRefIdeal.main_arg10)) (m ((c.tc : Thread Cert.ProjRefIdeal.nD Cert.ProjRefIdeal.τ).loc Cert.ProjRefIdeal.main_arg11))) = (fun _ => 1#1)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3)
      ∧ r.2.mem ((c.tc : Thread Cert.Mla.nD Cert.Mla.τ).loc Cert.Mla.main_arg4) = m ((c.tc : Thread Cert.Mla.nD Cert.Mla.τ).loc Cert.Mla.main_arg4))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4))
      ∧ r.2.sem = fun _ => 0)

def quiescent_MlaIdeal_pre_mla_finite [hMlaIdeal : Cert.MlaIdeal.Facts] [hPre_mla_finite : Cert.Pre_mla_finite.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_mla_finite m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4))
      ∧ r.2.sem = fun _ => 0)

def quiescent_MlaRefIdeal_pre_mla_finite [hMlaRefIdeal : Cert.MlaRefIdeal.Facts] [hPre_mla_finite : Cert.Pre_mla_finite.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_mla_finite m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4))
      ∧ r.2.sem = fun _ => 0)

def quiescent_Sb [hSb : Cert.Sb.Facts] : Prop :=
  ∀ (m : (ℓ : Loc Cert.Sb.nD Cert.Sb.τ Cert.Sb.sig) → Buf (Elt Bits) ℓ) (g : Dev Cert.Sb.nD → PrngReg), Pre_Sb m →
    θ_run (Cert.Sb.defs (F := Bits)) (onTc (τ := Cert.Sb.τ) (Cert.Sb.main (F := Bits))) ⟨m, fun _ => 0, g⟩ (fun r => (∀ c : Dev Cert.Sb.nD,
      r.2.mem ((c.tc : Thread Cert.Sb.nD Cert.Sb.τ).loc Cert.Sb.main_arg0) = m ((c.tc : Thread Cert.Sb.nD Cert.Sb.τ).loc Cert.Sb.main_arg0)
      ∧ r.2.mem ((c.tc : Thread Cert.Sb.nD Cert.Sb.τ).loc Cert.Sb.main_arg1) = m ((c.tc : Thread Cert.Sb.nD Cert.Sb.τ).loc Cert.Sb.main_arg1)
      ∧ r.2.mem ((c.tc : Thread Cert.Sb.nD Cert.Sb.τ).loc Cert.Sb.main_arg2) = m ((c.tc : Thread Cert.Sb.nD Cert.Sb.τ).loc Cert.Sb.main_arg2)
      ∧ r.2.mem ((c.tc : Thread Cert.Sb.nD Cert.Sb.τ).loc Cert.Sb.main_arg3) = m ((c.tc : Thread Cert.Sb.nD Cert.Sb.τ).loc Cert.Sb.main_arg3)
      ∧ r.2.mem ((c.tc : Thread Cert.Sb.nD Cert.Sb.τ).loc Cert.Sb.main_arg4) = m ((c.tc : Thread Cert.Sb.nD Cert.Sb.τ).loc Cert.Sb.main_arg4))
      ∧ r.2.sem = fun _ => 0)

def quiescent_SbIdeal [hSbIdeal : Cert.SbIdeal.Facts] : Prop :=
  ∀ (m : (ℓ : Loc Cert.SbIdeal.nD Cert.SbIdeal.τ Cert.SbIdeal.sig) → Buf (Elt Ideal) ℓ) (g : Dev Cert.SbIdeal.nD → PrngReg), Pre_SbIdeal m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0)
      ∧ r.2.mem ((c.tc : Thread Cert.SbIdeal.nD Cert.SbIdeal.τ).loc Cert.SbIdeal.main_arg1) = m ((c.tc : Thread Cert.SbIdeal.nD Cert.SbIdeal.τ).loc Cert.SbIdeal.main_arg1)
      ∧ r.2.mem ((c.tc : Thread Cert.SbIdeal.nD Cert.SbIdeal.τ).loc Cert.SbIdeal.main_arg2) = m ((c.tc : Thread Cert.SbIdeal.nD Cert.SbIdeal.τ).loc Cert.SbIdeal.main_arg2)
      ∧ r.2.mem ((c.tc : Thread Cert.SbIdeal.nD Cert.SbIdeal.τ).loc Cert.SbIdeal.main_arg3) = m ((c.tc : Thread Cert.SbIdeal.nD Cert.SbIdeal.τ).loc Cert.SbIdeal.main_arg3)
      ∧ r.2.mem ((c.tc : Thread Cert.SbIdeal.nD Cert.SbIdeal.τ).loc Cert.SbIdeal.main_arg4) = m ((c.tc : Thread Cert.SbIdeal.nD Cert.SbIdeal.τ).loc Cert.SbIdeal.main_arg4))
      ∧ r.2.sem = fun _ => 0)

def quiescent_SbIdeal_pre_sb_finite [hSbIdeal : Cert.SbIdeal.Facts] [hPre_sb_finite : Cert.Pre_sb_finite.Facts] : Prop :=
  ∀ (m : (ℓ : Loc Cert.SbIdeal.nD Cert.SbIdeal.τ Cert.SbIdeal.sig) → Buf (Elt Ideal) ℓ) (g : Dev Cert.SbIdeal.nD → PrngReg), Pre_SbIdeal_sb_finite m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0)
      ∧ r.2.mem ((c.tc : Thread Cert.SbIdeal.nD Cert.SbIdeal.τ).loc Cert.SbIdeal.main_arg1) = m ((c.tc : Thread Cert.SbIdeal.nD Cert.SbIdeal.τ).loc Cert.SbIdeal.main_arg1)
      ∧ r.2.mem ((c.tc : Thread Cert.SbIdeal.nD Cert.SbIdeal.τ).loc Cert.SbIdeal.main_arg2) = m ((c.tc : Thread Cert.SbIdeal.nD Cert.SbIdeal.τ).loc Cert.SbIdeal.main_arg2)
      ∧ r.2.mem ((c.tc : Thread Cert.SbIdeal.nD Cert.SbIdeal.τ).loc Cert.SbIdeal.main_arg3) = m ((c.tc : Thread Cert.SbIdeal.nD Cert.SbIdeal.τ).loc Cert.SbIdeal.main_arg3)
      ∧ r.2.mem ((c.tc : Thread Cert.SbIdeal.nD Cert.SbIdeal.τ).loc Cert.SbIdeal.main_arg4) = m ((c.tc : Thread Cert.SbIdeal.nD Cert.SbIdeal.τ).loc Cert.SbIdeal.main_arg4))
      ∧ r.2.sem = fun _ => 0)

def quiescent_SbRefIdeal [hSbRefIdeal : Cert.SbRefIdeal.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0)
      ∧ r.2.mem ((c.tc : Thread Cert.SbRefIdeal.nD Cert.SbRefIdeal.τ).loc Cert.SbRefIdeal.main_arg1) = m ((c.tc : Thread Cert.SbRefIdeal.nD Cert.SbRefIdeal.τ).loc Cert.SbRefIdeal.main_arg1)
      ∧ r.2.mem ((c.tc : Thread Cert.SbRefIdeal.nD Cert.SbRefIdeal.τ).loc Cert.SbRefIdeal.main_arg2) = m ((c.tc : Thread Cert.SbRefIdeal.nD Cert.SbRefIdeal.τ).loc Cert.SbRefIdeal.main_arg2)
      ∧ r.2.mem ((c.tc : Thread Cert.SbRefIdeal.nD Cert.SbRefIdeal.τ).loc Cert.SbRefIdeal.main_arg3) = m ((c.tc : Thread Cert.SbRefIdeal.nD Cert.SbRefIdeal.τ).loc Cert.SbRefIdeal.main_arg3)
      ∧ r.2.mem ((c.tc : Thread Cert.SbRefIdeal.nD Cert.SbRefIdeal.τ).loc Cert.SbRefIdeal.main_arg4) = m ((c.tc : Thread Cert.SbRefIdeal.nD Cert.SbRefIdeal.τ).loc Cert.SbRefIdeal.main_arg4))
      ∧ r.2.sem = fun _ => 0)

def quiescent_SbRefIdeal_pre_sb_finite [hSbRefIdeal : Cert.SbRefIdeal.Facts] [hPre_sb_finite : Cert.Pre_sb_finite.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal_sb_finite m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0)
      ∧ r.2.mem ((c.tc : Thread Cert.SbRefIdeal.nD Cert.SbRefIdeal.τ).loc Cert.SbRefIdeal.main_arg1) = m ((c.tc : Thread Cert.SbRefIdeal.nD Cert.SbRefIdeal.τ).loc Cert.SbRefIdeal.main_arg1)
      ∧ r.2.mem ((c.tc : Thread Cert.SbRefIdeal.nD Cert.SbRefIdeal.τ).loc Cert.SbRefIdeal.main_arg2) = m ((c.tc : Thread Cert.SbRefIdeal.nD Cert.SbRefIdeal.τ).loc Cert.SbRefIdeal.main_arg2)
      ∧ r.2.mem ((c.tc : Thread Cert.SbRefIdeal.nD Cert.SbRefIdeal.τ).loc Cert.SbRefIdeal.main_arg3) = m ((c.tc : Thread Cert.SbRefIdeal.nD Cert.SbRefIdeal.τ).loc Cert.SbRefIdeal.main_arg3)
      ∧ r.2.mem ((c.tc : Thread Cert.SbRefIdeal.nD Cert.SbRefIdeal.τ).loc Cert.SbRefIdeal.main_arg4) = m ((c.tc : Thread Cert.SbRefIdeal.nD Cert.SbRefIdeal.τ).loc Cert.SbRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13)
      ∧ r.2.mem ((c.tc : Thread Cert.MergeRefIdeal.nD Cert.MergeRefIdeal.τ).loc Cert.MergeRefIdeal.main_arg14) = m ((c.tc : Thread Cert.MergeRefIdeal.nD Cert.MergeRefIdeal.τ).loc Cert.MergeRefIdeal.main_arg14))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8)
      ∧ r.2.mem ((c.tc : Thread Cert.Proj.nD Cert.Proj.τ).loc Cert.Proj.main_arg9) = m ((c.tc : Thread Cert.Proj.nD Cert.Proj.τ).loc Cert.Proj.main_arg9)
      ∧ r.2.mem ((c.tc : Thread Cert.Proj.nD Cert.Proj.τ).loc Cert.Proj.main_arg10) = m ((c.tc : Thread Cert.Proj.nD Cert.Proj.τ).loc Cert.Proj.main_arg10)
      ∧ r.2.mem ((c.tc : Thread Cert.Proj.nD Cert.Proj.τ).loc Cert.Proj.main_arg11) = m ((c.tc : Thread Cert.Proj.nD Cert.Proj.τ).loc Cert.Proj.main_arg11))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
      ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
      ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10)
      ∧ r.2.mem ((c.tc : Thread Cert.ProjIdeal.nD Cert.ProjIdeal.τ).loc Cert.ProjIdeal.main_arg11) = m ((c.tc : Thread Cert.ProjIdeal.nD Cert.ProjIdeal.τ).loc Cert.ProjIdeal.main_arg11))
      ∧ r.2.sem = fun _ => 0)

def quiescent_ProjIdeal_pre_proj_finite [hProjIdeal : Cert.ProjIdeal.Facts] [hPre_proj_finite : Cert.Pre_proj_finite.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal_proj_finite m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
      ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
      ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10)
      ∧ r.2.mem ((c.tc : Thread Cert.ProjIdeal.nD Cert.ProjIdeal.τ).loc Cert.ProjIdeal.main_arg11) = m ((c.tc : Thread Cert.ProjIdeal.nD Cert.ProjIdeal.τ).loc Cert.ProjIdeal.main_arg11))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7)
      ∧ r.2.mem ((c.tc : Thread Cert.ProjRefIdeal.nD Cert.ProjRefIdeal.τ).loc Cert.ProjRefIdeal.main_arg8) = m ((c.tc : Thread Cert.ProjRefIdeal.nD Cert.ProjRefIdeal.τ).loc Cert.ProjRefIdeal.main_arg8)
      ∧ r.2.mem ((c.tc : Thread Cert.ProjRefIdeal.nD Cert.ProjRefIdeal.τ).loc Cert.ProjRefIdeal.main_arg9) = m ((c.tc : Thread Cert.ProjRefIdeal.nD Cert.ProjRefIdeal.τ).loc Cert.ProjRefIdeal.main_arg9)
      ∧ r.2.mem ((c.tc : Thread Cert.ProjRefIdeal.nD Cert.ProjRefIdeal.τ).loc Cert.ProjRefIdeal.main_arg10) = m ((c.tc : Thread Cert.ProjRefIdeal.nD Cert.ProjRefIdeal.τ).loc Cert.ProjRefIdeal.main_arg10)
      ∧ r.2.mem ((c.tc : Thread Cert.ProjRefIdeal.nD Cert.ProjRefIdeal.τ).loc Cert.ProjRefIdeal.main_arg11) = m ((c.tc : Thread Cert.ProjRefIdeal.nD Cert.ProjRefIdeal.τ).loc Cert.ProjRefIdeal.main_arg11))
      ∧ r.2.sem = fun _ => 0)

def quiescent_ProjRefIdeal_pre_proj_finite [hProjRefIdeal : Cert.ProjRefIdeal.Facts] [hPre_proj_finite : Cert.Pre_proj_finite.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal_proj_finite m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7)
      ∧ r.2.mem ((c.tc : Thread Cert.ProjRefIdeal.nD Cert.ProjRefIdeal.τ).loc Cert.ProjRefIdeal.main_arg8) = m ((c.tc : Thread Cert.ProjRefIdeal.nD Cert.ProjRefIdeal.τ).loc Cert.ProjRefIdeal.main_arg8)
      ∧ r.2.mem ((c.tc : Thread Cert.ProjRefIdeal.nD Cert.ProjRefIdeal.τ).loc Cert.ProjRefIdeal.main_arg9) = m ((c.tc : Thread Cert.ProjRefIdeal.nD Cert.ProjRefIdeal.τ).loc Cert.ProjRefIdeal.main_arg9)
      ∧ r.2.mem ((c.tc : Thread Cert.ProjRefIdeal.nD Cert.ProjRefIdeal.τ).loc Cert.ProjRefIdeal.main_arg10) = m ((c.tc : Thread Cert.ProjRefIdeal.nD Cert.ProjRefIdeal.τ).loc Cert.ProjRefIdeal.main_arg10)
      ∧ r.2.mem ((c.tc : Thread Cert.ProjRefIdeal.nD Cert.ProjRefIdeal.τ).loc Cert.ProjRefIdeal.main_arg11) = m ((c.tc : Thread Cert.ProjRefIdeal.nD Cert.ProjRefIdeal.τ).loc Cert.ProjRefIdeal.main_arg11))
      ∧ r.2.sem = fun _ => 0)

def preserves_Mla_MlaIdeal : Prop :=
  IdealRules.named_const.Statement Cert.MlaIdeal.κ "mask" .f32 0xF149F2CA#32 ⊥

def algebraic_MlaIdeal_MlaRefIdeal_pre_mla_finite [hMlaIdeal : Cert.MlaIdeal.Facts] [hMlaRefIdeal : Cert.MlaRefIdeal.Facts] [hPre_mla_finite : Cert.Pre_mla_finite.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_mla_finite m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)
      ∧ m' ((c.tc : Thread Cert.MlaRefIdeal.nD Cert.MlaRefIdeal.τ).loc Cert.MlaRefIdeal.main_arg3) = m ((c.tc : Thread Cert.MlaIdeal.nD Cert.MlaIdeal.τ).loc Cert.MlaIdeal.main_arg3)
      ∧ m' ((c.tc : Thread Cert.MlaRefIdeal.nD Cert.MlaRefIdeal.τ).loc Cert.MlaRefIdeal.main_arg4) = m ((c.tc : Thread Cert.MlaIdeal.nD Cert.MlaIdeal.τ).loc Cert.MlaIdeal.main_arg4)) →
    ∃ (v0 : (c : Dev Cert.MlaIdeal.nD) → Buf (Elt Ideal) ((c.tc : Thread Cert.MlaIdeal.nD Cert.MlaIdeal.τ).loc Cert.MlaIdeal.main_v2)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v2) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
          ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
          ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v48) = v0 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2)
          ∧ r.2.mem ((c.tc : Thread Cert.MlaRefIdeal.nD Cert.MlaRefIdeal.τ).loc Cert.MlaRefIdeal.main_arg3) = m' ((c.tc : Thread Cert.MlaRefIdeal.nD Cert.MlaRefIdeal.τ).loc Cert.MlaRefIdeal.main_arg3)
          ∧ r.2.mem ((c.tc : Thread Cert.MlaRefIdeal.nD Cert.MlaRefIdeal.τ).loc Cert.MlaRefIdeal.main_arg4) = m' ((c.tc : Thread Cert.MlaRefIdeal.nD Cert.MlaRefIdeal.τ).loc Cert.MlaRefIdeal.main_arg4))

def preserves_Sb_SbIdeal : Prop :=
  IdealRules.named_const.Statement Cert.SbIdeal.κ "inv_ln2" .f32 0x3FB8AA3B#32 (((Real.log 2)⁻¹ : ℝ) : EReal)

def algebraic_SbIdeal_SbRefIdeal_pre_sb_finite [hSbIdeal : Cert.SbIdeal.Facts] [hSbRefIdeal : Cert.SbRefIdeal.Facts] [hPre_sb_finite : Cert.Pre_sb_finite.Facts] : Prop :=
  ∀ (m : (ℓ : Loc Cert.SbIdeal.nD Cert.SbIdeal.τ Cert.SbIdeal.sig) → Buf (Elt Ideal) ℓ) (g : Dev Cert.SbIdeal.nD → PrngReg)
    (m' : (ℓ : Loc Cert.SbRefIdeal.nD Cert.SbRefIdeal.τ Cert.SbRefIdeal.sig) → Buf (Elt Ideal) ℓ) (g' : Dev Cert.SbRefIdeal.nD → PrngReg), Pre_SbIdeal_sb_finite m →
    (∀ c : Dev Cert.SbIdeal.nD,
      m' ((c.tc : Thread Cert.SbRefIdeal.nD Cert.SbRefIdeal.τ).loc Cert.SbRefIdeal.main_arg0) = m ((c.tc : Thread Cert.SbIdeal.nD Cert.SbIdeal.τ).loc Cert.SbIdeal.main_arg0)
      ∧ m' ((c.tc : Thread Cert.SbRefIdeal.nD Cert.SbRefIdeal.τ).loc Cert.SbRefIdeal.main_arg1) = m ((c.tc : Thread Cert.SbIdeal.nD Cert.SbIdeal.τ).loc Cert.SbIdeal.main_arg1)
      ∧ m' ((c.tc : Thread Cert.SbRefIdeal.nD Cert.SbRefIdeal.τ).loc Cert.SbRefIdeal.main_arg2) = m ((c.tc : Thread Cert.SbIdeal.nD Cert.SbIdeal.τ).loc Cert.SbIdeal.main_arg2)
      ∧ m' ((c.tc : Thread Cert.SbRefIdeal.nD Cert.SbRefIdeal.τ).loc Cert.SbRefIdeal.main_arg3) = m ((c.tc : Thread Cert.SbIdeal.nD Cert.SbIdeal.τ).loc Cert.SbIdeal.main_arg3)
      ∧ m' ((c.tc : Thread Cert.SbRefIdeal.nD Cert.SbRefIdeal.τ).loc Cert.SbRefIdeal.main_arg4) = m ((c.tc : Thread Cert.SbIdeal.nD Cert.SbIdeal.τ).loc Cert.SbIdeal.main_arg4)) →
    ∃ (v0 : (c : Dev Cert.SbIdeal.nD) → Buf (Elt Ideal) ((c.tc : Thread Cert.SbIdeal.nD Cert.SbIdeal.τ).loc Cert.SbIdeal.main_v7)),
      θ_run (Cert.SbIdeal.defs (F := Ideal)) (onTc (τ := Cert.SbIdeal.τ) (Cert.SbIdeal.main (F := Ideal))) ⟨m, fun _ => 0, g⟩ (fun r => ∀ c : Dev Cert.SbIdeal.nD,
          r.2.mem ((c.tc : Thread Cert.SbIdeal.nD Cert.SbIdeal.τ).loc Cert.SbIdeal.main_v7) = v0 c
          ∧ r.2.mem ((c.tc : Thread Cert.SbIdeal.nD Cert.SbIdeal.τ).loc Cert.SbIdeal.main_arg0) = m ((c.tc : Thread Cert.SbIdeal.nD Cert.SbIdeal.τ).loc Cert.SbIdeal.main_arg0)
          ∧ r.2.mem ((c.tc : Thread Cert.SbIdeal.nD Cert.SbIdeal.τ).loc Cert.SbIdeal.main_arg1) = m ((c.tc : Thread Cert.SbIdeal.nD Cert.SbIdeal.τ).loc Cert.SbIdeal.main_arg1)
          ∧ r.2.mem ((c.tc : Thread Cert.SbIdeal.nD Cert.SbIdeal.τ).loc Cert.SbIdeal.main_arg2) = m ((c.tc : Thread Cert.SbIdeal.nD Cert.SbIdeal.τ).loc Cert.SbIdeal.main_arg2)
          ∧ r.2.mem ((c.tc : Thread Cert.SbIdeal.nD Cert.SbIdeal.τ).loc Cert.SbIdeal.main_arg3) = m ((c.tc : Thread Cert.SbIdeal.nD Cert.SbIdeal.τ).loc Cert.SbIdeal.main_arg3)
          ∧ r.2.mem ((c.tc : Thread Cert.SbIdeal.nD Cert.SbIdeal.τ).loc Cert.SbIdeal.main_arg4) = m ((c.tc : Thread Cert.SbIdeal.nD Cert.SbIdeal.τ).loc Cert.SbIdeal.main_arg4))
      ∧ θ_run (Cert.SbRefIdeal.defs (F := Ideal)) (onTc (τ := Cert.SbRefIdeal.τ) (Cert.SbRefIdeal.main (F := Ideal))) ⟨m', fun _ => 0, g'⟩ (fun r => ∀ c : Dev Cert.SbRefIdeal.nD,
          r.2.mem ((c.tc : Thread Cert.SbRefIdeal.nD Cert.SbRefIdeal.τ).loc Cert.SbRefIdeal.main_v39) = v0 c
          ∧ r.2.mem ((c.tc : Thread Cert.SbRefIdeal.nD Cert.SbRefIdeal.τ).loc Cert.SbRefIdeal.main_arg0) = m' ((c.tc : Thread Cert.SbRefIdeal.nD Cert.SbRefIdeal.τ).loc Cert.SbRefIdeal.main_arg0)
          ∧ r.2.mem ((c.tc : Thread Cert.SbRefIdeal.nD Cert.SbRefIdeal.τ).loc Cert.SbRefIdeal.main_arg1) = m' ((c.tc : Thread Cert.SbRefIdeal.nD Cert.SbRefIdeal.τ).loc Cert.SbRefIdeal.main_arg1)
          ∧ r.2.mem ((c.tc : Thread Cert.SbRefIdeal.nD Cert.SbRefIdeal.τ).loc Cert.SbRefIdeal.main_arg2) = m' ((c.tc : Thread Cert.SbRefIdeal.nD Cert.SbRefIdeal.τ).loc Cert.SbRefIdeal.main_arg2)
          ∧ r.2.mem ((c.tc : Thread Cert.SbRefIdeal.nD Cert.SbRefIdeal.τ).loc Cert.SbRefIdeal.main_arg3) = m' ((c.tc : Thread Cert.SbRefIdeal.nD Cert.SbRefIdeal.τ).loc Cert.SbRefIdeal.main_arg3)
          ∧ r.2.mem ((c.tc : Thread Cert.SbRefIdeal.nD Cert.SbRefIdeal.τ).loc Cert.SbRefIdeal.main_arg4) = m' ((c.tc : Thread Cert.SbRefIdeal.nD Cert.SbRefIdeal.τ).loc Cert.SbRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)
      ∧ m' ((c.tc : Thread Cert.MergeRefIdeal.nD Cert.MergeRefIdeal.τ).loc Cert.MergeRefIdeal.main_arg13) = m ((c.tc : Thread Cert.MergeIdeal.nD Cert.MergeIdeal.τ).loc Cert.MergeIdeal.main_arg13)
      ∧ m' ((c.tc : Thread Cert.MergeRefIdeal.nD Cert.MergeRefIdeal.τ).loc Cert.MergeRefIdeal.main_arg14) = m ((c.tc : Thread Cert.MergeIdeal.nD Cert.MergeIdeal.τ).loc Cert.MergeIdeal.main_arg14)) →
    ∃ (v0 : (c : Dev Cert.MergeIdeal.nD) → Buf (Elt Ideal) ((c.tc : Thread Cert.MergeIdeal.nD Cert.MergeIdeal.τ).loc Cert.MergeIdeal.main_v13)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v13) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v81) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12)
          ∧ r.2.mem ((c.tc : Thread Cert.MergeRefIdeal.nD Cert.MergeRefIdeal.τ).loc Cert.MergeRefIdeal.main_arg13) = m' ((c.tc : Thread Cert.MergeRefIdeal.nD Cert.MergeRefIdeal.τ).loc Cert.MergeRefIdeal.main_arg13)
          ∧ r.2.mem ((c.tc : Thread Cert.MergeRefIdeal.nD Cert.MergeRefIdeal.τ).loc Cert.MergeRefIdeal.main_arg14) = m' ((c.tc : Thread Cert.MergeRefIdeal.nD Cert.MergeRefIdeal.τ).loc Cert.MergeRefIdeal.main_arg14))

def preserves_Proj_ProjIdeal : Prop :=
  True

def algebraic_ProjIdeal_ProjRefIdeal_pre_proj_finite [hProjIdeal : Cert.ProjIdeal.Facts] [hProjRefIdeal : Cert.ProjRefIdeal.Facts] [hPre_proj_finite : Cert.Pre_proj_finite.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal_proj_finite m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)
      ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)
      ∧ m' ((c.tc : Thread Cert.ProjRefIdeal.nD Cert.ProjRefIdeal.τ).loc Cert.ProjRefIdeal.main_arg8) = m ((c.tc : Thread Cert.ProjIdeal.nD Cert.ProjIdeal.τ).loc Cert.ProjIdeal.main_arg8)
      ∧ m' ((c.tc : Thread Cert.ProjRefIdeal.nD Cert.ProjRefIdeal.τ).loc Cert.ProjRefIdeal.main_arg9) = m ((c.tc : Thread Cert.ProjIdeal.nD Cert.ProjIdeal.τ).loc Cert.ProjIdeal.main_arg9)
      ∧ m' ((c.tc : Thread Cert.ProjRefIdeal.nD Cert.ProjRefIdeal.τ).loc Cert.ProjRefIdeal.main_arg10) = m ((c.tc : Thread Cert.ProjIdeal.nD Cert.ProjIdeal.τ).loc Cert.ProjIdeal.main_arg10)
      ∧ m' ((c.tc : Thread Cert.ProjRefIdeal.nD Cert.ProjRefIdeal.τ).loc Cert.ProjRefIdeal.main_arg11) = m ((c.tc : Thread Cert.ProjIdeal.nD Cert.ProjIdeal.τ).loc Cert.ProjIdeal.main_arg11)) →
    ∃ (v0 : (c : Dev Cert.ProjIdeal.nD) → Buf (Elt Ideal) ((c.tc : Thread Cert.ProjIdeal.nD Cert.ProjIdeal.τ).loc Cert.ProjIdeal.main_v65_0)) (v1 : (c : Dev Cert.ProjIdeal.nD) → Buf (Elt Ideal) ((c.tc : Thread Cert.ProjIdeal.nD Cert.ProjIdeal.τ).loc Cert.ProjIdeal.main_v65_1)) (v2 : (c : Dev Cert.ProjIdeal.nD) → Buf (Elt Ideal) ((c.tc : Thread Cert.ProjIdeal.nD Cert.ProjIdeal.τ).loc Cert.ProjIdeal.main_v65_2)) (v3 : (c : Dev Cert.ProjIdeal.nD) → Buf (Elt Ideal) ((c.tc : Thread Cert.ProjIdeal.nD Cert.ProjIdeal.τ).loc Cert.ProjIdeal.main_v65_3)) (v4 : (c : Dev Cert.ProjIdeal.nD) → Buf (Elt Ideal) ((c.tc : Thread Cert.ProjIdeal.nD Cert.ProjIdeal.τ).loc Cert.ProjIdeal.main_v65_4)) (v5 : (c : Dev Cert.ProjIdeal.nD) → Buf (Elt Ideal) ((c.tc : Thread Cert.ProjIdeal.nD Cert.ProjIdeal.τ).loc Cert.ProjIdeal.main_v65_5)) (v6 : (c : Dev Cert.ProjIdeal.nD) → Buf (Elt Ideal) ((c.tc : Thread Cert.ProjIdeal.nD Cert.ProjIdeal.τ).loc Cert.ProjIdeal.main_v65_6)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v65_0) = v0 c
          ∧ r.2.mem ((c.tc : Thread Cert.ProjIdeal.nD Cert.ProjIdeal.τ).loc Cert.ProjIdeal.main_v65_1) = v1 c
          ∧ r.2.mem ((c.tc : Thread Cert.ProjIdeal.nD Cert.ProjIdeal.τ).loc Cert.ProjIdeal.main_v65_2) = v2 c
          ∧ r.2.mem ((c.tc : Thread Cert.ProjIdeal.nD Cert.ProjIdeal.τ).loc Cert.ProjIdeal.main_v65_3) = v3 c
          ∧ r.2.mem ((c.tc : Thread Cert.ProjIdeal.nD Cert.ProjIdeal.τ).loc Cert.ProjIdeal.main_v65_4) = v4 c
          ∧ r.2.mem ((c.tc : Thread Cert.ProjIdeal.nD Cert.ProjIdeal.τ).loc Cert.ProjIdeal.main_v65_5) = v5 c
          ∧ r.2.mem ((c.tc : Thread Cert.ProjIdeal.nD Cert.ProjIdeal.τ).loc Cert.ProjIdeal.main_v65_6) = v6 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
          ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
          ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10)
          ∧ r.2.mem ((c.tc : Thread Cert.ProjIdeal.nD Cert.ProjIdeal.τ).loc Cert.ProjIdeal.main_arg11) = m ((c.tc : Thread Cert.ProjIdeal.nD Cert.ProjIdeal.τ).loc Cert.ProjIdeal.main_arg11))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v33) = v0 c
          ∧ r.2.mem ((c.tc : Thread Cert.ProjRefIdeal.nD Cert.ProjRefIdeal.τ).loc Cert.ProjRefIdeal.main_v166) = v1 c
          ∧ r.2.mem ((c.tc : Thread Cert.ProjRefIdeal.nD Cert.ProjRefIdeal.τ).loc Cert.ProjRefIdeal.main_v167) = v2 c
          ∧ r.2.mem ((c.tc : Thread Cert.ProjRefIdeal.nD Cert.ProjRefIdeal.τ).loc Cert.ProjRefIdeal.main_v168) = v3 c
          ∧ r.2.mem ((c.tc : Thread Cert.ProjRefIdeal.nD Cert.ProjRefIdeal.τ).loc Cert.ProjRefIdeal.main_v170) = v4 c
          ∧ r.2.mem ((c.tc : Thread Cert.ProjRefIdeal.nD Cert.ProjRefIdeal.τ).loc Cert.ProjRefIdeal.main_v172) = v5 c
          ∧ r.2.mem ((c.tc : Thread Cert.ProjRefIdeal.nD Cert.ProjRefIdeal.τ).loc Cert.ProjRefIdeal.main_v175) = v6 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7)
          ∧ r.2.mem ((c.tc : Thread Cert.ProjRefIdeal.nD Cert.ProjRefIdeal.τ).loc Cert.ProjRefIdeal.main_arg8) = m' ((c.tc : Thread Cert.ProjRefIdeal.nD Cert.ProjRefIdeal.τ).loc Cert.ProjRefIdeal.main_arg8)
          ∧ r.2.mem ((c.tc : Thread Cert.ProjRefIdeal.nD Cert.ProjRefIdeal.τ).loc Cert.ProjRefIdeal.main_arg9) = m' ((c.tc : Thread Cert.ProjRefIdeal.nD Cert.ProjRefIdeal.τ).loc Cert.ProjRefIdeal.main_arg9)
          ∧ r.2.mem ((c.tc : Thread Cert.ProjRefIdeal.nD Cert.ProjRefIdeal.τ).loc Cert.ProjRefIdeal.main_arg10) = m' ((c.tc : Thread Cert.ProjRefIdeal.nD Cert.ProjRefIdeal.τ).loc Cert.ProjRefIdeal.main_arg10)
          ∧ r.2.mem ((c.tc : Thread Cert.ProjRefIdeal.nD Cert.ProjRefIdeal.τ).loc Cert.ProjRefIdeal.main_arg11) = m' ((c.tc : Thread Cert.ProjRefIdeal.nD Cert.ProjRefIdeal.τ).loc Cert.ProjRefIdeal.main_arg11))

def Claim : Prop :=
  ∃ (hMla : Cert.Mla.Facts) (hMlaIdeal : Cert.MlaIdeal.Facts) (hMlaRefIdeal : Cert.MlaRefIdeal.Facts) (hSb : Cert.Sb.Facts) (hSbIdeal : Cert.SbIdeal.Facts) (hSbRefIdeal : Cert.SbRefIdeal.Facts) (hMerge : Cert.Merge.Facts) (hMergeIdeal : Cert.MergeIdeal.Facts) (hMergeRefIdeal : Cert.MergeRefIdeal.Facts) (hProj : Cert.Proj.Facts) (hProjIdeal : Cert.ProjIdeal.Facts) (hProjRefIdeal : Cert.ProjRefIdeal.Facts) (hPre_mla_finite : Cert.Pre_mla_finite.Facts) (hPre_sb_finite : Cert.Pre_sb_finite.Facts) (hPre_proj_finite : Cert.Pre_proj_finite.Facts),
    quiescent_Mla (hMla := hMla)
    ∧ quiescent_MlaIdeal (hMlaIdeal := hMlaIdeal)
    ∧ quiescent_MlaIdeal_pre_mla_finite (hMlaIdeal := hMlaIdeal) (hPre_mla_finite := hPre_mla_finite)
    ∧ quiescent_MlaRefIdeal (hMlaRefIdeal := hMlaRefIdeal)
    ∧ quiescent_MlaRefIdeal_pre_mla_finite (hMlaRefIdeal := hMlaRefIdeal) (hPre_mla_finite := hPre_mla_finite)
    ∧ quiescent_Sb (hSb := hSb)
    ∧ quiescent_SbIdeal (hSbIdeal := hSbIdeal)
    ∧ quiescent_SbIdeal_pre_sb_finite (hSbIdeal := hSbIdeal) (hPre_sb_finite := hPre_sb_finite)
    ∧ quiescent_SbRefIdeal (hSbRefIdeal := hSbRefIdeal)
    ∧ quiescent_SbRefIdeal_pre_sb_finite (hSbRefIdeal := hSbRefIdeal) (hPre_sb_finite := hPre_sb_finite)
    ∧ quiescent_Merge (hMerge := hMerge)
    ∧ quiescent_MergeIdeal (hMergeIdeal := hMergeIdeal)
    ∧ quiescent_MergeRefIdeal (hMergeRefIdeal := hMergeRefIdeal)
    ∧ quiescent_Proj (hProj := hProj)
    ∧ quiescent_ProjIdeal (hProjIdeal := hProjIdeal)
    ∧ quiescent_ProjIdeal_pre_proj_finite (hProjIdeal := hProjIdeal) (hPre_proj_finite := hPre_proj_finite)
    ∧ quiescent_ProjRefIdeal (hProjRefIdeal := hProjRefIdeal)
    ∧ quiescent_ProjRefIdeal_pre_proj_finite (hProjRefIdeal := hProjRefIdeal) (hPre_proj_finite := hPre_proj_finite)
    ∧ preserves_Mla_MlaIdeal
    ∧ algebraic_MlaIdeal_MlaRefIdeal_pre_mla_finite (hMlaIdeal := hMlaIdeal) (hMlaRefIdeal := hMlaRefIdeal) (hPre_mla_finite := hPre_mla_finite)
    ∧ preserves_Sb_SbIdeal
    ∧ algebraic_SbIdeal_SbRefIdeal_pre_sb_finite (hSbIdeal := hSbIdeal) (hSbRefIdeal := hSbRefIdeal) (hPre_sb_finite := hPre_sb_finite)
    ∧ preserves_Merge_MergeIdeal
    ∧ algebraic_MergeIdeal_MergeRefIdeal (hMergeIdeal := hMergeIdeal) (hMergeRefIdeal := hMergeRefIdeal)
    ∧ preserves_Proj_ProjIdeal
    ∧ algebraic_ProjIdeal_ProjRefIdeal_pre_proj_finite (hProjIdeal := hProjIdeal) (hProjRefIdeal := hProjRefIdeal) (hPre_proj_finite := hPre_proj_finite)
-- ==== Pre_mla_finite.lean ====
abbrev S32768x1024 : Shape := ⟨2, ![32768, 1024]⟩
abbrev S32768x512 : Shape := ⟨2, ![32768, 512]⟩
abbrev S16x1024 : Shape := ⟨2, ![16, 1024]⟩
abbrev S16x512 : Shape := ⟨2, ![16, 512]⟩
abbrev S_ : Shape := ⟨0, ![]⟩

class Facts : Prop where
  bitsLt_bf16_f32 : FTy.bits .bf16 < FTy.bits .f32
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S16x1024 : S_.BroadcastsInDim S16x1024 (![] : Fin 0 → Fin S16x1024.rank)
  reducesTo_S16x1024_S_d0_1 : S16x1024.ReducesTo [0, 1] S_

variable [Facts]

def fn {F : FTy → Type} [FloatOps F] (main_arg0 : FVec F S32768x1024 .bf16) (main_arg1 : FVec F S32768x1024 .bf16) (main_arg2 : FVec F S32768x512 .bf16) (main_arg3 : FVec F S16x1024 .bf16) (main_arg4 : FVec F S16x512 .bf16) : IVec S_ 1 :=
  let main_v0 : FVec F S32768x1024 .f32 := (extf .f32 · bitsLt_bf16_f32) main_arg0
  let main_v1 : FVec F S32768x1024 .f32 := Host.absf main_v0
  let main_cst : FVec F S_ .f32 := constant S_ .f32 0x7F800000#32
  let main_v2 : FVec F S32768x1024 .f32 := broadcastInDim S32768x1024 ![] bcast_S_S32768x1024 main_cst
  let main_v3 : IVec S32768x1024 1 := cmpf .olt main_v1 main_v2
  let main_c : IVec S_ 1 := constantI S_ 1 1#1
  let main_v4 : IVec S_ 1 := (fun x v => Host.reduce IntOp.andi x v reducesTo_S32768x1024_S_d0_1 h_S_) main_v3 main_c
  let main_v5 : FVec F S32768x1024 .f32 := (extf .f32 · bitsLt_bf16_f32) main_arg1
  let main_v6 : FVec F S32768x1024 .f32 := Host.absf main_v5
  let main_cst_0 : FVec F S_ .f32 := constant S_ .f32 0x7F800000#32
  let main_v7 : FVec F S32768x1024 .f32 := broadcastInDim S32768x1024 ![] bcast_S_S32768x1024 main_cst_0
  let main_v8 : IVec S32768x1024 1 := cmpf .olt main_v6 main_v7
  let main_c_1 : IVec S_ 1 := constantI S_ 1 1#1
  let main_v9 : IVec S_ 1 := (fun x v => Host.reduce IntOp.andi x v reducesTo_S32768x1024_S_d0_1 h_S_) main_v8 main_c_1
  let main_v10 : IVec S_ 1 := andi main_v4 main_v9
  let main_v11 : FVec F S16x1024 .f32 := (extf .f32 · bitsLt_bf16_f32) main_arg3
  let main_v12 : FVec F S16x1024 .f32 := Host.absf main_v11
  let main_cst_2 : FVec F S_ .f32 := constant S_ .f32 0x7F800000#32
  let main_v13 : FVec F S16x1024 .f32 := broadcastInDim S16x1024 ![] bcast_S_S16x1024 main_cst_2
  let main_v14 : IVec S16x1024 1 := cmpf .olt main_v12 main_v13
  let main_c_3 : IVec S_ 1 := constantI S_ 1 1#1
  let main_v15 : IVec S_ 1 := (fun x v => Host.reduce IntOp.andi x v reducesTo_S16x1024_S_d0_1 h_S_) main_v14 main_c_3
  let main_v16 : IVec S_ 1 := andi main_v10 main_v15
  main_v16
-- ==== Pre_proj_finite.lean ====
abbrev S32768x1024 : Shape := ⟨2, ![32768, 1024]⟩
abbrev S1024 : Shape := ⟨1, ![1024]⟩
abbrev S1024x2816 : Shape := ⟨2, ![1024, 2816]⟩
abbrev S2816x1024 : Shape := ⟨2, ![2816, 1024]⟩
abbrev S1024x4256 : Shape := ⟨2, ![1024, 4256]⟩
abbrev S384 : Shape := ⟨1, ![384]⟩
abbrev S384x8x96 : Shape := ⟨3, ![384, 8, 96]⟩
abbrev S256 : Shape := ⟨1, ![256]⟩
abbrev S256x8x128 : Shape := ⟨3, ![256, 8, 128]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1024x4256 : S_.BroadcastsInDim S1024x4256 (![] : Fin 0 → Fin S1024x4256.rank)
  reducesTo_S1024x4256_S_d0_1 : S1024x4256.ReducesTo [0, 1] S_
  bcast_S_S384 : S_.BroadcastsInDim S384 (![] : Fin 0 → Fin S384.rank)
  reducesTo_S384_S_d0 : S384.ReducesTo [0] S_
  bcast_S_S384x8x96 : S_.BroadcastsInDim S384x8x96 (![] : Fin 0 → Fin S384x8x96.rank)
  reducesTo_S384x8x96_S_d0_1_2 : S384x8x96.ReducesTo [0, 1, 2] S_

variable [Facts]

def fn_part2 {F : FTy → Type} [FloatOps F] (main_arg7 : FVec F S1024x4256 .f32) (main_arg8 : FVec F S384 .f32) (main_arg9 : FVec F S384x8x96 .f32) (main_v33 : IVec S_ 1) : IVec S_ 1 :=
  let main_v34 : FVec F S1024x4256 .f32 := Host.absf main_arg7
  let main_cst_12 : FVec F S_ .f32 := constant S_ .f32 0x7F800000#32
  let main_v35 : FVec F S1024x4256 .f32 := broadcastInDim S1024x4256 ![] bcast_S_S1024x4256 main_cst_12
  let main_v36 : IVec S1024x4256 1 := cmpf .olt main_v34 main_v35
  let main_c_13 : IVec S_ 1 := constantI S_ 1 1#1
  let main_v37 : IVec S_ 1 := (fun x v => Host.reduce IntOp.andi x v reducesTo_S1024x4256_S_d0_1 h_S_) main_v36 main_c_13
  let main_v38 : IVec S_ 1 := andi main_v33 main_v37
  let main_v39 : FVec F S384 .f32 := Host.absf main_arg8
  let main_cst_14 : FVec F S_ .f32 := constant S_ .f32 0x7F800000#32
  let main_v40 : FVec F S384 .f32 := broadcastInDim S384 ![] bcast_S_S384 main_cst_14
  let main_v41 : IVec S384 1 := cmpf .olt main_v39 main_v40
  let main_c_15 : IVec S_ 1 := constantI S_ 1 1#1
  let main_v42 : IVec S_ 1 := (fun x v => Host.reduce IntOp.andi x v reducesTo_S384_S_d0 h_S_) main_v41 main_c_15
  let main_v43 : IVec S_ 1 := andi main_v38 main_v42
  let main_v44 : FVec F S384x8x96 .f32 := Host.absf main_arg9
  let main_cst_16 : FVec F S_ .f32 := constant S_ .f32 0x7F800000#32
  let main_v45 : FVec F S384x8x96 .f32 := broadcastInDim S384x8x96 ![] bcast_S_S384x8x96 main_cst_16
  let main_v46 : IVec S384x8x96 1 := cmpf .olt main_v44 main_v45
  let main_c_17 : IVec S_ 1 := constantI S_ 1 1#1
  let main_v47 : IVec S_ 1 := (fun x v => Host.reduce IntOp.andi x v reducesTo_S384x8x96_S_d0_1_2 h_S_) main_v46 main_c_17
  let main_v48 : IVec S_ 1 := andi main_v43 main_v47
  main_v48

def fn_part1 {F : FTy → Type} [FloatOps F] (main_arg4 : FVec F S2816x1024 .f32) (main_arg5 : FVec F S1024 .f32) (main_arg6 : FVec F S1024 .f32) (main_arg7 : FVec F S1024x4256 .f32) (main_arg8 : FVec F S384 .f32) (main_arg9 : FVec F S384x8x96 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S2816x1024 .f32 := Host.absf main_arg4
  let main_cst_6 : FVec F S_ .f32 := constant S_ .f32 0x7F800000#32
  let main_v20 : FVec F S2816x1024 .f32 := broadcastInDim S2816x1024 ![] bcast_S_S2816x1024 main_cst_6
  let main_v21 : IVec S2816x1024 1 := cmpf .olt main_v19 main_v20
  let main_c_7 : IVec S_ 1 := constantI S_ 1 1#1
  let main_v22 : IVec S_ 1 := (fun x v => Host.reduce IntOp.andi x v reducesTo_S2816x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_v33

def fn {F : FTy → Type} [FloatOps F] (main_arg0 : FVec F S32768x1024 .f32) (main_arg1 : FVec F S1024 .f32) (main_arg2 : FVec F S1024x2816 .f32) (main_arg3 : FVec F S1024x2816 .f32) (main_arg4 : FVec F S2816x1024 .f32) (main_arg5 : FVec F S1024 .f32) (main_arg6 : FVec F S1024 .f32) (main_arg7 : FVec F S1024x4256 .f32) (main_arg8 : FVec F S384 .f32) (main_arg9 : FVec F S384x8x96 .f32) (main_arg10 : FVec F S256 .f32) (main_arg11 : FVec F S256x8x128 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg4 main_arg5 main_arg6 main_arg7 main_arg8 main_arg9 main_v13 main_v16
-- ==== Pre_sb_finite.lean ====
abbrev S32768x512 : Shape := ⟨2, ![32768, 512]⟩
abbrev S16x512 : Shape := ⟨2, ![16, 512]⟩
abbrev S_ : Shape := ⟨0, ![]⟩

class Facts : Prop where
  bitsLt_bf16_f32 : FTy.bits .bf16 < FTy.bits .f32
  bcast_S_S32768x512 : S_.BroadcastsInDim S32768x512 (![] : Fin 0 → Fin S32768x512.rank)
  reducesTo_S32768x512_S_d0_1 : S32768x512.ReducesTo [0, 1] S_
  h_S_ : 0 < S_.numel
  bcast_S_S16x512 : S_.BroadcastsInDim S16x512 (![] : Fin 0 → Fin S16x512.rank)
  reducesTo_S16x512_S_d0_1 : S16x512.ReducesTo [0, 1] S_

variable [Facts]

def fn {F : FTy → Type} [FloatOps F] (main_arg0 : FVec F S32768x512 .bf16) (main_arg1 : FVec F S32768x512 .bf16) (main_arg2 : FVec F S32768x512 .bf16) (main_arg3 : FVec F S16x512 .bf16) (main_arg4 : FVec F S16x512 .bf16) : IVec S_ 1 :=
  let main_v0 : FVec F S32768x512 .f32 := (extf .f32 · bitsLt_bf16_f32) main_arg0
  let main_v1 : FVec F S32768x512 .f32 := Host.absf main_v0
  let main_cst : FVec F S_ .f32 := constant S_ .f32 0x7F800000#32
  let main_v2 : FVec F S32768x512 .f32 := broadcastInDim S32768x512 ![] bcast_S_S32768x512 main_cst
  let main_v3 : IVec S32768x512 1 := cmpf .olt main_v1 main_v2
  let main_c : IVec S_ 1 := constantI S_ 1 1#1
  let main_v4 : IVec S_ 1 := (fun x v => Host.reduce IntOp.andi x v reducesTo_S32768x512_S_d0_1 h_S_) main_v3 main_c
  let main_v5 : FVec F S32768x512 .f32 := (extf .f32 · bitsLt_bf16_f32) main_arg1
  let main_v6 : FVec F S32768x512 .f32 := Host.absf main_v5
  let main_cst_0 : FVec F S_ .f32 := constant S_ .f32 0x7F800000#32
  let main_v7 : FVec F S32768x512 .f32 := broadcastInDim S32768x512 ![] bcast_S_S32768x512 main_cst_0
  let main_v8 : IVec S32768x512 1 := cmpf .olt main_v6 main_v7
  let main_c_1 : IVec S_ 1 := constantI S_ 1 1#1
  let main_v9 : IVec S_ 1 := (fun x v => Host.reduce IntOp.andi x v reducesTo_S32768x512_S_d0_1 h_S_) main_v8 main_c_1
  let main_v10 : IVec S_ 1 := andi main_v4 main_v9
  let main_v11 : FVec F S16x512 .f32 := (extf .f32 · bitsLt_bf16_f32) main_arg3
  let main_v12 : FVec F S16x512 .f32 := Host.absf main_v11
  let main_cst_2 : FVec F S_ .f32 := constant S_ .f32 0x7F800000#32
  let main_v13 : FVec F S16x512 .f32 := broadcastInDim S16x512 ![] bcast_S_S16x512 main_cst_2
  let main_v14 : IVec S16x512 1 := cmpf .olt main_v12 main_v13
  let main_c_3 : IVec S_ 1 := constantI S_ 1 1#1
  let main_v15 : IVec S_ 1 := (fun x v => Host.reduce IntOp.andi x v reducesTo_S16x512_S_d0_1 h_S_) main_v14 main_c_3
  let main_v16 : IVec S_ 1 := andi main_v10 main_v15
  main_v16
-- ==== Mla.lean ====
abbrev S32768x1024 : Shape := ⟨2, ![32768, 1024]⟩
abbrev S32768x512 : Shape := ⟨2, ![32768, 512]⟩
abbrev S16x1024 : Shape := ⟨2, ![16, 1024]⟩
abbrev S16x512 : Shape := ⟨2, ![16, 512]⟩
abbrev S_ : Shape := ⟨0, ![]⟩
abbrev S128x1024 : Shape := ⟨2, ![128, 1024]⟩
abbrev S128x512 : Shape := ⟨2, ![128, 512]⟩
abbrev S2048x256 : Shape := ⟨2, ![2048, 256]⟩
abbrev S2048x128 : Shape := ⟨2, ![2048, 128]⟩
abbrev S128x256 : Shape := ⟨2, ![128, 256]⟩
abbrev S128x128 : Shape := ⟨2, ![128, 128]⟩
abbrev S512x256 : Shape := ⟨2, ![512, 256]⟩
abbrev S512x128 : Shape := ⟨2, ![512, 128]⟩
abbrev S256x512 : Shape := ⟨2, ![256, 512]⟩
abbrev S256x256 : Shape := ⟨2, ![256, 256]⟩
abbrev S256x128 : Shape := ⟨2, ![256, 128]⟩
abbrev S256 : Shape := ⟨1, ![256]⟩
abbrev S256x1 : Shape := ⟨2, ![256, 1]⟩
abbrev S512x512 : Shape := ⟨2, ![512, 512]⟩
abbrev S512 : Shape := ⟨1, ![512]⟩
abbrev S512x1 : Shape := ⟨2, ![512, 1]⟩

abbrev nBuf : Space → Nat
  | .hbm => 12
  | .vmem => 12
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x512, .bf16⟩
  | .hbm, ⟨3, _⟩ => ⟨S16x1024, .bf16⟩
  | .hbm, ⟨4, _⟩ => ⟨S16x512, .bf16⟩
  | .hbm, ⟨5, _⟩ => ⟨S_, .i32⟩
  | .hbm, ⟨6, _⟩ => ⟨S_, .bf16⟩
  | .hbm, ⟨7, _⟩ => ⟨S128x1024, .bf16⟩
  | .hbm, ⟨8, _⟩ => ⟨S_, .i32⟩
  | .hbm, ⟨9, _⟩ => ⟨S_, .bf16⟩
  | .hbm, ⟨10, _⟩ => ⟨S128x512, .bf16⟩
  | .hbm, ⟨11, _⟩ => ⟨S32768x512, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x128, .bf16⟩
  | .local _ .vmem, ⟨5, _⟩ => ⟨S2048x128, .bf16⟩
  | .local _ .vmem, ⟨6, _⟩ => ⟨S128x256, .bf16⟩
  | .local _ .vmem, ⟨7, _⟩ => ⟨S128x256, .bf16⟩
  | .local _ .vmem, ⟨8, _⟩ => ⟨S128x128, .bf16⟩
  | .local _ .vmem, ⟨9, _⟩ => ⟨S128x128, .bf16⟩
  | .local _ .vmem, ⟨10, _⟩ => ⟨S2048x128, .bf16⟩
  | .local _ .vmem, ⟨11, _⟩ => ⟨S2048x128, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MlaIdeal.lean ====
variable {F : FTy → Type} [FloatOps F] [Named F]
def κ : String → Option EReal := fun
  | "mask" => some ⊥
  | _ => none
-- ==== MlaRefIdeal.lean ====
abbrev S32768x1024 : Shape := ⟨2, ![32768, 1024]⟩
abbrev S32768x512 : Shape := ⟨2, ![32768, 512]⟩
abbrev S16x1024 : Shape := ⟨2, ![16, 1024]⟩
abbrev S16x512 : Shape := ⟨2, ![16, 512]⟩
abbrev S16x2048x8x128 : Shape := ⟨4, ![16, 2048, 8, 128]⟩
abbrev S1x16x8x128 : Shape := ⟨4, ![1, 16, 8, 128]⟩
abbrev S16x16x8x128 : Shape := ⟨4, ![16, 16, 8, 128]⟩
abbrev S16x2064x8x128 : Shape := ⟨4, ![16, 2064, 8, 128]⟩
abbrev S1x16x8x64 : Shape := ⟨4, ![1, 16, 8, 64]⟩
abbrev S16x16x8x64 : Shape := ⟨4, ![16, 16, 8, 64]⟩
abbrev S16x2048x8x64 : Shape := ⟨4, ![16, 2048, 8, 64]⟩
abbrev S16x2064x8x64 : Shape := ⟨4, ![16, 2064, 8, 64]⟩
abbrev S16x8x2048x2064 : Shape := ⟨4, ![16, 8, 2048, 2064]⟩
abbrev S_ : Shape := ⟨0, ![]⟩
abbrev S2064 : Shape := ⟨1, ![2064]⟩
abbrev S1x2064 : Shape := ⟨2, ![1, 2064]⟩
abbrev S2048 : Shape := ⟨1, ![2048]⟩
abbrev S2048x1 : Shape := ⟨2, ![2048, 1]⟩
abbrev S2048x2064 : Shape := ⟨2, ![2048, 2064]⟩
abbrev S16x8x2048 : Shape := ⟨3, ![16, 8, 2048]⟩
abbrev S16x8x2048x1 : Shape := ⟨4, ![16, 8, 2048, 1]⟩
abbrev S16x8x64x2048 : Shape := ⟨4, ![16, 8, 64, 2048]⟩

abbrev nBuf : Space → Nat
  | .hbm => 85
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x512, .bf16⟩
  | .hbm, ⟨3, _⟩ => ⟨S16x1024, .bf16⟩
  | .hbm, ⟨4, _⟩ => ⟨S16x512, .bf16⟩
  | .hbm, ⟨5, _⟩ => ⟨S32768x1024, .f32⟩
  | .hbm, ⟨6, _⟩ => ⟨S16x2048x8x128, .f32⟩
  | .hbm, ⟨7, _⟩ => ⟨S16x1024, .f32⟩
  | .hbm, ⟨8, _⟩ => ⟨S1x16x8x128, .f32⟩
  | .hbm, ⟨9, _⟩ => ⟨S16x16x8x128, .f32⟩
  | .hbm, ⟨10, _⟩ => ⟨S32768x1024, .f32⟩
  | .hbm, ⟨11, _⟩ => ⟨S16x2048x8x128, .f32⟩
  | .hbm, ⟨12, _⟩ => ⟨S16x2064x8x128, .f32⟩
  | .hbm, ⟨13, _⟩ => ⟨S16x512, .f32⟩
  | .hbm, ⟨14, _⟩ => ⟨S1x16x8x64, .f32⟩
  | .hbm, ⟨15, _⟩ => ⟨S16x16x8x64, .f32⟩
  | .hbm, ⟨16, _⟩ => ⟨S32768x512, .f32⟩
  | .hbm, ⟨17, _⟩ => ⟨S16x2048x8x64, .f32⟩
  | .hbm, ⟨18, _⟩ => ⟨S16x2064x8x64, .f32⟩
  | .hbm, ⟨19, _⟩ => ⟨S16x8x2048x2064, .f32⟩
  | .hbm, ⟨20, _⟩ => ⟨S_, .f32⟩
  | .hbm, ⟨21, _⟩ => ⟨S_, .f32⟩
  | .hbm, ⟨22, _⟩ => ⟨S16x8x2048x2064, .f32⟩
  | .hbm, ⟨23, _⟩ => ⟨S16x8x2048x2064, .f32⟩
  | .hbm, ⟨24, _⟩ => ⟨S2064, .i32⟩
  | .hbm, ⟨25, _⟩ => ⟨S_, .i32⟩
  | .hbm, ⟨26, _⟩ => ⟨S2064, .i32⟩
  | .hbm, ⟨27, _⟩ => ⟨S2064, .i1⟩
  | .hbm, ⟨28, _⟩ => ⟨S_, .i32⟩
  | .hbm, ⟨29, _⟩ => ⟨S2064, .i32⟩
  | .hbm, ⟨30, _⟩ => ⟨S2064, .i32⟩
  | .hbm, ⟨31, _⟩ => ⟨S_, .i32⟩
  | .hbm, ⟨32, _⟩ => ⟨S_, .i32⟩
  | .hbm, ⟨33, _⟩ => ⟨S2064, .i32⟩
  | .hbm, ⟨34, _⟩ => ⟨S2064, .i32⟩
  | .hbm, ⟨35, _⟩ => ⟨S2064, .i32⟩
  | .hbm, ⟨36, _⟩ => ⟨S_, .i32⟩
  | .hbm, ⟨37, _⟩ => ⟨S2064, .i32⟩
  | .hbm, ⟨38, _⟩ => ⟨S2064, .i1⟩
  | .hbm, ⟨39, _⟩ => ⟨S2064, .i32⟩
  | .hbm, ⟨40, _⟩ => ⟨S2064, .i32⟩
  | .hbm, ⟨41, _⟩ => ⟨S_, .i32⟩
  | .hbm, ⟨42, _⟩ => ⟨S2064, .i32⟩
  | .hbm, ⟨43, _⟩ => ⟨S2064, .i1⟩
  | .hbm, ⟨44, _⟩ => ⟨S2064, .i1⟩
  | .hbm, ⟨45, _⟩ => ⟨S_, .i32⟩
  | .hbm, ⟨46, _⟩ => ⟨S2064, .i32⟩
  | .hbm, ⟨47, _⟩ => ⟨S2064, .i32⟩
  | .hbm, ⟨48, _⟩ => ⟨S2064, .i32⟩
  | .hbm, ⟨49, _⟩ => ⟨S_, .i32⟩
  | .hbm, ⟨50, _⟩ => ⟨S2064, .i32⟩
  | .hbm, ⟨51, _⟩ => ⟨S2064, .i32⟩
  | .hbm, ⟨52, _⟩ => ⟨S_, .i32⟩
  | .hbm, ⟨53, _⟩ => ⟨S_, .i32⟩
  | .hbm, ⟨54, _⟩ => ⟨S2064, .i32⟩
  | .hbm, ⟨55, _⟩ => ⟨S2064, .i32⟩
  | .hbm, ⟨56, _⟩ => ⟨S1x2064, .i32⟩
  | .hbm, ⟨57, _⟩ => ⟨S2048, .i32⟩
  | .hbm, ⟨58, _⟩ => ⟨S2048x1, .i32⟩
  | .hbm, ⟨59, _⟩ => ⟨S2048x2064, .i32⟩
  | .hbm, ⟨60, _⟩ => ⟨S2048x2064, .i32⟩
  | .hbm, ⟨61, _⟩ => ⟨S2048x2064, .i1⟩
  | .hbm, ⟨62, _⟩ => ⟨S_, .f32⟩
  | .hbm, ⟨63, _⟩ => ⟨S_, .f32⟩
  | .hbm, ⟨64, _⟩ => ⟨S16x8x2048x2064, .i1⟩
  | .hbm, ⟨65, _⟩ => ⟨S16x8x2048x2064, .f32⟩
  | .hbm, ⟨66, _⟩ => ⟨S16x8x2048x2064, .f32⟩
  | .hbm, ⟨67, _⟩ => ⟨S_, .f32⟩
  | .hbm, ⟨68, _⟩ => ⟨S16x8x2048, .f32⟩
  | .hbm, ⟨69, _⟩ => ⟨S_, .f32⟩
  | .hbm, ⟨70, _⟩ => ⟨S16x8x2048, .f32⟩
  | .hbm, ⟨71, _⟩ => ⟨S16x8x2048, .f32⟩
  | .hbm, ⟨72, _⟩ => ⟨S16x8x2048x1, .f32⟩
  | .hbm, ⟨73, _⟩ => ⟨S16x8x2048x2064, .f32⟩
  | .hbm, ⟨74, _⟩ => ⟨S16x8x2048x2064, .f32⟩
  | .hbm, ⟨75, _⟩ => ⟨S16x8x2048x2064, .f32⟩
  | .hbm, ⟨76, _⟩ => ⟨S_, .f32⟩
  | .hbm, ⟨77, _⟩ => ⟨S16x8x2048, .f32⟩
  | .hbm, ⟨78, _⟩ => ⟨S16x8x2048x1, .f32⟩
  | .hbm, ⟨79, _⟩ => ⟨S16x8x2048x2064, .f32⟩
  | .hbm, ⟨80, _⟩ => ⟨S16x8x2048x2064, .f32⟩
  | .hbm, ⟨81, _⟩ => ⟨S16x8x64x2048, .f32⟩
  | .hbm, ⟨82, _⟩ => ⟨S16x2048x8x64, .f32⟩
  | .hbm, ⟨83, _⟩ => ⟨S32768x512, .f32⟩
  | .hbm, ⟨84, _⟩ => ⟨S32768x512, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_v19 : Ref sig .tc := ⟨.hbm, 26, rfl⟩
abbrev main_v20 : Ref sig .tc := ⟨.hbm, 27, rfl⟩
abbrev main_c_0 : Ref sig .tc := ⟨.hbm, 28, rfl⟩
abbrev main_v21 : Ref sig .tc := ⟨.hbm, 29, rfl⟩
abbrev main_v22 : Ref sig .tc := ⟨.hbm, 30, rfl⟩
abbrev main_c_1 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_c : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_c_0 : Ref sig .tc := ⟨.hbm, 45, rfl⟩
abbrev main_call0_v12 : Ref sig .tc := ⟨.hbm, 46, rfl⟩
abbrev main_call0_v13 : Ref sig .tc := ⟨.hbm, 47, rfl⟩
abbrev main_v23 : Ref sig .tc := ⟨.hbm, 48, rfl⟩
abbrev main_c_2 : Ref sig .tc := ⟨.hbm, 49, rfl⟩
abbrev main_v24 : Ref sig .tc := ⟨.hbm, 50, rfl⟩
abbrev main_v25 : Ref sig .tc := ⟨.hbm, 51, rfl⟩
abbrev main_c_3 : Ref sig .tc := ⟨.hbm, 52, rfl⟩
abbrev main_call1_v0 : Ref sig .tc := ⟨.hbm, 53, rfl⟩
abbrev main_call1_v1 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_cst_4 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_v33 : Ref sig .tc := ⟨.hbm, 66, rfl⟩
abbrev main_cst_5 : Ref sig .tc := ⟨.hbm, 67, rfl⟩
abbrev main_v34 : Ref sig .tc := ⟨.hbm, 68, rfl⟩
abbrev main_cst_6 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_cst_7 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩

abbrev nD : Nat := 1
abbrev τ : Topo := Topo.v7x

variable {F : FTy → Type} [FloatOps F]
-- ==== Sb.lean ====
abbrev S32768x512 : Shape := ⟨2, ![32768, 512]⟩
abbrev S16x512 : Shape := ⟨2, ![16, 512]⟩
abbrev S_ : Shape := ⟨0, ![]⟩
abbrev S128x512 : Shape := ⟨2, ![128, 512]⟩
abbrev S256x256 : Shape := ⟨2, ![256, 256]⟩
abbrev S2048x128 : Shape := ⟨2, ![2048, 128]⟩
abbrev S128x128 : Shape := ⟨2, ![128, 128]⟩
abbrev S512x128 : Shape := ⟨2, ![512, 128]⟩
abbrev S512x256 : Shape := ⟨2, ![512, 256]⟩
abbrev S256x128 : Shape := ⟨2, ![256, 128]⟩
abbrev S256 : Shape := ⟨1, ![256]⟩
abbrev S256x1 : Shape := ⟨2, ![256, 1]⟩
abbrev S512 : Shape := ⟨1, ![512]⟩
abbrev S512x1 : Shape := ⟨2, ![512, 1]⟩

abbrev nBuf : Space → Nat
  | .hbm => 17
  | .vmem => 13
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x512, .bf16⟩
  | .hbm, ⟨3, _⟩ => ⟨S16x512, .bf16⟩
  | .hbm, ⟨4, _⟩ => ⟨S16x512, .bf16⟩
  | .hbm, ⟨5, _⟩ => ⟨S_, .i32⟩
  | .hbm, ⟨6, _⟩ => ⟨S_, .bf16⟩
  | .hbm, ⟨7, _⟩ => ⟨S128x512, .bf16⟩
  | .hbm, ⟨8, _⟩ => ⟨S_, .i32⟩
  | .hbm, ⟨9, _⟩ => ⟨S_, .bf16⟩
  | .hbm, ⟨10, _⟩ => ⟨S128x512, .bf16⟩
  | .hbm, ⟨11, _⟩ => ⟨S256x256, .i32⟩
  | .hbm, ⟨12, _⟩ => ⟨S256x256, .i32⟩
  | .hbm, ⟨13, _⟩ => ⟨S256x256, .i1⟩
  | .hbm, ⟨14, _⟩ => ⟨S256x256, .bf16⟩
  | .hbm, ⟨15, _⟩ => ⟨S256x256, .bf16⟩
  | .hbm, ⟨16, _⟩ => ⟨S32768x512, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S256x256, .bf16⟩
  | .local _ .vmem, ⟨11, _⟩ => ⟨S2048x128, .bf16⟩
  | .local _ .vmem, ⟨12, _⟩ => ⟨S2048x128, .bf16⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== SbIdeal.lean ====
variable {F : FTy → Type} [FloatOps F] [Named F]
def κ : String → Option EReal := fun
  | "inv_ln2" => some (((Real.log 2)⁻¹ : ℝ) : EReal)
  | _ => none
-- ==== SbRefIdeal.lean ====
abbrev S32768x512 : Shape := ⟨2, ![32768, 512]⟩
abbrev S16x512 : Shape := ⟨2, ![16, 512]⟩
abbrev S16x2048x8x64 : Shape := ⟨4, ![16, 2048, 8, 64]⟩
abbrev S1x16x8x64 : Shape := ⟨4, ![1, 16, 8, 64]⟩
abbrev S16x16x8x64 : Shape := ⟨4, ![16, 16, 8, 64]⟩
abbrev S16x2064x8x64 : Shape := ⟨4, ![16, 2064, 8, 64]⟩
abbrev S16x8x2048x2064 : Shape := ⟨4, ![16, 8, 2048, 2064]⟩
abbrev S_ : Shape := ⟨0, ![]⟩
abbrev S2064 : Shape := ⟨1, ![2064]⟩
abbrev S1x2064 : Shape := ⟨2, ![1, 2064]⟩
abbrev S2048 : Shape := ⟨1, ![2048]⟩
abbrev S2048x1 : Shape := ⟨2, ![2048, 1]⟩
abbrev S2048x2064 : Shape := ⟨2, ![2048, 2064]⟩
abbrev S16x8x2048x1 : Shape := ⟨4, ![16, 8, 2048, 1]⟩
abbrev S16x8x64x2048 : Shape := ⟨4, ![16, 8, 64, 2048]⟩

abbrev nBuf : Space → Nat
  | .hbm => 86
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x512, .bf16⟩
  | .hbm, ⟨3, _⟩ => ⟨S16x512, .bf16⟩
  | .hbm, ⟨4, _⟩ => ⟨S16x512, .bf16⟩
  | .hbm, ⟨5, _⟩ => ⟨S32768x512, .f32⟩
  | .hbm, ⟨6, _⟩ => ⟨S16x2048x8x64, .f32⟩
  | .hbm, ⟨7, _⟩ => ⟨S16x512, .f32⟩
  | .hbm, ⟨8, _⟩ => ⟨S1x16x8x64, .f32⟩
  | .hbm, ⟨9, _⟩ => ⟨S16x16x8x64, .f32⟩
  | .hbm, ⟨10, _⟩ => ⟨S32768x512, .f32⟩
  | .hbm, ⟨11, _⟩ => ⟨S16x2048x8x64, .f32⟩
  | .hbm, ⟨12, _⟩ => ⟨S16x2064x8x64, .f32⟩
  | .hbm, ⟨13, _⟩ => ⟨S16x512, .f32⟩
  | .hbm, ⟨14, _⟩ => ⟨S1x16x8x64, .f32⟩
  | .hbm, ⟨15, _⟩ => ⟨S16x16x8x64, .f32⟩
  | .hbm, ⟨16, _⟩ => ⟨S32768x512, .f32⟩
  | .hbm, ⟨17, _⟩ => ⟨S16x2048x8x64, .f32⟩
  | .hbm, ⟨18, _⟩ => ⟨S16x2064x8x64, .f32⟩
  | .hbm, ⟨19, _⟩ => ⟨S16x8x2048x2064, .f32⟩
  | .hbm, ⟨20, _⟩ => ⟨S_, .f32⟩
  | .hbm, ⟨21, _⟩ => ⟨S_, .f32⟩
  | .hbm, ⟨22, _⟩ => ⟨S16x8x2048x2064, .f32⟩
  | .hbm, ⟨23, _⟩ => ⟨S16x8x2048x2064, .f32⟩
  | .hbm, ⟨24, _⟩ => ⟨S2064, .i32⟩
  | .hbm, ⟨25, _⟩ => ⟨S1x2064, .i32⟩
  | .hbm, ⟨26, _⟩ => ⟨S2048, .i32⟩
  | .hbm, ⟨27, _⟩ => ⟨S2048x1, .i32⟩
  | .hbm, ⟨28, _⟩ => ⟨S2048x2064, .i32⟩
  | .hbm, ⟨29, _⟩ => ⟨S2048x2064, .i32⟩
  | .hbm, ⟨30, _⟩ => ⟨S2048x2064, .i1⟩
  | .hbm, ⟨31, _⟩ => ⟨S16x8x2048x2064, .f32⟩
  | .hbm, ⟨32, _⟩ => ⟨S16x8x2048x2064, .f32⟩
  | .hbm, ⟨33, _⟩ => ⟨S_, .f32⟩
  | .hbm, ⟨34, _⟩ => ⟨S16x8x2048x2064, .f32⟩
  | .hbm, ⟨35, _⟩ => ⟨S16x8x2048x2064, .f32⟩
  | .hbm, ⟨36, _⟩ => ⟨S16x8x2048x2064, .f32⟩
  | .hbm, ⟨37, _⟩ => ⟨S16x8x2048x2064, .f32⟩
  | .hbm, ⟨38, _⟩ => ⟨S16x8x2048x2064, .i1⟩
  | .hbm, ⟨39, _⟩ => ⟨S16x8x2048x2064, .f32⟩
  | .hbm, ⟨40, _⟩ => ⟨S16x8x2048x2064, .f32⟩
  | .hbm, ⟨41, _⟩ => ⟨S16x8x2048x2064, .f32⟩
  | .hbm, ⟨42, _⟩ => ⟨S16x8x2048x2064, .f32⟩
  | .hbm, ⟨43, _⟩ => ⟨S16x8x2048x2064, .f32⟩
  | .hbm, ⟨44, _⟩ => ⟨S16x8x2048x2064, .f32⟩
  | .hbm, ⟨45, _⟩ => ⟨S16x8x2048x2064, .f32⟩
  | .hbm, ⟨46, _⟩ => ⟨S16x8x2048x2064, .f32⟩
  | .hbm, ⟨47, _⟩ => ⟨S16x8x2048x2064, .f32⟩
  | .hbm, ⟨48, _⟩ => ⟨S_, .f32⟩
  | .hbm, ⟨49, _⟩ => ⟨S_, .f32⟩
  | .hbm, ⟨50, _⟩ => ⟨S16x8x2048x2064, .i1⟩
  | .hbm, ⟨51, _⟩ => ⟨S16x8x2048x2064, .f32⟩
  | .hbm, ⟨52, _⟩ => ⟨S16x8x2048x2064, .f32⟩
  | .hbm, ⟨53, _⟩ => ⟨S_, .f32⟩
  | .hbm, ⟨54, _⟩ => ⟨S_, .f32⟩
  | .hbm, ⟨55, _⟩ => ⟨S16x8x2048x2064, .f32⟩
  | .hbm, ⟨56, _⟩ => ⟨S16x8x2048x2064, .f32⟩
  | .hbm, ⟨57, _⟩ => ⟨S_, .f32⟩
  | .hbm, ⟨58, _⟩ => ⟨S16x8x2048x2064, .f32⟩
  | .hbm, ⟨59, _⟩ => ⟨S16x8x2048x2064, .f32⟩
  | .hbm, ⟨60, _⟩ => ⟨S16x8x2048x2064, .f32⟩
  | .hbm, ⟨61, _⟩ => ⟨S16x8x2048x2064, .f32⟩
  | .hbm, ⟨62, _⟩ => ⟨S16x8x2048x2064, .i1⟩
  | .hbm, ⟨63, _⟩ => ⟨S16x8x2048x2064, .f32⟩
  | .hbm, ⟨64, _⟩ => ⟨S16x8x2048x2064, .f32⟩
  | .hbm, ⟨65, _⟩ => ⟨S16x8x2048x2064, .f32⟩
  | .hbm, ⟨66, _⟩ => ⟨S16x8x2048x2064, .f32⟩
  | .hbm, ⟨67, _⟩ => ⟨S16x8x2048x2064, .f32⟩
  | .hbm, ⟨68, _⟩ => ⟨S16x8x2048x2064, .f32⟩
  | .hbm, ⟨69, _⟩ => ⟨S16x8x2048x2064, .f32⟩
  | .hbm, ⟨70, _⟩ => ⟨S16x8x2048x2064, .f32⟩
  | .hbm, ⟨71, _⟩ => ⟨S16x8x2048x2064, .f32⟩
  | .hbm, ⟨72, _⟩ => ⟨S16x8x2048x1, .f32⟩
  | .hbm, ⟨73, _⟩ => ⟨S16x8x2048x2064, .f32⟩
  | .hbm, ⟨74, _⟩ => ⟨S16x8x2048x2064, .f32⟩
  | .hbm, ⟨75, _⟩ => ⟨S16x8x2048x2064, .f32⟩
  | .hbm, ⟨76, _⟩ => ⟨S16x8x2048x2064, .f32⟩
  | .hbm, ⟨77, _⟩ => ⟨S_, .f32⟩
  | .hbm, ⟨78, _⟩ => ⟨S_, .f32⟩
  | .hbm, ⟨79, _⟩ => ⟨S16x8x2048x2064, .i1⟩
  | .hbm, ⟨80, _⟩ => ⟨S16x8x2048x2064, .f32⟩
  | .hbm, ⟨81, _⟩ => ⟨S16x8x2048x2064, .f32⟩
  | .hbm, ⟨82, _⟩ => ⟨S16x8x64x2048, .f32⟩
  | .hbm, ⟨83, _⟩ => ⟨S16x2048x8x64, .f32⟩
  | .hbm, ⟨84, _⟩ => ⟨S32768x512, .f32⟩
  | .hbm, ⟨85, _⟩ => ⟨S32768x512, .bf16⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_call0_v0 : Ref sig .tc := ⟨.hbm, 32, rfl⟩
abbrev main_call0_call0_cst : Ref sig .tc := ⟨.hbm, 33, rfl⟩
abbrev main_call0_call0_v0 : Ref sig .tc := ⟨.hbm, 34, rfl⟩
abbrev main_call0_call0_v1 : Ref sig .tc := ⟨.hbm, 35, rfl⟩
abbrev main_call0_call0_v2 : Ref sig .tc := ⟨.hbm, 36, rfl⟩
abbrev main_call0_call0_v3 : Ref sig .tc := ⟨.hbm, 37, rfl⟩
abbrev main_call0_call0_v4 : Ref sig .tc := ⟨.hbm, 38, rfl⟩
abbrev main_call0_call0_v5 : Ref sig .tc := ⟨.hbm, 39, rfl⟩
abbrev main_call0_call0_v6 : Ref sig .tc := ⟨.hbm, 40, rfl⟩
abbrev main_call0_call0_v7 : Ref sig .tc := ⟨.hbm, 41, rfl⟩
abbrev main_call0_call0_v8 : Ref sig .tc := ⟨.hbm, 42, rfl⟩
abbrev main_call0_call0_v9 : Ref sig .tc := ⟨.hbm, 43, rfl⟩
abbrev main_call0_call0_v10 : Ref sig .tc := ⟨.hbm, 44, rfl⟩
abbrev main_call0_call0_v11 : Ref sig .tc := ⟨.hbm, 45, rfl⟩
abbrev main_call0_v1 : Ref sig .tc := ⟨.hbm, 46, rfl⟩
abbrev main_v26 : Ref sig .tc := ⟨.hbm, 47, rfl⟩
abbrev main_cst_0 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v27 : Ref sig .tc := ⟨.hbm, 52, rfl⟩
abbrev main_call2_call0_cst : Ref sig .tc := ⟨.hbm, 53, rfl⟩
abbrev main_call2_call0_v0 : Ref sig .tc := ⟨.hbm, 54, rfl⟩
abbrev main_v28 : Ref sig .tc := ⟨.hbm, 55, rfl⟩
abbrev main_call3_v0 : Ref sig .tc := ⟨.hbm, 56, rfl⟩
abbrev main_call3_call0_cst : Ref sig .tc := ⟨.hbm, 57, rfl⟩
abbrev main_call3_call0_v0 : Ref sig .tc := ⟨.hbm, 58, rfl⟩
abbrev main_call3_call0_v1 : Ref sig .tc := ⟨.hbm, 59, rfl⟩
abbrev main_call3_call0_v2 : Ref sig .tc := ⟨.hbm, 60, rfl⟩
abbrev main_call3_call0_v3 : Ref sig .tc := ⟨.hbm, 61, rfl⟩
abbrev main_call3_call0_v4 : Ref sig .tc := ⟨.hbm, 62, rfl⟩
abbrev main_call3_call0_v5 : Ref sig .tc := ⟨.hbm, 63, rfl⟩
abbrev main_call3_call0_v6 : Ref sig .tc := ⟨.hbm, 64, rfl⟩
abbrev main_call3_call0_v7 : Ref sig .tc := ⟨.hbm, 65, rfl⟩
abbrev main_call3_call0_v8 : Ref sig .tc := ⟨.hbm, 66, rfl⟩
abbrev main_call3_call0_v9 : Ref sig .tc := ⟨.hbm, 67, rfl⟩
abbrev main_call3_call0_v10 : Ref sig .tc := ⟨.hbm, 68, rfl⟩
abbrev main_call3_call0_v11 : Ref sig .tc := ⟨.hbm, 69, rfl⟩
abbrev main_call3_v1 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_cst_1 : Ref sig .tc := ⟨.hbm, 77, rfl⟩
abbrev main_call4_v0 : Ref sig .tc := ⟨.hbm, 78, rfl⟩
abbrev main_call4_v1 : Ref sig .tc := ⟨.hbm, 79, rfl⟩
abbrev main_call4_v2 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩

abbrev nD : Nat := 1
abbrev τ : Topo := Topo.v7x

variable {F : FTy → Type} [FloatOps F]
-- ==== Merge.lean ====
abbrev S32768x1024 : Shape := ⟨2, ![32768, 1024]⟩
abbrev S32768x512 : Shape := ⟨2, ![32768, 512]⟩
abbrev S1024 : Shape := ⟨1, ![1024]⟩
abbrev S1024x4256 : Shape := ⟨2, ![1024, 4256]⟩
abbrev S2048 : Shape := ⟨1, ![2048]⟩
abbrev S512x1024 : Shape := ⟨2, ![512, 1024]⟩
abbrev S1024x1024 : Shape := ⟨2, ![1024, 1024]⟩
abbrev S1024x2816 : Shape := ⟨2, ![1024, 2816]⟩
abbrev S2816x1024 : Shape := ⟨2, ![2816, 1024]⟩
abbrev S1x1024 : Shape := ⟨2, ![1, 1024]⟩
abbrev S1024x2048 : Shape := ⟨2, ![1024, 2048]⟩
abbrev S1x2048 : Shape := ⟨2, ![1, 2048]⟩
abbrev S512x512 : Shape := ⟨2, ![512, 512]⟩
abbrev S256x1024 : Shape := ⟨2, ![256, 1024]⟩
abbrev S256 : Shape := ⟨1, ![256]⟩
abbrev S256x1 : Shape := ⟨2, ![256, 1]⟩
abbrev S256x2048 : Shape := ⟨2, ![256, 2048]⟩
abbrev S256x512 : Shape := ⟨2, ![256, 512]⟩
abbrev S256x2816 : Shape := ⟨2, ![256, 2816]⟩

abbrev nBuf : Space → Nat
  | .hbm => 29
  | .vmem => 20
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024, .f32⟩
  | .hbm, ⟨4, _⟩ => ⟨S1024x4256, .f32⟩
  | .hbm, ⟨5, _⟩ => ⟨S2048, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024x2816, .f32⟩
  | .hbm, ⟨12, _⟩ => ⟨S1024x2816, .f32⟩
  | .hbm, ⟨13, _⟩ => ⟨S2816x1024, .f32⟩
  | .hbm, ⟨14, _⟩ => ⟨S1024, .f32⟩
  | .hbm, ⟨15, _⟩ => ⟨S1x1024, .f32⟩
  | .hbm, ⟨16, _⟩ => ⟨S1024x2048, .f32⟩
  | .hbm, ⟨17, _⟩ => ⟨S1024x2048, .bf16⟩
  | .hbm, ⟨18, _⟩ => ⟨S1x2048, .f32⟩
  | .hbm, ⟨19, _⟩ => ⟨S512x1024, .bf16⟩
  | .hbm, ⟨20, _⟩ => ⟨S512x1024, .bf16⟩
  | .hbm, ⟨21, _⟩ => ⟨S1024x1024, .bf16⟩
  | .hbm, ⟨22, _⟩ => ⟨S1x1024, .f32⟩
  | .hbm, ⟨23, _⟩ => ⟨S1x1024, .f32⟩
  | .hbm, ⟨24, _⟩ => ⟨S1024x2816, .bf16⟩
  | .hbm, ⟨25, _⟩ => ⟨S1024x2816, .bf16⟩
  | .hbm, ⟨26, _⟩ => ⟨S2816x1024, .bf16⟩
  | .hbm, ⟨27, _⟩ => ⟨S1x1024, .f32⟩
  | .hbm, ⟨28, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1x1024, .f32⟩
  | .local _ .vmem, ⟨7, _⟩ => ⟨S1024x2048, .bf16⟩
  | .local _ .vmem, ⟨8, _⟩ => ⟨S1x2048, .f32⟩
  | .local _ .vmem, ⟨9, _⟩ => ⟨S512x1024, .bf16⟩
  | .local _ .vmem, ⟨10, _⟩ => ⟨S512x1024, .bf16⟩
  | .local _ .vmem, ⟨11, _⟩ => ⟨S1024x1024, .bf16⟩
  | .local _ .vmem, ⟨12, _⟩ => ⟨S1x1024, .f32⟩
  | .local _ .vmem, ⟨13, _⟩ => ⟨S1x1024, .f32⟩
  | .local _ .vmem, ⟨14, _⟩ => ⟨S1024x2816, .bf16⟩
  | .local _ .vmem, ⟨15, _⟩ => ⟨S1024x2816, .bf16⟩
  | .local _ .vmem, ⟨16, _⟩ => ⟨S2816x1024, .bf16⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2816 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x2816 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2816x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== MergeRefIdeal.lean ====
abbrev S32768x1024 : Shape := ⟨2, ![32768, 1024]⟩
abbrev S32768x512 : Shape := ⟨2, ![32768, 512]⟩
abbrev S1024 : Shape := ⟨1, ![1024]⟩
abbrev S1024x4256 : Shape := ⟨2, ![1024, 4256]⟩
abbrev S2048 : Shape := ⟨1, ![2048]⟩
abbrev S512x1024 : Shape := ⟨2, ![512, 1024]⟩
abbrev S1024x1024 : Shape := ⟨2, ![1024, 1024]⟩
abbrev S1024x2816 : Shape := ⟨2, ![1024, 2816]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4256 : Shape := ⟨2, ![32768, 4256]⟩
abbrev S32768x2048 : Shape := ⟨2, ![32768, 2048]⟩
abbrev S1x2048 : Shape := ⟨2, ![1, 2048]⟩
abbrev S32768x2816 : Shape := ⟨2, ![32768, 2816]⟩

abbrev nBuf : Space → Nat
  | .hbm => 120
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024, .f32⟩
  | .hbm, ⟨4, _⟩ => ⟨S1024x4256, .f32⟩
  | .hbm, ⟨5, _⟩ => ⟨S2048, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024x2816, .f32⟩
  | .hbm, ⟨12, _⟩ => ⟨S1024x2816, .f32⟩
  | .hbm, ⟨13, _⟩ => ⟨S2816x1024, .f32⟩
  | .hbm, ⟨14, _⟩ => ⟨S1024, .f32⟩
  | .hbm, ⟨15, _⟩ => ⟨S32768x1024, .f32⟩
  | .hbm, ⟨16, _⟩ => ⟨S_, .f32⟩
  | .hbm, ⟨17, _⟩ => ⟨S32768, .f32⟩
  | .hbm, ⟨18, _⟩ => ⟨S32768x1, .f32⟩
  | .hbm, ⟨19, _⟩ => ⟨S_, .f32⟩
  | .hbm, ⟨20, _⟩ => ⟨S32768x1, .f32⟩
  | .hbm, ⟨21, _⟩ => ⟨S32768x1, .f32⟩
  | .hbm, ⟨22, _⟩ => ⟨S_, .f32⟩
  | .hbm, ⟨23, _⟩ => ⟨S32768x1, .f32⟩
  | .hbm, ⟨24, _⟩ => ⟨S32768x1, .f32⟩
  | .hbm, ⟨25, _⟩ => ⟨S32768x1, .f32⟩
  | .hbm, ⟨26, _⟩ => ⟨S32768x1024, .f32⟩
  | .hbm, ⟨27, _⟩ => ⟨S32768x1024, .f32⟩
  | .hbm, ⟨28, _⟩ => ⟨S1x1024, .f32⟩
  | .hbm, ⟨29, _⟩ => ⟨S32768x1024, .f32⟩
  | .hbm, ⟨30, _⟩ => ⟨S32768x1024, .f32⟩
  | .hbm, ⟨31, _⟩ => ⟨S32768x4256, .f32⟩
  | .hbm, ⟨32, _⟩ => ⟨S32768x2048, .f32⟩
  | .hbm, ⟨33, _⟩ => ⟨S32768x512, .f32⟩
  | .hbm, ⟨34, _⟩ => ⟨S32768x1024, .f32⟩
  | .hbm, ⟨35, _⟩ => ⟨S32768x512, .f32⟩
  | .hbm, ⟨36, _⟩ => ⟨S32768x1024, .f32⟩
  | .hbm, ⟨37, _⟩ => ⟨S1x2048, .f32⟩
  | .hbm, ⟨38, _⟩ => ⟨S32768x2048, .f32⟩
  | .hbm, ⟨39, _⟩ => ⟨S32768x2048, .f32⟩
  | .hbm, ⟨40, _⟩ => ⟨S32768x2048, .f32⟩
  | .hbm, ⟨41, _⟩ => ⟨S32768x2048, .f32⟩
  | .hbm, ⟨42, _⟩ => ⟨S_, .f32⟩
  | .hbm, ⟨43, _⟩ => ⟨S32768x2048, .f32⟩
  | .hbm, ⟨44, _⟩ => ⟨S32768x2048, .f32⟩
  | .hbm, ⟨45, _⟩ => ⟨S_, .f32⟩
  | .hbm, ⟨46, _⟩ => ⟨S32768x2048, .f32⟩
  | .hbm, ⟨47, _⟩ => ⟨S32768x2048, .f32⟩
  | .hbm, ⟨48, _⟩ => ⟨S32768x1024, .f32⟩
  | .hbm, ⟨49, _⟩ => ⟨S32768x1024, .f32⟩
  | .hbm, ⟨50, _⟩ => ⟨S32768x1024, .f32⟩
  | .hbm, ⟨51, _⟩ => ⟨S32768x1024, .f32⟩
  | .hbm, ⟨52, _⟩ => ⟨S32768x1024, .f32⟩
  | .hbm, ⟨53, _⟩ => ⟨S32768x1024, .f32⟩
  | .hbm, ⟨54, _⟩ => ⟨S32768x1024, .f32⟩
  | .hbm, ⟨55, _⟩ => ⟨S_, .f32⟩
  | .hbm, ⟨56, _⟩ => ⟨S32768, .f32⟩
  | .hbm, ⟨57, _⟩ => ⟨S32768x1, .f32⟩
  | .hbm, ⟨58, _⟩ => ⟨S_, .f32⟩
  | .hbm, ⟨59, _⟩ => ⟨S32768x1, .f32⟩
  | .hbm, ⟨60, _⟩ => ⟨S32768x1, .f32⟩
  | .hbm, ⟨61, _⟩ => ⟨S_, .f32⟩
  | .hbm, ⟨62, _⟩ => ⟨S32768x1, .f32⟩
  | .hbm, ⟨63, _⟩ => ⟨S32768x1, .f32⟩
  | .hbm, ⟨64, _⟩ => ⟨S32768x1, .f32⟩
  | .hbm, ⟨65, _⟩ => ⟨S32768x1024, .f32⟩
  | .hbm, ⟨66, _⟩ => ⟨S32768x1024, .f32⟩
  | .hbm, ⟨67, _⟩ => ⟨S1x1024, .f32⟩
  | .hbm, ⟨68, _⟩ => ⟨S32768x1024, .f32⟩
  | .hbm, ⟨69, _⟩ => ⟨S32768x1024, .f32⟩
  | .hbm, ⟨70, _⟩ => ⟨S32768x1024, .f32⟩
  | .hbm, ⟨71, _⟩ => ⟨S32768x1024, .f32⟩
  | .hbm, ⟨72, _⟩ => ⟨S_, .f32⟩
  | .hbm, ⟨73, _⟩ => ⟨S32768, .f32⟩
  | .hbm, ⟨74, _⟩ => ⟨S32768x1, .f32⟩
  | .hbm, ⟨75, _⟩ => ⟨S_, .f32⟩
  | .hbm, ⟨76, _⟩ => ⟨S32768x1, .f32⟩
  | .hbm, ⟨77, _⟩ => ⟨S32768x1, .f32⟩
  | .hbm, ⟨78, _⟩ => ⟨S_, .f32⟩
  | .hbm, ⟨79, _⟩ => ⟨S32768x1, .f32⟩
  | .hbm, ⟨80, _⟩ => ⟨S32768x1, .f32⟩
  | .hbm, ⟨81, _⟩ => ⟨S32768x1, .f32⟩
  | .hbm, ⟨82, _⟩ => ⟨S32768x1024, .f32⟩
  | .hbm, ⟨83, _⟩ => ⟨S32768x1024, .f32⟩
  | .hbm, ⟨84, _⟩ => ⟨S1x1024, .f32⟩
  | .hbm, ⟨85, _⟩ => ⟨S32768x1024, .f32⟩
  | .hbm, ⟨86, _⟩ => ⟨S32768x1024, .f32⟩
  | .hbm, ⟨87, _⟩ => ⟨S32768x2816, .f32⟩
  | .hbm, ⟨88, _⟩ => ⟨S32768x2816, .f32⟩
  | .hbm, ⟨89, _⟩ => ⟨S32768x2816, .f32⟩
  | .hbm, ⟨90, _⟩ => ⟨S_, .f32⟩
  | .hbm, ⟨91, _⟩ => ⟨S32768x2816, .f32⟩
  | .hbm, ⟨92, _⟩ => ⟨S32768x2816, .f32⟩
  | .hbm, ⟨93, _⟩ => ⟨S_, .f32⟩
  | .hbm, ⟨94, _⟩ => ⟨S32768x2816, .f32⟩
  | .hbm, ⟨95, _⟩ => ⟨S32768x2816, .f32⟩
  | .hbm, ⟨96, _⟩ => ⟨S32768x2816, .f32⟩
  | .hbm, ⟨97, _⟩ => ⟨S32768x2816, .f32⟩
  | .hbm, ⟨98, _⟩ => ⟨S32768x2816, .f32⟩
  | .hbm, ⟨99, _⟩ => ⟨S32768x1024, .f32⟩
  | .hbm, ⟨100, _⟩ => ⟨S32768x1024, .f32⟩
  | .hbm, ⟨101, _⟩ => ⟨S_, .f32⟩
  | .hbm, ⟨102, _⟩ => ⟨S32768, .f32⟩
  | .hbm, ⟨103, _⟩ => ⟨S32768x1, .f32⟩
  | .hbm, ⟨104, _⟩ => ⟨S_, .f32⟩
  | .hbm, ⟨105, _⟩ => ⟨S32768x1, .f32⟩
  | .hbm, ⟨106, _⟩ => ⟨S32768x1, .f32⟩
  | .hbm, ⟨107, _⟩ => ⟨S_, .f32⟩
  | .hbm, ⟨108, _⟩ => ⟨S32768x1, .f32⟩
  | .hbm, ⟨109, _⟩ => ⟨S32768x1, .f32⟩
  | .hbm, ⟨110, _⟩ => ⟨S32768x1, .f32⟩
  | .hbm, ⟨111, _⟩ => ⟨S32768x1024, .f32⟩
  | .hbm, ⟨112, _⟩ => ⟨S32768x1024, .f32⟩
  | .hbm, ⟨113, _⟩ => ⟨S1x1024, .f32⟩
  | .hbm, ⟨114, _⟩ => ⟨S32768x1024, .f32⟩
  | .hbm, ⟨115, _⟩ => ⟨S32768x1024, .f32⟩
  | .hbm, ⟨116, _⟩ => ⟨S_, .f32⟩
  | .hbm, ⟨117, _⟩ => ⟨S32768x1024, .f32⟩
  | .hbm, ⟨118, _⟩ => ⟨S32768x1024, .f32⟩
  | .hbm, ⟨119, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_cst_0 : Ref sig .tc := ⟨.hbm, 19, rfl⟩
abbrev main_v3 : Ref sig .tc := ⟨.hbm, 20, rfl⟩
abbrev main_v4 : Ref sig .tc := ⟨.hbm, 21, rfl⟩
abbrev main_cst_1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_2 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_4 : Ref sig .tc := ⟨.hbm, 55, rfl⟩
abbrev main_v35 : Ref sig .tc := ⟨.hbm, 56, rfl⟩
abbrev main_v36 : Ref sig .tc := ⟨.hbm, 57, rfl⟩
abbrev main_cst_5 : Ref sig .tc := ⟨.hbm, 58, rfl⟩
abbrev main_v37 : Ref sig .tc := ⟨.hbm, 59, rfl⟩
abbrev main_v38 : Ref sig .tc := ⟨.hbm, 60, rfl⟩
abbrev main_cst_6 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_7 : Ref sig .tc := ⟨.hbm, 72, rfl⟩
abbrev main_v49 : Ref sig .tc := ⟨.hbm, 73, rfl⟩
abbrev main_v50 : Ref sig .tc := ⟨.hbm, 74, rfl⟩
abbrev main_cst_8 : Ref sig .tc := ⟨.hbm, 75, rfl⟩
abbrev main_v51 : Ref sig .tc := ⟨.hbm, 76, rfl⟩
abbrev main_v52 : Ref sig .tc := ⟨.hbm, 77, rfl⟩
abbrev main_cst_9 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_call0_v0 : Ref sig .tc := ⟨.hbm, 88, rfl⟩
abbrev main_call0_v1 : Ref sig .tc := ⟨.hbm, 89, rfl⟩
abbrev main_call0_cst : Ref sig .tc := ⟨.hbm, 90, rfl⟩
abbrev main_call0_v2 : Ref sig .tc := ⟨.hbm, 91, rfl⟩
abbrev main_call0_v3 : Ref sig .tc := ⟨.hbm, 92, rfl⟩
abbrev main_call0_cst_0 : Ref sig .tc := ⟨.hbm, 93, rfl⟩
abbrev main_call0_v4 : Ref sig .tc := ⟨.hbm, 94, rfl⟩
abbrev main_call0_v5 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_10 : Ref sig .tc := ⟨.hbm, 101, rfl⟩
abbrev main_v67 : Ref sig .tc := ⟨.hbm, 102, rfl⟩
abbrev main_v68 : Ref sig .tc := ⟨.hbm, 103, rfl⟩
abbrev main_cst_11 : Ref sig .tc := ⟨.hbm, 104, rfl⟩
abbrev main_v69 : Ref sig .tc := ⟨.hbm, 105, rfl⟩
abbrev main_v70 : Ref sig .tc := ⟨.hbm, 106, rfl⟩
abbrev main_cst_12 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_13 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩

abbrev nD : Nat := 1
abbrev τ : Topo := Topo.v7x

variable {F : FTy → Type} [FloatOps F]
-- ==== Proj.lean ====
abbrev S32768x1024 : Shape := ⟨2, ![32768, 1024]⟩
abbrev S1024 : Shape := ⟨1, ![1024]⟩
abbrev S1024x2816 : Shape := ⟨2, ![1024, 2816]⟩
abbrev S2816x1024 : Shape := ⟨2, ![2816, 1024]⟩
abbrev S1024x4256 : Shape := ⟨2, ![1024, 4256]⟩
abbrev S384 : Shape := ⟨1, ![384]⟩
abbrev S384x8x96 : Shape := ⟨3, ![384, 8, 96]⟩
abbrev S256 : Shape := ⟨1, ![256]⟩
abbrev S256x8x128 : Shape := ⟨3, ![256, 8, 128]⟩
abbrev S1024x512 : Shape := ⟨2, ![1024, 512]⟩
abbrev S_ : Shape := ⟨0, ![]⟩
abbrev S1024x32 : Shape := ⟨2, ![1024, 32]⟩
abbrev S1024x64 : Shape := ⟨2, ![1024, 64]⟩
abbrev S1024x1664 : Shape := ⟨2, ![1024, 1664]⟩
abbrev S1024x16 : Shape := ⟨2, ![1024, 16]⟩
abbrev S1024x2432 : Shape := ⟨2, ![1024, 2432]⟩
abbrev S384x8x64 : Shape := ⟨3, ![384, 8, 64]⟩
abbrev S384x8x32 : Shape := ⟨3, ![384, 8, 32]⟩
abbrev S384x8x128 : Shape := ⟨3, ![384, 8, 128]⟩
abbrev S384x1024 : Shape := ⟨2, ![384, 1024]⟩
abbrev S384x8x16 : Shape := ⟨3, ![384, 8, 16]⟩
abbrev S384x2048 : Shape := ⟨2, ![384, 2048]⟩
abbrev S256x8x64 : Shape := ⟨3, ![256, 8, 64]⟩
abbrev S256x1024 : Shape := ⟨2, ![256, 1024]⟩
abbrev S256x512 : Shape := ⟨2, ![256, 512]⟩
abbrev S256x1536 : Shape := ⟨2, ![256, 1536]⟩
abbrev S1x1024 : Shape := ⟨2, ![1, 1024]⟩
abbrev S1x384 : Shape := ⟨2, ![1, 384]⟩
abbrev S1x256 : Shape := ⟨2, ![1, 256]⟩
abbrev S2048 : Shape := ⟨1, ![2048]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S2048x64 : Shape := ⟨2, ![2048, 64]⟩
abbrev S2048x128 : Shape := ⟨2, ![2048, 128]⟩
abbrev S32768x512 : Shape := ⟨2, ![32768, 512]⟩
abbrev S512x1024 : Shape := ⟨2, ![512, 1024]⟩
abbrev S512x128 : Shape := ⟨2, ![512, 128]⟩
abbrev S512x512 : Shape := ⟨2, ![512, 512]⟩
abbrev S256x1 : Shape := ⟨2, ![256, 1]⟩
abbrev S256x2816 : Shape := ⟨2, ![256, 2816]⟩
abbrev S256x2432 : Shape := ⟨2, ![256, 2432]⟩
abbrev S256x384 : Shape := ⟨2, ![256, 384]⟩
abbrev S256x256 : Shape := ⟨2, ![256, 256]⟩
abbrev S256x128 : Shape := ⟨2, ![256, 128]⟩
abbrev S256x2048 : Shape := ⟨2, ![256, 2048]⟩

abbrev nBuf : Space → Nat
  | .hbm => 96
  | .vmem => 31
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S1024x4256, .f32⟩
  | .hbm, ⟨8, _⟩ => ⟨S384, .f32⟩
  | .hbm, ⟨9, _⟩ => ⟨S384x8x96, .f32⟩
  | .hbm, ⟨10, _⟩ => ⟨S256, .f32⟩
  | .hbm, ⟨11, _⟩ => ⟨S256x8x128, .f32⟩
  | .hbm, ⟨12, _⟩ => ⟨S1024x512, .f32⟩
  | .hbm, ⟨13, _⟩ => ⟨S_, .f32⟩
  | .hbm, ⟨14, _⟩ => ⟨S1024x512, .f32⟩
  | .hbm, ⟨15, _⟩ => ⟨S1024x512, .f32⟩
  | .hbm, ⟨16, _⟩ => ⟨S1024x32, .f32⟩
  | .hbm, ⟨17, _⟩ => ⟨S_, .f32⟩
  | .hbm, ⟨18, _⟩ => ⟨S1024x64, .f32⟩
  | .hbm, ⟨19, _⟩ => ⟨S_, .f32⟩
  | .hbm, ⟨20, _⟩ => ⟨S1024x32, .f32⟩
  | .hbm, ⟨21, _⟩ => ⟨S1024x1664, .f32⟩
  | .hbm, ⟨22, _⟩ => ⟨S1024x16, .f32⟩
  | .hbm, ⟨23, _⟩ => ⟨S1024x16, .f32⟩
  | .hbm, ⟨24, _⟩ => ⟨S1024x16, .f32⟩
  | .hbm, ⟨25, _⟩ => ⟨S1024x32, .f32⟩
  | .hbm, ⟨26, _⟩ => ⟨S1024x2432, .f32⟩
  | .hbm, ⟨27, _⟩ => ⟨S384x8x64, .f32⟩
  | .hbm, ⟨28, _⟩ => ⟨S384x8x32, .f32⟩
  | .hbm, ⟨29, _⟩ => ⟨S_, .f32⟩
  | .hbm, ⟨30, _⟩ => ⟨S384x8x64, .f32⟩
  | .hbm, ⟨31, _⟩ => ⟨S_, .f32⟩
  | .hbm, ⟨32, _⟩ => ⟨S384x8x32, .f32⟩
  | .hbm, ⟨33, _⟩ => ⟨S384x8x128, .f32⟩
  | .hbm, ⟨34, _⟩ => ⟨S384x1024, .f32⟩
  | .hbm, ⟨35, _⟩ => ⟨S384x8x16, .f32⟩
  | .hbm, ⟨36, _⟩ => ⟨S384x8x16, .f32⟩
  | .hbm, ⟨37, _⟩ => ⟨S384x8x16, .f32⟩
  | .hbm, ⟨38, _⟩ => ⟨S384x8x32, .f32⟩
  | .hbm, ⟨39, _⟩ => ⟨S384x8x128, .f32⟩
  | .hbm, ⟨40, _⟩ => ⟨S384x1024, .f32⟩
  | .hbm, ⟨41, _⟩ => ⟨S384x2048, .f32⟩
  | .hbm, ⟨42, _⟩ => ⟨S256x8x64, .f32⟩
  | .hbm, ⟨43, _⟩ => ⟨S256x8x64, .f32⟩
  | .hbm, ⟨44, _⟩ => ⟨S_, .f32⟩
  | .hbm, ⟨45, _⟩ => ⟨S256x8x64, .f32⟩
  | .hbm, ⟨46, _⟩ => ⟨S256x8x128, .f32⟩
  | .hbm, ⟨47, _⟩ => ⟨S256x1024, .f32⟩
  | .hbm, ⟨48, _⟩ => ⟨S256x512, .f32⟩
  | .hbm, ⟨49, _⟩ => ⟨S256x1536, .f32⟩
  | .hbm, ⟨50, _⟩ => ⟨S1024x2432, .bf16⟩
  | .hbm, ⟨51, _⟩ => ⟨S384x2048, .bf16⟩
  | .hbm, ⟨52, _⟩ => ⟨S256x1536, .bf16⟩
  | .hbm, ⟨53, _⟩ => ⟨S1x1024, .f32⟩
  | .hbm, ⟨54, _⟩ => ⟨S1024x2816, .bf16⟩
  | .hbm, ⟨55, _⟩ => ⟨S1024x2816, .bf16⟩
  | .hbm, ⟨56, _⟩ => ⟨S2816x1024, .bf16⟩
  | .hbm, ⟨57, _⟩ => ⟨S1x1024, .f32⟩
  | .hbm, ⟨58, _⟩ => ⟨S1x1024, .f32⟩
  | .hbm, ⟨59, _⟩ => ⟨S1x384, .f32⟩
  | .hbm, ⟨60, _⟩ => ⟨S1x256, .f32⟩
  | .hbm, ⟨61, _⟩ => ⟨S2048, .i32⟩
  | .hbm, ⟨62, _⟩ => ⟨S_, .i32⟩
  | .hbm, ⟨63, _⟩ => ⟨S2048, .i32⟩
  | .hbm, ⟨64, _⟩ => ⟨S2048, .i32⟩
  | .hbm, ⟨65, _⟩ => ⟨S16, .f32⟩
  | .hbm, ⟨66, _⟩ => ⟨S16, .f32⟩
  | .hbm, ⟨67, _⟩ => ⟨S_, .f32⟩
  | .hbm, ⟨68, _⟩ => ⟨S16, .f32⟩
  | .hbm, ⟨69, _⟩ => ⟨S16, .f32⟩
  | .hbm, ⟨70, _⟩ => ⟨S_, .f32⟩
  | .hbm, ⟨71, _⟩ => ⟨S16, .f32⟩
  | .hbm, ⟨72, _⟩ => ⟨S16, .f32⟩
  | .hbm, ⟨73, _⟩ => ⟨S2048, .f32⟩
  | .hbm, ⟨74, _⟩ => ⟨S2048x1, .f32⟩
  | .hbm, ⟨75, _⟩ => ⟨S1x16, .f32⟩
  | .hbm, ⟨76, _⟩ => ⟨S2048x16, .f32⟩
  | .hbm, ⟨77, _⟩ => ⟨S2048x16, .f32⟩
  | .hbm, ⟨78, _⟩ => ⟨S2048x16, .f32⟩
  | .hbm, ⟨79, _⟩ => ⟨S2048x16, .f32⟩
  | .hbm, ⟨80, _⟩ => ⟨S2048x16, .f32⟩
  | .hbm, ⟨81, _⟩ => ⟨S_, .f32⟩
  | .hbm, ⟨82, _⟩ => ⟨S2048x32, .f32⟩
  | .hbm, ⟨83, _⟩ => ⟨S_, .f32⟩
  | .hbm, ⟨84, _⟩ => ⟨S2048x64, .f32⟩
  | .hbm, ⟨85, _⟩ => ⟨S2048x128, .f32⟩
  | .hbm, ⟨86, _⟩ => ⟨S_, .f32⟩
  | .hbm, ⟨87, _⟩ => ⟨S2048x64, .f32⟩
  | .hbm, ⟨88, _⟩ => ⟨S2048x128, .f32⟩
  | .hbm, ⟨89, _⟩ => ⟨S32768x1024, .f32⟩
  | .hbm, ⟨90, _⟩ => ⟨S32768x512, .bf16⟩
  | .hbm, ⟨91, _⟩ => ⟨S32768x512, .bf16⟩
  | .hbm, ⟨92, _⟩ => ⟨S32768x512, .bf16⟩
  | .hbm, ⟨93, _⟩ => ⟨S32768x1024, .bf16⟩
  | .hbm, ⟨94, _⟩ => ⟨S32768x1024, .bf16⟩
  | .hbm, ⟨95, _⟩ => ⟨S32768x512, .bf16⟩
  | .local _ .vmem, ⟨0, _⟩ => ⟨S512x1024, .f32⟩
  | .local _ .vmem, ⟨1, _⟩ => ⟨S512x1024, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S1x1024, .f32⟩
  | .local _ .vmem, ⟨7, _⟩ => ⟨S1024x2816, .bf16⟩
  | .local _ .vmem, ⟨8, _⟩ => ⟨S1024x2816, .bf16⟩
  | .local _ .vmem, ⟨9, _⟩ => ⟨S2816x1024, .bf16⟩
  | .local _ .vmem, ⟨10, _⟩ => ⟨S1x1024, .f32⟩
  | .local _ .vmem, ⟨11, _⟩ => ⟨S1x1024, .f32⟩
  | .local _ .vmem, ⟨12, _⟩ => ⟨S1024x2432, .bf16⟩
  | .local _ .vmem, ⟨13, _⟩ => ⟨S1x384, .f32⟩
  | .local _ .vmem, ⟨14, _⟩ => ⟨S384x2048, .bf16⟩
  | .local _ .vmem, ⟨15, _⟩ => ⟨S1x256, .f32⟩
  | .local _ .vmem, ⟨16, _⟩ => ⟨S256x1536, .bf16⟩
  | .local _ .vmem, ⟨17, _⟩ => ⟨S512x1024, .f32⟩
  | .local _ .vmem, ⟨18, _⟩ => ⟨S512x1024, .f32⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S512x512, .bf16⟩
  | .local _ .vmem, ⟨30, _⟩ => ⟨S512x512, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_5 : Ref sig .tc := ⟨.hbm, 67, rfl⟩
abbrev main_v48 : Ref sig .tc := ⟨.hbm, 68, rfl⟩
abbrev main_v49 : Ref sig .tc := ⟨.hbm, 69, rfl⟩
abbrev main_cst_6 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_7 : Ref sig .tc := ⟨.hbm, 81, rfl⟩
abbrev main_v60 : Ref sig .tc := ⟨.hbm, 82, rfl⟩
abbrev main_cst_8 : Ref sig .tc := ⟨.hbm, 83, rfl⟩
abbrev main_v61 : Ref sig .tc := ⟨.hbm, 84, rfl⟩
abbrev main_v62 : Ref sig .tc := ⟨.hbm, 85, rfl⟩
abbrev main_cst_9 : Ref sig .tc := ⟨.hbm, 86, rfl⟩
abbrev main_v63 : Ref sig .tc := ⟨.hbm, 87, rfl⟩
abbrev main_v64 : Ref sig .tc := ⟨.hbm, 88, rfl⟩
abbrev main_v65_0 : Ref sig .tc := ⟨.hbm, 89, rfl⟩
abbrev main_v65_1 : Ref sig .tc := ⟨.hbm, 90, rfl⟩
abbrev main_v65_2 : Ref sig .tc := ⟨.hbm, 91, rfl⟩
abbrev main_v65_3 : Ref sig .tc := ⟨.hbm, 92, rfl⟩
abbrev main_v65_4 : Ref sig .tc := ⟨.hbm, 93, rfl⟩
abbrev main_v65_5 : Ref sig .tc := ⟨.hbm, 94, rfl⟩
abbrev main_v65_6 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2432 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S384x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1536 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== ProjRefIdeal.lean ====
abbrev S32768x1024 : Shape := ⟨2, ![32768, 1024]⟩
abbrev S1024 : Shape := ⟨1, ![1024]⟩
abbrev S1024x2816 : Shape := ⟨2, ![1024, 2816]⟩
abbrev S2816x1024 : Shape := ⟨2, ![2816, 1024]⟩
abbrev S1024x4256 : Shape := ⟨2, ![1024, 4256]⟩
abbrev S384 : Shape := ⟨1, ![384]⟩
abbrev S384x8x96 : Shape := ⟨3, ![384, 8, 96]⟩
abbrev S256 : Shape := ⟨1, ![256]⟩
abbrev S256x8x128 : Shape := ⟨3, ![256, 8, 128]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2816 : Shape := ⟨2, ![32768, 2816]⟩
abbrev S32768x4256 : Shape := ⟨2, ![32768, 4256]⟩
abbrev S2048 : Shape := ⟨1, ![2048]⟩
abbrev S32768x512 : Shape := ⟨2, ![32768, 512]⟩
abbrev S32768x384 : Shape := ⟨2, ![32768, 384]⟩
abbrev S32768x256 : Shape := ⟨2, ![32768, 256]⟩
abbrev S32768x32 : Shape := ⟨2, ![32768, 32]⟩
abbrev S1x384 : Shape := ⟨2, ![1, 384]⟩
abbrev S384x768 : Shape := ⟨2, ![384, 768]⟩
abbrev S32768x768 : Shape := ⟨2, ![32768, 768]⟩
abbrev S16x2048x8x96 : Shape := ⟨4, ![16, 2048, 8, 96]⟩
abbrev S1x256 : Shape := ⟨2, ![1, 256]⟩
abbrev S256x1024 : Shape := ⟨2, ![256, 1024]⟩
abbrev S16x2048x8x128 : Shape := ⟨4, ![16, 2048, 8, 128]⟩
abbrev S16x2048x1x32 : Shape := ⟨4, ![16, 2048, 1, 32]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x1x16 : Shape := ⟨3, ![2048, 1, 16]⟩
abbrev S16x2048x1x16 : Shape := ⟨4, ![16, 2048, 1, 16]⟩
abbrev S1x2048x1x16 : Shape := ⟨4, ![1, 2048, 1, 16]⟩
abbrev S16x2048x8x32 : Shape := ⟨4, ![16, 2048, 8, 32]⟩
abbrev S16x2048x8x64 : Shape := ⟨4, ![16, 2048, 8, 64]⟩
abbrev S16x2048x8x16 : Shape := ⟨4, ![16, 2048, 8, 16]⟩

abbrev nBuf : Space → Nat
  | .hbm => 220
  | .vmem => 0
  | .smem => 0
  | _ => 0

abbrev hbmTy0_0 (i : Nat) : BufTy := match i % 128 with
  | 0 => ⟨S32768x1024, .f32⟩
  | 1 => ⟨S1024, .f32⟩
  | 2 => ⟨S1024x2816, .f32⟩
  | 3 => ⟨S1024x2816, .f32⟩
  | 4 => ⟨S2816x1024, .f32⟩
  | 5 => ⟨S1024, .f32⟩
  | 6 => ⟨S1024, .f32⟩
  | 7 => ⟨S1024x4256, .f32⟩
  | 8 => ⟨S384, .f32⟩
  | 9 => ⟨S384x8x96, .f32⟩
  | 10 => ⟨S256, .f32⟩
  | 11 => ⟨S256x8x128, .f32⟩
  | 12 => ⟨S32768x1024, .f32⟩
  | 13 => ⟨S_, .f32⟩
  | 14 => ⟨S32768, .f32⟩
  | 15 => ⟨S32768x1, .f32⟩
  | 16 => ⟨S_, .f32⟩
  | 17 => ⟨S32768x1, .f32⟩
  | 18 => ⟨S32768x1, .f32⟩
  | 19 => ⟨S_, .f32⟩
  | 20 => ⟨S32768x1, .f32⟩
  | 21 => ⟨S32768x1, .f32⟩
  | 22 => ⟨S32768x1, .f32⟩
  | 23 => ⟨S32768x1024, .f32⟩
  | 24 => ⟨S32768x1024, .f32⟩
  | 25 => ⟨S1x1024, .f32⟩
  | 26 => ⟨S32768x1024, .f32⟩
  | 27 => ⟨S32768x1024, .f32⟩
  | 28 => ⟨S32768x2816, .f32⟩
  | 29 => ⟨S32768x2816, .f32⟩
  | 30 => ⟨S32768x2816, .f32⟩
  | 31 => ⟨S_, .f32⟩
  | 32 => ⟨S32768x2816, .f32⟩
  | 33 => ⟨S32768x2816, .f32⟩
  | 34 => ⟨S_, .f32⟩
  | 35 => ⟨S32768x2816, .f32⟩
  | 36 => ⟨S32768x2816, .f32⟩
  | 37 => ⟨S32768x2816, .f32⟩
  | 38 => ⟨S32768x2816, .f32⟩
  | 39 => ⟨S32768x2816, .f32⟩
  | 40 => ⟨S32768x1024, .f32⟩
  | 41 => ⟨S32768x1024, .f32⟩
  | 42 => ⟨S_, .f32⟩
  | 43 => ⟨S32768, .f32⟩
  | 44 => ⟨S32768x1, .f32⟩
  | 45 => ⟨S_, .f32⟩
  | 46 => ⟨S32768x1, .f32⟩
  | 47 => ⟨S32768x1, .f32⟩
  | 48 => ⟨S_, .f32⟩
  | 49 => ⟨S32768x1, .f32⟩
  | 50 => ⟨S32768x1, .f32⟩
  | 51 => ⟨S32768x1, .f32⟩
  | 52 => ⟨S32768x1024, .f32⟩
  | 53 => ⟨S32768x1024, .f32⟩
  | 54 => ⟨S1x1024, .f32⟩
  | 55 => ⟨S32768x1024, .f32⟩
  | 56 => ⟨S32768x1024, .f32⟩
  | 57 => ⟨S_, .f32⟩
  | 58 => ⟨S32768x1024, .f32⟩
  | 59 => ⟨S32768x1024, .f32⟩
  | 60 => ⟨S32768x1024, .f32⟩
  | 61 => ⟨S32768x1024, .f32⟩
  | 62 => ⟨S_, .f32⟩
  | 63 => ⟨S32768, .f32⟩
  | 64 => ⟨S32768x1, .f32⟩
  | 65 => ⟨S_, .f32⟩
  | 66 => ⟨S32768x1, .f32⟩
  | 67 => ⟨S32768x1, .f32⟩
  | 68 => ⟨S_, .f32⟩
  | 69 => ⟨S32768x1, .f32⟩
  | 70 => ⟨S32768x1, .f32⟩
  | 71 => ⟨S32768x1, .f32⟩
  | 72 => ⟨S32768x1024, .f32⟩
  | 73 => ⟨S32768x1024, .f32⟩
  | 74 => ⟨S1x1024, .f32⟩
  | 75 => ⟨S32768x1024, .f32⟩
  | 76 => ⟨S32768x1024, .f32⟩
  | 77 => ⟨S32768x4256, .f32⟩
  | 78 => ⟨S2048, .i32⟩
  | 79 => ⟨S_, .i32⟩
  | 80 => ⟨S2048, .i32⟩
  | 81 => ⟨S2048, .i32⟩
  | 82 => ⟨S2048, .f32⟩
  | 83 => ⟨S32768x512, .f32⟩
  | 84 => ⟨S_, .f32⟩
  | 85 => ⟨S32768x512, .f32⟩
  | 86 => ⟨S32768x512, .f32⟩
  | 87 => ⟨S32768x512, .f32⟩
  | 88 => ⟨S32768x512, .f32⟩
  | 89 => ⟨S32768x384, .f32⟩
  | 90 => ⟨S32768x256, .f32⟩
  | 91 => ⟨S32768x32, .f32⟩
  | 92 => ⟨S32768x384, .f32⟩
  | 93 => ⟨S_, .f32⟩
  | 94 => ⟨S32768, .f32⟩
  | 95 => ⟨S32768x1, .f32⟩
  | 96 => ⟨S_, .f32⟩
  | 97 => ⟨S32768x1, .f32⟩
  | 98 => ⟨S32768x1, .f32⟩
  | 99 => ⟨S_, .f32⟩
  | 100 => ⟨S32768x1, .f32⟩
  | 101 => ⟨S32768x1, .f32⟩
  | 102 => ⟨S32768x1, .f32⟩
  | 103 => ⟨S32768x384, .f32⟩
  | 104 => ⟨S32768x384, .f32⟩
  | 105 => ⟨S1x384, .f32⟩
  | 106 => ⟨S32768x384, .f32⟩
  | 107 => ⟨S32768x384, .f32⟩
  | 108 => ⟨S384x768, .f32⟩
  | 109 => ⟨S32768x768, .f32⟩
  | 110 => ⟨S16x2048x8x96, .f32⟩
  | 111 => ⟨S32768x256, .f32⟩
  | 112 => ⟨S_, .f32⟩
  | 113 => ⟨S32768, .f32⟩
  | 114 => ⟨S32768x1, .f32⟩
  | 115 => ⟨S_, .f32⟩
  | 116 => ⟨S32768x1, .f32⟩
  | 117 => ⟨S32768x1, .f32⟩
  | 118 => ⟨S_, .f32⟩
  | 119 => ⟨S32768x1, .f32⟩
  | 120 => ⟨S32768x1, .f32⟩
  | 121 => ⟨S32768x1, .f32⟩
  | 122 => ⟨S32768x256, .f32⟩
  | 123 => ⟨S32768x256, .f32⟩
  | 124 => ⟨S1x256, .f32⟩
  | 125 => ⟨S32768x256, .f32⟩
  | 126 => ⟨S32768x256, .f32⟩
  | 127 => ⟨S256x1024, .f32⟩
  | _ => ⟨S32768x1024, .f32⟩

abbrev hbmTy0_1 (i : Nat) : BufTy := match i % 128 with
  | 0 => ⟨S32768x1024, .f32⟩
  | 1 => ⟨S16x2048x8x128, .f32⟩
  | 2 => ⟨S16x2048x1x32, .f32⟩
  | 3 => ⟨S16, .f32⟩
  | 4 => ⟨S16, .f32⟩
  | 5 => ⟨S_, .f32⟩
  | 6 => ⟨S16, .f32⟩
  | 7 => ⟨S16, .f32⟩
  | 8 => ⟨S_, .f32⟩
  | 9 => ⟨S16, .f32⟩
  | 10 => ⟨S16, .f32⟩
  | 11 => ⟨S2048x1, .f32⟩
  | 12 => ⟨S1x16, .f32⟩
  | 13 => ⟨S2048x16, .f32⟩
  | 14 => ⟨S2048x16, .f32⟩
  | 15 => ⟨S2048x16, .f32⟩
  | 16 => ⟨S2048x16, .f32⟩
  | 17 => ⟨S2048x1x16, .f32⟩
  | 18 => ⟨S2048x16, .f32⟩
  | 19 => ⟨S2048x1x16, .f32⟩
  | 20 => ⟨S16x2048x1x16, .f32⟩
  | 21 => ⟨S16x2048x1x16, .f32⟩
  | 22 => ⟨S1x2048x1x16, .f32⟩
  | 23 => ⟨S16x2048x1x16, .f32⟩
  | 24 => ⟨S16x2048x1x16, .f32⟩
  | 25 => ⟨S1x2048x1x16, .f32⟩
  | 26 => ⟨S16x2048x1x16, .f32⟩
  | 27 => ⟨S16x2048x1x16, .f32⟩
  | 28 => ⟨S16x2048x1x16, .f32⟩
  | 29 => ⟨S1x2048x1x16, .f32⟩
  | 30 => ⟨S16x2048x1x16, .f32⟩
  | 31 => ⟨S16x2048x1x16, .f32⟩
  | 32 => ⟨S1x2048x1x16, .f32⟩
  | 33 => ⟨S16x2048x1x16, .f32⟩
  | 34 => ⟨S16x2048x1x16, .f32⟩
  | 35 => ⟨S16x2048x1x16, .f32⟩
  | 36 => ⟨S16x2048x1x32, .f32⟩
  | 37 => ⟨S16x2048x8x32, .f32⟩
  | 38 => ⟨S_, .f32⟩
  | 39 => ⟨S16x2048x8x32, .f32⟩
  | 40 => ⟨S16x2048x8x64, .f32⟩
  | 41 => ⟨S16x2048x8x32, .f32⟩
  | 42 => ⟨S16, .f32⟩
  | 43 => ⟨S16, .f32⟩
  | 44 => ⟨S_, .f32⟩
  | 45 => ⟨S16, .f32⟩
  | 46 => ⟨S16, .f32⟩
  | 47 => ⟨S_, .f32⟩
  | 48 => ⟨S16, .f32⟩
  | 49 => ⟨S16, .f32⟩
  | 50 => ⟨S2048x1, .f32⟩
  | 51 => ⟨S1x16, .f32⟩
  | 52 => ⟨S2048x16, .f32⟩
  | 53 => ⟨S2048x16, .f32⟩
  | 54 => ⟨S2048x16, .f32⟩
  | 55 => ⟨S2048x16, .f32⟩
  | 56 => ⟨S2048x1x16, .f32⟩
  | 57 => ⟨S2048x16, .f32⟩
  | 58 => ⟨S2048x1x16, .f32⟩
  | 59 => ⟨S16x2048x8x16, .f32⟩
  | 60 => ⟨S16x2048x8x16, .f32⟩
  | 61 => ⟨S1x2048x1x16, .f32⟩
  | 62 => ⟨S16x2048x8x16, .f32⟩
  | 63 => ⟨S16x2048x8x16, .f32⟩
  | 64 => ⟨S1x2048x1x16, .f32⟩
  | 65 => ⟨S16x2048x8x16, .f32⟩
  | 66 => ⟨S16x2048x8x16, .f32⟩
  | 67 => ⟨S16x2048x8x16, .f32⟩
  | 68 => ⟨S1x2048x1x16, .f32⟩
  | 69 => ⟨S16x2048x8x16, .f32⟩
  | 70 => ⟨S16x2048x8x16, .f32⟩
  | 71 => ⟨S1x2048x1x16, .f32⟩
  | 72 => ⟨S16x2048x8x16, .f32⟩
  | 73 => ⟨S16x2048x8x16, .f32⟩
  | 74 => ⟨S16x2048x8x16, .f32⟩
  | 75 => ⟨S16x2048x8x32, .f32⟩
  | 76 => ⟨S16x2048x8x128, .f32⟩
  | 77 => ⟨S_, .f32⟩
  | 78 => ⟨S16x2048x8x128, .f32⟩
  | 79 => ⟨S16x2048x8x128, .f32⟩
  | 80 => ⟨S16x2048x8x64, .f32⟩
  | 81 => ⟨S16x2048x8x128, .f32⟩
  | 82 => ⟨S32768x512, .bf16⟩
  | 83 => ⟨S32768x512, .bf16⟩
  | 84 => ⟨S32768x512, .bf16⟩
  | 85 => ⟨S32768x1024, .f32⟩
  | 86 => ⟨S32768x1024, .bf16⟩
  | 87 => ⟨S32768x1024, .f32⟩
  | 88 => ⟨S32768x1024, .bf16⟩
  | 89 => ⟨S16x2048x8x64, .f32⟩
  | 90 => ⟨S32768x512, .f32⟩
  | 91 => ⟨S32768x512, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_2 : Ref sig .tc := ⟨.hbm, 42, rfl⟩
abbrev main_v19 : Ref sig .tc := ⟨.hbm, 43, rfl⟩
abbrev main_v20 : Ref sig .tc := ⟨.hbm, 44, rfl⟩
abbrev main_cst_3 : Ref sig .tc := ⟨.hbm, 45, rfl⟩
abbrev main_v21 : Ref sig .tc := ⟨.hbm, 46, rfl⟩
abbrev main_v22 : Ref sig .tc := ⟨.hbm, 47, rfl⟩
abbrev main_cst_4 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_5 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_6 : Ref sig .tc := ⟨.hbm, 62, rfl⟩
abbrev main_v35 : Ref sig .tc := ⟨.hbm, 63, rfl⟩
abbrev main_v36 : Ref sig .tc := ⟨.hbm, 64, rfl⟩
abbrev main_cst_7 : Ref sig .tc := ⟨.hbm, 65, rfl⟩
abbrev main_v37 : Ref sig .tc := ⟨.hbm, 66, rfl⟩
abbrev main_v38 : Ref sig .tc := ⟨.hbm, 67, rfl⟩
abbrev main_cst_8 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_c : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_9 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_10 : Ref sig .tc := ⟨.hbm, 93, rfl⟩
abbrev main_v61 : Ref sig .tc := ⟨.hbm, 94, rfl⟩
abbrev main_v62 : Ref sig .tc := ⟨.hbm, 95, rfl⟩
abbrev main_cst_11 : Ref sig .tc := ⟨.hbm, 96, rfl⟩
abbrev main_v63 : Ref sig .tc := ⟨.hbm, 97, rfl⟩
abbrev main_v64 : Ref sig .tc := ⟨.hbm, 98, rfl⟩
abbrev main_cst_12 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_13 : Ref sig .tc := ⟨.hbm, 112, rfl⟩
abbrev main_v77 : Ref sig .tc := ⟨.hbm, 113, rfl⟩
abbrev main_v78 : Ref sig .tc := ⟨.hbm, 114, rfl⟩
abbrev main_cst_14 : Ref sig .tc := ⟨.hbm, 115, rfl⟩
abbrev main_v79 : Ref sig .tc := ⟨.hbm, 116, rfl⟩
abbrev main_v80 : Ref sig .tc := ⟨.hbm, 117, rfl⟩
abbrev main_cst_15 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_cst_16 : Ref sig .tc := ⟨.hbm, 133, rfl⟩
abbrev main_v95 : Ref sig .tc := ⟨.hbm, 134, rfl⟩
abbrev main_v96 : Ref sig .tc := ⟨.hbm, 135, rfl⟩
abbrev main_cst_17 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_cst_18 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_cst_19 : Ref sig .tc := ⟨.hbm, 172, rfl⟩
abbrev main_v131 : Ref sig .tc := ⟨.hbm, 173, rfl⟩
abbrev main_v132 : Ref sig .tc := ⟨.hbm, 174, rfl⟩
abbrev main_cst_20 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_cst_21 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩

abbrev nD : Nat := 1
abbrev τ : Topo := Topo.v7x

variable {F : FTy → Type} [FloatOps F]
-- ==== Proof.MlaModel.lean ====
/- The latent attention's body as a small family of functions on blocks: one diagonal step of 256 query rows against
   the sixteen meta keys and 256 or 512 sequence keys, and one off-diagonal step of 512 query rows against 512 keys.
   `out_eq` says that the generated body's result is made of these steps. -/
module

public import proofs.«01_k».proof.Proof.Gen.MlaIdeal.Value

@[expose] public section

set_option maxRecDepth 16384

noncomputable section

namespace Cert.Proof.MlaModel

open Cert.MlaIdeal Cert.MlaIdeal.Gen Idealize.ShloMosaic Idealize.ShloMosaic.TcCoe Idealize.SL.Sem

variable {F : FTy → Type} [FloatOps F] [Named F]

/-! ## Masks -/

/-- The first 16 of 128 lanes: the meta rows that are there. -/
def metaMask : IVec S256x128 1 := k0_pay10
/-- The chunk mask of the upper 256 query rows against the 256 keys of their own half tile. -/
def topMask : IVec S256x256 1 := k0_pay4 (iota .tc S256x512 32 [0] iota_S256x512_d0_w32) k0_pay1 64#32 k0_pay2 k0_pay3
/-- The chunk mask of the lower 256 query rows against the 512 keys of their tile. -/
def botMask : IVec S256x512 1 :=
  k0_pay9 (k0_pay5 (iota .tc S256x512 32 [1] iota_S256x512_d1_w32)) (k0_pay6 (iota .tc S256x512 32 [0] iota_S256x512_d0_w32)) 64#32
    (k0_pay7 (iota .tc S256x512 32 [0] iota_S256x512_d0_w32)) (k0_pay8 (iota .tc S256x512 32 [0] iota_S256x512_d0_w32)) (Scalar.cmpi .sgt 64#32 0#32)

/-- The value a masked score takes. -/
def maskC : F .f32 := Named.named κ "mask" 0xF149F2CA#32

/-! ## Row statistics, spread over 128 lanes -/

def spread256 (x : FVec F S256 .f32) : FVec F S256x128 .f32 :=
  broadcastTo S256x128 (shapeCast S256x1 (shapeCast S256x1 x shapeCasts_S256_S256x1) shapeCasts_S256x1_S256x1) broadcasts_S256x1_S256x128
def spread512 (x : FVec F S512 .f32) : FVec F S512x128 .f32 :=
  broadcastTo S512x128 (shapeCast S512x1 (shapeCast S512x1 x shapeCasts_S512_S512x1) shapeCasts_S512x1_S512x1) broadcasts_S512x1_S512x128

def max128 (s : FVec F S256x128 .f32) : FVec F S256x128 .f32 := spread256 (multiReduction .maximumf [1] S256 s 0xFF800000#32 reduces_S256x128_S256 (.inl rfl) rfl)
def max256 (s : FVec F S256x256 .f32) : FVec F S256x128 .f32 := spread256 (multiReduction .maximumf [1] S256 s 0xFF800000#32 reduces_S256x256_S256 (.inl rfl) rfl)
def max512 (s : FVec F S256x512 .f32) : FVec F S256x128 .f32 := spread256 (multiReduction .maximumf [1] S256 s 0xFF800000#32 reduces_S256x512_S256 (.inl rfl) rfl)
def maxB (s : FVec F S512x512 .f32) : FVec F S512x128 .f32 := spread512 (multiReduction .maximumf [1] S512 s 0xFF800000#32 reduces_S512x512_S512 (.inl rfl) rfl)

def sum128 (s : FVec F S256x128 .f32) : FVec F S256x128 .f32 := spread256 (multiReduction .add [1] S256 s 0x00000000#32 reduces_S256x128_S256 (.inl rfl) rfl)
def sum256 (s : FVec F S256x256 .f32) : FVec F S256x128 .f32 := spread256 (multiReduction .add [1] S256 s 0x00000000#32 reduces_S256x256_S256 (.inl rfl) rfl)
def sum512 (s : FVec F S256x512 .f32) : FVec F S256x128 .f32 := spread256 (multiReduction .add [1] S256 s 0x00000000#32 reduces_S256x512_S256 (.inl rfl) rfl)
def sumB (s : FVec F S512x512 .f32) : FVec F S512x128 .f32 := spread512 (multiReduction .add [1] S512 s 0x00000000#32 reduces_S512x512_S512 (.inl rfl) rfl)

/-! ## Scores -/

/-- The scores of 256 queries against the padded meta keys. -/
def sMeta (q : FVec F S256x128 .bf16) (mk : Vec F S128x128 .bf16) : FVec F S256x128 .f32 :=
  select metaMask (matmul dot_S256x128_S128x128_S256x128_1_1_0_0_n_n none q (shapeCast S128x128 mk shapeCasts_S128x128_S128x128 : FVec F S128x128 .bf16) (constant S256x128 .f32 0x00000000#32)) (broadcast S256x128 maskC)
def sTop (q : FVec F S256x128 .bf16) (k : Vec F S256x128 .bf16) : FVec F S256x256 .f32 :=
  select topMask (matmul dot_S256x128_S256x128_S256x256_1_1_0_0_n_n none q k (constant S256x256 .f32 0x00000000#32)) (broadcast S256x256 maskC)
def sBot (q : FVec F S256x128 .bf16) (k : Vec F S512x128 .bf16) : FVec F S256x512 .f32 :=
  select botMask (matmul dot_S256x128_S512x128_S256x512_1_1_0_0_n_n none q k (constant S256x512 .f32 0x00000000#32)) (broadcast S256x512 maskC)
def sB (q : FVec F S512x128 .bf16) (k : Vec F S512x128 .bf16) : FVec F S512x512 .f32 :=
  matmul dot_S512x128_S512x128_S512x512_1_1_0_0_n_n none q k (constant S512x512 .f32 0x00000000#32)

/-! ## The exponentials of a step, its row sum and its weighted values, at a running maximum `m` -/

def p128 (s m : FVec F S256x128 .f32) : FVec F S256x128 .f32 := exp2 (subf s m)
def p256 (s : FVec F S256x256 .f32) (m : FVec F S256x128 .f32) : FVec F S256x256 .f32 :=
  exp2 (subf s (concatenate S256x256 1 [⟨S256x128, m⟩, ⟨S256x128, m⟩] concatenates_S256x128_S256x128_S256x256_d1))
def p512 (s : FVec F S256x512 .f32) (m : FVec F S256x128 .f32) : FVec F S256x512 .f32 :=
  exp2 (subf s (concatenate S256x512 1 [⟨S256x128, m⟩, ⟨S256x128, m⟩, ⟨S256x128, m⟩, ⟨S256x128, m⟩] concatenates_S256x128_S256x128_S256x128_S256x128_S256x512_d1))
def pB (s : FVec F S512x512 .f32) (m : FVec F S512x128 .f32) : FVec F S512x512 .f32 :=
  exp2 (subf s (concatenate S512x512 1 [⟨S512x128, m⟩, ⟨S512x128, m⟩, ⟨S512x128, m⟩, ⟨S512x128, m⟩] concatenates_S512x128_S512x128_S512x128_S512x128_S512x512_d1))

def v128 (p : FVec F S256x128 .f32) (mv : Vec F S128x128 .bf16) : FVec F S256x128 .f32 :=
  matmul dot_S256x128_S128x128_S256x128_1_0_0_1_n_n none (truncf .bf16 p bitsLt_bf16_f32) (shapeCast S128x128 mv shapeCasts_S128x128_S128x128 : FVec F S128x128 .bf16) (constant S256x128 .f32 0x00000000#32)
def v256 (p : FVec F S256x256 .f32) (v : Vec F S256x128 .bf16) : FVec F S256x128 .f32 :=
  matmul dot_S256x256_S256x128_S256x128_1_0_0_1_n_n none (truncf .bf16 p bitsLt_bf16_f32) v (constant S256x128 .f32 0x00000000#32)
def v512 (p : FVec F S256x512 .f32) (v : Vec F S512x128 .bf16) : FVec F S256x128 .f32 :=
  matmul dot_S256x512_S512x128_S256x128_1_0_0_1_n_n none (truncf .bf16 p bitsLt_bf16_f32) v (constant S256x128 .f32 0x00000000#32)
def vB (p : FVec F S512x512 .f32) (v : Vec F S512x128 .bf16) : FVec F S512x128 .f32 :=
  matmul dot_S512x512_S512x128_S512x128_1_0_0_1_n_n none (truncf .bf16 p bitsLt_bf16_f32) v (constant S512x128 .f32 0x00000000#32)

/-! ## The two diagonal steps -/

section Diagonal
variable (q : FVec F S256x128 .bf16) (mk mv : Vec F S128x128 .bf16)

def mTop (k : Vec F S256x128 .bf16) : FVec F S256x128 .f32 := maximumf (max128 (sMeta q mk)) (max256 (sTop q k))
def lTop (k : Vec F S256x128 .bf16) : FVec F S256x128 .f32 :=
  addf (sum128 (p128 (sMeta q mk) (mTop q mk k))) (sum256 (p256 (sTop q k) (mTop q mk k)))
def aTop (k v : Vec F S256x128 .bf16) : FVec F S256x128 .f32 :=
  addf (v128 (p128 (sMeta q mk) (mTop q mk k)) mv) (v256 (p256 (sTop q k) (mTop q mk k)) v)

def mBot (k : Vec F S512x128 .bf16) : FVec F S256x128 .f32 := maximumf (max128 (sMeta q mk)) (max512 (sBot q k))
def lBot (k : Vec F S512x128 .bf16) : FVec F S256x128 .f32 :=
  addf (sum128 (p128 (sMeta q mk) (mBot q mk k))) (sum512 (p512 (sBot q k) (mBot q mk k)))
def aBot (k v : Vec F S512x128 .bf16) : FVec F S256x128 .f32 :=
  addf (v128 (p128 (sMeta q mk) (mBot q mk k)) mv) (v512 (p512 (sBot q k) (mBot q mk k)) v)
end Diagonal

/-! ## Both halves of a tile, and the off-diagonal step -/

def join (t b : FVec F S256x128 .f32) : FVec F S512x128 .f32 :=
  concatenate S512x128 0 [⟨S256x128, t⟩, ⟨S256x128, b⟩] concatenates_S256x128_S256x128_S512x128_d0

def mStep (q k : Vec F S512x128 .bf16) (m : FVec F S512x128 .f32) : FVec F S512x128 .f32 := maximumf m (maxB (sB q k))
def lStep (q k : Vec F S512x128 .bf16) (m l : FVec F S512x128 .f32) : FVec F S512x128 .f32 :=
  addf (mulf (exp2 (subf m (mStep q k m))) l) (sumB (pB (sB q k) (mStep q k m)))
def aStep (q k v : Vec F S512x128 .bf16) (m a : FVec F S512x128 .f32) : FVec F S512x128 .f32 :=
  addf (mulf (exp2 (subf m (mStep q k m))) a) (vB (pB (sB q k) (mStep q k m)) v)

/-- One tile's result from the two heads' final quotients. -/
def pick (a b : FVec F S512x128 .f32) : FVec F S512x128 .bf16 :=
  truncf .bf16 (select (cmpi .slt (iota .tc S512x128 32 [1] iota_S512x128_d1_w32) (broadcast S512x128 64#32)) a b) bitsLt_bf16_f32

/-! ## One head of one tile -/

def qTop (q : FVec F S512x128 .bf16) : FVec F S256x128 .bf16 := extractStridedSlice S256x128 ![0, 0] q slices_S512x128_o0_0_S256x128
def qBot (q : FVec F S512x128 .bf16) : FVec F S256x128 .bf16 := extractStridedSlice S256x128 ![256, 0] q slices_S512x128_o256_0_S256x128

section Head
variable (q : FVec F S512x128 .bf16) (mk mv : Vec F S128x128 .bf16)

def mD (kt : Vec F S256x128 .bf16) (kb : Vec F S512x128 .bf16) : FVec F S512x128 .f32 := join (mTop (qTop q) mk kt) (mBot (qBot q) mk kb)
def lD (kt : Vec F S256x128 .bf16) (kb : Vec F S512x128 .bf16) : FVec F S512x128 .f32 := join (lTop (qTop q) mk kt) (lBot (qBot q) mk kb)
def aD (kt vt : Vec F S256x128 .bf16) (kb vb : Vec F S512x128 .bf16) : FVec F S512x128 .f32 := join (aTop (qTop q) mk mv kt vt) (aBot (qBot q) mk mv kb vb)

def head0 (kt vt : Vec F S256x128 .bf16) (kb vb : Vec F S512x128 .bf16) : FVec F S512x128 .f32 := divf (aD q mk mv kt vt kb vb) (lD q mk kt kb)
def head1 (kt vt : Vec F S256x128 .bf16) (kb vb k0 v0 : Vec F S512x128 .bf16) : FVec F S512x128 .f32 :=
  divf (aStep q k0 v0 (mD q mk kt kb) (aD q mk mv kt vt kb vb)) (lStep q k0 (mD q mk kt kb) (lD q mk kt kb))
def head2 (kt vt : Vec F S256x128 .bf16) (kb vb k0 v0 k1 v1 : Vec F S512x128 .bf16) : FVec F S512x128 .f32 :=
  divf (aStep q k1 v1 (mStep q k0 (mD q mk kt kb)) (aStep q k0 v0 (mD q mk kt kb) (aD q mk mv kt vt kb vb)))
    (lStep q k1 (mStep q k0 (mD q mk kt kb)) (lStep q k0 (mD q mk kt kb) (lD q mk kt kb)))
def head3 (kt vt : Vec F S256x128 .bf16) (kb vb k0 v0 k1 v1 k2 v2 : Vec F S512x128 .bf16) : FVec F S512x128 .f32 :=
  divf (aStep q k2 v2 (mStep q k1 (mStep q k0 (mD q mk kt kb)))
      (aStep q k1 v1 (mStep q k0 (mD q mk kt kb)) (aStep q k0 v0 (mD q mk kt kb) (aD q mk mv kt vt kb vb))))
    (lStep q k2 (mStep q k1 (mStep q k0 (mD q mk kt kb)))
      (lStep q k1 (mStep q k0 (mD q mk kt kb)) (lStep q k0 (mD q mk kt kb) (lD q mk kt kb))))
end Head

/-! ## The body's result -/

section Body
variable (x0 x1 : Vec F S2048x256 .bf16) (x2 : Vec F S2048x128 .bf16) (x3 : Vec F S128x256 .bf16) (x4 : Vec F S128x128 .bf16)

/-- The two heads' columns of a block of query rows. -/
def qL (x : Vec F S512x256 .bf16) : FVec F S512x128 .bf16 := extractStridedSlice S512x128 ![0, 0] x slices_S512x256_o0_0_S512x128
def qR (x : Vec F S512x256 .bf16) : FVec F S512x128 .bf16 := extractStridedSlice S512x128 ![0, 128] x slices_S512x256_o0_128_S512x128

def tile0 : FVec F S512x128 .bf16 :=
  pick (head0 (qL (View.ld x0 r0_0)) (View.ld x3 r0_4) (View.ld x4 r0_5) (View.ld x1 r0_6) (View.ld x2 r0_7) (View.ld x1 r0_10) (View.ld x2 r0_11))
    (head0 (qR (View.ld x0 r0_0)) (View.ld x3 r0_8) (View.ld x4 r0_5) (View.ld x1 r0_9) (View.ld x2 r0_7) (View.ld x1 r0_12) (View.ld x2 r0_11))
def tile1 : FVec F S512x128 .bf16 :=
  pick (head1 (qL (View.ld x0 r0_1)) (View.ld x3 r0_4) (View.ld x4 r0_5) (View.ld x1 r0_13) (View.ld x2 r0_14) (View.ld x1 r0_16) (View.ld x2 r0_17) (View.ld x1 r0_10) (View.ld x2 r0_11))
    (head1 (qR (View.ld x0 r0_1)) (View.ld x3 r0_8) (View.ld x4 r0_5) (View.ld x1 r0_15) (View.ld x2 r0_14) (View.ld x1 r0_18) (View.ld x2 r0_17) (View.ld x1 r0_12) (View.ld x2 r0_11))
def tile2 : FVec F S512x128 .bf16 :=
  pick (head2 (qL (View.ld x0 r0_2)) (View.ld x3 r0_4) (View.ld x4 r0_5) (View.ld x1 r0_19) (View.ld x2 r0_20) (View.ld x1 r0_22) (View.ld x2 r0_23) (View.ld x1 r0_10) (View.ld x2 r0_11) (View.ld x1 r0_16) (View.ld x2 r0_17))
    (head2 (qR (View.ld x0 r0_2)) (View.ld x3 r0_8) (View.ld x4 r0_5) (View.ld x1 r0_21) (View.ld x2 r0_20) (View.ld x1 r0_24) (View.ld x2 r0_23) (View.ld x1 r0_12) (View.ld x2 r0_11) (View.ld x1 r0_18) (View.ld x2 r0_17))
def tile3 : FVec F S512x128 .bf16 :=
  pick (head3 (qL (View.ld x0 r0_3)) (View.ld x3 r0_4) (View.ld x4 r0_5) (View.ld x1 r0_25) (View.ld x2 r0_26) (View.ld x1 r0_28) (View.ld x2 r0_29) (View.ld x1 r0_10) (View.ld x2 r0_11) (View.ld x1 r0_16) (View.ld x2 r0_17) (View.ld x1 r0_22) (View.ld x2 r0_23))
    (head3 (qR (View.ld x0 r0_3)) (View.ld x3 r0_8) (View.ld x4 r0_5) (View.ld x1 r0_27) (View.ld x2 r0_26) (View.ld x1 r0_30) (View.ld x2 r0_29) (View.ld x1 r0_12) (View.ld x2 r0_11) (View.ld x1 r0_18) (View.ld x2 r0_17) (View.ld x1 r0_24) (View.ld x2 r0_23))

/-- The body's result is the four tiles, written to their rows. -/
theorem out_eq : out0_5 x0 x1 x2 x3 x4 = View.canon [⟨r0_29, tile3 x0 x1 x2 x3 x4⟩, ⟨r0_23, tile2 x0 x1 x2 x3 x4⟩,
    ⟨r0_17, tile1 x0 x1 x2 x3 x4⟩, ⟨r0_11, tile0 x0 x1 x2 x3 x4⟩] := rfl

end Body

end Cert.Proof.MlaModel

end
-- ==== Proof.Weights.lean ====
/- Sums of base-two weights over the extended reals: the facts a softmax with a running maximum rests on. A score is
   either a real number or ⊥ (a masked key); its weight is 2 to the score, or 0. A running state is the weights' sum and
   the weighted sum of values, both scaled by 2 to minus the maximum; which real number the maximum is plays no part. -/
module

public import Idealize.ShloMosaic.Lib.Pointwise
public import Mathlib.Data.EReal.Operations
public import Mathlib.Analysis.SpecialFunctions.Pow.Real

@[expose] public section

noncomputable section

namespace Cert.Proof.Weights

open Idealize.ShloMosaic

/-- The float operation 2^x, over the extended reals. -/
theorem exp2_eq {φ : FTy} (x : EReal) : FloatOps.exp2 (F := Ideal) (φ := φ) x = Ideal.exp2 x := rfl

/-- A value that is a real number. -/
def Real? (x : EReal) : Prop := ∃ r : ℝ, x = ↑r

/-- The weight of a score. -/
def wt (s : EReal) : ℝ := if s = ⊥ then 0 else (2 : ℝ) ^ s.toReal

theorem wt_bot : wt ⊥ = 0 := by simp [wt]
theorem wt_coe (r : ℝ) : wt (r : EReal) = (2 : ℝ) ^ r := by simp [wt]
theorem wt_nonneg (s : EReal) : 0 ≤ wt s := by
  unfold wt; split_ifs
  · exact le_rfl
  · exact (Real.rpow_pos_of_pos two_pos _).le
theorem wt_pos {s : EReal} (h : s ≠ ⊥) : 0 < wt s := by
  unfold wt; rw [if_neg h]; exact Real.rpow_pos_of_pos two_pos _

/-- The exponential of a score less a real maximum is its weight, scaled. -/
theorem exp2_sub {s : EReal} (hs : s ≠ ⊤) (μ : ℝ) : Ideal.exp2 (s - (μ : EReal)) = (((2 : ℝ) ^ (-μ) * wt s : ℝ) : EReal) := by
  induction s using EReal.rec with
  | bot => rw [EReal.bot_sub, wt_bot, mul_zero]; rfl
  | top => exact absurd rfl hs
  | coe r =>
    rw [← EReal.coe_sub, wt_coe, Ideal.exp2_coe, ← Real.rpow_add two_pos]
    show ((Real.rpow 2 (r - μ) : ℝ) : EReal) = _
    rw [show -μ + r = r - μ by ring]; rfl

/-- The sum of real values is the real sum. -/
theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A nonnegative real factor goes into a sum. -/
theorem mul_add_coe {c : ℝ} (hc : 0 ≤ c) (x y : EReal) : (c : EReal) * (x + y) = c * x + c * y :=
  EReal.left_distrib_of_nonneg_of_ne_top (EReal.coe_nonneg.mpr hc) (EReal.coe_ne_top c) x y

theorem mul_sum_coe {ι : Type*} (s : Finset ι) {c : ℝ} (hc : 0 ≤ c) (f : ι → EReal) :
    ∑ i ∈ s, (c : EReal) * f i = c * ∑ i ∈ s, f i := by
  classical
  induction s using Finset.induction_on with
  | empty => simp
  | insert a s ha ih => rw [Finset.sum_insert ha, Finset.sum_insert ha, ih, mul_add_coe hc]

/-- The exponentials of a block of keys add up to the scaled sum of weights. -/
theorem sum_exp2 {ι : Type*} (t : Finset ι) (s : ι → EReal) (hs : ∀ i, s i ≠ ⊤) (μ : ℝ) :
    ∑ i ∈ t, Ideal.exp2 (s i - (μ : EReal)) = (((2 : ℝ) ^ (-μ) * ∑ i ∈ t, wt (s i) : ℝ) : EReal) := by
  rw [Finset.mul_sum, ← sum_coe]
  exact Finset.sum_congr rfl fun i _ => exp2_sub (hs i) μ

/-- The same for the weighted sum of values. -/
theorem sum_exp2_mul {ι : Type*} (t : Finset ι) (s v : ι → EReal) (hs : ∀ i, s i ≠ ⊤) (μ : ℝ) :
    ∑ i ∈ t, Ideal.exp2 (s i - (μ : EReal)) * v i = (((2 : ℝ) ^ (-μ) : ℝ) : EReal) * ∑ i ∈ t, ((wt (s i) : ℝ) : EReal) * v i := by
  rw [← mul_sum_coe t (Real.rpow_pos_of_pos two_pos _).le]
  exact Finset.sum_congr rfl fun i _ => by rw [exp2_sub (hs i), EReal.coe_mul, mul_assoc]

/-- A maximum with a start of ⊥ is not ⊤ where no entry is. -/
theorem fold_max_ne_top {ι : Type*} (t : Finset ι) (s : ι → EReal) (b : EReal) (hb : b ≠ ⊤) (hs : ∀ i, s i ≠ ⊤) :
    Finset.fold max b s t ≠ ⊤ := by
  rw [Ne, ← not_lt_top_iff, not_not, Finset.fold_max_lt]
  exact ⟨lt_top_iff_ne_top.mpr hb, fun i _ => lt_top_iff_ne_top.mpr (hs i)⟩

theorem fold_max_ne_bot {ι : Type*} (t : Finset ι) (s : ι → EReal) (b : EReal) (i : ι) (hi : i ∈ t) (hs : s i ≠ ⊥) :
    Finset.fold max b s t ≠ ⊥ := by
  rw [← bot_lt_iff_ne_bot, Finset.lt_fold_max]
  exact Or.inr ⟨i, hi, bot_lt_iff_ne_bot.mpr hs⟩

theorem max_real {x y : EReal} (hx : x ≠ ⊤) (hy : y ≠ ⊤) (h : x ≠ ⊥ ∨ y ≠ ⊥) : Real? (max x y) := by
  have h1 : max x y ≠ ⊤ := by rcases max_choice x y with e | e <;> rw [e] <;> assumption
  have h2 : max x y ≠ ⊥ := by
    rcases h with h | h
    · exact fun e => h (le_bot_iff.mp (e ▸ le_max_left x y))
    · exact fun e => h (le_bot_iff.mp (e ▸ le_max_right x y))
  exact ⟨_, (EReal.coe_toReal h1 h2).symm⟩

theorem real_of {x : EReal} (h1 : x ≠ ⊤) (h2 : x ≠ ⊥) : Real? x := ⟨_, (EReal.coe_toReal h1 h2).symm⟩
theorem Real?.ne_top {x : EReal} (h : Real? x) : x ≠ ⊤ := by obtain ⟨r, rfl⟩ := h; exact EReal.coe_ne_top r
theorem Real?.ne_bot {x : EReal} (h : Real? x) : x ≠ ⊥ := by obtain ⟨r, rfl⟩ := h; exact EReal.coe_ne_bot r
theorem Real?.mul {x y : EReal} (hx : Real? x) (hy : Real? y) : Real? (x * y) := by
  obtain ⟨a, rfl⟩ := hx; obtain ⟨b, rfl⟩ := hy; exact ⟨a * b, (EReal.coe_mul a b).symm⟩
theorem Real?.add {x y : EReal} (hx : Real? x) (hy : Real? y) : Real? (x + y) := by
  obtain ⟨a, rfl⟩ := hx; obtain ⟨b, rfl⟩ := hy; exact ⟨a + b, (EReal.coe_add a b).symm⟩
theorem Real?.sum {ι : Type*} (t : Finset ι) (f : ι → EReal) (h : ∀ i ∈ t, Real? (f i)) : Real? (∑ i ∈ t, f i) := by
  classical
  induction t using Finset.induction_on with
  | empty => exact ⟨0, by simp⟩
  | insert a s ha ih =>
    rw [Finset.sum_insert ha]
    exact (h a (Finset.mem_insert_self a s)).add (ih fun i hi => h i (Finset.mem_insert_of_mem hi))

/-! ## The running state of one row -/

/-- One row's running maximum `m`, sum `l` and weighted values `a`, each spread over lanes, stand for the weights' sum `W`
    and the weighted sums `B`. -/
def State {ι : Type*} (m l a : ι → EReal) (W : ℝ) (B : ι → EReal) : Prop :=
  ∃ μ : ℝ, (∀ d, m d = (μ : EReal)) ∧ (∀ d, l d = (((2 : ℝ) ^ (-μ) * W : ℝ) : EReal)) ∧
    ∀ d, a d = (((2 : ℝ) ^ (-μ) : ℝ) : EReal) * B d

/-- Rescaling from one maximum to another. -/
theorem rescale (μ μ' : ℝ) : Ideal.exp2 ((μ : EReal) - (μ' : EReal)) * (((2 : ℝ) ^ (-μ) : ℝ) : EReal) = (((2 : ℝ) ^ (-μ') : ℝ) : EReal) := by
  rw [exp2_sub (EReal.coe_ne_top μ), wt_coe, ← EReal.coe_mul, mul_assoc, ← Real.rpow_add two_pos, add_neg_cancel, Real.rpow_zero, mul_one]

/-- Taking in a block of keys keeps the state: its weights join the sum, its weighted values join the values. `p` is the
    block's exponentials at the new maximum. -/
theorem State.step {ι κ : Type*} [Fintype κ] {m l a m' l' a' : ι → EReal} {W : ℝ} {B : ι → EReal} (h : State m l a W B)
    (s p : κ → EReal) (v : κ → ι → EReal) (hs : ∀ k, s k ≠ ⊤) (hm' : ∃ μ : ℝ, (∀ d, m' d = (μ : EReal)) ∧ ∀ k, p k = Ideal.exp2 (s k - (μ : EReal)))
    (hl' : ∀ d, l' d = Ideal.exp2 (m d - m' d) * l d + ∑ k, p k)
    (ha' : ∀ d, a' d = Ideal.exp2 (m d - m' d) * a d + ∑ k, p k * v k d) :
    State m' l' a' (W + ∑ k, wt (s k)) (fun d => B d + ∑ k, ((wt (s k) : ℝ) : EReal) * v k d) := by
  obtain ⟨μ, hm, hl, ha⟩ := h
  obtain ⟨μ', hm', hp⟩ := hm'
  refine ⟨μ', hm', fun d => ?_, fun d => ?_⟩
  · simp_rw [hl', hp]
    rw [hm, hl, hm', sum_exp2 _ _ hs, EReal.coe_mul, ← mul_assoc, rescale, ← EReal.coe_mul, ← EReal.coe_add, mul_add]
  · simp_rw [ha', hp]
    rw [hm, ha, hm', sum_exp2_mul _ _ _ hs, ← mul_assoc, rescale, mul_add_coe (Real.rpow_pos_of_pos two_pos _).le]

/-- The first state: two blocks of keys at one maximum. -/
theorem State.start {ι κ κ' : Type*} [Fintype κ] [Fintype κ'] {m l a : ι → EReal} (s p : κ → EReal) (v : κ → ι → EReal) (hs : ∀ k, s k ≠ ⊤)
    (s' p' : κ' → EReal) (v' : κ' → ι → EReal) (hs' : ∀ k, s' k ≠ ⊤)
    (hm : ∃ μ : ℝ, (∀ d, m d = (μ : EReal)) ∧ (∀ k, p k = Ideal.exp2 (s k - (μ : EReal))) ∧ ∀ k, p' k = Ideal.exp2 (s' k - (μ : EReal)))
    (hl : ∀ d, l d = (∑ k, p k) + ∑ k, p' k) (ha : ∀ d, a d = (∑ k, p k * v k d) + ∑ k, p' k * v' k d) :
    State m l a ((∑ k, wt (s k)) + ∑ k, wt (s' k)) (fun d => (∑ k, ((wt (s k) : ℝ) : EReal) * v k d) + ∑ k, ((wt (s' k) : ℝ) : EReal) * v' k d) := by
  obtain ⟨μ, hm, hp, hp'⟩ := hm
  refine ⟨μ, hm, fun d => ?_, fun d => ?_⟩
  · simp_rw [hl, hp, hp']
    rw [sum_exp2 _ _ hs, sum_exp2 _ _ hs', ← EReal.coe_add, mul_add]
  · simp_rw [ha, hp, hp']
    rw [sum_exp2_mul _ _ _ hs, sum_exp2_mul _ _ _ hs', mul_add_coe (Real.rpow_pos_of_pos two_pos _).le]

/-- The quotient of a state's values by its sum is the weighted mean of the values. -/
theorem State.quot {ι : Type*} {m l a : ι → EReal} {W : ℝ} {B : ι → EReal} (h : State m l a W B) (hW : 0 < W) (d : ι) :
    Ideal.div (a d) (l d) = ((W⁻¹ : ℝ) : EReal) * B d := by
  obtain ⟨μ, hm, hl, ha⟩ := h
  have h2 : (0 : ℝ) < (2 : ℝ) ^ (-μ) := Real.rpow_pos_of_pos two_pos _
  rw [ha, hl, Ideal.div_coe (mul_pos h2 hW).ne', mul_right_comm, ← EReal.coe_mul]
  congr 2
  field_simp

/-! ## A softmax in one piece -/

/-- The exponential of a score taken to base e is the weight, scaled. -/
theorem exp_sub {s : EReal} (hs : s ≠ ⊤) (M : ℝ) :
    Ideal.exp (s * ((Real.log 2 : ℝ) : EReal) - (M : EReal)) = ((Real.exp (-M) * wt s : ℝ) : EReal) := by
  have hl : (0 : ℝ) < Real.log 2 := Real.log_pos one_lt_two
  induction s using EReal.rec with
  | bot => rw [EReal.bot_mul_coe_of_pos hl, EReal.bot_sub, wt_bot, mul_zero]; rfl
  | top => exact absurd rfl hs
  | coe r =>
    rw [← EReal.coe_mul, ← EReal.coe_sub, wt_coe, Ideal.exp_coe, Real.rpow_def_of_pos two_pos, ← Real.exp_add]
    congr 2; ring

/-- The mean of the values under a softmax taken in one piece, with any real number as its maximum. -/
theorem softmax_mean {κ : Type*} [Fintype κ] (s v : κ → EReal) (hs : ∀ k, s k ≠ ⊤) (k0 : κ) (h0 : s k0 ≠ ⊥) (M : ℝ) :
    ∑ k, v k * Ideal.div (Ideal.exp (s k * ((Real.log 2 : ℝ) : EReal) - (M : EReal)))
        (∑ j, Ideal.exp (s j * ((Real.log 2 : ℝ) : EReal) - (M : EReal)))
      = (((∑ k, wt (s k))⁻¹ : ℝ) : EReal) * ∑ k, ((wt (s k) : ℝ) : EReal) * v k := by
  have hW : 0 < ∑ k, wt (s k) :=
    Finset.sum_pos' (fun k _ => wt_nonneg _) ⟨k0, Finset.mem_univ _, wt_pos h0⟩
  have hE : ∑ j, Ideal.exp (s j * ((Real.log 2 : ℝ) : EReal) - (M : EReal)) = ((Real.exp (-M) * ∑ k, wt (s k) : ℝ) : EReal) := by
    rw [Finset.mul_sum, ← sum_coe]; exact Finset.sum_congr rfl fun j _ => exp_sub (hs j) M
  rw [hE, ← mul_sum_coe _ (inv_nonneg.mpr hW.le)]
  refine Finset.sum_congr rfl fun k _ => ?_
  rw [exp_sub (hs k), Ideal.div_coe (mul_pos (Real.exp_pos _) hW).ne', mul_comm (v k), ← mul_assoc, ← EReal.coe_mul, ← EReal.coe_mul]
  congr 2
  have := (Real.exp_pos (-M)).ne'
  field_simp

end Cert.Proof.Weights

end
-- ==== Proof.Masks.lean ====
/- The chunk number that both programs compute by words: the quotient by 64, rounded down. -/
module

public import Idealize.ShloMosaic.Lib.Pointwise
public import Idealize.ShloMosaic.Lib.Tactic.WordOmega

@[expose] public section

set_option maxRecDepth 16384

noncomputable section

namespace Cert.Proof.Masks

open Idealize.ShloMosaic

/-- The quotient by 64, rounded down, as the kernel's words spell it. -/
def floorWord (x : BitVec 32) : BitVec 32 :=
  Scalar.select
    (IntOp.andi
      (IntOp.cmpi CmpIPredicate.ne
        (IntOp.subi (BitVec.setWidth 32 (IntOp.cmpi CmpIPredicate.sgt x 0#32)) (BitVec.setWidth 32 (IntOp.cmpi CmpIPredicate.slt x 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector x 64#32) 0#32))
    (IntOp.subi (IntOp.divsi ArithUnit.vector x 64#32) 1#32)
    (IntOp.divsi ArithUnit.vector x 64#32)

theorem floorWord_ofNat (n : ℕ) (h : n < 512) : floorWord (BitVec.ofNat 32 n) = BitVec.ofNat 32 (n / 64) := by
  have H : ∀ n : Fin 512, floorWord (BitVec.ofNat 32 n) = BitVec.ofNat 32 (n.val / 64) := by decide +kernel
  exact H ⟨n, h⟩

/-- The chunk mask, read as a comparison of naturals. -/
theorem cmp_floor {α : Type} (a b : ℕ) (ha : a < 512) (hb : b < 512) (x y : α) :
    Scalar.select (IntOp.cmpi CmpIPredicate.sle (floorWord (BitVec.ofNat 32 a)) (floorWord (BitVec.ofNat 32 b))) x y
      = if a / 64 ≤ b / 64 then x else y := by
  rw [floorWord_ofNat a ha, floorWord_ofNat b hb]
  word_cmp

theorem addi_ofNat (a b : ℕ) : IntOp.addi (BitVec.ofNat 32 a) (BitVec.ofNat 32 b) = BitVec.ofNat 32 (a + b) := (BitVec.ofNat_add a b).symm

/-- The pattern of minus infinity. -/
theorem neg_inf : Ideal.ofBits FTy.f32 0xFF800000#32 = ⊥ := by
  simp [Ideal.ofBits, Ideal.ieee]

end Cert.Proof.Masks

end
-- ==== Proof.MlaRows.lean ====
/- The latent attention's steps read at one row, over the extended reals: each keeps the running state of that row. -/
module

public import proofs.«01_k».proof.Proof.MlaModel
public import proofs.«01_k».proof.Proof.Weights
public import proofs.«01_k».proof.Proof.Masks

@[expose] public section

set_option maxRecDepth 16384

noncomputable section

namespace Cert.Proof.MlaRows

open Cert.MlaIdeal Cert.MlaIdeal.Gen Idealize.ShloMosaic Idealize.ShloMosaic.TcCoe Idealize.SL.Sem
open Cert.Proof.MlaModel Cert.Proof.Weights Cert.Proof.Masks

theorem mask_bot : (Named.named κ "mask" 0xF149F2CA#32 : Ideal .f32) = ⊥ := rfl

/-! ## Scores -/

theorem sTop_apply (q k : FVec Ideal S256x128 .bf16) (i j : Fin 256) :
    sTop q k (ix2 i j) = if j.val / 64 ≤ i.val / 64 then ∑ d, q (ix2 i d) * k (ix2 j d) else ⊥ := by
  pointwise [sTop, topMask, maskC, k0_pay1, k0_pay2, k0_pay3, k0_pay4]
  rw [mask_bot]
  exact cmp_floor j.val i.val (by omega) (by omega) _ _

theorem sBot_apply (q : FVec Ideal S256x128 .bf16) (k : FVec Ideal S512x128 .bf16) (i : Fin 256) (j : Fin 512) :
    sBot q k (ix2 i j) = if j.val / 64 ≤ (256 + i.val) / 64 then ∑ d, q (ix2 i d) * k (ix2 j d) else ⊥ := by
  pointwise [sBot, botMask, maskC, k0_pay5, k0_pay6, k0_pay7, k0_pay8, k0_pay9]
  rw [mask_bot, addi_ofNat, Nat.add_comm i.val]
  exact cmp_floor j.val (256 + i.val) (by omega) (by omega) _ _

theorem sMeta_apply (q : FVec Ideal S256x128 .bf16) (k : Vec Ideal S128x128 .bf16) (i : Fin 256) (j : Fin 128) :
    sMeta q k (ix2 i j) = if j.val < 16 then ∑ d, q (ix2 i d) * k (ix2 j d) else ⊥ := by
  pointwise [sMeta, metaMask, maskC, k0_pay10]
  rw [mask_bot]
  word_cmp

theorem sB_apply (q k : FVec Ideal S512x128 .bf16) (i j : Fin 512) : sB q k (ix2 i j) = ∑ d, q (ix2 i d) * k (ix2 j d) := by
  pointwise [sB]

/-- The score of a query row against a key row, both real, is real. -/
theorem dot_real {n m : ℕ} (q : FVec Ideal ⟨2, ![n, 128]⟩ .bf16) (k : FVec Ideal ⟨2, ![m, 128]⟩ .bf16) (i : Fin n) (j : Fin m)
    (hq : ∀ d, Real? (q (ix2 i d))) (hk : ∀ d, Real? (k (ix2 j d))) : Real? (∑ d : Fin 128, q (ix2 i d) * k (ix2 j d)) :=
  Real?.sum _ _ fun d _ => (hq d).mul (hk d)

/-- A masked real score is not ⊤. -/
theorem ite_ne_top {p : Prop} [Decidable p] {x : EReal} (h : p → Real? x) : (if p then x else ⊥) ≠ ⊤ := by
  split_ifs with hp
  · exact (h hp).ne_top
  · exact bot_ne_top

section Diagonal
variable (q : FVec Ideal S256x128 .bf16) (mk mv : Vec Ideal S128x128 .bf16) (i : Fin 256)
variable (hq : ∀ d, Real? (q (ix2 i d))) (hmk : ∀ j : Fin 128, j.val < 16 → ∀ d, Real? (mk (ix2 j d)))
include hq hmk

theorem sMeta_ne_top (j : Fin 128) : sMeta q mk (ix2 i j) ≠ ⊤ := by
  rw [sMeta_apply]; exact ite_ne_top fun h => dot_real q mk i j hq (hmk j h)

theorem sMeta_zero : sMeta q mk (ix2 i (0 : Fin 128)) ≠ ⊥ := by
  rw [sMeta_apply, if_pos (by decide)]; exact (dot_real q mk i 0 hq (hmk 0 (by decide))).ne_bot

theorem sTop_ne_top (k : Vec Ideal S256x128 .bf16) (hk : ∀ j d, Real? (k (ix2 j d))) (j : Fin 256) : sTop q k (ix2 i j) ≠ ⊤ := by
  rw [sTop_apply]; exact ite_ne_top fun _ => dot_real q k i j hq (hk j)

theorem sBot_ne_top (k : Vec Ideal S512x128 .bf16) (hk : ∀ j d, Real? (k (ix2 j d))) (j : Fin 512) : sBot q k (ix2 i j) ≠ ⊤ := by
  rw [sBot_apply]; exact ite_ne_top fun _ => dot_real q k i j hq (hk j)

/-- The first state of a row in a tile's upper half. -/
theorem top_state (k v : Vec Ideal S256x128 .bf16) (hk : ∀ j d, Real? (k (ix2 j d))) :
    State (fun d => mTop q mk k (ix2 i d)) (fun d => lTop q mk k (ix2 i d)) (fun d => aTop q mk mv k v (ix2 i d))
      ((∑ j, wt (sMeta q mk (ix2 i j))) + ∑ j, wt (sTop q k (ix2 i j)))
      (fun d => (∑ j, ((wt (sMeta q mk (ix2 i j)) : ℝ) : EReal) * mv (ix2 j d)) + ∑ j, ((wt (sTop q k (ix2 i j)) : ℝ) : EReal) * v (ix2 j d)) := by
  have hm : ∃ μ : ℝ, ∀ d : Fin 128, mTop q mk k (ix2 i d) = (μ : EReal) := by
    obtain ⟨μ, hμ⟩ := max_real
      (fold_max_ne_top Finset.univ (fun j => sMeta q mk (ix2 i j)) ⊥ bot_ne_top (sMeta_ne_top q mk i hq hmk))
      (fold_max_ne_top Finset.univ (fun j => sTop q k (ix2 i j)) ⊥ bot_ne_top (sTop_ne_top q mk i hq hmk k hk))
      (Or.inl (fold_max_ne_bot _ _ _ 0 (Finset.mem_univ _) (sMeta_zero q mk i hq hmk)))
    refine ⟨μ, fun d => ?_⟩
    rw [← hμ]
    pointwise [mTop, max128, max256, spread256]
    rw [neg_inf]
  obtain ⟨μ, hm⟩ := hm
  refine State.start (fun j => sMeta q mk (ix2 i j)) (fun j => p128 (sMeta q mk) (mTop q mk k) (ix2 i j)) (fun j d => mv (ix2 j d)) (sMeta_ne_top q mk i hq hmk)
    (fun j => sTop q k (ix2 i j)) (fun j => p256 (sTop q k) (mTop q mk k) (ix2 i j)) (fun j d => v (ix2 j d)) (sTop_ne_top q mk i hq hmk k hk)
    ⟨μ, hm, fun j => ?_, fun j => ?_⟩ (fun d => ?_) (fun d => ?_)
  · pointwise [p128]
    rw [hm]; rfl
  · pointwise [p256]
    simp only [hm, dite_eq_ite, ite_self]; rfl
  · pointwise [lTop, sum128, sum256, spread256]
  · pointwise [aTop, v128, v256]

/-- The first state of a row in a tile's lower half. -/
theorem bot_state (k v : Vec Ideal S512x128 .bf16) (hk : ∀ j d, Real? (k (ix2 j d))) :
    State (fun d => mBot q mk k (ix2 i d)) (fun d => lBot q mk k (ix2 i d)) (fun d => aBot q mk mv k v (ix2 i d))
      ((∑ j, wt (sMeta q mk (ix2 i j))) + ∑ j, wt (sBot q k (ix2 i j)))
      (fun d => (∑ j, ((wt (sMeta q mk (ix2 i j)) : ℝ) : EReal) * mv (ix2 j d)) + ∑ j, ((wt (sBot q k (ix2 i j)) : ℝ) : EReal) * v (ix2 j d)) := by
  have hm : ∃ μ : ℝ, ∀ d : Fin 128, mBot q mk k (ix2 i d) = (μ : EReal) := by
    obtain ⟨μ, hμ⟩ := max_real
      (fold_max_ne_top Finset.univ (fun j => sMeta q mk (ix2 i j)) ⊥ bot_ne_top (sMeta_ne_top q mk i hq hmk))
      (fold_max_ne_top Finset.univ (fun j => sBot q k (ix2 i j)) ⊥ bot_ne_top (sBot_ne_top q mk i hq hmk k hk))
      (Or.inl (fold_max_ne_bot _ _ _ 0 (Finset.mem_univ _) (sMeta_zero q mk i hq hmk)))
    refine ⟨μ, fun d => ?_⟩
    rw [← hμ]
    pointwise [mBot, max128, max512, spread256]
    rw [neg_inf]
  obtain ⟨μ, hm⟩ := hm
  refine State.start (fun j => sMeta q mk (ix2 i j)) (fun j => p128 (sMeta q mk) (mBot q mk k) (ix2 i j)) (fun j d => mv (ix2 j d)) (sMeta_ne_top q mk i hq hmk)
    (fun j => sBot q k (ix2 i j)) (fun j => p512 (sBot q k) (mBot q mk k) (ix2 i j)) (fun j d => v (ix2 j d)) (sBot_ne_top q mk i hq hmk k hk)
    ⟨μ, hm, fun j => ?_, fun j => ?_⟩ (fun d => ?_) (fun d => ?_)
  · pointwise [p128]
    rw [hm]; rfl
  · pointwise [p512]
    simp only [hm, dite_eq_ite, ite_self]; rfl
  · pointwise [lBot, sum128, sum512, spread256]
  · pointwise [aBot, v128, v512]
end Diagonal

/-- An off-diagonal step keeps the state of a row. -/
theorem step_state (q k v : FVec Ideal S512x128 .bf16) (i : Fin 512) (hq : ∀ d, Real? (q (ix2 i d))) (hk : ∀ j d, Real? (k (ix2 j d)))
    (m l a : FVec Ideal S512x128 .f32) (W : ℝ) (B : Fin 128 → EReal)
    (h : State (fun d => m (ix2 i d)) (fun d => l (ix2 i d)) (fun d => a (ix2 i d)) W B) :
    State (fun d => mStep q k m (ix2 i d)) (fun d => lStep q k m l (ix2 i d)) (fun d => aStep q k v m a (ix2 i d))
      (W + ∑ j, wt (sB q k (ix2 i j))) (fun d => B d + ∑ j, ((wt (sB q k (ix2 i j)) : ℝ) : EReal) * v (ix2 j d)) := by
  have hs : ∀ j, sB q k (ix2 i j) ≠ ⊤ := fun j => by rw [sB_apply]; exact (dot_real q k i j hq (hk j)).ne_top
  have hm : ∃ μ : ℝ, ∀ d : Fin 128, mStep q k m (ix2 i d) = (μ : EReal) := by
    obtain ⟨μ₀, h0, -, -⟩ := h
    obtain ⟨μ, hμ⟩ := max_real (EReal.coe_ne_top μ₀)
      (fold_max_ne_top Finset.univ (fun j => sB q k (ix2 i j)) ⊥ bot_ne_top hs) (Or.inl (EReal.coe_ne_bot μ₀))
    refine ⟨μ, fun d => ?_⟩
    rw [← hμ, ← h0 d]
    pointwise [mStep, maxB, spread512]
    rw [neg_inf]
  obtain ⟨μ, hm⟩ := hm
  refine State.step h (fun j => sB q k (ix2 i j)) (fun j => pB (sB q k) (mStep q k m) (ix2 i j)) (fun j d => v (ix2 j d)) hs
    ⟨μ, hm, fun j => ?_⟩ (fun d => ?_) (fun d => ?_)
  · pointwise [pB]
    simp only [hm, dite_eq_ite, ite_self]; rfl
  · pointwise [lStep, sumB, spread512]
    rw [exp2_eq]
  · pointwise [aStep, vB]
    rw [exp2_eq]

end Cert.Proof.MlaRows

end
-- ==== Proof.MlaHead.lean ====
/- One head of one tile of the latent attention: its result at a row is the weighted mean of the values over the sixteen
   meta rows and the sequence rows whose chunk is no later than the query's. -/
module

public import proofs.«01_k».proof.Proof.MlaRows

@[expose] public section

set_option maxRecDepth 16384

noncomputable section

namespace Cert.Proof.MlaHead

open Cert.MlaIdeal Cert.MlaIdeal.Gen Idealize.ShloMosaic Idealize.ShloMosaic.TcCoe Idealize.SL.Sem
open Cert.Proof.MlaModel Cert.Proof.Weights Cert.Proof.Masks Cert.Proof.MlaRows

/-! ## What one row of the attention is -/

/-- A query row's score against a key row. -/
def sc (Q k : Fin 128 → EReal) : EReal := ∑ d, Q d * k d

/-- The weight of sequence row `j` for the query in row `r`: nothing where `j`'s chunk of 64 comes after `r`'s. -/
def kw (Q : Fin 128 → EReal) (K : ℕ → Fin 128 → EReal) (r j : ℕ) : ℝ := if j / 64 ≤ r / 64 then wt (sc Q (K j)) else 0

/-- All the weights together. -/
def total (Q : Fin 128 → EReal) (MK K : ℕ → Fin 128 → EReal) (r : ℕ) : ℝ :=
  (∑ j ∈ Finset.range 16, wt (sc Q (MK j))) + ∑ j ∈ Finset.range 2048, kw Q K r j

/-- The weighted values together. -/
def mass (Q : Fin 128 → EReal) (MK K : ℕ → Fin 128 → EReal) (MV V : ℕ → EReal) (r : ℕ) : EReal :=
  (∑ j ∈ Finset.range 16, ((wt (sc Q (MK j)) : ℝ) : EReal) * MV j) + ∑ j ∈ Finset.range 2048, ((kw Q K r j : ℝ) : EReal) * V j

/-- The attention's result: the weighted mean. -/
def mean (Q : Fin 128 → EReal) (MK K : ℕ → Fin 128 → EReal) (MV V : ℕ → EReal) (r : ℕ) : EReal :=
  (((total Q MK K r)⁻¹ : ℝ) : EReal) * mass Q MK K MV V r

/-! ## Sums in blocks of 512 -/

/-- A block's part of a sum over the sequence. -/
def part {M : Type*} [AddCommMonoid M] (f : ℕ → M) (t : ℕ) : M := ∑ j ∈ Finset.range 512, f (512 * t + j)

theorem sum_parts {M : Type*} [AddCommMonoid M] (f : ℕ → M) : ∑ j ∈ Finset.range 2048, f j = part f 0 + part f 1 + part f 2 + part f 3 := by
  unfold part
  rw [show 2048 = 512 + 512 + 512 + 512 from rfl, Finset.sum_range_add, Finset.sum_range_add, Finset.sum_range_add]
  simp only [Nat.mul_zero, Nat.zero_add, Nat.mul_one, Nat.reduceAdd, Nat.reduceMul]

theorem part_zero {M : Type*} [AddCommMonoid M] (f : ℕ → M) (t : ℕ) (h : ∀ j, 512 * t ≤ j → f j = 0) : part f t = 0 :=
  Finset.sum_eq_zero fun j _ => h _ (Nat.le_add_right _ _)

theorem part_fin {M : Type*} [AddCommMonoid M] (f : ℕ → M) (t : ℕ) (g : Fin 512 → M) (h : ∀ j, g j = f (512 * t + j.val)) :
    ∑ j, g j = part f t := by
  rw [part, Finset.sum_range]; exact Finset.sum_congr rfl fun j _ => h j

/-- A half block's sum is the block's where the other half adds nothing. -/
theorem part_half {M : Type*} [AddCommMonoid M] (f : ℕ → M) (t : ℕ) (g : Fin 256 → M) (h : ∀ j, g j = f (512 * t + j.val))
    (h0 : ∀ j, 256 ≤ j → j < 512 → f (512 * t + j) = 0) : ∑ j, g j = part f t := by
  rw [part, show 512 = 256 + 256 from rfl, Finset.sum_range_add, Finset.sum_range, Finset.sum_eq_zero (s := Finset.range 256), add_zero]
  · exact Finset.sum_congr rfl fun j _ => h j
  · intro x hx; rw [Finset.mem_range] at hx; exact h0 _ (by omega) (by omega)

/-- The sum over 128 padded meta rows is the one over the sixteen that are there. -/
theorem sum_meta {M : Type*} [AddCommMonoid M] (f : ℕ → M) (g : Fin 128 → M) (h : ∀ j : Fin 128, j.val < 16 → g j = f j.val)
    (h0 : ∀ j : Fin 128, 16 ≤ j.val → g j = 0) : ∑ j, g j = ∑ j ∈ Finset.range 16, f j := by
  have e : ∑ j, g j = ∑ j ∈ Finset.range 128, (if j < 16 then f j else 0) := by
    rw [Finset.sum_range]
    refine Finset.sum_congr rfl fun j _ => ?_
    split_ifs with hj
    · exact h j hj
    · exact h0 j (by omega)
  rw [e, show 128 = 16 + 112 from rfl, Finset.sum_range_add, Finset.sum_eq_zero (s := Finset.range 112), add_zero]
  · exact Finset.sum_congr rfl fun j hj => if_pos (Finset.mem_range.mp hj)
  · intro x _; exact if_neg (by omega)

/-- The weight of a masked score. -/
theorem wt_ite {p : Prop} [Decidable p] (x : EReal) : wt (if p then x else ⊥) = if p then wt x else 0 := by
  split_ifs
  · rfl
  · exact wt_bot

section Tile

/- A tile's queries, the two blocks of meta rows, and the rows that they and the sequence's rows hold. -/
variable (q : FVec Ideal S512x128 .bf16) (mk mv : Vec Ideal S128x128 .bf16) (n : ℕ) (i : Fin 512)
variable (MK MV K V : ℕ → Fin 128 → EReal)
variable (hq : ∀ d, Real? (q (ix2 i d))) (hMK : ∀ j < 16, ∀ d, Real? (MK j d)) (hK : ∀ j d, Real? (K j d))
variable (hmk : ∀ j : Fin 128, j.val < 16 → ∀ d, mk (ix2 j d) = MK j.val d) (hmv : ∀ j : Fin 128, j.val < 16 → ∀ d, mv (ix2 j d) = MV j.val d)

/-- The query row. -/
def qrow : Fin 128 → EReal := fun d => q (ix2 i d)

include hq hMK hK hmk hmv in
/-- After the diagonal step a row holds the meta rows and its own tile. -/
theorem diag_state (kt vt : Vec Ideal S256x128 .bf16) (kb vb : Vec Ideal S512x128 .bf16)
    (hkt : ∀ j d, kt (ix2 j d) = K (512 * n + j.val) d) (hvt : ∀ j d, vt (ix2 j d) = V (512 * n + j.val) d)
    (hkb : ∀ j d, kb (ix2 j d) = K (512 * n + j.val) d) (hvb : ∀ j d, vb (ix2 j d) = V (512 * n + j.val) d) :
    State (fun d => mD q mk kt kb (ix2 i d)) (fun d => lD q mk kt kb (ix2 i d)) (fun d => aD q mk mv kt vt kb vb (ix2 i d))
      ((∑ j ∈ Finset.range 16, wt (sc (qrow q i) (MK j))) + part (kw (qrow q i) K (512 * n + i.val)) n)
      (fun d => (∑ j ∈ Finset.range 16, ((wt (sc (qrow q i) (MK j)) : ℝ) : EReal) * MV j d)
        + part (fun j => ((kw (qrow q i) K (512 * n + i.val) j : ℝ) : EReal) * V j d) n) := by
  have hmk' : ∀ j : Fin 128, j.val < 16 → ∀ d, Real? (mk (ix2 j d)) := fun j h d => by rw [hmk j h]; exact hMK _ h d
  by_cases hi : i.val < 256
  · have hqi : ∀ d, qTop q (ix2 (⟨i.val, hi⟩ : Fin 256) d) = q (ix2 i d) := fun d => by
      pointwise [qTop]
    have key := top_state (qTop q) mk mv ⟨i.val, hi⟩ (fun d => by rw [hqi]; exact hq d) hmk' kt vt (fun j d => by rw [hkt]; exact hK _ d)
    have hm : ∀ j, wt (sMeta (qTop q) mk (ix2 (⟨i.val, hi⟩ : Fin 256) j)) = if j.val < 16 then wt (sc (qrow q i) (MK j.val)) else 0 := fun j => by
      rw [sMeta_apply, wt_ite]
      refine ite_congr rfl (fun h => ?_) fun _ => rfl
      simp only [hqi, hmk j h]; rfl
    have hs : ∀ j : Fin 256, wt (sTop (qTop q) kt (ix2 (⟨i.val, hi⟩ : Fin 256) j)) = kw (qrow q i) K (512 * n + i.val) (512 * n + j.val) := fun j => by
      rw [sTop_apply, wt_ite, kw]
      refine ite_congr (propext ⟨fun h => by dsimp only at h; omega, fun h => by dsimp only; omega⟩) (fun h => ?_) fun _ => rfl
      simp only [hqi, hkt]; rfl
    have h0 : ∀ j, 256 ≤ j → j < 512 → kw (qrow q i) K (512 * n + i.val) (512 * n + j) = 0 := fun j h h' => if_neg (by omega)
    convert key using 1
    · funext d; simp only [mD]; pointwise [join]; rw [dif_pos hi]
    · funext d; simp only [lD]; pointwise [join]; rw [dif_pos hi]
    · funext d; simp only [aD]; pointwise [join]; rw [dif_pos hi]
    · congr 1
      · exact (sum_meta _ _ (fun j h => by rw [hm, if_pos h]) (fun j h => by rw [hm, if_neg (by omega)])).symm
      · exact (part_half _ n _ hs h0).symm
    · funext d
      congr 1
      · exact (sum_meta _ _ (fun j h => by rw [hm, if_pos h, hmv j h]) (fun j h => by rw [hm, if_neg (by omega), EReal.coe_zero, zero_mul])).symm
      · exact (part_half _ n _ (fun j => by rw [hs, hvt]) (fun j h h' => by rw [h0 j h h', EReal.coe_zero, zero_mul])).symm
  · have hi' : i.val - 256 < 256 := by omega
    have hqi : ∀ d, qBot q (ix2 (⟨i.val - 256, hi'⟩ : Fin 256) d) = q (ix2 i d) := fun d => by
      pointwise [qBot]
      congr 2; apply Fin.ext; simp only; omega
    have key := bot_state (qBot q) mk mv ⟨i.val - 256, hi'⟩ (fun d => by rw [hqi]; exact hq d) hmk' kb vb (fun j d => by rw [hkb]; exact hK _ d)
    have hm : ∀ j, wt (sMeta (qBot q) mk (ix2 (⟨i.val - 256, hi'⟩ : Fin 256) j)) = if j.val < 16 then wt (sc (qrow q i) (MK j.val)) else 0 := fun j => by
      rw [sMeta_apply, wt_ite]
      refine ite_congr rfl (fun h => ?_) fun _ => rfl
      simp only [hqi, hmk j h]; rfl
    have hs : ∀ j : Fin 512, wt (sBot (qBot q) kb (ix2 (⟨i.val - 256, hi'⟩ : Fin 256) j)) = kw (qrow q i) K (512 * n + i.val) (512 * n + j.val) := fun j => by
      rw [sBot_apply, wt_ite, kw]
      refine ite_congr (propext ⟨fun h => by dsimp only at h; omega, fun h => by dsimp only; omega⟩) (fun h => ?_) fun _ => rfl
      simp only [hqi, hkb]; rfl
    convert key using 1
    · funext d; simp only [mD]; pointwise [join]; rw [dif_neg hi]
    · funext d; simp only [lD]; pointwise [join]; rw [dif_neg hi]
    · funext d; simp only [aD]; pointwise [join]; rw [dif_neg hi]
    · congr 1
      · exact (sum_meta _ _ (fun j h => by rw [hm, if_pos h]) (fun j h => by rw [hm, if_neg (by omega)])).symm
      · exact (part_fin _ n _ hs).symm
    · funext d
      congr 1
      · exact (sum_meta _ _ (fun j h => by rw [hm, if_pos h, hmv j h]) (fun j h => by rw [hm, if_neg (by omega), EReal.coe_zero, zero_mul])).symm
      · exact (part_fin _ n _ (fun j => by rw [hs, hvb])).symm

include hq hK in
/-- An earlier tile's step adds that tile. -/
theorem tile_step (k v : FVec Ideal S512x128 .bf16) (t : ℕ) (ht : t < n)
    (hk : ∀ j d, k (ix2 j d) = K (512 * t + j.val) d) (hv : ∀ j d, v (ix2 j d) = V (512 * t + j.val) d)
    (m l a : FVec Ideal S512x128 .f32) (W : ℝ) (B : Fin 128 → EReal)
    (h : State (fun d => m (ix2 i d)) (fun d => l (ix2 i d)) (fun d => a (ix2 i d)) W B) :
    State (fun d => mStep q k m (ix2 i d)) (fun d => lStep q k m l (ix2 i d)) (fun d => aStep q k v m a (ix2 i d))
      (W + part (kw (qrow q i) K (512 * n + i.val)) t)
      (fun d => B d + part (fun j => ((kw (qrow q i) K (512 * n + i.val) j : ℝ) : EReal) * V j d) t) := by
  have hs : ∀ j : Fin 512, wt (sB q k (ix2 i j)) = kw (qrow q i) K (512 * n + i.val) (512 * t + j.val) := fun j => by
    rw [sB_apply, kw, if_pos (by omega)]
    simp only [hk]; rfl
  have key := step_state q k v i hq (fun j d => by rw [hk]; exact hK _ d) m l a W B h
  convert key using 1
  · congr 1; exact (part_fin _ t _ hs).symm
  · funext d; congr 1; exact (part_fin _ t _ (fun j => by rw [hs, hv])).symm

include hMK hq in
/-- A row's weights are positive together. -/
theorem total_pos : 0 < total (qrow q i) MK K (512 * n + i.val) := by
  have h1 : 0 < ∑ j ∈ Finset.range 16, wt (sc (qrow q i) (MK j)) :=
    Finset.sum_pos (fun j hj => wt_pos (Real?.sum _ _ fun d _ => (hq d).mul (hMK j (Finset.mem_range.mp hj) d)).ne_bot) ⟨0, by simp⟩
  refine add_pos_of_pos_of_nonneg h1 (Finset.sum_nonneg fun j _ => ?_)
  unfold kw; split_ifs
  · exact wt_nonneg _
  · exact le_rfl

include hMK hq in
/-- The quotient of a state that holds every weight is the mean. -/
theorem finish (m l a : FVec Ideal S512x128 .f32) (W : ℝ) (B : Fin 128 → EReal)
    (h : State (fun d => m (ix2 i d)) (fun d => l (ix2 i d)) (fun d => a (ix2 i d)) W B)
    (hW : W = total (qrow q i) MK K (512 * n + i.val)) (d : Fin 128)
    (hB : B d = mass (qrow q i) MK K (fun j => MV j d) (fun j => V j d) (512 * n + i.val)) :
    divf a l (ix2 i d) = mean (qrow q i) MK K (fun j => MV j d) (fun j => V j d) (512 * n + i.val) := by
  have := State.quot h (hW ▸ total_pos q n i MK K hq hMK) d
  rw [mean, ← hW, ← hB, ← this]
  rfl

/-- Later tiles hold no weight for the row. -/
theorem kw_later {t : ℕ} (ht : n < t) (Q : Fin 128 → EReal) (j : ℕ) (hj : 512 * t ≤ j) : kw Q K (512 * n + i.val) j = 0 :=
  if_neg (by omega)

theorem part_later (t : ℕ) (ht : n < t) (Q : Fin 128 → EReal) : part (kw Q K (512 * n + i.val)) t = 0 :=
  part_zero _ t fun j hj => kw_later n i K ht Q j hj

theorem part_later' (t : ℕ) (ht : n < t) (Q : Fin 128 → EReal) (v : ℕ → EReal) :
    part (fun j => ((kw Q K (512 * n + i.val) j : ℝ) : EReal) * v j) t = 0 :=
  part_zero _ t fun j hj => by rw [kw_later n i K ht Q j hj, EReal.coe_zero, zero_mul]

end Tile

/-- What the four blocks of keys and of values have to hold for tile `n`: rows 512·t of the sequence. -/
def Holds (K : ℕ → Fin 128 → EReal) (t : ℕ) (k : FVec Ideal S512x128 .bf16) : Prop := ∀ j d, k (ix2 j d) = K (512 * t + j.val) d
def HoldsHalf (K : ℕ → Fin 128 → EReal) (t : ℕ) (k : FVec Ideal S256x128 .bf16) : Prop := ∀ j d, k (ix2 j d) = K (512 * t + j.val) d

section Heads
variable (q : FVec Ideal S512x128 .bf16) (mk mv : FVec Ideal S128x128 .bf16) (i : Fin 512) (d : Fin 128)
variable (MK MV K V : ℕ → Fin 128 → EReal)
variable (hq : ∀ d, Real? (q (ix2 i d))) (hMK : ∀ j < 16, ∀ d, Real? (MK j d)) (hK : ∀ j d, Real? (K j d))
variable (hmk : ∀ j : Fin 128, j.val < 16 → ∀ d, mk (ix2 j d) = MK j.val d) (hmv : ∀ j : Fin 128, j.val < 16 → ∀ d, mv (ix2 j d) = MV j.val d)
variable (kt vt : FVec Ideal S256x128 .bf16) (kb vb k0 v0 k1 v1 k2 v2 : FVec Ideal S512x128 .bf16)
include hq hMK hK hmk hmv

theorem head0_apply (hkt : HoldsHalf K 0 kt) (hvt : HoldsHalf V 0 vt) (hkb : Holds K 0 kb) (hvb : Holds V 0 vb) :
    head0 q mk mv kt vt kb vb (ix2 i d) = mean (qrow q i) MK K (fun j => MV j d) (fun j => V j d) (512 * 0 + i.val) := by
  refine finish q 0 i MK MV K V hq hMK _ _ _ _ _ (diag_state q mk mv 0 i MK MV K V hq hMK hK hmk hmv kt vt kb vb hkt hvt hkb hvb) ?_ d ?_
  · rw [total, sum_parts, part_later 0 i K 1 (by decide), part_later 0 i K 2 (by decide), part_later 0 i K 3 (by decide)]
    simp only [add_zero]
  · rw [mass, sum_parts, part_later' 0 i K 1 (by decide), part_later' 0 i K 2 (by decide), part_later' 0 i K 3 (by decide)]
    simp only [add_zero]

theorem head1_apply (hkt : HoldsHalf K 1 kt) (hvt : HoldsHalf V 1 vt) (hkb : Holds K 1 kb) (hvb : Holds V 1 vb) (hk0 : Holds K 0 k0) (hv0 : Holds V 0 v0) :
    head1 q mk mv kt vt kb vb k0 v0 (ix2 i d) = mean (qrow q i) MK K (fun j => MV j d) (fun j => V j d) (512 * 1 + i.val) := by
  refine finish q 1 i MK MV K V hq hMK _ _ _ _ _
    (tile_step q 1 i K V hq hK k0 v0 0 (by omega) hk0 hv0 _ _ _ _ _
    (diag_state q mk mv 1 i MK MV K V hq hMK hK hmk hmv kt vt kb vb hkt hvt hkb hvb)) ?_ d ?_
  · rw [total, sum_parts, part_later 1 i K 2 (by decide), part_later 1 i K 3 (by decide)]
    simp only [add_zero]; ac_rfl
  · rw [mass, sum_parts, part_later' 1 i K 2 (by decide), part_later' 1 i K 3 (by decide)]
    simp only [add_zero]; ac_rfl

theorem head2_apply (hkt : HoldsHalf K 2 kt) (hvt : HoldsHalf V 2 vt) (hkb : Holds K 2 kb) (hvb : Holds V 2 vb) (hk0 : Holds K 0 k0) (hv0 : Holds V 0 v0)
    (hk1 : Holds K 1 k1) (hv1 : Holds V 1 v1) :
    head2 q mk mv kt vt kb vb k0 v0 k1 v1 (ix2 i d) = mean (qrow q i) MK K (fun j => MV j d) (fun j => V j d) (512 * 2 + i.val) := by
  refine finish q 2 i MK MV K V hq hMK _ _ _ _ _
    (tile_step q 2 i K V hq hK k1 v1 1 (by omega) hk1 hv1 _ _ _ _ _ (tile_step q 2 i K V hq hK k0 v0 0 (by omega) hk0 hv0 _ _ _ _ _
    (diag_state q mk mv 2 i MK MV K V hq hMK hK hmk hmv kt vt kb vb hkt hvt hkb hvb))) ?_ d ?_
  · rw [total, sum_parts, part_later 2 i K 3 (by decide)]
    simp only [add_zero]; ac_rfl
  · rw [mass, sum_parts, part_later' 2 i K 3 (by decide)]
    simp only [add_zero]; ac_rfl

theorem head3_apply (hkt : HoldsHalf K 3 kt) (hvt : HoldsHalf V 3 vt) (hkb : Holds K 3 kb) (hvb : Holds V 3 vb) (hk0 : Holds K 0 k0) (hv0 : Holds V 0 v0)
    (hk1 : Holds K 1 k1) (hv1 : Holds V 1 v1) (hk2 : Holds K 2 k2) (hv2 : Holds V 2 v2) :
    head3 q mk mv kt vt kb vb k0 v0 k1 v1 k2 v2 (ix2 i d) = mean (qrow q i) MK K (fun j => MV j d) (fun j => V j d) (512 * 3 + i.val) := by
  refine finish q 3 i MK MV K V hq hMK _ _ _ _ _
    (tile_step q 3 i K V hq hK k2 v2 2 (by omega) hk2 hv2 _ _ _ _ _ (tile_step q 3 i K V hq hK k1 v1 1 (by omega) hk1 hv1 _ _ _ _ _
    (tile_step q 3 i K V hq hK k0 v0 0 (by omega) hk0 hv0 _ _ _ _ _
    (diag_state q mk mv 3 i MK MV K V hq hMK hK hmk hmv kt vt kb vb hkt hvt hkb hvb)))) ?_ d ?_
  · rw [total, sum_parts]; ac_rfl
  · rw [mass, sum_parts]; ac_rfl
end Heads

end Cert.Proof.MlaHead

end
-- ==== Proof.MlaBlock.lean ====
/- The latent attention's body on one grid point: its block of results, element by element, is the attention's weighted
   mean over the point's blocks of queries, keys, values and meta rows. -/
module

public import proofs.«01_k».proof.Proof.MlaHead
public import Idealize.ShloMosaic.Lib.Pipeline.ValueKit

@[expose] public section

set_option maxRecDepth 16384

noncomputable section

namespace Cert.Proof.MlaBlock

open Cert.MlaIdeal Cert.MlaIdeal.Gen Idealize.ShloMosaic Idealize.ShloMosaic.TcCoe Idealize.SL.Sem
open Cert.Proof.MlaModel Cert.Proof.Weights Cert.Proof.MlaHead

/-- A block read off by numbers: row `r`, column `c`. -/
def Reads {n k : ℕ} (x : FVec Ideal ⟨2, ![n, k]⟩ .bf16) (X : ℕ → ℕ → EReal) : Prop := ∀ r c, x (ix2 r c) = X r.val c.val

/-- A load of 512 rows and 128 columns of a block, at rows from `a` and columns from `b`. -/
theorem ld_apply {n k p : ℕ} {x : FVec Ideal ⟨2, ![n, k]⟩ .bf16} {X : ℕ → ℕ → EReal} (hx : Reads x X) (a b : ℕ)
    (inb : ∀ i, ![a, b] i + (⟨2, ![p, 128]⟩ : Shape).size i ≤ (⟨2, ![n, k]⟩ : Shape).size i) (j : Fin p) (d : Fin 128) :
    (View.ld (Val := Elt Ideal) (e' := .bf16) x (Rect.unit (s := ⟨2, ![n, k]⟩) ![a, b] (⟨2, ![p, 128]⟩ : Shape).size inb) : FVec Ideal ⟨2, ![p, 128]⟩ .bf16) (ix2 j d) = X (a + j.val) (b + d.val) := by
  have ha : a + j.val < n := by have := inb 0; have h := j.isLt; simp at this; omega
  have hb : b + d.val < k := by have := inb 1; have h := d.isLt; simp at this; omega
  refine (congrArg x (?_ : _ = ix2 ⟨a + j.val, ha⟩ ⟨b + d.val, hb⟩)).trans (hx _ _)
  funext c
  apply Fin.ext
  match c with
  | 0 => show a + 1 * j.val = a + j.val; rw [Nat.one_mul]
  | 1 => show b + 1 * d.val = b + d.val; rw [Nat.one_mul]

theorem meta_at {k : ℕ} {x : FVec Ideal ⟨2, ![128, k]⟩ .bf16} {X : ℕ → ℕ → EReal} (hx : Reads x X) (b : ℕ)
    (inb : ∀ i, ![0, b] i + (⟨2, ![128, 128]⟩ : Shape).size i ≤ (⟨2, ![128, k]⟩ : Shape).size i) (j : Fin 128) (_ : j.val < 16) (d : Fin 128) :
    (View.ld (Val := Elt Ideal) (e' := .bf16) x (Rect.unit (s := ⟨2, ![128, k]⟩) ![0, b] (⟨2, ![128, 128]⟩ : Shape).size inb) : FVec Ideal ⟨2, ![128, 128]⟩ .bf16) (ix2 j d)
      = X j.val (b + d.val) := by
  rw [ld_apply hx, Nat.zero_add]

section
variable (x0 x1 : FVec Ideal S2048x256 .bf16) (x2 : FVec Ideal S2048x128 .bf16) (x3 : FVec Ideal S128x256 .bf16) (x4 : FVec Ideal S128x128 .bf16)
variable (Q K V MK MV : ℕ → ℕ → EReal)
variable (h0 : Reads x0 Q) (h1 : Reads x1 K) (h2 : Reads x2 V) (h3 : Reads x3 MK) (h4 : Reads x4 MV)
variable (hQ : ∀ r c, Real? (Q r c)) (hK : ∀ r c, Real? (K r c)) (hMK : ∀ r < 16, ∀ c, Real? (MK r c))

/-- The attention over the blocks, row `r`, lane `l`: the head of the pair that the lane belongs to. -/
def blockMean (r l : ℕ) : EReal :=
  mean (fun d => Q r (128 * (l / 64) + d.val)) (fun j d => MK j (128 * (l / 64) + d.val)) (fun j d => K j (128 * (l / 64) + d.val))
    (fun j => MV j l) (fun j => V j l) r

theorem pick_apply (a b : FVec Ideal S512x128 .f32) (i : Fin 512) (l : Fin 128) :
    pick a b (ix2 i l) = if l.val < 64 then a (ix2 i l) else b (ix2 i l) := by
  pointwise [pick]
  word_cmp

include h0 in
theorem qL_row (a : ℕ) (inb) (i : Fin 512) (d : Fin 128) :
    qL (F := Ideal) (View.ld x0 (Rect.unit (s := S2048x256) ![a, 0] S512x256.size inb)) (ix2 i d) = Q (a + i.val) (128 * 0 + d.val) := by
  pointwise [qL]
  exact h0 _ _

include h0 in
theorem qR_row (a : ℕ) (inb) (i : Fin 512) (d : Fin 128) :
    qR (F := Ideal) (View.ld x0 (Rect.unit (s := S2048x256) ![a, 0] S512x256.size inb)) (ix2 i d) = Q (a + i.val) (128 * 1 + d.val) := by
  pointwise [qR]
  exact h0 _ _

/-- The mean of a row depends on the query row by its entries alone. -/
theorem mean_qrow (q : FVec Ideal S512x128 .bf16) (i : Fin 512) (Q' : Fin 128 → EReal) (h : ∀ d, q (ix2 i d) = Q' d) : qrow q i = Q' := funext h

include h0 h1 h2 h3 h4 hQ hK hMK

theorem tile0_apply (i : Fin 512) (l : Fin 128) : tile0 (F := Ideal) x0 x1 x2 x3 x4 (ix2 i l) = blockMean Q K V MK MV (512 * 0 + i.val) l.val := by
  unfold tile0 blockMean
  rw [pick_apply]
  split_ifs with hl
  · refine (head0_apply _ _ _ i l (fun j d => MK j (128 * 0 + d.val)) (fun j d => MV j (0 + d.val)) (fun j d => K j (128 * 0 + d.val)) (fun j d => V j (0 + d.val))
      (fun d => (qL_row x0 Q h0 0 _ i d).symm ▸ hQ _ _) (fun j hj d => hMK j hj _) (fun j d => hK _ _) (meta_at h3 0 _) (meta_at h4 0 _) _ _ _ _
      (ld_apply h1 0 0 _) (ld_apply h2 0 0 _)
      (ld_apply h1 0 0 _) (ld_apply h2 0 0 _)).trans ?_
    rw [show l.val / 64 = 0 by omega, mean_qrow _ i _ (qL_row x0 Q h0 _ _ i)]
    simp only [Nat.zero_add, Nat.mul_zero]
  · refine (head0_apply _ _ _ i l (fun j d => MK j (128 * 1 + d.val)) (fun j d => MV j (0 + d.val)) (fun j d => K j (128 * 1 + d.val)) (fun j d => V j (0 + d.val))
      (fun d => (qR_row x0 Q h0 0 _ i d).symm ▸ hQ _ _) (fun j hj d => hMK j hj _) (fun j d => hK _ _) (meta_at h3 128 _) (meta_at h4 0 _) _ _ _ _
      (ld_apply h1 0 128 _) (ld_apply h2 0 0 _)
      (ld_apply h1 0 128 _) (ld_apply h2 0 0 _)).trans ?_
    rw [show l.val / 64 = 1 by omega, mean_qrow _ i _ (qR_row x0 Q h0 _ _ i)]
    simp only [Nat.zero_add, Nat.mul_zero]

theorem tile1_apply (i : Fin 512) (l : Fin 128) : tile1 (F := Ideal) x0 x1 x2 x3 x4 (ix2 i l) = blockMean Q K V MK MV (512 * 1 + i.val) l.val := by
  unfold tile1 blockMean
  rw [pick_apply]
  split_ifs with hl
  · refine (head1_apply _ _ _ i l (fun j d => MK j (128 * 0 + d.val)) (fun j d => MV j (0 + d.val)) (fun j d => K j (128 * 0 + d.val)) (fun j d => V j (0 + d.val))
      (fun d => (qL_row x0 Q h0 512 _ i d).symm ▸ hQ _ _) (fun j hj d => hMK j hj _) (fun j d => hK _ _) (meta_at h3 0 _) (meta_at h4 0 _) _ _ _ _ _ _
      (ld_apply h1 512 0 _) (ld_apply h2 512 0 _)
      (ld_apply h1 512 0 _) (ld_apply h2 512 0 _)
      (ld_apply h1 0 0 _) (ld_apply h2 0 0 _)).trans ?_
    rw [show l.val / 64 = 0 by omega, mean_qrow _ i _ (qL_row x0 Q h0 _ _ i)]
    simp only [Nat.zero_add, Nat.mul_zero]
  · refine (head1_apply _ _ _ i l (fun j d => MK j (128 * 1 + d.val)) (fun j d => MV j (0 + d.val)) (fun j d => K j (128 * 1 + d.val)) (fun j d => V j (0 + d.val))
      (fun d => (qR_row x0 Q h0 512 _ i d).symm ▸ hQ _ _) (fun j hj d => hMK j hj _) (fun j d => hK _ _) (meta_at h3 128 _) (meta_at h4 0 _) _ _ _ _ _ _
      (ld_apply h1 512 128 _) (ld_apply h2 512 0 _)
      (ld_apply h1 512 128 _) (ld_apply h2 512 0 _)
      (ld_apply h1 0 128 _) (ld_apply h2 0 0 _)).trans ?_
    rw [show l.val / 64 = 1 by omega, mean_qrow _ i _ (qR_row x0 Q h0 _ _ i)]
    simp only [Nat.zero_add, Nat.mul_zero]

theorem tile2_apply (i : Fin 512) (l : Fin 128) : tile2 (F := Ideal) x0 x1 x2 x3 x4 (ix2 i l) = blockMean Q K V MK MV (512 * 2 + i.val) l.val := by
  unfold tile2 blockMean
  rw [pick_apply]
  split_ifs with hl
  · refine (head2_apply _ _ _ i l (fun j d => MK j (128 * 0 + d.val)) (fun j d => MV j (0 + d.val)) (fun j d => K j (128 * 0 + d.val)) (fun j d => V j (0 + d.val))
      (fun d => (qL_row x0 Q h0 1024 _ i d).symm ▸ hQ _ _) (fun j hj d => hMK j hj _) (fun j d => hK _ _) (meta_at h3 0 _) (meta_at h4 0 _) _ _ _ _ _ _ _ _
      (ld_apply h1 1024 0 _) (ld_apply h2 1024 0 _)
      (ld_apply h1 1024 0 _) (ld_apply h2 1024 0 _)
      (ld_apply h1 0 0 _) (ld_apply h2 0 0 _)
      (ld_apply h1 512 0 _) (ld_apply h2 512 0 _)).trans ?_
    rw [show l.val / 64 = 0 by omega, mean_qrow _ i _ (qL_row x0 Q h0 _ _ i)]
    simp only [Nat.zero_add, Nat.mul_zero]
  · refine (head2_apply _ _ _ i l (fun j d => MK j (128 * 1 + d.val)) (fun j d => MV j (0 + d.val)) (fun j d => K j (128 * 1 + d.val)) (fun j d => V j (0 + d.val))
      (fun d => (qR_row x0 Q h0 1024 _ i d).symm ▸ hQ _ _) (fun j hj d => hMK j hj _) (fun j d => hK _ _) (meta_at h3 128 _) (meta_at h4 0 _) _ _ _ _ _ _ _ _
      (ld_apply h1 1024 128 _) (ld_apply h2 1024 0 _)
      (ld_apply h1 1024 128 _) (ld_apply h2 1024 0 _)
      (ld_apply h1 0 128 _) (ld_apply h2 0 0 _)
      (ld_apply h1 512 128 _) (ld_apply h2 512 0 _)).trans ?_
    rw [show l.val / 64 = 1 by omega, mean_qrow _ i _ (qR_row x0 Q h0 _ _ i)]
    simp only [Nat.zero_add, Nat.mul_zero]

theorem tile3_apply (i : Fin 512) (l : Fin 128) : tile3 (F := Ideal) x0 x1 x2 x3 x4 (ix2 i l) = blockMean Q K V MK MV (512 * 3 + i.val) l.val := by
  unfold tile3 blockMean
  rw [pick_apply]
  split_ifs with hl
  · refine (head3_apply _ _ _ i l (fun j d => MK j (128 * 0 + d.val)) (fun j d => MV j (0 + d.val)) (fun j d => K j (128 * 0 + d.val)) (fun j d => V j (0 + d.val))
      (fun d => (qL_row x0 Q h0 1536 _ i d).symm ▸ hQ _ _) (fun j hj d => hMK j hj _) (fun j d => hK _ _) (meta_at h3 0 _) (meta_at h4 0 _) _ _ _ _ _ _ _ _ _ _
      (ld_apply h1 1536 0 _) (ld_apply h2 1536 0 _)
      (ld_apply h1 1536 0 _) (ld_apply h2 1536 0 _)
      (ld_apply h1 0 0 _) (ld_apply h2 0 0 _)
      (ld_apply h1 512 0 _) (ld_apply h2 512 0 _)
      (ld_apply h1 1024 0 _) (ld_apply h2 1024 0 _)).trans ?_
    rw [show l.val / 64 = 0 by omega, mean_qrow _ i _ (qL_row x0 Q h0 _ _ i)]
    simp only [Nat.zero_add, Nat.mul_zero]
  · refine (head3_apply _ _ _ i l (fun j d => MK j (128 * 1 + d.val)) (fun j d => MV j (0 + d.val)) (fun j d => K j (128 * 1 + d.val)) (fun j d => V j (0 + d.val))
      (fun d => (qR_row x0 Q h0 1536 _ i d).symm ▸ hQ _ _) (fun j hj d => hMK j hj _) (fun j d => hK _ _) (meta_at h3 128 _) (meta_at h4 0 _) _ _ _ _ _ _ _ _ _ _
      (ld_apply h1 1536 128 _) (ld_apply h2 1536 0 _)
      (ld_apply h1 1536 128 _) (ld_apply h2 1536 0 _)
      (ld_apply h1 0 128 _) (ld_apply h2 0 0 _)
      (ld_apply h1 512 128 _) (ld_apply h2 512 0 _)
      (ld_apply h1 1024 128 _) (ld_apply h2 1024 0 _)).trans ?_
    rw [show l.val / 64 = 1 by omega, mean_qrow _ i _ (qR_row x0 Q h0 _ _ i)]
    simp only [Nat.zero_add, Nat.mul_zero]

end

end Cert.Proof.MlaBlock

end
-- ==== Proof.MlaArray.lean ====
/- The latent attention's array of results after the run. -/
module

public import proofs.«01_k».proof.Proof.MlaBlock

@[expose] public section

set_option maxRecDepth 16384

noncomputable section

namespace Cert.Proof.MlaArray

open Cert.MlaIdeal Cert.MlaIdeal.Gen Idealize.ShloMosaic Idealize.ShloMosaic.TcCoe Idealize.SL.Sem
open Cert.Proof.MlaModel Cert.Proof.Weights Cert.Proof.MlaHead Cert.Proof.MlaBlock

/-- An array read off by numbers, 0 outside. -/
def num {n k : ℕ} (x : FVec Ideal ⟨2, ![n, k]⟩ .bf16) (r c : ℕ) : EReal := if h : r < n ∧ c < k then x (ix2 ⟨r, h.1⟩ ⟨c, h.2⟩) else 0

theorem num_ix2 {n k : ℕ} (x : FVec Ideal ⟨2, ![n, k]⟩ .bf16) (r : Fin n) (c : Fin k) : num x r.val c.val = x (ix2 r c) := by
  rw [num, dif_pos ⟨r.isLt, c.isLt⟩]

theorem num_real {n k : ℕ} (x : FVec Ideal ⟨2, ![n, k]⟩ .bf16) (h : ∀ i, Real? (x i)) (r c : ℕ) : Real? (num x r c) := by
  unfold num; split_ifs
  · exact h _
  · exact ⟨0, rfl⟩

/-- The attention at row `R`, column `L` of the result: batch `R / 2048`, head `L / 64`. -/
def attn (q k : FVec Ideal S32768x1024 .bf16) (v : FVec Ideal S32768x512 .bf16) (mk : FVec Ideal S16x1024 .bf16) (mv : FVec Ideal S16x512 .bf16)
    (R L : ℕ) : EReal :=
  mean (fun d => num q R (128 * (L / 64) + d.val)) (fun j d => num mk j (128 * (L / 64) + d.val))
    (fun j d => num k (2048 * (R / 2048) + j) (128 * (L / 64) + d.val)) (fun j => num mv j L) (fun j => num v (2048 * (R / 2048) + j) L) (R % 2048)

/-- Four tiles of 512 rows, written to their rows, make one block. -/
theorem canon_apply (g : ℕ → ℕ → EReal) (t0 t1 t2 t3 : FVec Ideal S512x128 .bf16)
    (h0 : ∀ i l, t0 (ix2 i l) = g (512 * 0 + i.val) l.val) (h1 : ∀ i l, t1 (ix2 i l) = g (512 * 1 + i.val) l.val)
    (h2 : ∀ i l, t2 (ix2 i l) = g (512 * 2 + i.val) l.val) (h3 : ∀ i l, t3 (ix2 i l) = g (512 * 3 + i.val) l.val) (y : S2048x128.Idx) :
    View.canon (Val := Elt Ideal) (e := .bf16) [⟨r0_29, t3⟩, ⟨r0_23, t2⟩, ⟨r0_17, t1⟩, ⟨r0_11, t0⟩] y = g (y 0).val (y 1).val := by
  refine View.canon_apply_of_pieces (Val := Elt Ideal) (e := .bf16) (fun y => g (y 0).val (y 1).val) _ ?_ y (cover0_5 _ _ _ _ _)
  intro p hp x
  simp only [List.mem_cons, List.not_mem_nil, or_false] at hp
  have e3 : ∀ x : S512x128.Idx, g ((r0_29.emb x) 0).val ((r0_29.emb x) 1).val = g (1536 + 1 * (x 0).val) (0 + 1 * (x 1).val) := fun _ => rfl
  have e2 : ∀ x : S512x128.Idx, g ((r0_23.emb x) 0).val ((r0_23.emb x) 1).val = g (1024 + 1 * (x 0).val) (0 + 1 * (x 1).val) := fun _ => rfl
  have e1 : ∀ x : S512x128.Idx, g ((r0_17.emb x) 0).val ((r0_17.emb x) 1).val = g (512 + 1 * (x 0).val) (0 + 1 * (x 1).val) := fun _ => rfl
  have e0 : ∀ x : S512x128.Idx, g ((r0_11.emb x) 0).val ((r0_11.emb x) 1).val = g (0 + 1 * (x 0).val) (0 + 1 * (x 1).val) := fun _ => rfl
  simp only [Nat.one_mul, Nat.zero_add] at e0 e1 e2 e3
  have d : ∀ {t : FVec Ideal S512x128 .bf16} {a : ℕ}, (∀ i l, t (ix2 i l) = g (a + i.val) l.val) → ∀ x : S512x128.Idx, t x = g (a + (x 0).val) (x 1).val :=
    fun h x => by idx_vars x; exact h _ _
  rcases hp with rfl | rfl | rfl | rfl
  · exact (d h3 x).trans (e3 x).symm
  · exact (d h2 x).trans (e2 x).symm
  · exact (d h1 x).trans (e1 x).symm
  · exact (d h0 x).trans (by rw [e0 x, Nat.mul_zero, Nat.zero_add])

section
variable (x0 x1 : FVec Ideal S2048x256 .bf16) (x2 : FVec Ideal S2048x128 .bf16) (x3 : FVec Ideal S128x256 .bf16) (x4 : FVec Ideal S128x128 .bf16)
variable (Q K V MK MV : ℕ → ℕ → EReal)

/-- The body's block of results, element by element. -/
theorem out_apply (h0 : Reads x0 Q) (h1 : Reads x1 K) (h2 : Reads x2 V) (h3 : Reads x3 MK) (h4 : Reads x4 MV)
    (hQ : ∀ r c, Real? (Q r c)) (hK : ∀ r c, Real? (K r c)) (hMK : ∀ r < 16, ∀ c, Real? (MK r c)) (y : S2048x128.Idx) :
    out0_5 (F := Ideal) x0 x1 x2 x3 x4 y = blockMean Q K V MK MV (y 0).val (y 1).val := by
  rw [out_eq]
  exact canon_apply (blockMean Q K V MK MV) _ _ _ _ (tile0_apply x0 x1 x2 x3 x4 Q K V MK MV h0 h1 h2 h3 h4 hQ hK hMK)
    (tile1_apply x0 x1 x2 x3 x4 Q K V MK MV h0 h1 h2 h3 h4 hQ hK hMK) (tile2_apply x0 x1 x2 x3 x4 Q K V MK MV h0 h1 h2 h3 h4 hQ hK hMK)
    (tile3_apply x0 x1 x2 x3 x4 Q K V MK MV h0 h1 h2 h3 h4 hQ hK hMK) y
end

theorem pad_wide (x : FVec Ideal S16x1024 .bf16) (v : FVec Ideal S_ .bf16) (j : Fin 16) (d : Fin 1024) :
    pad S128x1024 ![0, 0] ![112, 0] ![0, 0] x v pads_S16x1024_S128x1024_01120_000 h_S_ (ix2 (⟨j.val, by omega⟩ : Fin 128) d) = x (ix2 j d) := by
  pointwise

theorem num_idx {n₀ n₁ : ℕ} (x : FVec Ideal ⟨2, ![n₀, n₁]⟩ .bf16) (p : Shape.Idx ⟨2, ![n₀, n₁]⟩) : x p = num x (p 0).val (p 1).val := by
  rw [num, dif_pos ⟨(p 0).isLt, (p 1).isLt⟩]
  congr 1
  funext a
  fin_cases a <;> rfl

variable (m : (ℓ : Loc nD τ sig) → Buf (Elt Ideal) ℓ)

theorem V_meta (c : Dev nD) (j : Fin 16) (d : Fin 1024) : V m c main_v0 (ix2 (⟨j.val, by omega⟩ : Fin 128) d) = m (c, main_arg3) (ix2 j d) := by
  simp only [V, hostOps0, hostOps0_1, hostOps0_2, hostOps0_3, List.flatten_cons, List.flatten_nil, List.append_nil, List.cons_append, List.nil_append]
  after_results
  exact pad_wide _ _ j d

theorem pad_wide' (x : FVec Ideal S16x512 .bf16) (v : FVec Ideal S_ .bf16) (j : Fin 16) (d : Fin 512) :
    pad S128x512 ![0, 0] ![112, 0] ![0, 0] x v pads_S16x512_S128x512_01120_000 h_S_ (ix2 (⟨j.val, by omega⟩ : Fin 128) d) = x (ix2 j d) := by
  pointwise

theorem V_meta' (c : Dev nD) (j : Fin 16) (d : Fin 512) : V m c main_v1 (ix2 (⟨j.val, by omega⟩ : Fin 128) d) = m (c, main_arg4) (ix2 j d) := by
  simp only [V, hostOps0, hostOps0_1, hostOps0_2, hostOps0_3, List.flatten_cons, List.flatten_nil, List.append_nil, List.cons_append, List.nil_append]
  after_results
  exact pad_wide' _ _ j d

theorem num_meta (c : Dev nD) (j d : ℕ) (hj : j < 16) : num (V m c main_v0) j d = num (m (c, main_arg3)) j d := by
  unfold num
  by_cases hd : d < 1024
  · rw [dif_pos ⟨by omega, hd⟩, dif_pos ⟨hj, hd⟩]
    exact V_meta m c ⟨j, hj⟩ ⟨d, hd⟩
  · rw [dif_neg fun h => hd h.2, dif_neg fun h => hd h.2]

theorem num_meta' (c : Dev nD) (j d : ℕ) (hj : j < 16) : num (V m c main_v1) j d = num (m (c, main_arg4)) j d := by
  unfold num
  by_cases hd : d < 512
  · rw [dif_pos ⟨by omega, hd⟩, dif_pos ⟨hj, hd⟩]
    exact V_meta' m c ⟨j, hj⟩ ⟨d, hd⟩
  · rw [dif_neg fun h => hd h.2, dif_neg fun h => hd h.2]

theorem idx0 (t : Fin cfg0.grid.N) : win0_0.index t = win0_5.index t := rfl
theorem idx1 (t : Fin cfg0.grid.N) : win0_1.index t = win0_5.index t := rfl
theorem idx2 (t : Fin cfg0.grid.N) : win0_2.index t = win0_5.index t := rfl
theorem idx3 (t : Fin cfg0.grid.N) : win0_3.index t = ![0, win0_5.index t 1] := rfl
theorem idx4 (t : Fin cfg0.grid.N) : win0_4.index t = ![0, win0_5.index t 1] := rfl
theorem idx5 : ∀ t : Fin cfg0.grid.N, win0_5.index t 0 < 16 ∧ win0_5.index t 1 < 4 := by decide +kernel

theorem reads0 (c : Dev nD) (t : Fin cfg0.grid.N) : Reads (iblk m c 0 t) fun r d => num (m (c, main_arg0)) (win0_5.index t 0 * 2048 + r) (win0_5.index t 1 * 256 + d) := by
  intro r d
  blk_simp [iblk]
  rw [V_main_arg0]
  refine (num_idx (m (c, main_arg0)) ((win0_0.blk t).view.emb (ix2 r d))).trans (congrArg₂ (num _) ?_ ?_)
  · show win0_0.index t 0 * 2048 + 1 * r.val = _
    rw [idx0, Nat.one_mul]
  · show win0_5.index t 1 * 256 + 1 * d.val = _
    rw [Nat.one_mul]

theorem reads1 (c : Dev nD) (t : Fin cfg0.grid.N) : Reads (iblk m c 1 t) fun r d => num (m (c, main_arg1)) (win0_5.index t 0 * 2048 + r) (win0_5.index t 1 * 256 + d) := by
  intro r d
  blk_simp [iblk]
  rw [V_main_arg1]
  refine (num_idx (m (c, main_arg1)) ((win0_1.blk t).view.emb (ix2 r d))).trans (congrArg₂ (num _) ?_ ?_)
  · show win0_1.index t 0 * 2048 + 1 * r.val = _
    rw [idx1, Nat.one_mul]
  · show win0_5.index t 1 * 256 + 1 * d.val = _
    rw [Nat.one_mul]

theorem reads2 (c : Dev nD) (t : Fin cfg0.grid.N) : Reads (iblk m c 2 t) fun r d => num (m (c, main_arg2)) (win0_5.index t 0 * 2048 + r) (win0_5.index t 1 * 128 + d) := by
  intro r d
  blk_simp [iblk]
  rw [V_main_arg2]
  refine (num_idx (m (c, main_arg2)) ((win0_2.blk t).view.emb (ix2 r d))).trans (congrArg₂ (num _) ?_ ?_)
  · show win0_2.index t 0 * 2048 + 1 * r.val = _
    rw [idx2, Nat.one_mul]
  · show win0_5.index t 1 * 128 + 1 * d.val = _
    rw [Nat.one_mul]

theorem reads3 (c : Dev nD) (t : Fin cfg0.grid.N) : Reads (iblk m c 3 t) fun r d => num (V m c main_v0) (r) (win0_5.index t 1 * 256 + d) := by
  intro r d
  blk_simp [iblk]
  refine (num_idx (V m c main_v0) ((win0_3.blk t).view.emb (ix2 r d))).trans (congrArg₂ (num _) ?_ ?_)
  · show 0 * 128 + 1 * r.val = _
    rw [Nat.zero_mul, Nat.zero_add, Nat.one_mul]
  · show win0_5.index t 1 * 256 + 1 * d.val = _
    rw [Nat.one_mul]

theorem reads4 (c : Dev nD) (t : Fin cfg0.grid.N) : Reads (iblk m c 4 t) fun r d => num (V m c main_v1) (r) (win0_5.index t 1 * 128 + d) := by
  intro r d
  blk_simp [iblk]
  refine (num_idx (V m c main_v1) ((win0_4.blk t).view.emb (ix2 r d))).trans (congrArg₂ (num _) ?_ ?_)
  · show 0 * 128 + 1 * r.val = _
    rw [Nat.zero_mul, Nat.zero_add, Nat.one_mul]
  · show win0_5.index t 1 * 128 + 1 * d.val = _
    rw [Nat.one_mul]

theorem mean_congr {Q Q' : Fin 128 → EReal} {MK MK' K K' : ℕ → Fin 128 → EReal} {MV MV' V V' : ℕ → EReal} {r r' : ℕ} (hQ : Q = Q') (hK : K = K')
    (hMK : ∀ j < 16, MK j = MK' j) (hMV : ∀ j < 16, MV j = MV' j) (hV : V = V') (hr : r = r') : mean Q MK K MV V r = mean Q' MK' K' MV' V' r' := by
  subst hQ hK hV hr
  unfold mean total mass
  have e1 : ∑ j ∈ Finset.range 16, wt (sc Q (MK j)) = ∑ j ∈ Finset.range 16, wt (sc Q (MK' j)) :=
    Finset.sum_congr rfl fun j hj => by rw [hMK j (Finset.mem_range.mp hj)]
  have e2 : (∑ j ∈ Finset.range 16, ((wt (sc Q (MK j)) : ℝ) : EReal) * MV j) = ∑ j ∈ Finset.range 16, ((wt (sc Q (MK' j)) : ℝ) : EReal) * MV' j :=
    Finset.sum_congr rfl fun j hj => by rw [hMK j (Finset.mem_range.mp hj), hMV j (Finset.mem_range.mp hj)]
  rw [e1, e2]

/-- The result's array after the run: the attention at every row and column. -/
theorem arr_eq (c : Dev nD) (hq : ∀ i, Real? (m (c, main_arg0) i)) (hk : ∀ i, Real? (m (c, main_arg1) i)) (hmk : ∀ i, Real? (m (c, main_arg3) i)) :
    (dats m 0 c).arrAt 5 cfg0.N = fun i => attn (m (c, main_arg0)) (m (c, main_arg1)) (m (c, main_arg2)) (m (c, main_arg3)) (m (c, main_arg4)) (i 0).val (i 1).val := by
  refine (dats m 0 c).arrAt_eq_of_covers 5 _ (by decide +kernel) fun t hf y => ?_
  blk_simp
  rw [after0_5]
  refine (out_apply _ _ _ _ _ _ _ _ _ _ (reads0 m c t) (reads1 m c t) (reads2 m c t) (reads3 m c t) (reads4 m c t)
    (fun r d => num_real _ hq _ _) (fun r d => num_real _ hk _ _) (fun r hr d => by rw [num_meta m c _ _ hr]; exact num_real _ hmk _ _) y).trans ?_
  have hy0 : (y 0).val < 2048 := (y 0).isLt
  have hy1 : (y 1).val < 128 := (y 1).isLt
  generalize (y 0).val = r at hy0 ⊢
  generalize (y 1).val = l at hy1 ⊢
  generalize win0_5.index t 0 = b
  generalize win0_5.index t 1 = h
  unfold blockMean attn
  have ec : ∀ d, h * 256 + (128 * (l / 64) + d) = 128 * ((h * 128 + l) / 64) + d := fun d => by omega
  have eb : (b * 2048 + r) / 2048 = b := by omega
  refine mean_congr (funext fun d => ?_) (funext fun j => funext fun d => ?_) (fun j hj => funext fun d => ?_) (fun j hj => ?_) (funext fun j => ?_) (by omega)
  · beta_reduce; rw [ec]
  · beta_reduce; rw [ec, eb, Nat.mul_comm]
  · beta_reduce; rw [ec, num_meta m c _ _ hj]
  · beta_reduce; rw [num_meta' m c _ _ hj]
  · beta_reduce; rw [eb, Nat.mul_comm 2048 b]

end Cert.Proof.MlaArray

end
-- ==== Proof.MlaRef.lean ====
/- The latent attention's reference, read element by element. -/
module

public import proofs.«01_k».proof.Proof.MlaArray
public import proofs.«01_k».proof.Proof.Gen.MlaRefIdeal.Read

@[expose] public section

set_option maxRecDepth 16384

noncomputable section

namespace Cert.Proof.MlaRef

open Cert.MlaRefIdeal Cert.MlaRefIdeal.Gen Cert.MlaRefIdeal.Read Idealize.ShloMosaic Idealize.ShloMosaic.TcCoe Idealize.SL.Sem
open Cert.Proof.Weights Cert.Proof.MlaHead Cert.Proof.MlaArray Cert.Proof.Masks

/-- The chunk a key lies in: 0 for the 16 meta tokens, then one more for every 64 rows. -/
def chunk (k : ℕ) : ℕ := if k < 16 then 0 else 1 + (k - 16) / 64

/-- The reference's own way to it, from the key's number as a word. -/
def chunkWord (x : BitVec 32) : BitVec 32 :=
  Scalar.select (IntOp.cmpi .slt x 16#32) 0#32
    (IntOp.addi 1#32 (Scalar.select (IntOp.andi (IntOp.cmpi .ne (signi (s := S_) (fun _ => IntOp.subi x 16#32) (Shape.Idx.first h_S_)) (signi (s := S_) (fun _ => 64#32) (Shape.Idx.first h_S_)))
      (IntOp.cmpi .ne (IntOp.remsi .host (IntOp.subi x 16#32) 64#32) 0#32))
      (IntOp.subi (IntOp.divsi .host (IntOp.subi x 16#32) 64#32) 1#32) (IntOp.divsi .host (IntOp.subi x 16#32) 64#32)))

theorem chunkWord_ofNat : ∀ k : Fin 2064, chunkWord (BitVec.ofNat 32 k.val) = BitVec.ofNat 32 (chunk k.val) := by decide +kernel

theorem v26_apply (k : S2064.Idx) : val_main_v26 (F := Ideal) k = BitVec.ofNat 32 (chunk (k 0).val) := by
  rw [val_main_v26_apply, val_main_v20_apply, val_main_call1_v1_apply, val_main_v25_apply, val_main_v23_apply, val_main_call0_v11_apply, val_main_call0_v13_apply,
    val_main_call0_v2_apply, val_main_call0_v6_apply, val_main_call0_v10_apply, val_main_call0_v8_apply, val_main_call0_v5_apply, val_main_v19_apply, val_main_v24_apply,
    val_main_call0_v1_apply, val_main_call0_v7_apply, val_main_call0_v9_apply, val_main_call0_v12_apply, val_main_v22_apply, val_main_v21_apply]
  exact chunkWord_ofNat (k 0)

theorem v33_mask (i : S16x8x2048x2064.Idx) {α : Type} (x y : α) :
    Scalar.select (val_main_call2_v1 (F := Ideal) i) x y = if chunk (i 3).val ≤ chunk (16 + (i 2).val) then x else y := by
  rw [val_main_call2_v1_apply, val_main_v32_apply, val_main_v30_apply, val_main_v31_apply, val_main_v27_apply, val_main_v29_apply, val_main_v28_apply, v26_apply, v26_apply]
  show Scalar.select (IntOp.cmpi CmpIPredicate.sle (BitVec.ofNat 32 (chunk (i 3).val)) (BitVec.ofNat 32 (chunk (16 + (i 2).val)))) x y = _
  have h3 : (i 3).val < 2064 := (i 3).isLt
  have h2 : (i 2).val < 2048 := (i 2).isLt
  have l3 : chunk (i 3).val < 64 := by unfold chunk; split_ifs <;> omega
  have l2 : chunk (16 + (i 2).val) < 64 := by unfold chunk; split_ifs <;> omega
  generalize chunk (i 3).val = a at l3 ⊢
  generalize chunk (16 + (i 2).val) = b at l2 ⊢
  word_cmp

variable (x0 x1 : FVec Ideal S32768x1024 .bf16) (x2 : FVec Ideal S32768x512 .bf16) (x3 : FVec Ideal S16x1024 .bf16) (x4 : FVec Ideal S16x512 .bf16)

/-- The key's row `k` of batch `b`: meta tokens first. -/
def key (b k c : ℕ) : EReal := if k < 16 then num x3 k c else num x1 (2048 * b + (k - 16)) c
def val (b k c : ℕ) : EReal := if k < 16 then num x4 k c else num x2 (2048 * b + (k - 16)) c

theorem v1_apply (i : S16x2048x8x128.Idx) : val_main_v1 (F := Ideal) x0 i = num x0 (2048 * (i 0).val + (i 1).val) (128 * (i 2).val + (i 3).val) := by
  rw [val_main_v1_apply, val_main_v0_apply]
  refine (num_idx x0 _).trans (congrArg₂ (num _) ?_ ?_)
  · have h0 : (i 0).val < 16 := (i 0).isLt; have h1 : (i 1).val < 2048 := (i 1).isLt; have h2 : (i 2).val < 8 := (i 2).isLt; have h3 : (i 3).val < 128 := (i 3).isLt
    show ((((i 0).val * 2048 + (i 1).val) * 8 + (i 2).val) * 128 + (i 3).val) / 1024 = _
    omega
  · have h0 : (i 0).val < 16 := (i 0).isLt; have h1 : (i 1).val < 2048 := (i 1).isLt; have h2 : (i 2).val < 8 := (i 2).isLt; have h3 : (i 3).val < 128 := (i 3).isLt
    show ((((i 0).val * 2048 + (i 1).val) * 8 + (i 2).val) * 128 + (i 3).val) % 1024 = _
    omega

theorem v6_apply (b : Fin 16) (r : Fin 2048) (h : Fin 8) (d : Fin 128) :
    val_main_v6 (F := Ideal) x1 (ix4 b r h d) = num x1 (2048 * b.val + r.val) (128 * h.val + d.val) := v1_apply x1 (ix4 b r h d)

theorem v4_apply (b : Fin 16) (r : Fin 16) (h : Fin 8) (d : Fin 128) :
    val_main_v4 (F := Ideal) x3 (ix4 b r h d) = num x3 r.val (128 * h.val + d.val) := by
  rw [val_main_v4_apply, val_main_v3_apply, val_main_v2_apply]
  refine (num_idx x3 _).trans (congrArg₂ (num _) ?_ ?_)
  · show (((0 * 16 + r.val) * 8 + h.val) * 128 + d.val) / 1024 = _
    omega
  · show (((0 * 16 + r.val) * 8 + h.val) * 128 + d.val) % 1024 = _
    omega

theorem v12_apply (b : Fin 16) (r : Fin 2048) (h : Fin 8) (e : Fin 64) :
    val_main_v12 (F := Ideal) x2 (ix4 b r h e) = num x2 (2048 * b.val + r.val) (64 * h.val + e.val) := by
  rw [val_main_v12_apply, val_main_v11_apply]
  refine (num_idx x2 _).trans (congrArg₂ (num _) ?_ ?_)
  · show (((b.val * 2048 + r.val) * 8 + h.val) * 64 + e.val) / 512 = _
    omega
  · show (((b.val * 2048 + r.val) * 8 + h.val) * 64 + e.val) % 512 = _
    omega

theorem v10_apply (b : Fin 16) (r : Fin 16) (h : Fin 8) (e : Fin 64) :
    val_main_v10 (F := Ideal) x4 (ix4 b r h e) = num x4 r.val (64 * h.val + e.val) := by
  rw [val_main_v10_apply, val_main_v9_apply, val_main_v8_apply]
  refine (num_idx x4 _).trans (congrArg₂ (num _) ?_ ?_)
  · show (((0 * 16 + r.val) * 8 + h.val) * 64 + e.val) / 512 = _
    omega
  · show (((0 * 16 + r.val) * 8 + h.val) * 64 + e.val) % 512 = _
    omega

theorem v7_apply (b : Fin 16) (k : Fin 2064) (h : Fin 8) (d : Fin 128) :
    val_main_v7 (F := Ideal) x1 x3 (ix4 b k h d) = key x1 x3 b.val k.val (128 * h.val + d.val) := by
  pointwise [val_main_v7]
  unfold key
  by_cases hk : k.val < 16
  · rw [dif_pos hk, if_pos hk]; exact v4_apply _ _ _ _ _
  · rw [dif_neg hk, if_neg hk]; exact v6_apply _ _ ⟨k.val - 16, by omega⟩ _ _

theorem v13_apply (b : Fin 16) (k : Fin 2064) (h : Fin 8) (e : Fin 64) :
    val_main_v13 (F := Ideal) x2 x4 (ix4 b k h e) = val x2 x4 b.val k.val (64 * h.val + e.val) := by
  pointwise [val_main_v13]
  unfold val
  by_cases hk : k.val < 16
  · rw [dif_pos hk, if_pos hk]; exact v10_apply _ _ _ _ _
  · rw [dif_neg hk, if_neg hk]; exact v12_apply _ _ ⟨k.val - 16, by omega⟩ _ _

theorem hostDivf_eq (a s : EReal) : FloatOps.hostDivf (F := Ideal) (φ := .f32) a s = Ideal.div a s := rfl

/-- The score of key `k` for the query in row `r` of batch `b`, head `h`, a masked one minus infinity. -/
def score (b h r k : ℕ) : EReal :=
  if chunk k ≤ chunk (16 + r) then sc (fun d => num x0 (2048 * b + r) (128 * h + d.val)) (fun d => key x1 x3 b k (128 * h + d.val)) else ⊥

theorem log_two : FloatOps.hostUnary (F := Ideal) (.log) (FloatOps.ofBits .f32 0x40000000#32) = ((Real.log 2 : ℝ) : EReal) := by
  show Ideal.log (Ideal.ofBits .f32 0x40000000#32) = _
  have e : Ideal.ofBits .f32 0x40000000#32 = ((2 : ℝ) : EReal) := by
    simp [Ideal.ofBits, Ideal.ieee]
    rw [← EReal.coe_mul]
    norm_num
  rw [e, Ideal.log_coe, if_neg (by norm_num)]

theorem v33_apply (b : Fin 16) (h : Fin 8) (r : Fin 2048) (k : Fin 2064) :
    val_main_v33 (F := Ideal) x0 x1 x3 (ix4 b h r k) = score x0 x1 x3 b.val h.val r.val k.val * ((Real.log 2 : ℝ) : EReal) := by
  rw [val_main_v33_apply, v33_mask, val_main_v17_apply, val_main_v16_apply, val_main_v15_apply, val_main_cst_apply, log_two, val_main_v14_apply, val_main_call2_v2_apply]
  have e1 : ∀ d : Fin 128, val_main_v1 (F := Ideal) x0 (lidx_main_v14 (ix4 b h r k) d) = num x0 (2048 * b.val + r.val) (128 * h.val + d.val) := fun d => v1_apply x0 _
  have e2 : ∀ d : Fin 128, val_main_v7 (F := Ideal) x1 x3 (ridx_main_v14 (ix4 b h r k) d) = key x1 x3 b.val k.val (128 * h.val + d.val) := fun d => by
    rw [← v7_apply x1 x3 b k h d]
    congr 1
    funext a; fin_cases a <;> rfl
  simp only [e1, e2]
  unfold score
  show (if chunk k.val ≤ chunk (16 + r.val) then _ else Ideal.ofBits .f32 0xFF800000#32) = _
  split_ifs
  · rfl
  · rw [neg_inf, EReal.bot_mul_coe_of_pos (Real.log_pos one_lt_two)]

section Real
variable (h0 : ∀ i, Real? (x0 i)) (h1 : ∀ i, Real? (x1 i)) (h3 : ∀ i, Real? (x3 i))
include h0 h1 h3

theorem sc_real (b h r k : ℕ) : Real? (sc (fun d => num x0 (2048 * b + r) (128 * h + d.val)) (fun d => key x1 x3 b k (128 * h + d.val))) :=
  Real?.sum _ _ fun d _ => (num_real x0 h0 _ _).mul (by
    unfold key; split_ifs
    · exact num_real _ h3 _ _
    · exact num_real _ h1 _ _)

theorem score_ne_top (b h r k : ℕ) : score x0 x1 x3 b h r k ≠ ⊤ := by
  unfold score; split_ifs
  · exact (sc_real x0 x1 x3 h0 h1 h3 _ _ _ _).ne_top
  · exact bot_ne_top

theorem score_zero (b h r : ℕ) : score x0 x1 x3 b h r 0 ≠ ⊥ := by
  unfold score
  rw [if_pos (show chunk 0 ≤ _ from Nat.zero_le _)]
  exact (sc_real x0 x1 x3 h0 h1 h3 _ _ _ _).ne_bot

theorem v36_real (b : Fin 16) (h : Fin 8) (r : Fin 2048) : Real? (val_main_v36 (F := Ideal) x0 x1 x3 (ix3 b h r)) := by
  rw [val_main_v36_apply]
  pointwise [val_main_v34]
  have e : ∀ x : Fin 2064, Real? (score x0 x1 x3 b.val h.val r.val x.val) ∨ score x0 x1 x3 b.val h.val r.val x.val = ⊥ := fun x => by
    by_cases hb : score x0 x1 x3 b.val h.val r.val x.val = ⊥
    · exact Or.inr hb
    · exact Or.inl (real_of (score_ne_top x0 x1 x3 h0 h1 h3 _ _ _ _) hb)
  have lr : Real? ((Real.log 2 : ℝ) : EReal) := ⟨_, rfl⟩
  refine max_real ?_ (fold_max_ne_top _ _ _ ?_ fun x => ?_) (Or.inr (fold_max_ne_bot _ _ _ (⟨0, by norm_num⟩ : Fin 2064) (Finset.mem_univ _) ?_))
  · rw [val_main_v35_apply]; show Ideal.ofBits .f32 0xFF800000#32 ≠ ⊤; rw [neg_inf]; exact bot_ne_top
  · show Ideal.ofBits .f32 0xFF800000#32 ≠ ⊤; rw [neg_inf]; exact bot_ne_top
  · rw [v33_apply]
    rcases e x with hx | hx
    · exact (hx.mul lr).ne_top
    · rw [hx, EReal.bot_mul_coe_of_pos (Real.log_pos one_lt_two)]; exact bot_ne_top
  · rw [v33_apply]
    rcases e ⟨0, by norm_num⟩ with hx | hx
    · exact (hx.mul lr).ne_bot
    · exact absurd hx (score_zero x0 x1 x3 h0 h1 h3 _ _ _)

/-- The sum over the 2064 keys: the meta tokens and the sequence. -/
theorem sum_keys {M : Type*} [AddCommMonoid M] (f : ℕ → M) : ∑ k : Fin 2064, f k.val = (∑ j ∈ Finset.range 16, f j) + ∑ j ∈ Finset.range 2048, f (16 + j) := by
  rw [Fin.sum_univ_eq_sum_range (fun k => f k) 2064, show 2064 = 16 + 2048 from rfl, Finset.sum_range_add]

theorem weight_meta (b h r j : ℕ) (hj : j < 16) : wt (score x0 x1 x3 b h r j) = wt (sc (fun d => num x0 (2048 * b + r) (128 * h + d.val)) (fun d => num x3 j (128 * h + d.val))) := by
  unfold score
  rw [if_pos (by rw [chunk, if_pos hj]; exact Nat.zero_le _)]
  simp only [key, if_pos hj]

theorem weight_row (b h r j : ℕ) : wt (score x0 x1 x3 b h r (16 + j)) =
    kw (fun d => num x0 (2048 * b + r) (128 * h + d.val)) (fun j d => num x1 (2048 * b + j) (128 * h + d.val)) r j := by
  unfold score kw
  have e : (chunk (16 + j) ≤ chunk (16 + r)) ↔ j / 64 ≤ r / 64 := by
    unfold chunk; rw [if_neg (by omega), if_neg (by omega)]; omega
  rw [wt_ite]
  simp only [e, key, if_neg (show ¬16 + j < 16 by omega), Nat.add_sub_cancel_left]

theorem v45_apply (b : Fin 16) (h : Fin 8) (e : Fin 64) (r : Fin 2048) : val_main_v45 (F := Ideal) x0 x1 x2 x3 x4 (ix4 b h e r) =
    mean (fun d => num x0 (2048 * b.val + r.val) (128 * h.val + d.val)) (fun j d => num x3 j (128 * h.val + d.val)) (fun j d => num x1 (2048 * b.val + j) (128 * h.val + d.val))
      (fun j => num x4 j (64 * h.val + e.val)) (fun j => num x2 (2048 * b.val + j) (64 * h.val + e.val)) r.val := by
  rw [val_main_v45_apply]
  obtain ⟨M, hM⟩ := v36_real x0 x1 x3 h0 h1 h3 b h r
  have e40 : ∀ k : Fin 2064, val_main_v40 (F := Ideal) x0 x1 x3 (ix4 b h r k) = Ideal.exp (score x0 x1 x3 b.val h.val r.val k.val * ((Real.log 2 : ℝ) : EReal) - (M : EReal)) := fun k => by
    have ei : idx_main_v37 (idx_main_v38 (ix4 b h r k)) = ix3 b h r := by funext a; fin_cases a <;> rfl
    rw [val_main_v40_apply, val_main_v39_apply, v33_apply, val_main_v38_apply, val_main_v37_apply, ei, hM]
    rfl
  have e41 : val_main_v41 (F := Ideal) x0 x1 x3 (ix3 b h r) = ∑ j : Fin 2064, Ideal.exp (score x0 x1 x3 b.val h.val r.val j.val * ((Real.log 2 : ℝ) : EReal) - (M : EReal)) := by
    rw [val_main_v41_apply]
    have ez : (val_main_cst_7 (F := Ideal)) (Shape.Idx.first h_S_) = 0 := by
      show Ideal.ofBits .f32 0x00000000#32 = 0
      simp [Ideal.ofBits, Ideal.ieee]
    rw [ez, zero_add]
    have ei : ∀ k : Fin 2064, idx_main_v41 (ix3 b h r) k = ix4 b h r k := fun k => by funext a; fin_cases a <;> rfl
    exact Finset.sum_congr rfl fun k _ => by rw [ei, e40]
  have e44 : ∀ k : Fin 2064, val_main_v44 (F := Ideal) x0 x1 x3 (ridx_main_v45 (ix4 b h e r) k) =
      Ideal.div (Ideal.exp (score x0 x1 x3 b.val h.val r.val k.val * ((Real.log 2 : ℝ) : EReal) - (M : EReal)))
        (∑ j : Fin 2064, Ideal.exp (score x0 x1 x3 b.val h.val r.val j.val * ((Real.log 2 : ℝ) : EReal) - (M : EReal))) := fun k => by
    have ei : ridx_main_v45 (ix4 b h e r) k = ix4 b h r k := by funext a; fin_cases a <;> rfl
    have ej : idx_main_v42 (idx_main_v43 (ix4 b h r k)) = ix3 b h r := by funext a; fin_cases a <;> rfl
    rw [ei, val_main_v44_apply, val_main_v43_apply, val_main_v42_apply, ej, e41, e40]
    exact hostDivf_eq _ _
  have e13 : ∀ k : Fin 2064, val_main_v13 (F := Ideal) x2 x4 (lidx_main_v45 (ix4 b h e r) k) = val x2 x4 b.val k.val (64 * h.val + e.val) := fun k => by
    have ei : lidx_main_v45 (ix4 b h e r) k = ix4 b k h e := by funext a; fin_cases a <;> rfl
    rw [ei, v13_apply]
  simp only [e44, e13]
  rw [softmax_mean (fun k : Fin 2064 => score x0 x1 x3 b.val h.val r.val k.val) (fun k => val x2 x4 b.val k.val (64 * h.val + e.val))
    (fun k => score_ne_top x0 x1 x3 h0 h1 h3 _ _ _ _) ⟨0, by norm_num⟩ (score_zero x0 x1 x3 h0 h1 h3 _ _ _) M]
  rw [sum_keys x0 x1 x3 h0 h1 h3 (fun k => wt (score x0 x1 x3 b.val h.val r.val k)),
    sum_keys x0 x1 x3 h0 h1 h3 (fun k => ((wt (score x0 x1 x3 b.val h.val r.val k) : ℝ) : EReal) * val x2 x4 b.val k (64 * h.val + e.val))]
  unfold mean total mass
  simp only [weight_row x0 x1 x3 h0 h1 h3]
  have w1 : ∑ j ∈ Finset.range 16, wt (score x0 x1 x3 b.val h.val r.val j) =
      ∑ j ∈ Finset.range 16, wt (sc (fun d => num x0 (2048 * b.val + r.val) (128 * h.val + d.val)) (fun d => num x3 j (128 * h.val + d.val))) :=
    Finset.sum_congr rfl fun j hj => weight_meta x0 x1 x3 h0 h1 h3 _ _ _ j (Finset.mem_range.mp hj)
  have w2 : ∑ j ∈ Finset.range 16, ((wt (score x0 x1 x3 b.val h.val r.val j) : ℝ) : EReal) * val x2 x4 b.val j (64 * h.val + e.val) =
      ∑ j ∈ Finset.range 16, ((wt (sc (fun d => num x0 (2048 * b.val + r.val) (128 * h.val + d.val)) (fun d => num x3 j (128 * h.val + d.val))) : ℝ) : EReal) * num x4 j (64 * h.val + e.val) :=
    Finset.sum_congr rfl fun j hj => by rw [weight_meta x0 x1 x3 h0 h1 h3 _ _ _ j (Finset.mem_range.mp hj), val, if_pos (Finset.mem_range.mp hj)]
  have w3 : ∀ j, val x2 x4 b.val (16 + j) (64 * h.val + e.val) = num x2 (2048 * b.val + j) (64 * h.val + e.val) := fun j => by
    rw [val, if_neg (by omega), Nat.add_sub_cancel_left]
  rw [w1, w2]
  simp only [w3]

theorem v48_apply (i : S32768x512.Idx) : val_main_v48 (F := Ideal) x0 x1 x2 x3 x4 i = attn x0 x1 x2 x3 x4 (i 0).val (i 1).val := by
  rw [val_main_v48_apply, val_main_v47_apply, val_main_v46_apply]
  have hR : (i 0).val < 32768 := (i 0).isLt
  have hL : (i 1).val < 512 := (i 1).isLt
  have e := v45_apply x0 x1 x2 x3 x4 h0 h1 h3 ⟨(i 0).val / 2048, by omega⟩ ⟨(i 1).val / 64, by omega⟩ ⟨(i 1).val % 64, by omega⟩ ⟨(i 0).val % 2048, by omega⟩
  have ei : idx_main_v46 (idx_main_v47 i) = ix4 (⟨(i 0).val / 2048, by omega⟩ : Fin 16) (⟨(i 1).val / 64, by omega⟩ : Fin 8) (⟨(i 1).val % 64, by omega⟩ : Fin 64) (⟨(i 0).val % 2048, by omega⟩ : Fin 2048) := by
    funext a; apply Fin.ext
    fin_cases a
    · show ((i 0).val * 512 + (i 1).val) / 1048576 = (i 0).val / 2048; omega
    · show ((i 0).val * 512 + (i 1).val) / 64 % 8 = (i 1).val / 64; omega
    · show ((i 0).val * 512 + (i 1).val) % 64 = (i 1).val % 64; omega
    · show ((i 0).val * 512 + (i 1).val) / 512 % 2048 = (i 0).val % 2048; omega
  rw [ei, e]
  unfold attn
  refine mean_congr (funext fun d => ?_) rfl (fun _ _ => rfl) (fun j _ => ?_) (funext fun j => ?_) rfl
  · show num x0 (2048 * ((i 0).val / 2048) + (i 0).val % 2048) _ = _
    rw [Nat.div_add_mod]
  · show num x4 j (64 * ((i 1).val / 64) + (i 1).val % 64) = _
    rw [Nat.div_add_mod]
  · show num x2 _ (64 * ((i 1).val / 64) + (i 1).val % 64) = _
    rw [Nat.div_add_mod]
end Real

end Cert.Proof.MlaRef

end
-- ==== Proof.Finite.lean ====
/- An array whose entries all pass the test `|x| < ∞` holds real numbers. -/
module

public import proofs.«01_k».proof.Proof.Weights
public import proofs.«01_k».proof.Proof.Masks
public import Idealize.ShloMosaic.Lib.ReduceAll

@[expose] public section

noncomputable section

namespace Cert.Proof.Finite

open Idealize.ShloMosaic Cert.Proof.Weights

theorem pos_inf : Ideal.ofBits FTy.f32 0x7F800000#32 = ⊤ := by
  simp [Ideal.ofBits, Ideal.ieee]

theorem andi_one (a b : BitVec 1) : IntOp.andi a b = 1#1 ↔ a = 1#1 ∧ b = 1#1 := by
  revert a b; decide

/-- One entry's test. -/
theorem real_of_test (x : EReal) (h : Ideal.cmp .olt (max x (-x)) (Ideal.ofBits FTy.f32 0x7F800000#32) = 1#1) : Real? x := by
  rw [pos_inf] at h
  induction x using EReal.rec with
  | bot => simp [Ideal.cmp] at h
  | top => simp [Ideal.cmp] at h
  | coe r => exact ⟨r, rfl⟩

/-- The whole array's test, as the preconditions spell it. -/
theorem all_real {s t u : Shape} {axes : List (Fin s.rank)} [Subsingleton t.Idx] (x : FVec Ideal s .bf16) (v : FVec Ideal s .f32) (hv : ∀ i, v i = Ideal.ofBits FTy.f32 0x7F800000#32)
    (hb : FTy.bits .bf16 < FTy.bits .f32) (init : IVec u 1) (h : s.ReducesTo axes t) (hu : 0 < u.numel) (j : t.Idx)
    (e : Host.reduce IntOp.andi (cmpf .olt (Host.absf (extf .f32 x hb)) v) init h hu j = 1#1) (i : s.Idx) : Real? (x i) := by
  have e' := Host.reduce_andi_all _ _ _ _ j e i
  refine real_of_test (x i) ?_
  rw [← hv i]
  exact e'

/-- The same of an array of the wider floats, which the test takes as they are. -/
theorem all_real' {s t u : Shape} {axes : List (Fin s.rank)} [Subsingleton t.Idx] (x : FVec Ideal s .f32) (v : FVec Ideal s .f32) (hv : ∀ i, v i = Ideal.ofBits FTy.f32 0x7F800000#32)
    (init : IVec u 1) (h : s.ReducesTo axes t) (hu : 0 < u.numel) (j : t.Idx)
    (e : Host.reduce IntOp.andi (cmpf .olt (Host.absf x) v) init h hu j = 1#1) (i : s.Idx) : Real? (x i) := by
  have e' := Host.reduce_andi_all _ _ _ _ j e i
  refine real_of_test (x i) ?_
  rw [← hv i]
  exact e'

end Cert.Proof.Finite

end
-- ==== Proof.MlaClaims.lean ====
/- The latent attention's claims. -/
module

public import proofs.«01_k».proof.Defs
public import proofs.«01_k».proof.Proof.MlaRef
public import proofs.«01_k».proof.Proof.Finite
public import proofs.«01_k».proof.Proof.Gen.Mla.Frame
public import proofs.«01_k».proof.Proof.Gen.MlaIdeal.Frame
public import proofs.«01_k».proof.Proof.Gen.MlaIdeal.Value
public import proofs.«01_k».proof.Proof.Gen.MlaRefIdeal.Run
public import proofs.«01_k».proof.Proof.Gen.Pre_mla_finite

@[expose] public section

set_option maxRecDepth 16384

noncomputable section

namespace Cert.Proof.MlaClaims

open Idealize.ShloMosaic Idealize.ShloMosaic.TcCoe Idealize.SL.Sem
open Cert.Proof.Weights Cert.Proof.MlaArray Cert.Proof.Finite

/-- The precondition read: queries, keys and meta keys are real numbers. -/
theorem real_args (m : (ℓ : Loc Cert.MlaIdeal.nD Cert.MlaIdeal.τ Cert.MlaIdeal.sig) → Buf (Elt Ideal) ℓ) (hpre : Pre_MlaIdeal_mla_finite m) (c : Dev Cert.MlaIdeal.nD) :
    (∀ i, Real? (m (c, Cert.MlaIdeal.main_arg0) i)) ∧ (∀ i, Real? (m (c, Cert.MlaIdeal.main_arg1) i)) ∧ (∀ i, Real? (m (c, Cert.MlaIdeal.main_arg3) i)) := by
  have e := congrFun (hpre c) (fun a => a.elim0)
  haveI : Subsingleton Cert.Pre_mla_finite.S_.Idx := ⟨fun a b => funext fun k => k.elim0⟩
  unfold Cert.Pre_mla_finite.fn at e
  obtain ⟨e', e3⟩ := (andi_one _ _).mp e
  obtain ⟨e0, e1⟩ := (andi_one _ _).mp e'
  exact ⟨all_real _ _ (fun _ => rfl) _ _ _ _ _ e0, all_real _ _ (fun _ => rfl) _ _ _ _ _ e1, all_real _ _ (fun _ => rfl) _ _ _ _ _ e3⟩

/-- The kernel runs at the chip's own floats, leaves its arguments as they were and every counter at zero. -/
theorem frame_kernel : Cert.quiescent_Mla := fun m ρ _ => Cert.Mla.Gen.frame m ρ

/-- The same of the kernel over the reals. -/
theorem frame_ideal : Cert.quiescent_MlaIdeal := fun m ρ _ => Cert.MlaIdeal.Gen.frame m ρ
theorem frame_ideal_pre : Cert.quiescent_MlaIdeal_pre_mla_finite := fun m ρ _ => Cert.MlaIdeal.Gen.frame m ρ

/-- The same of the reference over the reals: it has no counters. -/
theorem frame_ref : Cert.quiescent_MlaRefIdeal := fun m ρ _ =>
  (θ_run Cert.MlaRefIdeal.defs _ _).mono (fun r h => ⟨fun c => (h c).2, sem_eq_zero_of_no_sems (by decide) r.2⟩)
    (Cert.MlaRefIdeal.Value.run (F := Ideal) m ρ)
theorem frame_ref_pre : Cert.quiescent_MlaRefIdeal_pre_mla_finite := fun m ρ _ => frame_ref m ρ trivial

/-- The one constant that the ideal kernel names: the mask's fill stands for minus infinity. -/
theorem preserves : Cert.preserves_Mla_MlaIdeal :=
  IdealRules.named_const.statement Cert.MlaIdeal.κ "mask" .f32 0xF149F2CA#32 ⊥ rfl

/-- From equal finite queries, keys and meta keys, and any values, kernel and reference end with the same attention. -/
theorem algebraic : Cert.algebraic_MlaIdeal_MlaRefIdeal_pre_mla_finite := by
  intro m ρ m' ρ' hpre hag
  refine ⟨fun c => fun i => attn (m (c, Cert.MlaIdeal.main_arg0)) (m (c, Cert.MlaIdeal.main_arg1)) (m (c, Cert.MlaIdeal.main_arg2)) (m (c, Cert.MlaIdeal.main_arg3)) (m (c, Cert.MlaIdeal.main_arg4)) (i 0).val (i 1).val, ?_, ?_⟩
  · refine (θ_run Cert.MlaIdeal.defs _ _).mono (fun r h c => ⟨(h c).1.trans ?_, (h c).2⟩) (Cert.MlaIdeal.Value.run_blocks m ρ)
    obtain ⟨h0, h1, h3⟩ := real_args m hpre c
    exact arr_eq m c h0 h1 h3
  · refine (θ_run Cert.MlaRefIdeal.defs _ _).mono (fun r h c => ⟨(h c).1.trans ?_, (h c).2⟩) (Cert.MlaRefIdeal.Value.run (F := Ideal) m' ρ')
    obtain ⟨h0, h1, h3⟩ := real_args m hpre c
    obtain ⟨a0, a1, a2, a3, a4⟩ := hag c
    rw [Cert.MlaRefIdeal.Read.val_main_v48_eq, a0, a1, a2, a3, a4]
    funext i
    exact MlaRef.v48_apply _ _ _ _ _ h0 h1 h3 i

end Cert.Proof.MlaClaims

end
-- ==== Proof.SbModel.lean ====
/- The stick-breaking attention's body as a small family of functions on blocks: the step of a tile of 512 query rows
   against 256 sequence keys, masked or not, the step of its lower 256 rows against their own 256 keys, and the step
   against the padded meta keys. `out_eq` says that the generated body's result is made of these steps. -/
module

public import proofs.«01_k».proof.Proof.Gen.SbIdeal.Value

@[expose] public section

set_option maxRecDepth 16384

noncomputable section

namespace Cert.Proof.SbModel

open Cert.SbIdeal Cert.SbIdeal.Gen Idealize.ShloMosaic Idealize.ShloMosaic.TcCoe Idealize.SL.Sem

variable {F : FTy → Type} [FloatOps F] [Named F]

/-! ## Entrywise parts -/

/-- An array of zeros. -/
def zeros (s : Shape) : FVec F s .f32 := broadcast s (Scalar.ofBits .f32 0x00000000#32)

/-- The base-two softplus of the scores. -/
def sp {s : Shape} (z : FVec F s .f32) : FVec F s .f32 :=
  addf (maximumf z (zeros s)) (mulf (log (addf (broadcast s (Scalar.ofBits .f32 0x3F800000#32)) (exp2 (subf (zeros s) (absf z)))))
    (broadcast s (Named.named κ "inv_ln2" 0x3FB8AA3B#32)))

/-- The softplus where a key is seen, zero elsewhere. -/
def spM {s : Shape} (m : IVec s 1) (z : FVec F s .f32) : FVec F s .f32 := select m (sp z) (zeros s)

/-- The weights before masking: `c` is the correction for the keys in between. -/
def wt2 {s : Shape} (z c : FVec F s .f32) : FVec F s .f32 := exp2 (addf (subf z (sp z)) c)

/-- The weights where a key is seen, zero elsewhere. -/
def wtM {s : Shape} (m : IVec s 1) (z c : FVec F s .f32) : FVec F s .f32 := select m (wt2 z c) (zeros s)

/-! ## Masks, row sums, products -/

def farMask : IVec S512x256 1 := k0_pay5
def nearMask : IVec S256x256 1 := k0_pay6
def metaMask : IVec S512x128 1 := k0_pay7

def sumN (s : FVec F S256x256 .f32) : FVec F S256x128 .f32 :=
  broadcastTo S256x128 (shapeCast S256x1 (shapeCast S256x1 (multiReduction .add [1] S256 s 0x00000000#32 reduces_S256x256_S256 (.inl rfl) rfl) shapeCasts_S256_S256x1) shapeCasts_S256x1_S256x1) broadcasts_S256x1_S256x128
def spread (x : FVec F S512 .f32) : FVec F S512x128 .f32 :=
  broadcastTo S512x128 (shapeCast S512x1 (shapeCast S512x1 x shapeCasts_S512_S512x1) shapeCasts_S512x1_S512x1) broadcasts_S512x1_S512x128
def sumF (s : FVec F S512x256 .f32) : FVec F S512x128 .f32 := spread (multiReduction .add [1] S512 s 0x00000000#32 reduces_S512x256_S512 (.inl rfl) rfl)

def zN (q k : FVec F S256x128 .bf16) : FVec F S256x256 .f32 := matmul dot_S256x128_S256x128_S256x256_1_1_0_0_n_n none q k (constant S256x256 .f32 0x00000000#32)
def zF (q : FVec F S512x128 .bf16) (k : FVec F S256x128 .bf16) : FVec F S512x256 .f32 := matmul dot_S512x128_S256x128_S512x256_1_1_0_0_n_n none q k (constant S512x256 .f32 0x00000000#32)
def zM (q : FVec F S512x128 .bf16) (mk : FVec F S128x128 .bf16) : FVec F S512x128 .f32 :=
  matmul dot_S512x128_S128x128_S512x128_1_1_0_0_n_n none q (shapeCast S128x128 mk shapeCasts_S128x128_S128x128 : FVec F S128x128 .bf16) (constant S512x128 .f32 0x00000000#32)

/-- The correction: the softplus rows against the triangle of minus ones. -/
def cN (s : FVec F S256x256 .f32) (t : FVec F S256x256 .bf16) : FVec F S256x256 .f32 :=
  matmul dot_S256x256_S256x256_S256x256_1_0_0_1_n_n none (truncf .bf16 s bitsLt_bf16_f32) t (constant S256x256 .f32 0x00000000#32)
def cF (s : FVec F S512x256 .f32) (t : FVec F S256x256 .bf16) : FVec F S512x256 .f32 :=
  matmul dot_S512x256_S256x256_S512x256_1_0_0_1_n_n none (truncf .bf16 s bitsLt_bf16_f32) t (constant S512x256 .f32 0x00000000#32)
def cM (s : FVec F S512x128 .f32) (t : FVec F S128x128 .bf16) : FVec F S512x128 .f32 :=
  matmul dot_S512x128_S128x128_S512x128_1_0_0_1_n_n none (truncf .bf16 s bitsLt_bf16_f32) t (constant S512x128 .f32 0x00000000#32)

/-- The weights against the values. -/
def vN (a : FVec F S256x256 .f32) (v : FVec F S256x128 .bf16) : FVec F S256x128 .f32 :=
  matmul dot_S256x256_S256x128_S256x128_1_0_0_1_n_n none (truncf .bf16 a bitsLt_bf16_f32) v (constant S256x128 .f32 0x00000000#32)
def vF (a : FVec F S512x256 .f32) (v : FVec F S256x128 .bf16) : FVec F S512x128 .f32 :=
  matmul dot_S512x256_S256x128_S512x128_1_0_0_1_n_n none (truncf .bf16 a bitsLt_bf16_f32) v (constant S512x128 .f32 0x00000000#32)
def vM (a : FVec F S512x128 .f32) (mv : FVec F S128x128 .bf16) : FVec F S512x128 .f32 :=
  matmul dot_S512x128_S128x128_S512x128_1_0_0_1_n_n none (truncf .bf16 a bitsLt_bf16_f32) (shapeCast S128x128 mv shapeCasts_S128x128_S128x128 : FVec F S128x128 .bf16) (constant S512x128 .f32 0x00000000#32)

/-! ## The steps of a tile: weighted values so far, and the running gap -/

/-- The triangle of minus ones, and its upper left corner for the meta keys. -/
def tri (t : FVec F S256x256 .bf16) : FVec F S256x256 .bf16 := shapeCast S256x256 t shapeCasts_S256x256_S256x256
def triM (t : FVec F S256x256 .bf16) : FVec F S128x128 .bf16 := extractStridedSlice S128x128 ![0, 0] (tri t) slices_S256x256_o0_0_S128x128

def lower (q : FVec F S512x128 .bf16) : FVec F S256x128 .bf16 := extractStridedSlice S256x128 ![256, 0] q slices_S512x128_o256_0_S256x128
def join (t b : FVec F S256x128 .f32) : FVec F S512x128 .f32 :=
  concatenate S512x128 0 [⟨S256x128, t⟩, ⟨S256x128, b⟩] concatenates_S256x128_S256x128_S512x128_d0

section Steps
variable (q : FVec F S512x128 .bf16) (t : FVec F S256x256 .bf16) (k v : FVec F S256x128 .bf16)

/-- The values and the row sums of the lower rows against their own keys. -/
def nearV : FVec F S256x128 .f32 :=
  vN (wtM nearMask (zN (lower q) k) (cN (spM nearMask (zN (lower q) k)) (tri t))) v
def nearS : FVec F S256x128 .f32 := sumN (spM nearMask (zN (lower q) k))
def near : FVec F S512x128 .f32 × FVec F S512x128 .f32 := (join (zeros _) (nearV q t k v), join (zeros _) (subf (zeros _) (nearS q k)))

def far (a : FVec F S512x128 .f32 × FVec F S512x128 .f32) : FVec F S512x128 .f32 × FVec F S512x128 .f32 :=
  (addf a.1 (mulf (exp2 a.2) (vF (wtM farMask (zF q k) (cF (spM farMask (zF q k)) (tri t))) v)), subf a.2 (sumF (spM farMask (zF q k))))

def full (a : FVec F S512x128 .f32 × FVec F S512x128 .f32) : FVec F S512x128 .f32 × FVec F S512x128 .f32 :=
  (addf a.1 (mulf (exp2 a.2) (vF (wt2 (zF q k) (cF (sp (zF q k)) (tri t))) v)), subf a.2 (sumF (sp (zF q k))))

def last (mk mv : FVec F S128x128 .bf16) (a : FVec F S512x128 .f32 × FVec F S512x128 .f32) : FVec F S512x128 .f32 :=
  addf a.1 (mulf (exp2 a.2) (vM (wtM metaMask (zM q mk) (cM (spM metaMask (zM q mk)) (triM t))) mv))

end Steps

/-! ## The two heads of a tile -/

def qL (x : FVec F S512x128 .bf16) : FVec F S512x128 .bf16 :=
  select (cmpi .slt (iota .tc S512x128 32 [1] iota_S512x128_d1_w32) (broadcast S512x128 64#32)) x (broadcast S512x128 (Scalar.ofBits .bf16 0x0000#16))
def qR (x : FVec F S512x128 .bf16) : FVec F S512x128 .bf16 :=
  select (cmpi .sge (iota .tc S512x128 32 [1] iota_S512x128_d1_w32) (broadcast S512x128 64#32)) x (broadcast S512x128 (Scalar.ofBits .bf16 0x0000#16))

/-- One tile's result from the two heads' results. -/
def pick (a b : FVec F S512x128 .f32) : FVec F S512x128 .bf16 :=
  truncf .bf16 (select (cmpi .slt (iota .tc S512x128 32 [1] iota_S512x128_d1_w32) (broadcast S512x128 64#32)) a b) bitsLt_bf16_f32

section Heads
variable (t : FVec F S256x256 .bf16) (mk mv : FVec F S128x128 .bf16)
variable (k0 v0 k1 v1 k2 v2 k3 v3 k4 v4 k5 v5 k6 v6 k7 v7 : FVec F S256x128 .bf16) (q : FVec F S512x128 .bf16)

def head0 : FVec F S512x128 .f32 := last q t mk mv (far q t k0 v0 (near q t k1 v1))
def head1 : FVec F S512x128 .f32 := last q t mk mv (full q t k0 v0 (full q t k1 v1 (far q t k2 v2 (near q t k3 v3))))
def head2 : FVec F S512x128 .f32 :=
  last q t mk mv (full q t k0 v0 (full q t k1 v1 (full q t k2 v2 (full q t k3 v3 (far q t k4 v4 (near q t k5 v5))))))
def head3 : FVec F S512x128 .f32 :=
  last q t mk mv (full q t k0 v0 (full q t k1 v1 (full q t k2 v2 (full q t k3 v3 (full q t k4 v4 (full q t k5 v5 (far q t k6 v6 (near q t k7 v7))))))))
end Heads

/-! ## The body's result -/

section Body
variable (x0 x1 x2 : Vec F S2048x128 .bf16) (x3 x4 : Vec F S128x128 .bf16) (x5 : Vec F S256x256 .bf16)

def tile0 : FVec F S512x128 .bf16 :=
  pick (head0 (View.ld x5 r0_1) (View.ld x3 r0_7) (View.ld x4 r0_7) (View.ld x1 r0_6) (View.ld x2 r0_6) (View.ld x1 r0_5) (View.ld x2 r0_5) (qL (View.ld x0 r0_0)))
    (head0 (View.ld x5 r0_1) (View.ld x3 r0_7) (View.ld x4 r0_7) (View.ld x1 r0_6) (View.ld x2 r0_6) (View.ld x1 r0_5) (View.ld x2 r0_5) (qR (View.ld x0 r0_0)))
def tile1 : FVec F S512x128 .bf16 :=
  pick (head1 (View.ld x5 r0_1) (View.ld x3 r0_7) (View.ld x4 r0_7) (View.ld x1 r0_6) (View.ld x2 r0_6) (View.ld x1 r0_5) (View.ld x2 r0_5) (View.ld x1 r0_9) (View.ld x2 r0_9) (View.ld x1 r0_8) (View.ld x2 r0_8) (qL (View.ld x0 r0_2)))
    (head1 (View.ld x5 r0_1) (View.ld x3 r0_7) (View.ld x4 r0_7) (View.ld x1 r0_6) (View.ld x2 r0_6) (View.ld x1 r0_5) (View.ld x2 r0_5) (View.ld x1 r0_9) (View.ld x2 r0_9) (View.ld x1 r0_8) (View.ld x2 r0_8) (qR (View.ld x0 r0_2)))
def tile2 : FVec F S512x128 .bf16 :=
  pick (head2 (View.ld x5 r0_1) (View.ld x3 r0_7) (View.ld x4 r0_7) (View.ld x1 r0_6) (View.ld x2 r0_6) (View.ld x1 r0_5) (View.ld x2 r0_5) (View.ld x1 r0_9) (View.ld x2 r0_9) (View.ld x1 r0_8) (View.ld x2 r0_8) (View.ld x1 r0_11) (View.ld x2 r0_11) (View.ld x1 r0_10) (View.ld x2 r0_10) (qL (View.ld x0 r0_3)))
    (head2 (View.ld x5 r0_1) (View.ld x3 r0_7) (View.ld x4 r0_7) (View.ld x1 r0_6) (View.ld x2 r0_6) (View.ld x1 r0_5) (View.ld x2 r0_5) (View.ld x1 r0_9) (View.ld x2 r0_9) (View.ld x1 r0_8) (View.ld x2 r0_8) (View.ld x1 r0_11) (View.ld x2 r0_11) (View.ld x1 r0_10) (View.ld x2 r0_10) (qR (View.ld x0 r0_3)))
def tile3 : FVec F S512x128 .bf16 :=
  pick (head3 (View.ld x5 r0_1) (View.ld x3 r0_7) (View.ld x4 r0_7) (View.ld x1 r0_6) (View.ld x2 r0_6) (View.ld x1 r0_5) (View.ld x2 r0_5) (View.ld x1 r0_9) (View.ld x2 r0_9) (View.ld x1 r0_8) (View.ld x2 r0_8) (View.ld x1 r0_11) (View.ld x2 r0_11) (View.ld x1 r0_10) (View.ld x2 r0_10) (View.ld x1 r0_13) (View.ld x2 r0_13) (View.ld x1 r0_12) (View.ld x2 r0_12) (qL (View.ld x0 r0_4)))
    (head3 (View.ld x5 r0_1) (View.ld x3 r0_7) (View.ld x4 r0_7) (View.ld x1 r0_6) (View.ld x2 r0_6) (View.ld x1 r0_5) (View.ld x2 r0_5) (View.ld x1 r0_9) (View.ld x2 r0_9) (View.ld x1 r0_8) (View.ld x2 r0_8) (View.ld x1 r0_11) (View.ld x2 r0_11) (View.ld x1 r0_10) (View.ld x2 r0_10) (View.ld x1 r0_13) (View.ld x2 r0_13) (View.ld x1 r0_12) (View.ld x2 r0_12) (qR (View.ld x0 r0_4)))

/-- The body's result is the four tiles, written to their rows. -/
theorem out_eq : out0_6 x0 x1 x2 x3 x4 x5 = View.canon [⟨r0_4, tile3 x0 x1 x2 x3 x4 x5⟩, ⟨r0_3, tile2 x0 x1 x2 x3 x4 x5⟩,
    ⟨r0_2, tile1 x0 x1 x2 x3 x4 x5⟩, ⟨r0_0, tile0 x0 x1 x2 x3 x4 x5⟩] := rfl

end Body

end Cert.Proof.SbModel

end
-- ==== Proof.SbMath.lean ====
/- A stick-breaking attention's row over the extended reals. The keys are numbered in their order: the sixteen meta keys,
   then the sequence. A key's weight is 2 to its score, less its softplus, less the softplus of every later key that the
   query sees. The row is taken in blocks from the last key to the first; the running gap is minus the softplus of the
   keys taken so far. -/
module

public import proofs.«01_k».proof.Proof.Weights

@[expose] public section

noncomputable section

namespace Cert.Proof.SbMath

open Idealize.ShloMosaic Cert.Proof.Weights

/-! ## The softplus in base two -/

/-- The base-two logarithm of 1 + 2^x, written so that no power is large. -/
def sp2 (x : ℝ) : ℝ := max x 0 + Real.log (1 + (2 : ℝ) ^ (-|x|)) * (Real.log 2)⁻¹

theorem log2_pos : (0 : ℝ) < Real.log 2 := Real.log_pos one_lt_two

/-- The natural softplus of a score times log 2. -/
theorem softplus_eq (x : ℝ) : max (x * Real.log 2) 0 + Real.log (1 + Real.exp (-|x * Real.log 2|)) = sp2 x * Real.log 2 := by
  have e : Real.exp (-|x * Real.log 2|) = (2 : ℝ) ^ (-|x|) := by
    rw [Real.rpow_def_of_pos two_pos, abs_mul, abs_of_pos log2_pos]; congr 1; ring
  have e' : max (x * Real.log 2) 0 = max x 0 * Real.log 2 := by
    rw [max_mul_of_nonneg _ _ log2_pos.le, zero_mul]
  rw [e, e', sp2, add_mul, mul_assoc _ _ (Real.log 2), inv_mul_cancel₀ log2_pos.ne', mul_one]

theorem sp2_neg (x : ℝ) : sp2 (-x) = sp2 x - x := by
  have e : max (-x) 0 = max x 0 - x := by
    rcases le_total x 0 with h | h
    · rw [max_eq_left (by linarith), max_eq_right h]; ring
    · rw [max_eq_right (by linarith), max_eq_left h]; ring
  unfold sp2
  rw [abs_neg, e]; ring

theorem exp_log2 (t : ℝ) : Real.exp (t * Real.log 2) = (2 : ℝ) ^ t := by
  rw [Real.rpow_def_of_pos two_pos, mul_comm]

theorem exp2_real (t : ℝ) : Ideal.exp2 (t : EReal) = (((2 : ℝ) ^ t : ℝ) : EReal) := Ideal.exp2_coe t

/-! ## The row's weights -/

/-- The softplus of key `k` where the query, which sees the keys before `r`, sees it. -/
def seen (z : ℕ → ℝ) (r k : ℕ) : ℝ := if k < r then sp2 (z k) else 0

/-- The softplus of the keys from `lo` on. -/
def gap (z : ℕ → ℝ) (r lo : ℕ) : ℝ := ∑ k ∈ Finset.Ico lo 2064, seen z r k

/-- The weight of key `p`. -/
def weight (z : ℕ → ℝ) (r p : ℕ) : ℝ := if p < r then (2 : ℝ) ^ (z p - sp2 (z p) - gap z r (p + 1)) else 0

/-- The row's result. -/
def row (z : ℕ → ℝ) (r : ℕ) (v : ℕ → EReal) : EReal := ∑ p ∈ Finset.range 2064, ((weight z r p : ℝ) : EReal) * v p

/-- A running gap and running weighted values, spread over lanes, hold the keys from `lo` on. -/
def Held {ι : Type*} (g a : ι → EReal) (z : ℕ → ℝ) (V : ℕ → ι → EReal) (r lo : ℕ) : Prop :=
  (∀ d, g d = ((-gap z r lo : ℝ) : EReal)) ∧ ∀ d, a d = ∑ p ∈ Finset.Ico lo 2064, ((weight z r p : ℝ) : EReal) * V p d

theorem seen_later (z : ℕ → ℝ) (r k : ℕ) (h : r ≤ k) : seen z r k = 0 := if_neg (by omega)
theorem weight_later (z : ℕ → ℝ) (r k : ℕ) (h : r ≤ k) : weight z r k = 0 := if_neg (by omega)

theorem gap_later (z : ℕ → ℝ) (r lo : ℕ) (h : r ≤ lo) : gap z r lo = 0 :=
  Finset.sum_eq_zero fun k hk => seen_later z r k (h.trans (Finset.mem_Ico.mp hk).1)

/-- Nothing held: every key seen is still to come. -/
theorem Held.start {ι : Type*} {g a : ι → EReal} (z : ℕ → ℝ) (V : ℕ → ι → EReal) (r lo : ℕ) (h : r ≤ lo) (hg : ∀ d, g d = 0) (ha : ∀ d, a d = 0) :
    Held g a z V r lo := by
  refine ⟨fun d => ?_, fun d => ?_⟩
  · rw [hg, gap_later z r lo h, neg_zero, EReal.coe_zero]
  · rw [ha, Finset.sum_eq_zero]
    exact fun k hk => by rw [weight_later z r k (h.trans (Finset.mem_Ico.mp hk).1), EReal.coe_zero, zero_mul]

/-- A sum over a padded block is the one over the block. -/
theorem sum_pad {M : Type*} [AddCommMonoid M] {n : ℕ} (n' : ℕ) (hn : n' ≤ n) (f : ℕ → M) (g : Fin n → M) (h : ∀ j : Fin n, j.val < n' → g j = f j.val)
    (h0 : ∀ j : Fin n, n' ≤ j.val → g j = 0) : ∑ j, g j = ∑ j ∈ Finset.range n', f j := by
  have e : ∑ j, g j = ∑ j ∈ Finset.range n, (if j < n' then f j else 0) := by
    rw [Finset.sum_range]
    refine Finset.sum_congr rfl fun j _ => ?_
    split_ifs with hj
    · exact h j hj
    · exact h0 j (by omega)
  rw [e, ← Finset.sum_filter]
  refine Finset.sum_congr (Finset.ext fun k => ?_) fun _ _ => rfl
  rw [Finset.mem_filter, Finset.mem_range, Finset.mem_range]; omega

/-- The triangle's entry: minus one where the first key comes after the second. -/
def tri (k j : ℕ) : EReal := if j < k then -1 else 0

theorem coe_tri (x : ℝ) (k j : ℕ) : (x : EReal) * tri k j = (((if j < k then -x else 0) : ℝ) : EReal) := by
  unfold tri
  split_ifs
  · rw [show (-1 : EReal) = ((-1 : ℝ) : EReal) from rfl, ← EReal.coe_mul, mul_neg_one]
  · rw [mul_zero, EReal.coe_zero]

theorem sum_tri (f : ℕ → ℝ) (lo n j : ℕ) :
    ∑ k ∈ Finset.range n, (if j < k then -f (lo + k) else 0) = -∑ k ∈ Finset.Ico (lo + j + 1) (lo + n), f k := by
  rw [← Finset.sum_filter, Finset.sum_neg_distrib, show lo + j + 1 = (j + 1) + lo by omega, show lo + n = n + lo by omega, ← Finset.sum_Ico_add]
  congr 1
  refine Finset.sum_congr (Finset.ext fun k => ?_) fun _ _ => rfl
  rw [Finset.mem_filter, Finset.mem_range, Finset.mem_Ico]; omega

section Block

/- A block of `n'` keys from `lo` on, padded to `n`: its softplus row `s`, its scores less their softplus `b`, its weights
   `a` before the gap is counted. -/
variable {ι : Type*} {n : ℕ} (n' : ℕ) (hn : n' ≤ n) (z : ℕ → ℝ) (V : ℕ → ι → EReal) (r lo : ℕ) (hlo : lo + n' ≤ 2064)
variable (s a : Fin n → EReal) (v : Fin n → ι → EReal)
variable (hs : ∀ k : Fin n, s k = if k.val < n' then ((seen z r (lo + k.val) : ℝ) : EReal) else 0)
variable (ha : ∀ j : Fin n, a j = if j.val < n' ∧ lo + j.val < r then
    Ideal.exp2 (((z (lo + j.val) - sp2 (z (lo + j.val)) : ℝ) : EReal) + ∑ k : Fin n, s k * tri k.val j.val) else 0)
variable (hv : ∀ j : Fin n, j.val < n' → ∀ d, v j d = V (lo + j.val) d)

include hn hs in
/-- The correction is minus the softplus of the block's later keys. -/
theorem correction (j : Fin n) : ∑ k : Fin n, s k * tri k.val j.val = ((-∑ k ∈ Finset.Ico (lo + j.val + 1) (lo + n'), seen z r k : ℝ) : EReal) := by
  rw [sum_pad n' hn (fun k => (((if j.val < k then -seen z r (lo + k) else 0) : ℝ) : EReal)), sum_coe, sum_tri]
  · intro k hk; rw [hs, if_pos hk, coe_tri]
  · intro k hk; rw [hs, if_neg (by omega), zero_mul]

include hn hs in
theorem block_sum : ∑ k, s k = ((∑ k ∈ Finset.Ico lo (lo + n'), seen z r k : ℝ) : EReal) := by
  rw [sum_pad n' hn (fun k => ((seen z r (lo + k) : ℝ) : EReal)), sum_coe, Finset.sum_Ico_eq_sum_range, Nat.add_sub_cancel_left]
  · intro k hk; rw [hs, if_pos hk]
  · intro k hk; rw [hs, if_neg (by omega)]

include hn hlo hs ha in
/-- With the gap counted, the block's weight is the row's. -/
theorem block_weight (j : Fin n) (hj : j.val < n') :
    (((2 : ℝ) ^ (-gap z r (lo + n')) : ℝ) : EReal) * a j = ((weight z r (lo + j.val) : ℝ) : EReal) := by
  rw [ha, weight]
  by_cases hr : lo + j.val < r
  · rw [if_pos ⟨hj, hr⟩, if_pos hr, correction n' hn z r lo s hs, ← EReal.coe_add, exp2_real, ← EReal.coe_mul, ← Real.rpow_add two_pos]
    congr 1
    congr 1
    have e : gap z r (lo + j.val + 1) = (∑ k ∈ Finset.Ico (lo + j.val + 1) (lo + n'), seen z r k) + gap z r (lo + n') :=
      (Finset.sum_Ico_consecutive _ (by omega) hlo).symm
    rw [e]; ring
  · rw [if_neg (fun h => hr h.2), if_neg hr, mul_zero, EReal.coe_zero]

include hn hlo hs ha hv in
/-- The block's weighted values, with the gap counted. -/
theorem block_values (d : ι) : (((2 : ℝ) ^ (-gap z r (lo + n')) : ℝ) : EReal) * ∑ j, a j * v j d
    = ∑ p ∈ Finset.Ico lo (lo + n'), ((weight z r p : ℝ) : EReal) * V p d := by
  rw [← mul_sum_coe _ (Real.rpow_pos_of_pos two_pos _).le,
    sum_pad n' hn (fun j => ((weight z r (lo + j) : ℝ) : EReal) * V (lo + j) d), Finset.sum_Ico_eq_sum_range, Nat.add_sub_cancel_left]
  · intro j hj; rw [← mul_assoc, block_weight n' hn z r lo hlo s a hs ha j hj, hv j hj]
  · intro j hj; rw [ha, if_neg (by omega), zero_mul, mul_zero]

include hn hlo hs ha hv in
/-- Taking in a block keeps what is held. -/
theorem Held.step {g ac g' ac' : ι → EReal} (h : Held g ac z V r (lo + n'))
    (hg : ∀ d, g' d = g d - ∑ k, s k) (hac : ∀ d, ac' d = ac d + Ideal.exp2 (g d) * ∑ j, a j * v j d) : Held g' ac' z V r lo := by
  obtain ⟨h1, h2⟩ := h
  refine ⟨fun d => ?_, fun d => ?_⟩
  · rw [hg, h1, block_sum n' hn z r lo s hs, ← EReal.coe_sub]
    congr 1
    rw [gap, gap, ← Finset.sum_Ico_consecutive _ (Nat.le_add_right lo n') hlo]; ring
  · rw [hac, h1, h2, exp2_real, block_values n' hn z V r lo hlo s a v hs ha hv d, add_comm, Finset.sum_Ico_consecutive _ (Nat.le_add_right lo n') hlo]

include hn hlo hs ha hv in
/-- The first block, where nothing is held before it. -/
theorem Held.first {g ac : ι → EReal} (hr : r ≤ lo + n') (hg : ∀ d, g d = 0 - ∑ k, s k) (hac : ∀ d, ac d = ∑ j, a j * v j d) : Held g ac z V r lo := by
  refine Held.step n' hn z V r lo hlo s a v hs ha hv (g := fun _ => 0) (ac := fun _ => 0)
    (Held.start z V r (lo + n') hr (fun _ => rfl) (fun _ => rfl)) hg fun d => ?_
  rw [hac, zero_add, ← EReal.coe_zero, exp2_real, Real.rpow_zero, EReal.coe_one, one_mul]

include hn hs ha hv in
/-- The last block, the row's first keys: the result. -/
theorem Held.finish {g ac : ι → EReal} {ac' : EReal} (h : Held g ac z V r (0 + n')) (h0 : lo = 0) (hlo : 0 + n' ≤ 2064) (d : ι)
    (hac : ac' = ac d + Ideal.exp2 (g d) * ∑ j, a j * v j d) : ac' = row z r fun p => V p d := by
  subst h0
  have := (Held.step n' hn z V r 0 hlo s a v hs ha hv h (g' := fun d => g d - ∑ k, s k) (ac' := fun d => ac d + Ideal.exp2 (g d) * ∑ j, a j * v j d)
    (fun _ => rfl) (fun _ => rfl)).2 d
  rw [hac, row, Finset.range_eq_Ico]
  exact this

end Block

end Cert.Proof.SbMath

end
-- ==== Proof.SbRows.lean ====
/- The stick-breaking attention's steps read at one row, over the extended reals: each keeps what the row holds. -/
module

public import proofs.«01_k».proof.Proof.SbModel
public import proofs.«01_k».proof.Proof.SbMath
public import proofs.«01_k».proof.Proof.Masks

@[expose] public section

set_option maxRecDepth 16384

noncomputable section

namespace Cert.Proof.SbRows

open Cert.SbIdeal Cert.SbIdeal.Gen Idealize.ShloMosaic Idealize.ShloMosaic.TcCoe Idealize.SL.Sem
open Cert.Proof.SbModel Cert.Proof.SbMath Cert.Proof.Weights Cert.Proof.Masks

theorem zero_word : Ideal.ofBits FTy.f32 0x00000000#32 = 0 := by simp [Ideal.ofBits, Ideal.ieee]
theorem zero_word' : Ideal.ofBits FTy.bf16 0x0000#16 = 0 := by simp [Ideal.ofBits, Ideal.ieee]
theorem one_word : Ideal.ofBits FTy.f32 0x3F800000#32 = ((1 : ℝ) : EReal) := by
  simp [Ideal.ofBits, Ideal.ieee]
  rw [← EReal.coe_mul]
  norm_num

theorem zeros_apply {s : Shape} (i : s.Idx) : zeros (F := Ideal) s i = 0 := zero_word

theorem inv_ln2 : (Named.named κ "inv_ln2" 0x3FB8AA3B#32 : Ideal .f32) = (((Real.log 2)⁻¹ : ℝ) : EReal) := rfl

theorem coe_max (x y : ℝ) : max (x : EReal) (y : EReal) = ((max x y : ℝ) : EReal) := (EReal.coe_strictMono.monotone.map_max (a := x) (b := y)).symm

/-- The softplus of a real score. -/
theorem sp_apply {s : Shape} (z : FVec Ideal s .f32) (i : s.Idx) (x : ℝ) (h : z i = (x : EReal)) : sp z i = ((sp2 x : ℝ) : EReal) := by
  show max (z i) (Ideal.ofBits FTy.f32 0x00000000#32) + Ideal.log (Ideal.ofBits FTy.f32 0x3F800000#32 + Ideal.exp2 (Ideal.ofBits FTy.f32 0x00000000#32 - max (z i) (-(z i)))) * (Named.named κ "inv_ln2" 0x3FB8AA3B#32 : Ideal .f32) = _
  rw [h, zero_word, one_word, inv_ln2, zero_sub, ← EReal.coe_neg, coe_max, ← EReal.coe_neg, exp2_real, ← EReal.coe_add,
    Ideal.log_coe, if_neg (by have := Real.rpow_pos_of_pos two_pos (-max x (-x)); linarith), ← EReal.coe_mul, ← EReal.coe_zero, coe_max, ← EReal.coe_add]
  rfl

theorem zN_apply (q k : FVec Ideal S256x128 .bf16) (i j : Fin 256) : zN q k (ix2 i j) = ∑ d, q (ix2 i d) * k (ix2 j d) := by
  pointwise [zN]
theorem zF_apply (q : FVec Ideal S512x128 .bf16) (k : FVec Ideal S256x128 .bf16) (i : Fin 512) (j : Fin 256) : zF q k (ix2 i j) = ∑ d, q (ix2 i d) * k (ix2 j d) := by
  pointwise [zF]
theorem zM_apply (q : FVec Ideal S512x128 .bf16) (k : FVec Ideal S128x128 .bf16) (i : Fin 512) (j : Fin 128) : zM q k (ix2 i j) = ∑ d, q (ix2 i d) * k (ix2 j d) := by
  pointwise [zM]

theorem cN_apply (s : FVec Ideal S256x256 .f32) (t : FVec Ideal S256x256 .bf16) (i j : Fin 256) : cN s t (ix2 i j) = ∑ k, s (ix2 i k) * t (ix2 k j) := by
  pointwise [cN]
theorem cF_apply (s : FVec Ideal S512x256 .f32) (t : FVec Ideal S256x256 .bf16) (i : Fin 512) (j : Fin 256) : cF s t (ix2 i j) = ∑ k, s (ix2 i k) * t (ix2 k j) := by
  pointwise [cF]
theorem cM_apply (s : FVec Ideal S512x128 .f32) (t : FVec Ideal S128x128 .bf16) (i : Fin 512) (j : Fin 128) : cM s t (ix2 i j) = ∑ k, s (ix2 i k) * t (ix2 k j) := by
  pointwise [cM]

theorem vN_apply (a : FVec Ideal S256x256 .f32) (v : FVec Ideal S256x128 .bf16) (i : Fin 256) (d : Fin 128) : vN a v (ix2 i d) = ∑ j, a (ix2 i j) * v (ix2 j d) := by
  pointwise [vN]
theorem vF_apply (a : FVec Ideal S512x256 .f32) (v : FVec Ideal S256x128 .bf16) (i : Fin 512) (d : Fin 128) : vF a v (ix2 i d) = ∑ j, a (ix2 i j) * v (ix2 j d) := by
  pointwise [vF]
theorem vM_apply (a : FVec Ideal S512x128 .f32) (v : FVec Ideal S128x128 .bf16) (i : Fin 512) (d : Fin 128) : vM a v (ix2 i d) = ∑ j, a (ix2 i j) * v (ix2 j d) := by
  pointwise [vM]

theorem sumN_apply (s : FVec Ideal S256x256 .f32) (i : Fin 256) (d : Fin 128) : sumN s (ix2 i d) = ∑ j, s (ix2 i j) := by
  pointwise [sumN]
theorem sumF_apply (s : FVec Ideal S512x256 .f32) (i : Fin 512) (d : Fin 128) : sumF s (ix2 i d) = ∑ j, s (ix2 i j) := by
  pointwise [sumF, spread]

theorem nearMask_apply {α : Type} (i j : Fin 256) (x y : α) : Scalar.select (nearMask (ix2 i j)) x y = if j.val < i.val then x else y := by
  pointwise [nearMask, k0_pay6]
  word_cmp
theorem farMask_apply {α : Type} (i : Fin 512) (j : Fin 256) (x y : α) : Scalar.select (farMask (ix2 i j)) x y = if j.val < i.val then x else y := by
  pointwise [farMask, k0_pay5]
  word_cmp
  exact if_congr (by omega) rfl rfl
theorem metaMask_apply {α : Type} (i : Fin 512) (j : Fin 128) (x y : α) : Scalar.select (metaMask (ix2 i j)) x y = if j.val < 16 then x else y := by
  pointwise [metaMask, k0_pay7]
  word_cmp

theorem triM_apply (t : FVec Ideal S256x256 .bf16) (k j : Fin 128) : triM t (ix2 k j) = t (ix2 (⟨k.val, by omega⟩ : Fin 256) (⟨j.val, by omega⟩ : Fin 256)) := by
  pointwise [triM, SbModel.tri]
theorem tri_eq (t : FVec Ideal S256x256 .bf16) (k j : Fin 256) : SbModel.tri t (ix2 k j) = t (ix2 k j) := by
  pointwise [SbModel.tri]
theorem lower_apply (q : FVec Ideal S512x128 .bf16) (i : Fin 256) (d : Fin 128) : lower q (ix2 i d) = q (ix2 (⟨256 + i.val, by omega⟩ : Fin 512) d) := by
  pointwise [lower]
theorem join_apply (t b : FVec Ideal S256x128 .f32) (i : Fin 512) (d : Fin 128) :
    join t b (ix2 i d) = if h : i.val < 256 then t (ix2 ⟨i.val, h⟩ d) else b (ix2 ⟨i.val - 256, by omega⟩ d) := by
  pointwise [join]

theorem spM_apply {s : Shape} (m : IVec s 1) (z : FVec Ideal s .f32) (i : s.Idx) : spM m z i = Scalar.select (m i) (sp z i) 0 :=
  congrArg (Scalar.select (m i) (sp z i)) (zeros_apply i)
theorem wt2_apply {s : Shape} (z c : FVec Ideal s .f32) (i : s.Idx) (x : ℝ) (h : z i = (x : EReal)) : wt2 z c i = Ideal.exp2 (((x - sp2 x : ℝ) : EReal) + c i) := by
  show Ideal.exp2 (z i - sp z i + c i) = _
  rw [sp_apply z i x h, h, ← EReal.coe_sub]
theorem wtM_apply {s : Shape} (m : IVec s 1) (z c : FVec Ideal s .f32) (i : s.Idx) : wtM m z c i = Scalar.select (m i) (wt2 z c i) 0 :=
  congrArg (Scalar.select (m i) (wt2 z c i)) (zeros_apply i)

/-! ## The steps -/

section Steps

/- A tile's queries, its row, the row's scores and values by number, the tile. -/
variable (q : FVec Ideal S512x128 .bf16) (i : Fin 512) (z : ℕ → ℝ) (V : ℕ → Fin 128 → EReal) (n : ℕ) (hn : n < 4)
variable (t : FVec Ideal S256x256 .bf16) (ht : ∀ k j, t (ix2 k j) = SbMath.tri k.val j.val)

/-- A block of keys makes the row's scores from `lo` on. -/
def Scores {m : ℕ} (k : FVec Ideal ⟨2, ![m, 128]⟩ .bf16) (n' lo : ℕ) : Prop := ∀ j : Fin m, j.val < n' → ∑ d, q (ix2 i d) * k (ix2 j d) = ((z (lo + j.val) : ℝ) : EReal)
/-- A block of values holds the values from `lo` on. -/
def Values {m : ℕ} (v : FVec Ideal ⟨2, ![m, 128]⟩ .bf16) (n' lo : ℕ) : Prop := ∀ j : Fin m, j.val < n' → ∀ d, v (ix2 j d) = V (lo + j.val) d

/-- What a state holds at the row. -/
def Holds (a : FVec Ideal S512x128 .f32 × FVec Ideal S512x128 .f32) (lo : ℕ) : Prop :=
  Held (fun d => a.2 (ix2 i d)) (fun d => a.1 (ix2 i d)) z V (16 + (512 * n + i.val)) lo

include ht hn

theorem near_holds (k v : FVec Ideal S256x128 .bf16) (hk : Scores q i z k 256 (16 + (512 * n + 256))) (hv : Values V v 256 (16 + (512 * n + 256))) :
    Holds i z V n (near q t k v) (16 + (512 * n + 256)) := by
  by_cases hi : i.val < 256
  · refine Held.start z V _ _ (by omega) (fun d => ?_) fun d => ?_
    · show join _ _ (ix2 i d) = 0
      rw [join_apply, dif_pos hi, zeros_apply]
    · show join _ _ (ix2 i d) = 0
      rw [join_apply, dif_pos hi, zeros_apply]
  · have hi' : i.val - 256 < 256 := by omega
    have ei : (⟨256 + (i.val - 256), by omega⟩ : Fin 512) = i := Fin.ext (by show 256 + (i.val - 256) = i.val; omega)
    have hz : ∀ j : Fin 256, zN (lower q) k (ix2 (⟨i.val - 256, hi'⟩ : Fin 256) j) = ((z (16 + (512 * n + 256) + j.val) : ℝ) : EReal) := fun j => by
      rw [zN_apply, ← hk j j.isLt]
      simp only [lower_apply, ei]
    refine Held.first (n := 256) 256 le_rfl z V _ _ (by omega) (fun j => spM nearMask (zN (lower q) k) (ix2 (⟨i.val - 256, hi'⟩ : Fin 256) j))
      (fun j => wtM nearMask (zN (lower q) k) (cN (spM nearMask (zN (lower q) k)) (SbModel.tri t)) (ix2 (⟨i.val - 256, hi'⟩ : Fin 256) j)) (fun j d => v (ix2 j d))
      (fun j => ?_) (fun j => ?_) (fun j hj d => hv j hj d) (by omega) (fun d => ?_) fun d => ?_
    · rw [spM_apply, nearMask_apply, sp_apply _ _ _ (hz j), if_pos j.isLt, seen]
      split_ifs <;> first | rfl | (exfalso; dsimp only at *; omega) | exact EReal.coe_zero.symm
    · rw [wtM_apply, nearMask_apply, wt2_apply _ _ _ _ (hz j), cN_apply]
      simp only [tri_eq, ht]
      exact if_congr (by have := j.isLt; omega) rfl rfl
    · show join _ _ (ix2 i d) = _
      rw [join_apply, dif_neg hi]
      show zeros _ _ - nearS q k _ = _
      rw [zeros_apply, nearS, sumN_apply]
    · show join _ _ (ix2 i d) = _
      rw [join_apply, dif_neg hi, nearV, vN_apply]

theorem far_holds (k v : FVec Ideal S256x128 .bf16) (hk : Scores q i z k 256 (16 + 512 * n)) (hv : Values V v 256 (16 + 512 * n))
    (a : FVec Ideal S512x128 .f32 × FVec Ideal S512x128 .f32) (h : Holds i z V n a (16 + 512 * n + 256)) :
    Holds i z V n (far q t k v a) (16 + 512 * n) := by
  have hz : ∀ j : Fin 256, zF q k (ix2 i j) = ((z (16 + 512 * n + j.val) : ℝ) : EReal) := fun j => by rw [zF_apply, ← hk j j.isLt]
  refine Held.step (n := 256) 256 le_rfl z V _ _ (by omega) (fun j => spM farMask (zF q k) (ix2 i j))
    (fun j => wtM farMask (zF q k) (cF (spM farMask (zF q k)) (SbModel.tri t)) (ix2 i j)) (fun j d => v (ix2 j d))
    (fun j => ?_) (fun j => ?_) (fun j hj d => hv j hj d) h (fun d => ?_) fun d => ?_
  · rw [spM_apply, farMask_apply, sp_apply _ _ _ (hz j), if_pos j.isLt, seen]
    split_ifs <;> first | rfl | (exfalso; omega) | exact EReal.coe_zero.symm
  · rw [wtM_apply, farMask_apply, wt2_apply _ _ _ _ (hz j), cF_apply]
    simp only [tri_eq, ht]
    exact if_congr (by have := j.isLt; omega) rfl rfl
  · show a.2 (ix2 i d) - sumF _ (ix2 i d) = _
    rw [sumF_apply]
  · show a.1 (ix2 i d) + Ideal.exp2 (a.2 (ix2 i d)) * vF _ _ (ix2 i d) = _
    rw [vF_apply]

theorem full_holds (k v : FVec Ideal S256x128 .bf16) (lo : ℕ) (hlo : lo + 256 ≤ 16 + 512 * n) (hk : Scores q i z k 256 lo) (hv : Values V v 256 lo)
    (a : FVec Ideal S512x128 .f32 × FVec Ideal S512x128 .f32) (h : Holds i z V n a (lo + 256)) :
    Holds i z V n (full q t k v a) lo := by
  have hz : ∀ j : Fin 256, zF q k (ix2 i j) = ((z (lo + j.val) : ℝ) : EReal) := fun j => by rw [zF_apply, ← hk j j.isLt]
  refine Held.step (n := 256) 256 le_rfl z V _ _ (by omega) (fun j => sp (zF q k) (ix2 i j))
    (fun j => wt2 (zF q k) (cF (sp (zF q k)) (SbModel.tri t)) (ix2 i j)) (fun j d => v (ix2 j d))
    (fun j => ?_) (fun j => ?_) (fun j hj d => hv j hj d) h (fun d => ?_) fun d => ?_
  · rw [sp_apply _ _ _ (hz j), if_pos j.isLt, seen, if_pos (by omega)]
  · rw [wt2_apply _ _ _ _ (hz j), cF_apply, if_pos ⟨j.isLt, by omega⟩]
    simp only [tri_eq, ht]
  · show a.2 (ix2 i d) - sumF _ (ix2 i d) = _
    rw [sumF_apply]
  · show a.1 (ix2 i d) + Ideal.exp2 (a.2 (ix2 i d)) * vF _ _ (ix2 i d) = _
    rw [vF_apply]

theorem last_apply (mk mv : FVec Ideal S128x128 .bf16) (hk : Scores q i z mk 16 0) (hv : Values V mv 16 0)
    (a : FVec Ideal S512x128 .f32 × FVec Ideal S512x128 .f32) (h : Holds i z V n a 16) (d : Fin 128) :
    last q t mk mv a (ix2 i d) = row z (16 + (512 * n + i.val)) fun p => V p d := by
  have hz : ∀ j : Fin 128, j.val < 16 → zM q mk (ix2 i j) = ((z (0 + j.val) : ℝ) : EReal) := fun j hj => by rw [zM_apply, ← hk j hj]
  refine Held.finish (n := 128) 16 (by omega) z V _ 0 (fun j => spM metaMask (zM q mk) (ix2 i j))
    (fun j => wtM metaMask (zM q mk) (cM (spM metaMask (zM q mk)) (triM t)) (ix2 i j)) (fun j d => mv (ix2 j d))
    (fun j => ?_) (fun j => ?_) (fun j hj d => hv j hj d) h rfl (by omega) d ?_
  · rw [spM_apply, metaMask_apply]
    by_cases hj : j.val < 16
    · rw [if_pos hj, if_pos hj, sp_apply _ _ _ (hz j hj), seen, if_pos (by omega)]
    · rw [if_neg hj, if_neg hj]
  · rw [wtM_apply, metaMask_apply]
    by_cases hj : j.val < 16
    · rw [if_pos hj, if_pos ⟨hj, by omega⟩, wt2_apply _ _ _ _ (hz j hj), cM_apply]
      simp only [triM_apply, ht]
    · rw [if_neg hj, if_neg fun h => hj h.1]
  · show a.1 (ix2 i d) + Ideal.exp2 (a.2 (ix2 i d)) * vM _ _ (ix2 i d) = _
    rw [vM_apply]

end Steps

end Cert.Proof.SbRows

end
-- ==== Proof.SbHead.lean ====
/- One head of one tile of the stick-breaking attention: its result at a row is the row's weighted values. Then the whole
   body on one grid point: its block of results, element by element. -/
module

public import proofs.«01_k».proof.Proof.SbRows
public import Idealize.ShloMosaic.Lib.Pipeline.ValueKit

@[expose] public section

set_option maxRecDepth 16384

noncomputable section

namespace Cert.Proof.SbHead

open Cert.SbIdeal Cert.SbIdeal.Gen Idealize.ShloMosaic Idealize.ShloMosaic.TcCoe Idealize.SL.Sem
open Cert.Proof.SbModel Cert.Proof.SbMath Cert.Proof.SbRows Cert.Proof.Weights

/-! ## The heads -/

section Heads
variable (t : FVec Ideal S256x256 .bf16) (mk mv : FVec Ideal S128x128 .bf16)
variable (k0 v0 k1 v1 k2 v2 k3 v3 k4 v4 k5 v5 k6 v6 k7 v7 : FVec Ideal S256x128 .bf16) (q : FVec Ideal S512x128 .bf16)
variable (i : Fin 512) (d : Fin 128) (z : ℕ → ℝ) (V : ℕ → Fin 128 → EReal)
variable (ht : ∀ k j, t (ix2 k j) = SbMath.tri k.val j.val)

/-- Block `b` of the sequence's keys and values. -/
def Block (b : ℕ) (k v : FVec Ideal S256x128 .bf16) : Prop := Scores q i z k 256 (16 + 256 * b) ∧ Values V v 256 (16 + 256 * b)

variable (hmk : Scores q i z mk 16 0) (hmv : Values V mv 16 0) (h0 : Block q i z V 0 k0 v0) (h1 : Block q i z V 1 k1 v1)
include ht hmk hmv h0 h1

theorem head0_apply : head0 t mk mv k0 v0 k1 v1 q (ix2 i d) = row z (16 + (512 * 0 + i.val)) fun p => V p d :=
  last_apply q i z V 0 (by omega) t ht mk mv hmk hmv _
    (far_holds q i z V 0 (by omega) t ht k0 v0 h0.1 h0.2 _ (near_holds q i z V 0 (by omega) t ht k1 v1 h1.1 h1.2)) d

variable (h2 : Block q i z V 2 k2 v2) (h3 : Block q i z V 3 k3 v3)
include h2 h3

theorem head1_apply : head1 t mk mv k0 v0 k1 v1 k2 v2 k3 v3 q (ix2 i d) = row z (16 + (512 * 1 + i.val)) fun p => V p d :=
  last_apply q i z V 1 (by omega) t ht mk mv hmk hmv _
    (full_holds q i z V 1 (by omega) t ht k0 v0 _ (by omega) h0.1 h0.2 _
    (full_holds q i z V 1 (by omega) t ht k1 v1 _ (by omega) h1.1 h1.2 _
    (far_holds q i z V 1 (by omega) t ht k2 v2 h2.1 h2.2 _ (near_holds q i z V 1 (by omega) t ht k3 v3 h3.1 h3.2)))) d

variable (h4 : Block q i z V 4 k4 v4) (h5 : Block q i z V 5 k5 v5)
include h4 h5

theorem head2_apply : head2 t mk mv k0 v0 k1 v1 k2 v2 k3 v3 k4 v4 k5 v5 q (ix2 i d) = row z (16 + (512 * 2 + i.val)) fun p => V p d :=
  last_apply q i z V 2 (by omega) t ht mk mv hmk hmv _
    (full_holds q i z V 2 (by omega) t ht k0 v0 _ (by omega) h0.1 h0.2 _
    (full_holds q i z V 2 (by omega) t ht k1 v1 _ (by omega) h1.1 h1.2 _
    (full_holds q i z V 2 (by omega) t ht k2 v2 _ (by omega) h2.1 h2.2 _
    (full_holds q i z V 2 (by omega) t ht k3 v3 _ (by omega) h3.1 h3.2 _
    (far_holds q i z V 2 (by omega) t ht k4 v4 h4.1 h4.2 _ (near_holds q i z V 2 (by omega) t ht k5 v5 h5.1 h5.2)))))) d

variable (h6 : Block q i z V 6 k6 v6) (h7 : Block q i z V 7 k7 v7)
include h6 h7

theorem head3_apply : head3 t mk mv k0 v0 k1 v1 k2 v2 k3 v3 k4 v4 k5 v5 k6 v6 k7 v7 q (ix2 i d) = row z (16 + (512 * 3 + i.val)) fun p => V p d :=
  last_apply q i z V 3 (by omega) t ht mk mv hmk hmv _
    (full_holds q i z V 3 (by omega) t ht k0 v0 _ (by omega) h0.1 h0.2 _
    (full_holds q i z V 3 (by omega) t ht k1 v1 _ (by omega) h1.1 h1.2 _
    (full_holds q i z V 3 (by omega) t ht k2 v2 _ (by omega) h2.1 h2.2 _
    (full_holds q i z V 3 (by omega) t ht k3 v3 _ (by omega) h3.1 h3.2 _
    (full_holds q i z V 3 (by omega) t ht k4 v4 _ (by omega) h4.1 h4.2 _
    (full_holds q i z V 3 (by omega) t ht k5 v5 _ (by omega) h5.1 h5.2 _
    (far_holds q i z V 3 (by omega) t ht k6 v6 h6.1 h6.2 _ (near_holds q i z V 3 (by omega) t ht k7 v7 h7.1 h7.2)))))))) d
end Heads

/-! ## The block -/

/-- A block read off by numbers: row `r`, column `c`. -/
def Reads {n k : ℕ} (x : FVec Ideal ⟨2, ![n, k]⟩ .bf16) (X : ℕ → ℕ → EReal) : Prop := ∀ r c, x (ix2 r c) = X r.val c.val

/-- A load of some rows of a block, at rows from `a`. -/
theorem ld_apply {n k p : ℕ} {x : FVec Ideal ⟨2, ![n, k]⟩ .bf16} {X : ℕ → ℕ → EReal} (hx : Reads x X) (a : ℕ)
    (inb : ∀ i, ![a, 0] i + (⟨2, ![p, k]⟩ : Shape).size i ≤ (⟨2, ![n, k]⟩ : Shape).size i) (j : Fin p) (d : Fin k) :
    (View.ld (Val := Elt Ideal) (e' := .bf16) x (Rect.unit (s := ⟨2, ![n, k]⟩) ![a, 0] (⟨2, ![p, k]⟩ : Shape).size inb) : FVec Ideal ⟨2, ![p, k]⟩ .bf16) (ix2 j d) = X (a + j.val) d.val := by
  have ha : a + j.val < n := by have := inb 0; have h := j.isLt; simp at this; omega
  refine (congrArg x (?_ : _ = ix2 ⟨a + j.val, ha⟩ d)).trans (hx _ _)
  funext c
  apply Fin.ext
  match c with
  | 0 => show a + 1 * j.val = a + j.val; rw [Nat.one_mul]
  | 1 => show 0 + 1 * d.val = d.val; rw [Nat.one_mul, Nat.zero_add]

/-- Key or value row `p`: the sixteen meta rows, then the sequence's. -/
def cat (M K : ℕ → ℕ → EReal) (p c : ℕ) : EReal := if p < 16 then M p c else K (p - 16) c

/-- A query row's score against a key row, over head `h`'s 64 columns. -/
def sc (Q K : ℕ → EReal) (h : ℕ) : EReal := ∑ d : Fin 64, Q (64 * h + d.val) * K (64 * h + d.val)

theorem pick_apply (a b : FVec Ideal S512x128 .f32) (i : Fin 512) (l : Fin 128) :
    pick a b (ix2 i l) = if l.val < 64 then a (ix2 i l) else b (ix2 i l) := by
  pointwise [pick]
  word_cmp
theorem qL_apply (x : FVec Ideal S512x128 .bf16) (i : Fin 512) (d : Fin 128) : qL x (ix2 i d) = if d.val < 64 then x (ix2 i d) else 0 := by
  pointwise [qL]
  word_cmp
theorem qR_apply (x : FVec Ideal S512x128 .bf16) (i : Fin 512) (d : Fin 128) : qR x (ix2 i d) = if 64 ≤ d.val then x (ix2 i d) else 0 := by
  pointwise [qR]
  word_cmp

/-- The sum over 128 columns, one head's queries zero outside its own, is the sum over the head's. -/
theorem sum_left (f g : ℕ → EReal) : ∑ d : Fin 128, (if d.val < 64 then f d.val else 0) * g d.val = sc f g 0 := by
  rw [sc, Fin.sum_univ_eq_sum_range (fun d => (if d < 64 then f d else 0) * g d) 128, Fin.sum_univ_eq_sum_range (fun d => f (64 * 0 + d) * g (64 * 0 + d)) 64,
    show 128 = 64 + 64 from rfl, Finset.sum_range_add, Finset.sum_eq_zero (s := Finset.range 64) (f := fun x => (if 64 + x < 64 then f (64 + x) else 0) * g (64 + x)), add_zero]
  · exact Finset.sum_congr rfl fun d hd => by rw [if_pos (Finset.mem_range.mp hd), Nat.mul_zero, Nat.zero_add]
  · intro d _; rw [if_neg (by omega), zero_mul]
theorem sum_right (f g : ℕ → EReal) : ∑ d : Fin 128, (if 64 ≤ d.val then f d.val else 0) * g d.val = sc f g 1 := by
  rw [sc, Fin.sum_univ_eq_sum_range (fun d => (if 64 ≤ d then f d else 0) * g d) 128, Fin.sum_univ_eq_sum_range (fun d => f (64 * 1 + d) * g (64 * 1 + d)) 64,
    show 128 = 64 + 64 from rfl, Finset.sum_range_add, Finset.sum_eq_zero (s := Finset.range 64) (f := fun x => (if 64 ≤ x then f x else 0) * g x), zero_add]
  · exact Finset.sum_congr rfl fun d _ => by rw [if_pos (by omega), Nat.mul_one]
  · intro d hd; rw [if_neg (by have := Finset.mem_range.mp hd; omega), zero_mul]

section Body
variable (x0 x1 x2 : FVec Ideal S2048x128 .bf16) (x3 x4 : FVec Ideal S128x128 .bf16) (x5 : FVec Ideal S256x256 .bf16)
variable (Q K V MK MV : ℕ → ℕ → EReal)
variable (h0 : Reads x0 Q) (h1 : Reads x1 K) (h2 : Reads x2 V) (h3 : Reads x3 MK) (h4 : Reads x4 MV) (h5 : Reads x5 SbMath.tri)

/-- The scores of query row `r` under head `h`, as real numbers. -/
def zs (h r p : ℕ) : ℝ := (sc (Q r) (cat MK K p) h).toReal

/-- The attention over the blocks, row `r`, lane `l`: the head of the pair that the lane belongs to. -/
def blockRow (r l : ℕ) : EReal := row (zs Q K MK (l / 64) r) (16 + r) fun p => cat MV V p l

variable (hQ : ∀ r c, Real? (Q r c)) (hK : ∀ r c, Real? (K r c)) (hMK : ∀ r < 16, ∀ c, Real? (MK r c))

include hQ hK hMK in
theorem zs_coe (h r p : ℕ) : sc (Q r) (cat MK K p) h = ((zs Q K MK h r p : ℝ) : EReal) := by
  have e : Real? (sc (Q r) (cat MK K p) h) := Real?.sum _ _ fun d _ => (hQ _ _).mul (by
    unfold cat; split_ifs with hp
    · exact hMK _ hp _
    · exact hK _ _)
  exact (EReal.coe_toReal e.ne_top e.ne_bot).symm

/-- Row `i` of the queries, one head's columns kept. -/
def Kept (q : FVec Ideal S512x128 .bf16) (i : Fin 512) (r h : ℕ) : Prop := ∀ g : ℕ → EReal, ∑ d : Fin 128, q (ix2 i d) * g d.val = sc (Q r) g h

include h0 in
theorem kept_left (a : ℕ) (inb) (i : Fin 512) : Kept Q (qL (F := Ideal) (View.ld (Val := Elt Ideal) (e' := .bf16) x0 (Rect.unit (s := S2048x128) ![a, 0] S512x128.size inb))) i (a + i.val) 0 := fun g => by
  rw [← sum_left]
  exact Finset.sum_congr rfl fun d _ => by rw [qL_apply, ld_apply h0 a inb i d]
include h0 in
theorem kept_right (a : ℕ) (inb) (i : Fin 512) : Kept Q (qR (F := Ideal) (View.ld (Val := Elt Ideal) (e' := .bf16) x0 (Rect.unit (s := S2048x128) ![a, 0] S512x128.size inb))) i (a + i.val) 1 := fun g => by
  rw [← sum_right]
  exact Finset.sum_congr rfl fun d _ => by rw [qR_apply, ld_apply h0 a inb i d]

section Reading
variable (q : FVec Ideal S512x128 .bf16) (i : Fin 512) (r h : ℕ) (hq : Kept Q q i r h)
include hq hQ hK hMK

include h1 h2 in
theorem block_reads (b : ℕ) (inb) : Block q i (zs Q K MK h r) (fun p d => cat MV V p d.val) b (View.ld (Val := Elt Ideal) (e' := .bf16) x1 (Rect.unit (s := S2048x128) ![256 * b, 0] S256x128.size inb))
    (View.ld (Val := Elt Ideal) (e' := .bf16) x2 (Rect.unit (s := S2048x128) ![256 * b, 0] S256x128.size inb)) := by
  have e : ∀ j, ¬16 + 256 * b + j < 16 := fun j => by omega
  have e' : ∀ j, 16 + 256 * b + j - 16 = 256 * b + j := fun j => by omega
  refine ⟨fun j _ => ?_, fun j _ d => ?_⟩
  · rw [← zs_coe Q K MK hQ hK hMK, ← hq]
    refine Finset.sum_congr rfl fun d _ => ?_
    rw [ld_apply h1, cat, if_neg (e _), e']
  · rw [ld_apply h2]
    beta_reduce
    rw [cat, if_neg (e _), e']

include h3 in
theorem meta_scores (inb) : Scores q i (zs Q K MK h r) (View.ld (Val := Elt Ideal) (e' := .bf16) x3 (Rect.unit (s := S128x128) ![0, 0] S128x128.size inb)) 16 0 := fun j hj => by
  rw [← zs_coe Q K MK hQ hK hMK, ← hq]
  refine Finset.sum_congr rfl fun d _ => ?_
  rw [ld_apply h3, cat, if_pos (by omega)]
end Reading

include h4 in
theorem meta_values (inb) : Values (fun p d => cat MV V p d.val) (View.ld (Val := Elt Ideal) (e' := .bf16) x4 (Rect.unit (s := S128x128) ![0, 0] S128x128.size inb)) 16 0 := fun j hj d => by
  rw [ld_apply h4]
  beta_reduce
  rw [cat, if_pos (by omega)]

include h5 in
theorem tri_reads (inb) (k j : Fin 256) : (View.ld (Val := Elt Ideal) (e' := .bf16) x5 (Rect.unit (s := S256x256) ![0, 0] S256x256.size inb) : FVec Ideal S256x256 .bf16) (ix2 k j) = SbMath.tri k.val j.val := by
  rw [ld_apply h5, Nat.zero_add]

include h0 h1 h2 h3 h4 h5 hQ hK hMK

theorem tile0_apply (i : Fin 512) (l : Fin 128) : tile0 (F := Ideal) x0 x1 x2 x3 x4 x5 (ix2 i l) = blockRow Q K V MK MV (512 * 0 + i.val) l.val := by
  unfold tile0 blockRow
  rw [pick_apply]
  split_ifs with hl
  · have hq := kept_left x0 Q h0 0 inb_S2048x128_S512x128_0_0 i
    have B := block_reads x1 x2 Q K V MK MV h1 h2 hQ hK hMK _ i _ _ hq
    rw [show l.val / 64 = 0 by omega]
    exact head0_apply _ _ _ _ _ _ _ _ i l _ _ (tri_reads x5 h5 _) (meta_scores x3 Q K MK h3 hQ hK hMK _ i _ _ hq _) (meta_values x4 V MV h4 _) (B 0 _) (B 1 _)
  · have hq := kept_right x0 Q h0 0 inb_S2048x128_S512x128_0_0 i
    have B := block_reads x1 x2 Q K V MK MV h1 h2 hQ hK hMK _ i _ _ hq
    rw [show l.val / 64 = 1 by omega]
    exact head0_apply _ _ _ _ _ _ _ _ i l _ _ (tri_reads x5 h5 _) (meta_scores x3 Q K MK h3 hQ hK hMK _ i _ _ hq _) (meta_values x4 V MV h4 _) (B 0 _) (B 1 _)

theorem tile1_apply (i : Fin 512) (l : Fin 128) : tile1 (F := Ideal) x0 x1 x2 x3 x4 x5 (ix2 i l) = blockRow Q K V MK MV (512 * 1 + i.val) l.val := by
  unfold tile1 blockRow
  rw [pick_apply]
  split_ifs with hl
  · have hq := kept_left x0 Q h0 512 inb_S2048x128_S512x128_512_0 i
    have B := block_reads x1 x2 Q K V MK MV h1 h2 hQ hK hMK _ i _ _ hq
    rw [show l.val / 64 = 0 by omega]
    exact head1_apply _ _ _ _ _ _ _ _ _ _ _ _ i l _ _ (tri_reads x5 h5 _) (meta_scores x3 Q K MK h3 hQ hK hMK _ i _ _ hq _) (meta_values x4 V MV h4 _)
      (B 0 _) (B 1 _) (B 2 _) (B 3 _)
  · have hq := kept_right x0 Q h0 512 inb_S2048x128_S512x128_512_0 i
    have B := block_reads x1 x2 Q K V MK MV h1 h2 hQ hK hMK _ i _ _ hq
    rw [show l.val / 64 = 1 by omega]
    exact head1_apply _ _ _ _ _ _ _ _ _ _ _ _ i l _ _ (tri_reads x5 h5 _) (meta_scores x3 Q K MK h3 hQ hK hMK _ i _ _ hq _) (meta_values x4 V MV h4 _)
      (B 0 _) (B 1 _) (B 2 _) (B 3 _)

theorem tile2_apply (i : Fin 512) (l : Fin 128) : tile2 (F := Ideal) x0 x1 x2 x3 x4 x5 (ix2 i l) = blockRow Q K V MK MV (512 * 2 + i.val) l.val := by
  unfold tile2 blockRow
  rw [pick_apply]
  split_ifs with hl
  · have hq := kept_left x0 Q h0 1024 inb_S2048x128_S512x128_1024_0 i
    have B := block_reads x1 x2 Q K V MK MV h1 h2 hQ hK hMK _ i _ _ hq
    rw [show l.val / 64 = 0 by omega]
    exact head2_apply _ _ _ _ _ _ _ _ _ _ _ _ _ _ _ _ i l _ _ (tri_reads x5 h5 _) (meta_scores x3 Q K MK h3 hQ hK hMK _ i _ _ hq _) (meta_values x4 V MV h4 _)
      (B 0 _) (B 1 _) (B 2 _) (B 3 _) (B 4 _) (B 5 _)
  · have hq := kept_right x0 Q h0 1024 inb_S2048x128_S512x128_1024_0 i
    have B := block_reads x1 x2 Q K V MK MV h1 h2 hQ hK hMK _ i _ _ hq
    rw [show l.val / 64 = 1 by omega]
    exact head2_apply _ _ _ _ _ _ _ _ _ _ _ _ _ _ _ _ i l _ _ (tri_reads x5 h5 _) (meta_scores x3 Q K MK h3 hQ hK hMK _ i _ _ hq _) (meta_values x4 V MV h4 _)
      (B 0 _) (B 1 _) (B 2 _) (B 3 _) (B 4 _) (B 5 _)

theorem tile3_apply (i : Fin 512) (l : Fin 128) : tile3 (F := Ideal) x0 x1 x2 x3 x4 x5 (ix2 i l) = blockRow Q K V MK MV (512 * 3 + i.val) l.val := by
  unfold tile3 blockRow
  rw [pick_apply]
  split_ifs with hl
  · have hq := kept_left x0 Q h0 1536 inb_S2048x128_S512x128_1536_0 i
    have B := block_reads x1 x2 Q K V MK MV h1 h2 hQ hK hMK _ i _ _ hq
    rw [show l.val / 64 = 0 by omega]
    exact head3_apply _ _ _ _ _ _ _ _ _ _ _ _ _ _ _ _ _ _ _ _ i l _ _ (tri_reads x5 h5 _) (meta_scores x3 Q K MK h3 hQ hK hMK _ i _ _ hq _) (meta_values x4 V MV h4 _)
      (B 0 _) (B 1 _) (B 2 _) (B 3 _) (B 4 _) (B 5 _) (B 6 _) (B 7 _)
  · have hq := kept_right x0 Q h0 1536 inb_S2048x128_S512x128_1536_0 i
    have B := block_reads x1 x2 Q K V MK MV h1 h2 hQ hK hMK _ i _ _ hq
    rw [show l.val / 64 = 1 by omega]
    exact head3_apply _ _ _ _ _ _ _ _ _ _ _ _ _ _ _ _ _ _ _ _ i l _ _ (tri_reads x5 h5 _) (meta_scores x3 Q K MK h3 hQ hK hMK _ i _ _ hq _) (meta_values x4 V MV h4 _)
      (B 0 _) (B 1 _) (B 2 _) (B 3 _) (B 4 _) (B 5 _) (B 6 _) (B 7 _)

end Body

end Cert.Proof.SbHead

end
-- ==== Proof.SbArray.lean ====
/- The stick-breaking attention's array of results after the run. -/
module

public import proofs.«01_k».proof.Proof.SbHead
public import proofs.«01_k».proof.Proof.MlaArray

@[expose] public section

set_option maxRecDepth 16384

noncomputable section

namespace Cert.Proof.SbArray

open Cert.SbIdeal Cert.SbIdeal.Gen Idealize.ShloMosaic Idealize.ShloMosaic.TcCoe Idealize.SL.Sem
open Cert.Proof.SbModel Cert.Proof.Weights Cert.Proof.SbMath Cert.Proof.SbHead
open Cert.Proof.MlaArray (num num_ix2 num_real num_idx)

/-- The rows of batch `b` of an array. -/
def batch (x : FVec Ideal S32768x512 .bf16) (b r c : ℕ) : EReal := num x (2048 * b + r) c

/-- The attention at row `R`, column `L` of the result: batch `R / 2048`, head `L / 64`. -/
def attn (q k v : FVec Ideal S32768x512 .bf16) (mk mv : FVec Ideal S16x512 .bf16) (R L : ℕ) : EReal :=
  row (zs (batch q (R / 2048)) (batch k (R / 2048)) (num mk) (L / 64) (R % 2048)) (16 + R % 2048) fun p => cat (num mv) (batch v (R / 2048)) p L

/-- Four tiles of 512 rows, written to their rows, make one block. -/
theorem canon_apply (g : ℕ → ℕ → EReal) (t0 t1 t2 t3 : FVec Ideal S512x128 .bf16)
    (h0 : ∀ i l, t0 (ix2 i l) = g (512 * 0 + i.val) l.val) (h1 : ∀ i l, t1 (ix2 i l) = g (512 * 1 + i.val) l.val)
    (h2 : ∀ i l, t2 (ix2 i l) = g (512 * 2 + i.val) l.val) (h3 : ∀ i l, t3 (ix2 i l) = g (512 * 3 + i.val) l.val) (y : S2048x128.Idx) :
    View.canon (Val := Elt Ideal) (e := .bf16) [⟨r0_4, t3⟩, ⟨r0_3, t2⟩, ⟨r0_2, t1⟩, ⟨r0_0, t0⟩] y = g (y 0).val (y 1).val := by
  refine View.canon_apply_of_pieces (Val := Elt Ideal) (e := .bf16) (fun y => g (y 0).val (y 1).val) _ ?_ y (cover0_6 _ _ _ _ _)
  intro p hp x
  simp only [List.mem_cons, List.not_mem_nil, or_false] at hp
  have e3 : ∀ x : S512x128.Idx, g ((r0_4.emb x) 0).val ((r0_4.emb x) 1).val = g (1536 + 1 * (x 0).val) (0 + 1 * (x 1).val) := fun _ => rfl
  have e2 : ∀ x : S512x128.Idx, g ((r0_3.emb x) 0).val ((r0_3.emb x) 1).val = g (1024 + 1 * (x 0).val) (0 + 1 * (x 1).val) := fun _ => rfl
  have e1 : ∀ x : S512x128.Idx, g ((r0_2.emb x) 0).val ((r0_2.emb x) 1).val = g (512 + 1 * (x 0).val) (0 + 1 * (x 1).val) := fun _ => rfl
  have e0 : ∀ x : S512x128.Idx, g ((r0_0.emb x) 0).val ((r0_0.emb x) 1).val = g (0 + 1 * (x 0).val) (0 + 1 * (x 1).val) := fun _ => rfl
  simp only [Nat.one_mul, Nat.zero_add] at e0 e1 e2 e3
  have d : ∀ {t : FVec Ideal S512x128 .bf16} {a : ℕ}, (∀ i l, t (ix2 i l) = g (a + i.val) l.val) → ∀ x : S512x128.Idx, t x = g (a + (x 0).val) (x 1).val :=
    fun h x => by idx_vars x; exact h _ _
  rcases hp with rfl | rfl | rfl | rfl
  · exact (d h3 x).trans (e3 x).symm
  · exact (d h2 x).trans (e2 x).symm
  · exact (d h1 x).trans (e1 x).symm
  · exact (d h0 x).trans (by rw [e0 x, Nat.mul_zero, Nat.zero_add])

section
variable (x0 x1 x2 : FVec Ideal S2048x128 .bf16) (x3 x4 : FVec Ideal S128x128 .bf16) (x5 : FVec Ideal S256x256 .bf16)
variable (Q K V MK MV : ℕ → ℕ → EReal)

/-- The body's block of results, element by element. -/
theorem out_apply (h0 : Reads x0 Q) (h1 : Reads x1 K) (h2 : Reads x2 V) (h3 : Reads x3 MK) (h4 : Reads x4 MV) (h5 : Reads x5 SbMath.tri)
    (hQ : ∀ r c, Real? (Q r c)) (hK : ∀ r c, Real? (K r c)) (hMK : ∀ r < 16, ∀ c, Real? (MK r c)) (y : S2048x128.Idx) :
    out0_6 (F := Ideal) x0 x1 x2 x3 x4 x5 y = blockRow Q K V MK MV (y 0).val (y 1).val := by
  rw [out_eq]
  exact canon_apply (blockRow Q K V MK MV) _ _ _ _ (tile0_apply x0 x1 x2 x3 x4 x5 Q K V MK MV h0 h1 h2 h3 h4 h5 hQ hK hMK)
    (tile1_apply x0 x1 x2 x3 x4 x5 Q K V MK MV h0 h1 h2 h3 h4 h5 hQ hK hMK) (tile2_apply x0 x1 x2 x3 x4 x5 Q K V MK MV h0 h1 h2 h3 h4 h5 hQ hK hMK)
    (tile3_apply x0 x1 x2 x3 x4 x5 Q K V MK MV h0 h1 h2 h3 h4 h5 hQ hK hMK) y
end

theorem pad_rows (x : FVec Ideal S16x512 .bf16) (v : FVec Ideal S_ .bf16) (j : Fin 16) (d : Fin 512) :
    pad S128x512 ![0, 0] ![112, 0] ![0, 0] x v pads_S16x512_S128x512_01120_000 h_S_ (ix2 (⟨j.val, by omega⟩ : Fin 128) d) = x (ix2 j d) := by
  pointwise

/-- Negated ones below the diagonal. -/
theorem below (k j : Fin 256) : (Host.negf (uitofp .bf16 (cmpi .sgt (iotaInDim S256x256 32 0) (iotaInDim S256x256 32 1))) : FVec Ideal S256x256 .bf16) (ix2 k j) = SbMath.tri k.val j.val := by
  pointwise
  have e : IntOp.cmpi .sgt (BitVec.ofNat 32 k.val) (BitVec.ofNat 32 j.val) = if j.val < k.val then 1#1 else 0#1 := by
    word_cmp
    split_ifs with h <;> simp [h]
  rw [e, SbMath.tri]
  split_ifs
  · show -(((1#1 : BitVec 1).toNat : ℝ) : EReal) = -1
    simp
  · show -(((0#1 : BitVec 1).toNat : ℝ) : EReal) = 0
    simp

variable (m : (ℓ : Loc nD τ sig) → Buf (Elt Ideal) ℓ)

theorem V_mk (c : Dev nD) (j : Fin 16) (d : Fin 512) : V m c main_v0 (ix2 (⟨j.val, by omega⟩ : Fin 128) d) = m (c, main_arg3) (ix2 j d) := by
  simp only [V, hostOps0, hostOps0_1, hostOps0_2, hostOps0_3, hostOps0_4, List.flatten_cons, List.flatten_nil, List.append_nil, List.cons_append, List.nil_append]
  after_results
  exact pad_rows _ _ j d

theorem V_mv (c : Dev nD) (j : Fin 16) (d : Fin 512) : V m c main_v1 (ix2 (⟨j.val, by omega⟩ : Fin 128) d) = m (c, main_arg4) (ix2 j d) := by
  simp only [V, hostOps0, hostOps0_1, hostOps0_2, hostOps0_3, hostOps0_4, List.flatten_cons, List.flatten_nil, List.append_nil, List.cons_append, List.nil_append]
  after_results
  exact pad_rows _ _ j d

theorem V_tri (c : Dev nD) (k j : Fin 256) : V m c main_v6 (ix2 k j) = SbMath.tri k.val j.val := by
  simp only [V, hostOps0, hostOps0_1, hostOps0_2, hostOps0_3, hostOps0_4, List.flatten_cons, List.flatten_nil, List.append_nil, List.cons_append, List.nil_append]
  after_results
  exact below k j

theorem num_mk (c : Dev nD) (j d : ℕ) (hj : j < 16) : num (V m c main_v0) j d = num (m (c, main_arg3)) j d := by
  unfold num
  by_cases hd : d < 512
  · rw [dif_pos ⟨by omega, hd⟩, dif_pos ⟨hj, hd⟩]
    exact V_mk m c ⟨j, hj⟩ ⟨d, hd⟩
  · rw [dif_neg fun h => hd h.2, dif_neg fun h => hd h.2]

theorem num_mv (c : Dev nD) (j d : ℕ) (hj : j < 16) : num (V m c main_v1) j d = num (m (c, main_arg4)) j d := by
  unfold num
  by_cases hd : d < 512
  · rw [dif_pos ⟨by omega, hd⟩, dif_pos ⟨hj, hd⟩]
    exact V_mv m c ⟨j, hj⟩ ⟨d, hd⟩
  · rw [dif_neg fun h => hd h.2, dif_neg fun h => hd h.2]

theorem idx0 (t : Fin cfg0.grid.N) : win0_0.index t = win0_6.index t := rfl
theorem idx1 (t : Fin cfg0.grid.N) : win0_1.index t = win0_6.index t := rfl
theorem idx2 (t : Fin cfg0.grid.N) : win0_2.index t = win0_6.index t := rfl
theorem idx3 (t : Fin cfg0.grid.N) : win0_3.index t = ![0, win0_6.index t 1] := rfl
theorem idx4 (t : Fin cfg0.grid.N) : win0_4.index t = ![0, win0_6.index t 1] := rfl
theorem idx5 (t : Fin cfg0.grid.N) : win0_5.index t = ![0, 0] := rfl

theorem reads0 (c : Dev nD) (t : Fin cfg0.grid.N) : Reads (iblk m c 0 t) fun r d => num (m (c, main_arg0)) (win0_6.index t 0 * 2048 + r) (win0_6.index t 1 * 128 + d) := by
  intro r d
  blk_simp [iblk]
  rw [V_main_arg0]
  refine (num_idx (m (c, main_arg0)) ((win0_0.blk t).view.emb (ix2 r d))).trans (congrArg₂ (num _) ?_ ?_)
  · show win0_0.index t 0 * 2048 + 1 * r.val = _
    rw [idx0, Nat.one_mul]
  · show win0_6.index t 1 * 128 + 1 * d.val = _
    rw [Nat.one_mul]

theorem reads1 (c : Dev nD) (t : Fin cfg0.grid.N) : Reads (iblk m c 1 t) fun r d => num (m (c, main_arg1)) (win0_6.index t 0 * 2048 + r) (win0_6.index t 1 * 128 + d) := by
  intro r d
  blk_simp [iblk]
  rw [V_main_arg1]
  refine (num_idx (m (c, main_arg1)) ((win0_1.blk t).view.emb (ix2 r d))).trans (congrArg₂ (num _) ?_ ?_)
  · show win0_1.index t 0 * 2048 + 1 * r.val = _
    rw [idx1, Nat.one_mul]
  · show win0_6.index t 1 * 128 + 1 * d.val = _
    rw [Nat.one_mul]

theorem reads2 (c : Dev nD) (t : Fin cfg0.grid.N) : Reads (iblk m c 2 t) fun r d => num (m (c, main_arg2)) (win0_6.index t 0 * 2048 + r) (win0_6.index t 1 * 128 + d) := by
  intro r d
  blk_simp [iblk]
  rw [V_main_arg2]
  refine (num_idx (m (c, main_arg2)) ((win0_2.blk t).view.emb (ix2 r d))).trans (congrArg₂ (num _) ?_ ?_)
  · show win0_2.index t 0 * 2048 + 1 * r.val = _
    rw [idx2, Nat.one_mul]
  · show win0_6.index t 1 * 128 + 1 * d.val = _
    rw [Nat.one_mul]

theorem reads3 (c : Dev nD) (t : Fin cfg0.grid.N) : Reads (iblk m c 3 t) fun r d => num (V m c main_v0) r (win0_6.index t 1 * 128 + d) := by
  intro r d
  blk_simp [iblk]
  refine (num_idx (V m c main_v0) ((win0_3.blk t).view.emb (ix2 r d))).trans (congrArg₂ (num _) ?_ ?_)
  · show 0 * 128 + 1 * r.val = _
    rw [Nat.zero_mul, Nat.zero_add, Nat.one_mul]
  · show win0_6.index t 1 * 128 + 1 * d.val = _
    rw [Nat.one_mul]

theorem reads4 (c : Dev nD) (t : Fin cfg0.grid.N) : Reads (iblk m c 4 t) fun r d => num (V m c main_v1) r (win0_6.index t 1 * 128 + d) := by
  intro r d
  blk_simp [iblk]
  refine (num_idx (V m c main_v1) ((win0_4.blk t).view.emb (ix2 r d))).trans (congrArg₂ (num _) ?_ ?_)
  · show 0 * 128 + 1 * r.val = _
    rw [Nat.zero_mul, Nat.zero_add, Nat.one_mul]
  · show win0_6.index t 1 * 128 + 1 * d.val = _
    rw [Nat.one_mul]

theorem reads5 (c : Dev nD) (t : Fin cfg0.grid.N) : Reads (iblk m c 5 t) SbMath.tri := by
  intro k j
  rw [← V_tri m c k j]
  blk_simp [iblk]
  refine congrArg (V m c main_v6) (?_ : (win0_5.blk t).view.emb (ix2 k j) = ix2 k j)
  funext a
  apply Fin.ext
  match a with
  | 0 => show 0 * 256 + 1 * k.val = k.val; omega
  | 1 => show 0 * 256 + 1 * j.val = j.val; omega

/-- Equal scores and values make equal rows. -/
theorem row_congr {z z' : ℕ → ℝ} {r r' : ℕ} {v v' : ℕ → EReal} (hz : ∀ p, z p = z' p) (hr : r = r') (hv : ∀ p, v p = v' p) : row z r v = row z' r' v' := by
  rw [funext hz, hr, funext hv]

/-- The result's array after the run: the attention at every row and column. -/
theorem arr_eq (c : Dev nD) (hq : ∀ i, Real? (m (c, main_arg0) i)) (hk : ∀ i, Real? (m (c, main_arg1) i)) (hmk : ∀ i, Real? (m (c, main_arg3) i)) :
    (dats m 0 c).arrAt 6 cfg0.N = fun i => attn (m (c, main_arg0)) (m (c, main_arg1)) (m (c, main_arg2)) (m (c, main_arg3)) (m (c, main_arg4)) (i 0).val (i 1).val := by
  refine (dats m 0 c).arrAt_eq_of_covers 6 _ (by decide +kernel) fun t hf y => ?_
  blk_simp
  rw [after0_6]
  refine (out_apply _ _ _ _ _ _ _ _ _ _ _ (reads0 m c t) (reads1 m c t) (reads2 m c t) (reads3 m c t) (reads4 m c t) (reads5 m c t)
    (fun r d => num_real _ hq _ _) (fun r d => num_real _ hk _ _) (fun r hr d => by rw [num_mk m c _ _ hr]; exact num_real _ hmk _ _) y).trans ?_
  have hy0 : (y 0).val < 2048 := (y 0).isLt
  have hy1 : (y 1).val < 128 := (y 1).isLt
  generalize (y 0).val = r at hy0 ⊢
  generalize (y 1).val = l at hy1 ⊢
  generalize win0_6.index t 0 = b
  generalize win0_6.index t 1 = h
  unfold blockRow attn
  have ec : ∀ d, h * 128 + (64 * (l / 64) + d) = 64 * ((h * 128 + l) / 64) + d := fun d => by omega
  have eb : (b * 2048 + r) / 2048 = b := by omega
  have er : (b * 2048 + r) % 2048 = r := by omega
  rw [eb, er]
  refine row_congr (fun p => congrArg EReal.toReal (Finset.sum_congr rfl fun d _ => congrArg₂ (· * ·) ?_ ?_)) rfl fun p => ?_
  · beta_reduce; rw [ec, batch, Nat.mul_comm]
  · unfold cat; beta_reduce
    split_ifs with hp
    · rw [ec, num_mk m c _ _ hp]
    · rw [ec, batch, Nat.mul_comm]
  · unfold cat; beta_reduce
    split_ifs with hp
    · rw [num_mv m c _ _ hp]
    · rw [batch, Nat.mul_comm]

end Cert.Proof.SbArray

end
-- ==== Proof.SbRef.lean ====
/- The stick-breaking attention's reference, read element by element. -/
module

public import proofs.«01_k».proof.Proof.SbArray
public import proofs.«01_k».proof.Proof.MlaRef
public import proofs.«01_k».proof.Proof.Gen.SbRefIdeal.Read

@[expose] public section

set_option maxRecDepth 16384

noncomputable section

namespace Cert.Proof.SbRef

open Cert.SbRefIdeal Cert.SbRefIdeal.Gen Cert.SbRefIdeal.Read Idealize.ShloMosaic Idealize.ShloMosaic.TcCoe Idealize.SL.Sem
open Cert.Proof.Weights Cert.Proof.SbMath Cert.Proof.SbHead Cert.Proof.SbArray Cert.Proof.SbRows
open Cert.Proof.MlaArray (num num_ix2 num_real num_idx)

/-! ## The running sum -/

/-- A left fold of additions is a sum. -/
theorem foldl_sum {N : ℕ} (g : Fin N → EReal) : (List.finRange N).foldl (fun r n => r + g n) 0 = ∑ n, g n := by
  rw [← List.sum_ofFn, List.ofFn_eq_map, List.sum_eq_foldl, List.foldl_map]

/-- The places of a window that is one wide but along its last axis. -/
def lane : Shape.Idx ⟨4, ![1, 1, 1, 2064]⟩ ≃ Fin 2064 where
  toFun w := w 3
  invFun k := ix4 (0 : Fin 1) (0 : Fin 1) (0 : Fin 1) k
  left_inv w := by
    funext a
    match a with
    | 0 => exact Subsingleton.elim (α := Fin 1) _ _
    | 1 => exact Subsingleton.elim (α := Fin 1) _ _
    | 2 => exact Subsingleton.elim (α := Fin 1) _ _
    | 3 => rfl
  right_inv k := rfl

/-- A window as long as the axis, ending at place `c`, holds the places up to `c`. -/
theorem sum_upto (f : ℕ → EReal) (c : ℕ) (hc : c < 2064) : ∑ k : Fin 2064, (if 2063 ≤ c + k.val then f (c + k.val - 2063) else 0) = ∑ p ∈ Finset.range (c + 1), f p := by
  rw [Fin.sum_univ_eq_sum_range (fun k => if 2063 ≤ c + k then f (c + k - 2063) else 0) 2064, show Finset.range 2064 = Finset.range ((2063 - c) + (c + 1)) from congrArg _ (by omega),
    Finset.sum_range_add, Finset.sum_eq_zero, zero_add]
  · exact Finset.sum_congr rfl fun p _ => by rw [if_pos (by omega)]; congr 1; omega
  · exact fun p hp => if_neg (by have := Finset.mem_range.mp hp; omega)

section Running
variable (x : FVec Ideal S16x8x2048x2064 .f32) (b : Fin 16) (h : Fin 8) (r : Fin 2048) (c : Fin 2064) (f : ℕ → EReal) (hf : ∀ k : Fin 2064, x (ix4 b h r k) = f k.val)
include hf

/-- What the window that ends at place `c` reads at its own place `w`. -/
theorem at_place (w : Shape.Idx ⟨4, ![1, 1, 1, 2064]⟩) :
    (if hin : ∀ a : Fin 4, (![0, 0, 0, 2063] : Fin 4 → ℕ) a ≤ ((ix4 b h r c : S16x8x2048x2064.Idx) a).val * (![1, 1, 1, 1] : Fin 4 → ℕ) a + (w a).val ∧
      ((ix4 b h r c : S16x8x2048x2064.Idx) a).val * (![1, 1, 1, 1] : Fin 4 → ℕ) a + (w a).val - (![0, 0, 0, 2063] : Fin 4 → ℕ) a < S16x8x2048x2064.size a
    then x (fun a => ⟨((ix4 b h r c : S16x8x2048x2064.Idx) a).val * (![1, 1, 1, 1] : Fin 4 → ℕ) a + (w a).val - (![0, 0, 0, 2063] : Fin 4 → ℕ) a, (hin a).2⟩) else (0 : EReal)) =
      if 2063 ≤ c.val + (lane w).val then f (c.val + (lane w).val - 2063) else 0 := by
  have w0 : (w 0).val = 0 := Nat.lt_one_iff.mp (w 0).isLt
  have w1 : (w 1).val = 0 := Nat.lt_one_iff.mp (w 1).isLt
  have w2 : (w 2).val = 0 := Nat.lt_one_iff.mp (w 2).isLt
  have hw : (w 3).val < 2064 := (w 3).isLt
  have hc := c.isLt
  show _ = if 2063 ≤ c.val + (w 3).val then f (c.val + (w 3).val - 2063) else 0
  by_cases hle : 2063 ≤ c.val + (w 3).val
  · rw [if_pos hle, dif_pos (fun a => by
      match a with
      | 0 => exact ⟨Nat.zero_le _, by show b.val * 1 + (w 0).val - 0 < 16; rw [w0]; omega⟩
      | 1 => exact ⟨Nat.zero_le _, by show h.val * 1 + (w 1).val - 0 < 8; rw [w1]; omega⟩
      | 2 => exact ⟨Nat.zero_le _, by show r.val * 1 + (w 2).val - 0 < 2048; rw [w2]; omega⟩
      | 3 => exact ⟨by show 2063 ≤ c.val * 1 + (w 3).val; omega, by show c.val * 1 + (w 3).val - 2063 < 2064; omega⟩)]
    refine (congrArg x (?_ : _ = ix4 b h r (⟨c.val + (w 3).val - 2063, by omega⟩ : Fin 2064))).trans (hf _)
    funext a
    apply Fin.ext
    match a with
    | 0 => show b.val * 1 + (w 0).val - 0 = b.val; rw [w0]; omega
    | 1 => show h.val * 1 + (w 1).val - 0 = h.val; rw [w1]; omega
    | 2 => show r.val * 1 + (w 2).val - 0 = r.val; rw [w2]; omega
    | 3 => show c.val * 1 + (w 3).val - 2063 = c.val + (w 3).val - 2063; omega
  · rw [if_neg hle, dif_neg]
    intro hin
    have e : 2063 ≤ c.val * 1 + (w 3).val := (hin 3).1
    omega

/-- The running sum along the last axis. -/
theorem running (init : FVec Ideal S_ .f32) (hinit : init (Shape.Idx.first h_S_) = 0) :
    Host.reduceWindowAdd ![1, 1, 1, 2064] ![1, 1, 1, 1] ![0, 0, 0, 2063] ![0, 0, 0, 0] x init
      reduceWindows_S16x8x2048x2064_S16x8x2048x2064_w1s1p0_0_w1s1p0_0_w1s1p0_0_w2064s1p2063_0 h_S_ (ix4 b h r c) = ∑ p ∈ Finset.range (c.val + 1), f p := by
  rw [← sum_upto f c.val c.isLt]
  unfold Host.reduceWindowAdd
  rw [Ideal.hostReduceWindowAdd_def, hinit]
  unfold Ideal.hostReduceWindowAdd Host.reduceWindow
  refine (foldl_sum _).trans ?_
  exact Fintype.sum_equiv ((Shape.rowMajor ⟨4, ![1, 1, 1, 2064]⟩).symm.trans lane) _ (fun k : Fin 2064 => if 2063 ≤ c.val + k.val then f (c.val + k.val - 2063) else 0)
    fun n => by convert at_place x b h r c f hf ((Shape.rowMajor ⟨4, ![1, 1, 1, 2064]⟩).symm n) <;> rfl
end Running

/-! ## The softplus -/

/-- The reference's softplus of a real number. -/
theorem soft (y : ℝ) : Scalar.select (FloatOps.cmpf (F := Ideal) (φ := .f32) .une (FloatOps.subf (F := Ideal) (φ := .f32) (y : EReal) (FloatOps.ofBits .f32 0x00000000#32)) (FloatOps.subf (F := Ideal) (φ := .f32) (y : EReal) (FloatOps.ofBits .f32 0x00000000#32)))
    (FloatOps.addf (F := Ideal) (φ := .f32) (y : EReal) (FloatOps.ofBits .f32 0x00000000#32))
    (FloatOps.addf (F := Ideal) (φ := .f32) (FloatOps.maximumf (F := Ideal) (φ := .f32) (y : EReal) (FloatOps.ofBits .f32 0x00000000#32))
      (FloatOps.hostUnary (F := Ideal) (φ := .f32) .log1p (FloatOps.hostUnary (F := Ideal) (φ := .f32) .exp (FloatOps.hostNegf (F := Ideal) (φ := .f32) (FloatOps.hostAbsf (F := Ideal) (φ := .f32)
        (FloatOps.subf (F := Ideal) (φ := .f32) (y : EReal) (FloatOps.ofBits .f32 0x00000000#32))))))) = ((max y 0 + Real.log (1 + Real.exp (-|y|)) : ℝ) : EReal) := by
  show Scalar.select (BitVec.ofBool (decide ((y : EReal) - Ideal.ofBits .f32 0x00000000#32 ≠ (y : EReal) - Ideal.ofBits .f32 0x00000000#32))) ((y : EReal) + Ideal.ofBits .f32 0x00000000#32)
    (max (y : EReal) (Ideal.ofBits .f32 0x00000000#32) + Ideal.log (1 + Ideal.exp (-(max ((y : EReal) - Ideal.ofBits .f32 0x00000000#32) (-((y : EReal) - Ideal.ofBits .f32 0x00000000#32)))))) = _
  have ed : decide ((y : EReal) - Ideal.ofBits .f32 0x00000000#32 ≠ (y : EReal) - Ideal.ofBits .f32 0x00000000#32) = false := decide_eq_false fun h => h rfl
  rw [ed]
  show max (y : EReal) (Ideal.ofBits .f32 0x00000000#32) + Ideal.log (1 + Ideal.exp (-(max ((y : EReal) - Ideal.ofBits .f32 0x00000000#32) (-((y : EReal) - Ideal.ofBits .f32 0x00000000#32))))) = _
  rw [zero_word, sub_zero, ← EReal.coe_neg, coe_max, ← EReal.coe_neg, Ideal.exp_coe, ← EReal.coe_one, ← EReal.coe_add, Ideal.log_coe,
    if_neg (by have := Real.exp_pos (-max y (-y)); linarith), ← EReal.coe_zero, coe_max, ← EReal.coe_add]
  rfl

variable (x0 x1 x2 : FVec Ideal S32768x512 .bf16) (x3 x4 : FVec Ideal S16x512 .bf16)

theorem v1_apply (i : S16x2048x8x64.Idx) : val_main_v1 (F := Ideal) x0 i = batch x0 (i 0).val (i 1).val (64 * (i 2).val + (i 3).val) := by
  rw [val_main_v1_apply, val_main_v0_apply]
  have h0 : (i 0).val < 16 := (i 0).isLt; have h1 : (i 1).val < 2048 := (i 1).isLt; have h2 : (i 2).val < 8 := (i 2).isLt; have h3 : (i 3).val < 64 := (i 3).isLt
  refine (num_idx x0 _).trans (congrArg₂ (num _) ?_ ?_)
  · show ((((i 0).val * 2048 + (i 1).val) * 8 + (i 2).val) * 64 + (i 3).val) / 512 = _
    omega
  · show ((((i 0).val * 2048 + (i 1).val) * 8 + (i 2).val) * 64 + (i 3).val) % 512 = _
    omega

theorem v6_apply (b : Fin 16) (r : Fin 2048) (h : Fin 8) (d : Fin 64) :
    val_main_v6 (F := Ideal) x1 (ix4 b r h d) = batch x1 b.val r.val (64 * h.val + d.val) := v1_apply x1 (ix4 b r h d)
theorem v12_apply (b : Fin 16) (r : Fin 2048) (h : Fin 8) (d : Fin 64) :
    val_main_v12 (F := Ideal) x2 (ix4 b r h d) = batch x2 b.val r.val (64 * h.val + d.val) := v1_apply x2 (ix4 b r h d)

theorem v4_apply (b : Fin 16) (r : Fin 16) (h : Fin 8) (d : Fin 64) :
    val_main_v4 (F := Ideal) x3 (ix4 b r h d) = num x3 r.val (64 * h.val + d.val) := by
  rw [val_main_v4_apply, val_main_v3_apply, val_main_v2_apply]
  refine (num_idx x3 _).trans (congrArg₂ (num _) ?_ ?_)
  · show (((0 * 16 + r.val) * 8 + h.val) * 64 + d.val) / 512 = _
    omega
  · show (((0 * 16 + r.val) * 8 + h.val) * 64 + d.val) % 512 = _
    omega
theorem v10_apply (b : Fin 16) (r : Fin 16) (h : Fin 8) (d : Fin 64) :
    val_main_v10 (F := Ideal) x4 (ix4 b r h d) = num x4 r.val (64 * h.val + d.val) := v4_apply x4 b r h d

theorem v7_apply (b : Fin 16) (k : Fin 2064) (h : Fin 8) (d : Fin 64) :
    val_main_v7 (F := Ideal) x1 x3 (ix4 b k h d) = cat (num x3) (batch x1 b.val) k.val (64 * h.val + d.val) := by
  pointwise [val_main_v7]
  unfold cat
  by_cases hk : k.val < 16
  · rw [dif_pos hk, if_pos hk]; exact v4_apply _ _ _ _ _
  · rw [dif_neg hk, if_neg hk]; exact v6_apply _ _ ⟨k.val - 16, by omega⟩ _ _
theorem v13_apply (b : Fin 16) (k : Fin 2064) (h : Fin 8) (d : Fin 64) :
    val_main_v13 (F := Ideal) x2 x4 (ix4 b k h d) = cat (num x4) (batch x2 b.val) k.val (64 * h.val + d.val) := v7_apply x2 x4 b k h d

/-- The mask: a query sees the keys before its own. -/
theorem mask1 {α : Type} (b : Fin 16) (h : Fin 8) (r : Fin 2048) (k : Fin 2064) (x y : α) :
    Scalar.select (val_main_call1_v1 (F := Ideal) (ix4 b h r k)) x y = if k.val < 16 + r.val then x else y := by
  rw [val_main_call1_v1_apply, val_main_v24_apply, val_main_v22_apply, val_main_v23_apply, val_main_v19_apply, val_main_v21_apply, val_main_v20_apply, val_main_v18_apply, val_main_v18_apply]
  show Scalar.select (IntOp.cmpi .slt (BitVec.ofNat 32 k.val) (BitVec.ofNat 32 (16 + r.val))) x y = _
  word_cmp
theorem mask4 {α : Type} (b : Fin 16) (h : Fin 8) (r : Fin 2048) (k : Fin 2064) (x y : α) :
    Scalar.select (val_main_call4_v1 (F := Ideal) (ix4 b h r k)) x y = if k.val < 16 + r.val then x else y := mask1 b h r k x y

section Real
variable (h0 : ∀ i, Real? (x0 i)) (h1 : ∀ i, Real? (x1 i)) (h3 : ∀ i, Real? (x3 i))
include h0 h1 h3

/-- The scores of query `r` in batch `b` under head `h`. -/
abbrev zr (b h r : ℕ) : ℕ → ℝ := zs (batch x0 b) (batch x1 b) (num x3) h r

theorem v17_apply (b : Fin 16) (h : Fin 8) (r : Fin 2048) (k : Fin 2064) :
    val_main_v17 (F := Ideal) x0 x1 x3 (ix4 b h r k) = ((zr x0 x1 x3 b.val h.val r.val k.val * Real.log 2 : ℝ) : EReal) := by
  rw [val_main_v17_apply, val_main_v16_apply, val_main_v15_apply, val_main_cst_apply, MlaRef.log_two, val_main_v14_apply, EReal.coe_mul,
    ← zs_coe (batch x0 b.val) (batch x1 b.val) (num x3) (fun r c => num_real x0 h0 _ _) (fun r c => num_real x1 h1 _ _) (fun r _ c => num_real x3 h3 _ _)]
  have e1 : ∀ d : Fin 64, val_main_v1 (F := Ideal) x0 (lidx_main_v14 (ix4 b h r k) d) = batch x0 b.val r.val (64 * h.val + d.val) := fun d => v1_apply x0 _
  have e2 : ∀ d : Fin 64, val_main_v7 (F := Ideal) x1 x3 (ridx_main_v14 (ix4 b h r k) d) = cat (num x3) (batch x1 b.val) k.val (64 * h.val + d.val) := fun d => by
    rw [← v7_apply x1 x3 b k h d]
    congr 1
    funext a; fin_cases a <;> rfl
  simp only [e1, e2]
  rfl

/-- Minus the softplus of a score, where the query sees the key. -/
theorem v27_apply (b : Fin 16) (h : Fin 8) (r : Fin 2048) (k : Fin 2064) :
    val_main_v27 (F := Ideal) x0 x1 x3 (ix4 b h r k) = ((-(seen (zr x0 x1 x3 b.val h.val r.val) (16 + r.val) k.val) * Real.log 2 : ℝ) : EReal) := by
  rw [val_main_v27_apply, mask1, val_main_v26_apply, val_main_call0_v1_apply, val_main_call0_call0_v4_apply, val_main_call0_call0_v6_apply, val_main_call0_call0_v11_apply,
    val_main_call0_call0_v1_apply, val_main_call0_call0_v10_apply, val_main_call0_call0_v9_apply, val_main_call0_call0_v8_apply, val_main_call0_call0_v7_apply, val_main_call0_call0_v3_apply,
    val_main_call0_call0_v5_apply, val_main_call0_call0_v2_apply, val_main_call0_call0_v0_apply, val_main_call0_call0_cst_apply,
    val_main_call0_v0_apply, val_main_v25_apply, v17_apply x0 x1 x3 h0 h1 h3, val_main_call1_v2_apply, val_main_call1_v0_apply, val_main_cst_0_apply]
  have en : FloatOps.hostNegf (F := Ideal) (φ := .f32) (FloatOps.hostNegf (F := Ideal) (φ := .f32) ((zr x0 x1 x3 b.val h.val r.val k.val * Real.log 2 : ℝ) : EReal)) = ((zr x0 x1 x3 b.val h.val r.val k.val * Real.log 2 : ℝ) : EReal) :=
    neg_neg _
  rw [en, soft, softplus_eq, seen]
  split_ifs
  · show -((sp2 _ * Real.log 2 : ℝ) : EReal) = _
    rw [← EReal.coe_neg, neg_mul]
  · show Ideal.ofBits .f32 0x00000000#32 = _
    rw [zero_word, neg_zero, zero_mul, EReal.coe_zero]

/-- The score less its softplus. -/
theorem v29_apply (b : Fin 16) (h : Fin 8) (r : Fin 2048) (k : Fin 2064) :
    val_main_v29 (F := Ideal) x0 x1 x3 (ix4 b h r k) = (((zr x0 x1 x3 b.val h.val r.val k.val - sp2 (zr x0 x1 x3 b.val h.val r.val k.val)) * Real.log 2 : ℝ) : EReal) := by
  rw [val_main_v29_apply, val_main_call3_v1_apply, val_main_call3_call0_v4_apply, val_main_call3_call0_v6_apply, val_main_call3_call0_v11_apply,
    val_main_call3_call0_v1_apply, val_main_call3_call0_v10_apply, val_main_call3_call0_v9_apply, val_main_call3_call0_v8_apply, val_main_call3_call0_v7_apply, val_main_call3_call0_v3_apply,
    val_main_call3_call0_v5_apply, val_main_call3_call0_v2_apply, val_main_call3_call0_v0_apply, val_main_call3_call0_cst_apply,
    val_main_call3_v0_apply, v17_apply x0 x1 x3 h0 h1 h3]
  have en : FloatOps.hostNegf (F := Ideal) (φ := .f32) ((zr x0 x1 x3 b.val h.val r.val k.val * Real.log 2 : ℝ) : EReal) = ((-zr x0 x1 x3 b.val h.val r.val k.val * Real.log 2 : ℝ) : EReal) := by
    rw [neg_mul, EReal.coe_neg]; rfl
  rw [en, soft, softplus_eq, sp2_neg]
  show -((_ : ℝ) : EReal) = _
  rw [← EReal.coe_neg]
  congr 1; ring

theorem v28_apply (b : Fin 16) (h : Fin 8) (r : Fin 2048) (c : Fin 2064) :
    val_main_v28 (F := Ideal) x0 x1 x3 (ix4 b h r c) = ((∑ p ∈ Finset.range (c.val + 1), -(seen (zr x0 x1 x3 b.val h.val r.val) (16 + r.val) p) * Real.log 2 : ℝ) : EReal) := by
  rw [← sum_coe]
  unfold val_main_v28
  refine running _ b h r c (fun p => ((-(seen (zr x0 x1 x3 b.val h.val r.val) (16 + r.val) p) * Real.log 2 : ℝ) : EReal)) (v27_apply x0 x1 x3 h0 h1 h3 b h r) _ ?_
  rw [val_main_call2_call0_v0_apply, val_main_call2_call0_cst_apply]
  exact zero_word

theorem v35_apply (b : Fin 16) (h : Fin 8) (r : Fin 2048) (k : Fin 2064) :
    val_main_v35 (F := Ideal) x0 x1 x3 (ix4 b h r k) = ((weight (zr x0 x1 x3 b.val h.val r.val) (16 + r.val) k.val : ℝ) : EReal) := by
  have ei : idx_main_v30 (idx_main_v31 (ix4 b h r k)) = ix4 b h r (⟨2063, by omega⟩ : Fin 2064) := by funext a; fin_cases a <;> rfl
  rw [val_main_v35_apply, mask4, val_main_v34_apply, val_main_v33_apply, val_main_v32_apply, val_main_v31_apply, val_main_v30_apply, ei, v29_apply x0 x1 x3 h0 h1 h3, v28_apply x0 x1 x3 h0 h1 h3, v28_apply x0 x1 x3 h0 h1 h3,
    val_main_call4_v2_apply, val_main_call4_v0_apply, val_main_cst_1_apply, weight]
  generalize zr x0 x1 x3 b.val h.val r.val = z
  split_ifs
  · show Ideal.exp (((_ : ℝ) : EReal) + ((_ : ℝ) : EReal) - ((_ : ℝ) : EReal)) = _
    rw [← EReal.coe_add, ← EReal.coe_sub, Ideal.exp_coe, ← exp_log2]
    congr 2
    have hk := k.isLt
    have es : ∑ p ∈ Finset.range 2064, -(seen z (16 + r.val) p) * Real.log 2 = ∑ p ∈ Finset.range (k.val + 1), -(seen z (16 + r.val) p) * Real.log 2 + -(gap z (16 + r.val) (k.val + 1)) * Real.log 2 := by
      rw [gap, ← Finset.sum_range_add_sum_Ico _ (show k.val + 1 ≤ 2064 by omega), ← Finset.sum_mul, ← Finset.sum_mul, Finset.sum_neg_distrib, Finset.sum_neg_distrib]
    show _ + ∑ p ∈ Finset.range 2064, -(seen z (16 + r.val) p) * Real.log 2 - _ = _
    rw [es]; ring
  · show Ideal.ofBits .f32 0x00000000#32 = _
    rw [zero_word, EReal.coe_zero]

theorem v36_apply (b : Fin 16) (h : Fin 8) (d : Fin 64) (r : Fin 2048) : val_main_v36 (F := Ideal) x0 x1 x2 x3 x4 (ix4 b h d r) =
    row (zr x0 x1 x3 b.val h.val r.val) (16 + r.val) fun p => cat (num x4) (batch x2 b.val) p (64 * h.val + d.val) := by
  rw [val_main_v36_apply, row, ← Fin.sum_univ_eq_sum_range (fun p => ((weight (zr x0 x1 x3 b.val h.val r.val) (16 + r.val) p : ℝ) : EReal) * cat (num x4) (batch x2 b.val) p (64 * h.val + d.val)) 2064]
  refine Finset.sum_congr rfl fun k _ => ?_
  have el : lidx_main_v36 (ix4 b h d r) k = ix4 b k h d := by funext a; fin_cases a <;> rfl
  have er : ridx_main_v36 (ix4 b h d r) k = ix4 b h r k := by funext a; fin_cases a <;> rfl
  rw [el, er, v13_apply, v35_apply x0 x1 x3 h0 h1 h3, mul_comm]

theorem v39_apply (i : S32768x512.Idx) : val_main_v39 (F := Ideal) x0 x1 x2 x3 x4 i = attn x0 x1 x2 x3 x4 (i 0).val (i 1).val := by
  rw [val_main_v39_apply, val_main_v38_apply, val_main_v37_apply]
  have hR : (i 0).val < 32768 := (i 0).isLt
  have hL : (i 1).val < 512 := (i 1).isLt
  have ei : idx_main_v37 (idx_main_v38 i) = ix4 (⟨(i 0).val / 2048, by omega⟩ : Fin 16) (⟨(i 1).val / 64, by omega⟩ : Fin 8) (⟨(i 1).val % 64, by omega⟩ : Fin 64) (⟨(i 0).val % 2048, by omega⟩ : Fin 2048) := by
    funext a; apply Fin.ext
    fin_cases a
    · show ((i 0).val * 512 + (i 1).val) / 1048576 = (i 0).val / 2048; omega
    · show ((i 0).val * 512 + (i 1).val) / 64 % 8 = (i 1).val / 64; omega
    · show ((i 0).val * 512 + (i 1).val) % 64 = (i 1).val % 64; omega
    · show ((i 0).val * 512 + (i 1).val) / 512 % 2048 = (i 0).val % 2048; omega
  rw [ei, v36_apply x0 x1 x2 x3 x4 h0 h1 h3]
  unfold attn
  refine row_congr (fun p => rfl) rfl fun p => ?_
  show cat _ _ p (64 * ((i 1).val / 64) + (i 1).val % 64) = _
  rw [Nat.div_add_mod]
end Real

end Cert.Proof.SbRef

end
-- ==== Proof.SbClaims.lean ====
/- The stick-breaking attention's claims. -/
module

public import proofs.«01_k».proof.Defs
public import proofs.«01_k».proof.Proof.SbRef
public import proofs.«01_k».proof.Proof.Finite
public import proofs.«01_k».proof.Proof.Gen.Sb.Frame
public import proofs.«01_k».proof.Proof.Gen.SbIdeal.Frame
public import proofs.«01_k».proof.Proof.Gen.SbIdeal.Value
public import proofs.«01_k».proof.Proof.Gen.SbRefIdeal.Run
public import proofs.«01_k».proof.Proof.Gen.Pre_sb_finite

@[expose] public section

set_option maxRecDepth 16384

noncomputable section

namespace Cert.Proof.SbClaims

open Idealize.ShloMosaic Idealize.ShloMosaic.TcCoe Idealize.SL.Sem
open Cert.Proof.Weights Cert.Proof.SbArray Cert.Proof.Finite

/-- The precondition read: queries, keys and meta keys are real numbers. -/
theorem real_args (m : (ℓ : Loc Cert.SbIdeal.nD Cert.SbIdeal.τ Cert.SbIdeal.sig) → Buf (Elt Ideal) ℓ) (hpre : Pre_SbIdeal_sb_finite m) (c : Dev Cert.SbIdeal.nD) :
    (∀ i, Real? (m (c, Cert.SbIdeal.main_arg0) i)) ∧ (∀ i, Real? (m (c, Cert.SbIdeal.main_arg1) i)) ∧ (∀ i, Real? (m (c, Cert.SbIdeal.main_arg3) i)) := by
  have e := congrFun (hpre c) (fun a => a.elim0)
  haveI : Subsingleton Cert.Pre_sb_finite.S_.Idx := ⟨fun a b => funext fun k => k.elim0⟩
  unfold Cert.Pre_sb_finite.fn at e
  obtain ⟨e', e3⟩ := (andi_one _ _).mp e
  obtain ⟨e0, e1⟩ := (andi_one _ _).mp e'
  exact ⟨all_real _ _ (fun _ => rfl) _ _ _ _ _ e0, all_real _ _ (fun _ => rfl) _ _ _ _ _ e1, all_real _ _ (fun _ => rfl) _ _ _ _ _ e3⟩

/-- The kernel runs at the chip's own floats, leaves its arguments as they were and every counter at zero. -/
theorem frame_kernel : Cert.quiescent_Sb := fun m ρ _ => Cert.Sb.Gen.frame m ρ

/-- The same of the kernel over the reals. -/
theorem frame_ideal : Cert.quiescent_SbIdeal := fun m ρ _ => Cert.SbIdeal.Gen.frame m ρ
theorem frame_ideal_pre : Cert.quiescent_SbIdeal_pre_sb_finite := fun m ρ _ => Cert.SbIdeal.Gen.frame m ρ

/-- The same of the reference over the reals: it has no counters. -/
theorem frame_ref : Cert.quiescent_SbRefIdeal := fun m ρ _ =>
  (θ_run Cert.SbRefIdeal.defs _ _).mono (fun r h => ⟨fun c => (h c).2, sem_eq_zero_of_no_sems (by decide) r.2⟩)
    (Cert.SbRefIdeal.Value.run (F := Ideal) m ρ)
theorem frame_ref_pre : Cert.quiescent_SbRefIdeal_pre_sb_finite := fun m ρ _ => frame_ref m ρ trivial

/-- The one constant that the ideal kernel names: the rounded 1 / ln 2 stands for the real one. -/
theorem preserves : Cert.preserves_Sb_SbIdeal :=
  IdealRules.named_const.statement Cert.SbIdeal.κ "inv_ln2" .f32 0x3FB8AA3B#32 (((Real.log 2)⁻¹ : ℝ) : EReal) rfl

/-- From equal finite queries, keys and meta keys, and any values, kernel and reference end with the same attention. -/
theorem algebraic : Cert.algebraic_SbIdeal_SbRefIdeal_pre_sb_finite := by
  intro m ρ m' ρ' hpre hag
  refine ⟨fun c => fun i => attn (m (c, Cert.SbIdeal.main_arg0)) (m (c, Cert.SbIdeal.main_arg1)) (m (c, Cert.SbIdeal.main_arg2)) (m (c, Cert.SbIdeal.main_arg3)) (m (c, Cert.SbIdeal.main_arg4)) (i 0).val (i 1).val, ?_, ?_⟩
  · refine (θ_run Cert.SbIdeal.defs _ _).mono (fun r h c => ⟨(h c).1.trans ?_, (h c).2⟩) (Cert.SbIdeal.Value.run_blocks m ρ)
    obtain ⟨h0, h1, h3⟩ := real_args m hpre c
    exact arr_eq m c h0 h1 h3
  · refine (θ_run Cert.SbRefIdeal.defs _ _).mono (fun r h c => ⟨(h c).1.trans ?_, (h c).2⟩) (Cert.SbRefIdeal.Value.run (F := Ideal) m' ρ')
    obtain ⟨h0, h1, h3⟩ := real_args m hpre c
    obtain ⟨a0, a1, a2, a3, a4⟩ := hag c
    rw [Cert.SbRefIdeal.Read.val_main_v39_eq, a0, a1, a2, a3, a4]
    funext i
    exact SbRef.v39_apply _ _ _ _ _ h0 h1 h3 i

end Cert.Proof.SbClaims

end
-- ==== Proof.RowMath.lean ====
/- Row operations shared by the layer's matrix stages, over the extended reals: the normalisation of a row by its root
   mean square, a row times a matrix, and the logistic function. -/
module

public import proofs.«01_k».proof.Proof.Weights
public import Idealize.ShloMosaic.Lib.Pipeline.ValueKit

@[expose] public section

set_option maxRecDepth 16384

noncomputable section

namespace Cert.Proof.RowMath

open Idealize.ShloMosaic Idealize.ShloMosaic.TcCoe Idealize.SL.Sem

/-- A row times a gain over the root of its mean square: `c` the divisor of the sum, `e` what is added to the mean. -/
def rms {n : ℕ} (c e : EReal) (x g : Fin n → EReal) : Fin n → EReal :=
  fun j => x j * Ideal.rsqrt (Ideal.div (∑ k, x k * x k) c + e) * g j

/-- A row times a matrix. -/
def mulRow {n p : ℕ} (x : Fin n → EReal) (w : Fin n → Fin p → EReal) : Fin p → EReal := fun j => ∑ k, x k * w k j

/-- The logistic function. -/
def sigm (x : EReal) : EReal := Ideal.div 1 (1 + Ideal.exp (-x))

/-- Row `i` of an array. -/
def row {n k : ℕ} {φ : FTy} (x : FVec Ideal ⟨2, ![n, k]⟩ φ) (i : Fin n) : Fin k → EReal := fun j => x (ix2 i j)

/-- An array as a matrix. -/
def mat {n k : ℕ} {φ : FTy} (x : FVec Ideal ⟨2, ![n, k]⟩ φ) : Fin n → Fin k → EReal := fun i j => x (ix2 i j)

/-- The number of 1024 lanes, and the constant that a mean square is raised by. -/
def c1024 : EReal := Ideal.ofBits .f32 0x44800000#32
def eps : EReal := Ideal.ofBits .f32 0x358637BD#32

def half : EReal := Ideal.ofBits .f32 0x3F000000#32

/-- The gated product of the feed-forward's two projections. -/
def act (x : Fin 1024 → EReal) (wg wu : Fin 1024 → Fin 2816 → EReal) : Fin 2816 → EReal :=
  fun j => mulRow x wg j * sigm (mulRow x wg j) * mulRow x wu j

/-! ## Reading blocks -/

/-- Reading a whole block gives the block. -/
theorem ld_whole {n k : ℕ} {e : EltTy} (x : Vec Ideal ⟨2, ![n, k]⟩ e) (inb : _) :
    (View.ld x (Rect.unit (s := ⟨2, ![n, k]⟩) ![0, 0] (Shape.size ⟨2, ![n, k]⟩) inb) : Vec Ideal ⟨2, ![n, k]⟩ e) = x := by
  funext y
  refine congrArg x (funext fun a => Fin.ext ?_)
  fin_cases a
  · show 0 + 1 * (y 0).val = _; rw [Nat.zero_add, Nat.one_mul]; rfl
  · show 0 + 1 * (y 1).val = _; rw [Nat.zero_add, Nat.one_mul]; rfl

/-- Where a window of rows from `a` on lies. -/
theorem emb_rows {n p k : ℕ} (a : ℕ) (inb : _) (i : Fin p) (j : Fin k) (h : a + i.val < n) :
    (Rect.unit (s := ⟨2, ![n, k]⟩) ![a, 0] (Shape.size ⟨2, ![p, k]⟩) inb).emb (ix2 i j) = ix2 (⟨a + i.val, h⟩ : Fin n) j := by
  funext b
  apply Fin.ext
  match b with
  | 0 => show a + 1 * i.val = a + i.val; rw [Nat.one_mul]
  | 1 => show 0 + 1 * j.val = j.val; rw [Nat.zero_add, Nat.one_mul]

theorem row_ld_f {n p k : ℕ} (x : FVec Ideal ⟨2, ![n, k]⟩ .f32) (a : ℕ) (inb : _) (i : Fin p) (h : a + i.val < n) :
    row (φ := .f32) (n := p) (k := k) (View.ld (Val := Elt Ideal) (e' := .f32) x (Rect.unit (s := ⟨2, ![n, k]⟩) ![a, 0] (Shape.size ⟨2, ![p, k]⟩) inb)) i = row x ⟨a + i.val, h⟩ :=
  funext fun j => congrArg x (emb_rows a inb i j h)
theorem row_ld_b {n p k : ℕ} (x : FVec Ideal ⟨2, ![n, k]⟩ .bf16) (a : ℕ) (inb : _) (i : Fin p) (h : a + i.val < n) :
    row (φ := .bf16) (n := p) (k := k) (View.ld (Val := Elt Ideal) (e' := .bf16) x (Rect.unit (s := ⟨2, ![n, k]⟩) ![a, 0] (Shape.size ⟨2, ![p, k]⟩) inb)) i = row x ⟨a + i.val, h⟩ :=
  funext fun j => congrArg x (emb_rows a inb i j h)

/-- Where a window of columns from `b` and rows from `a` on lies. -/
theorem emb_tile {n p k q : ℕ} (a b : ℕ) (inb : _) (i : Fin p) (j : Fin q) (h : a + i.val < n) (h' : b + j.val < k) :
    (Rect.unit (s := ⟨2, ![n, k]⟩) ![a, b] (Shape.size ⟨2, ![p, q]⟩) inb).emb (ix2 i j) = ix2 (⟨a + i.val, h⟩ : Fin n) (⟨b + j.val, h'⟩ : Fin k) := by
  funext c
  apply Fin.ext
  match c with
  | 0 => show a + 1 * i.val = a + i.val; rw [Nat.one_mul]
  | 1 => show b + 1 * j.val = b + j.val; rw [Nat.one_mul]

/-- The block of a window that never moves starts at the array's first element. -/
theorem whole_idx {n k : ℕ} (p : Shape.Idx ⟨2, ![n, k]⟩) (i : Fin n) (j : Fin k) (h0 : (p 0).val = 0 * n + 1 * i.val) (h1 : (p 1).val = 0 * k + 1 * j.val) : p = ix2 i j := by
  funext a
  apply Fin.ext
  match a with
  | 0 => exact h0.trans (by rw [Nat.zero_mul, Nat.zero_add, Nat.one_mul]; rfl)
  | 1 => exact h1.trans (by rw [Nat.zero_mul, Nat.zero_add, Nat.one_mul]; rfl)

theorem block_idx {n k : ℕ} (p : Shape.Idx ⟨2, ![n, k]⟩) (i : Fin n) (j : Fin k) (h0 : (p 0).val = i.val) (h1 : (p 1).val = j.val) : p = ix2 i j := by
  funext a
  apply Fin.ext
  match a with
  | 0 => exact h0
  | 1 => exact h1

end Cert.Proof.RowMath

end
-- ==== Proof.MergeBlock.lean ====
/- The merge and feed-forward body read at one row. -/
module

public import proofs.«01_k».proof.Proof.Gen.MergeIdeal.Value
public import proofs.«01_k».proof.Proof.RowMath

@[expose] public section

set_option maxRecDepth 16384

noncomputable section

namespace Cert.Proof.MergeBlock

open Cert.MergeIdeal Cert.MergeIdeal.Gen Idealize.ShloMosaic Idealize.ShloMosaic.TcCoe Idealize.SL.Sem
open Cert.Proof.RowMath

theorem pay2_apply (x : FVec Ideal S256x1024 .f32) (g : FVec Ideal S1x1024 .f32) (w : FVec Ideal S1024x2048 .bf16) (b : FVec Ideal S1x2048 .f32) (i : Fin 256) (j : Fin 2048) :
    k0_pay2 (F := Ideal) x g w b (ix2 i j) = sigm (mulRow (rms c1024 eps (row x i) (row g 0)) (mat w) j + row b 0 j) := by
  pointwise [k0_pay2]
  rfl
theorem pay3_apply (x : FVec Ideal S256x512 .bf16) (w : FVec Ideal S512x1024 .bf16) (i : Fin 256) (j : Fin 1024) :
    k0_pay3 (F := Ideal) x w (ix2 i j) = mulRow (row x i) (mat w) j := by
  pointwise [k0_pay3]
  rfl

/-- Two branches weighted by the two halves of the gate. -/
def blend (gate : Fin 2048 → EReal) (a b : Fin 1024 → EReal) : Fin 1024 → EReal :=
  fun j => gate ⟨j.val, by omega⟩ * a j + gate ⟨1024 + j.val, by omega⟩ * b j

theorem pay5_apply (gate : FVec Ideal S256x2048 .f32) (a b : FVec Ideal S256x1024 .f32) (w : FVec Ideal S1024x1024 .bf16) (i : Fin 256) (j : Fin 1024) :
    k0_pay5 (F := Ideal) gate a b w (ix2 i j) = mulRow (blend (row gate i) (row a i) (row b i)) (mat w) j := by
  pointwise [k0_pay5]
  rfl

theorem pay9_apply (x y : FVec Ideal S256x1024 .f32) (g : FVec Ideal S1x1024 .f32) (i : Fin 256) (j : Fin 1024) :
    k0_pay9 (F := Ideal) x y g (ix2 i j) = x (ix2 i j) + rms c1024 eps (row y i) (row g 0) j := by
  pointwise [k0_pay9]
  rfl

/-- A row of 1024, normalised, as the feed-forward reads it. -/
def normed (x : FVec Ideal S256x1024 .f32) (g : FVec Ideal S1x1024 .f32) : FVec Ideal S256x1024 .bf16 :=
  truncf .bf16 (mulf (mulf x (broadcastTo S256x1024 (rsqrt (addf (divf (shapeCast S256x1 (multiReduction .add [1] S256 (mulf x x) 0x00000000#32 reduces_S256x1024_S256 (.inl rfl) rfl) shapeCasts_S256_S256x1) (broadcast S256x1 (Scalar.ofBits .f32 0x44800000#32))) (broadcast S256x1 (Scalar.ofBits .f32 0x358637BD#32)))) broadcasts_S256x1_S256x1024)) (broadcastTo S256x1024 (shapeCast S1x1024 g shapeCasts_S1x1024_S1x1024) broadcasts_S1x1024_S256x1024)) bitsLt_bf16_f32

theorem normed_apply (x : FVec Ideal S256x1024 .f32) (g : FVec Ideal S1x1024 .f32) (i : Fin 256) (j : Fin 1024) :
    normed x g (ix2 i j) = rms c1024 eps (row x i) (row g 0) j := by
  pointwise [normed]
  rfl

theorem pay11_eq (x y : FVec Ideal S256x1024 .f32) (g g' : FVec Ideal S1x1024 .f32) : k0_pay11 (F := Ideal) x y g g' = normed (k0_pay9 x y g) g' := rfl
theorem pay15_eq (x y : FVec Ideal S256x1024 .f32) (g g' : FVec Ideal S1x1024 .f32) : k0_pay15 (F := Ideal) x y g g' = normed (k0_pay9 x y g) g' := rfl
theorem pay13_eq (x y : FVec Ideal S256x1024 .f32) (g : FVec Ideal S1x1024 .f32) : k0_pay13 (F := Ideal) x y g = k0_pay9 x y g := rfl
theorem pay6_eq (x : FVec Ideal S256x1024 .f32) (g : FVec Ideal S1x1024 .f32) (w : FVec Ideal S1024x2048 .bf16) (b : FVec Ideal S1x2048 .f32) :
    k0_pay6 (F := Ideal) x g w b = k0_pay2 x g w b := rfl
theorem pay7_eq (x : FVec Ideal S256x512 .bf16) (w : FVec Ideal S512x1024 .bf16) : k0_pay7 (F := Ideal) x w = k0_pay3 x w := rfl
theorem pay4_eq (x : FVec Ideal S256x512 .bf16) (w : FVec Ideal S512x1024 .bf16) : k0_pay4 (F := Ideal) x w = k0_pay3 x w := rfl
theorem pay12_eq (gate : FVec Ideal S256x2048 .f32) (a : FVec Ideal S256x1024 .f32) (x : FVec Ideal S256x512 .bf16) (w : FVec Ideal S512x1024 .bf16) (w' : FVec Ideal S1024x1024 .bf16) :
    k0_pay12 (F := Ideal) gate a x (k0_pay8 w) (constant S256x1024 .f32 0x00000000#32) w' = k0_pay5 gate a (k0_pay3 x w) w' := rfl

theorem pay16_apply (x : FVec Ideal S256x1024 .bf16) (wg wu : FVec Ideal S1024x2816 .bf16) (i : Fin 256) (j : Fin 2816) :
    k0_pay16 (F := Ideal) x wg wu (ix2 i j) = act (row x i) (mat wg) (mat wu) j := by
  pointwise [k0_pay16]
  rfl

theorem pay17_apply (h : FVec Ideal S256x1024 .f32) (g : FVec Ideal S1x1024 .f32) (x : FVec Ideal S256x2816 .bf16) (w : FVec Ideal S2816x1024 .bf16) (i : Fin 256) (j : Fin 1024) :
    k0_pay17 (F := Ideal) h (k0_pay10 g) x w (ix2 i j) = h (ix2 i j) + half * rms c1024 eps (mulRow (row x i) (mat w)) (row g 0) j := by
  pointwise [k0_pay17, k0_pay10]
  rfl

theorem pay1_eq (h : FVec Ideal S256x1024 .f32) (g : FVec Ideal S1x1024 .f32) (x : FVec Ideal S256x1024 .bf16) (wg wu : FVec Ideal S1024x2816 .bf16) (w : FVec Ideal S2816x1024 .bf16) :
    k0_pay1 (F := Ideal) h (k0_pay14 g) (k0_pay18 x wg wu w) (k0_pay19 x wg wu w) = k0_pay17 h (k0_pay10 g) (k0_pay16 x wg wu) w := rfl

/-- The layer's weights as matrices and rows. -/
structure Weights where
  mix : Fin 1024 → EReal
  wGate : Fin 1024 → Fin 2048 → EReal
  bGate : Fin 2048 → EReal
  wSb : Fin 512 → Fin 1024 → EReal
  wMla : Fin 512 → Fin 1024 → EReal
  wOut : Fin 1024 → Fin 1024 → EReal
  mixPost : Fin 1024 → EReal
  pre : Fin 1024 → EReal
  wg : Fin 1024 → Fin 2816 → EReal
  wu : Fin 1024 → Fin 2816 → EReal
  wd : Fin 2816 → Fin 1024 → EReal
  post : Fin 1024 → EReal

/-- The gates of a row. -/
def gates (W : Weights) (x : Fin 1024 → EReal) : Fin 2048 → EReal := fun j => sigm (mulRow (rms c1024 eps x W.mix) W.wGate j + W.bGate j)
/-- The two branches merged and projected. -/
def merged (W : Weights) (x : Fin 1024 → EReal) (s l : Fin 512 → EReal) : Fin 1024 → EReal :=
  mulRow (blend (gates W x) (mulRow s W.wSb) (mulRow l W.wMla)) W.wOut
/-- The row after the merge. -/
def after (W : Weights) (x : Fin 1024 → EReal) (s l : Fin 512 → EReal) : Fin 1024 → EReal :=
  fun j => x j + rms c1024 eps (merged W x s l) W.mixPost j
/-- The row after the feed-forward: the layer's result. -/
def result (W : Weights) (x : Fin 1024 → EReal) (s l : Fin 512 → EReal) : Fin 1024 → EReal :=
  fun j => after W x s l j + half * rms c1024 eps (mulRow (act (rms c1024 eps (after W x s l) W.pre) W.wg W.wu) W.wd) W.post j

/-- One row group of the body: 256 rows. -/
def group (x : FVec Ideal S256x1024 .f32) (s l : FVec Ideal S256x512 .bf16) (x3 : FVec Ideal S1x1024 .f32) (x4 : FVec Ideal S1024x2048 .bf16) (x5 : FVec Ideal S1x2048 .f32)
    (x6 x7 : FVec Ideal S512x1024 .bf16) (x8 : FVec Ideal S1024x1024 .bf16) (x9 x10 : FVec Ideal S1x1024 .f32) (x11 x12 : FVec Ideal S1024x2816 .bf16) (x13 : FVec Ideal S2816x1024 .bf16)
    (x14 : FVec Ideal S1x1024 .f32) : FVec Ideal S256x1024 .f32 :=
  let y := k0_pay5 (k0_pay2 x x3 x4 x5) (k0_pay3 s x6) (k0_pay3 l x7) x8
  let h := k0_pay9 x y x9
  k0_pay17 h (k0_pay10 x14) (k0_pay16 (normed h x10) x11 x12) x13

section
variable (x3 : FVec Ideal S1x1024 .f32) (x4 : FVec Ideal S1024x2048 .bf16) (x5 : FVec Ideal S1x2048 .f32)
    (x6 x7 : FVec Ideal S512x1024 .bf16) (x8 : FVec Ideal S1024x1024 .bf16) (x9 x10 : FVec Ideal S1x1024 .f32) (x11 x12 : FVec Ideal S1024x2816 .bf16) (x13 : FVec Ideal S2816x1024 .bf16)
    (x14 : FVec Ideal S1x1024 .f32)

/-- The weights that the blocks hold. -/
def held : Weights := ⟨row x3 0, mat x4, row x5 0, mat x6, mat x7, mat x8, row x9 0, row x10 0, mat x11, mat x12, mat x13, row x14 0⟩

theorem group_apply (x : FVec Ideal S256x1024 .f32) (s l : FVec Ideal S256x512 .bf16) (i : Fin 256) (j : Fin 1024) :
    group x s l x3 x4 x5 x6 x7 x8 x9 x10 x11 x12 x13 x14 (ix2 i j) = result (held x3 x4 x5 x6 x7 x8 x9 x10 x11 x12 x13 x14) (row x i) (row s i) (row l i) j := by
  have e1 : row (k0_pay2 (F := Ideal) x x3 x4 x5) i = gates (held x3 x4 x5 x6 x7 x8 x9 x10 x11 x12 x13 x14) (row x i) := funext fun j => pay2_apply x x3 x4 x5 i j
  have e2 : row (k0_pay3 (F := Ideal) s x6) i = mulRow (row s i) (mat x6) := funext fun j => pay3_apply s x6 i j
  have e3 : row (k0_pay3 (F := Ideal) l x7) i = mulRow (row l i) (mat x7) := funext fun j => pay3_apply l x7 i j
  have e4 : row (k0_pay5 (F := Ideal) (k0_pay2 x x3 x4 x5) (k0_pay3 s x6) (k0_pay3 l x7) x8) i = merged (held x3 x4 x5 x6 x7 x8 x9 x10 x11 x12 x13 x14) (row x i) (row s i) (row l i) :=
    funext fun j => by
      refine (pay5_apply _ _ _ x8 i j).trans ?_
      rw [e1, e2, e3]
      rfl
  unfold group
  generalize k0_pay5 (F := Ideal) (k0_pay2 x x3 x4 x5) (k0_pay3 s x6) (k0_pay3 l x7) x8 = y at e4 ⊢
  have e5 : row (k0_pay9 (F := Ideal) x y x9) i = after (held x3 x4 x5 x6 x7 x8 x9 x10 x11 x12 x13 x14) (row x i) (row s i) (row l i) := funext fun j => by
    refine (pay9_apply x y x9 i j).trans ?_
    rw [e4]
    rfl
  generalize k0_pay9 (F := Ideal) x y x9 = h at e5 ⊢
  have e6 : row (normed h x10) i = rms c1024 eps (after (held x3 x4 x5 x6 x7 x8 x9 x10 x11 x12 x13 x14) (row x i) (row s i) (row l i)) (row x10 0) := funext fun j => by
    refine (normed_apply h x10 i j).trans ?_
    rw [e5]
  generalize normed h x10 = n at e6 ⊢
  have e7 : row (k0_pay16 (F := Ideal) n x11 x12) i = act (rms c1024 eps (after (held x3 x4 x5 x6 x7 x8 x9 x10 x11 x12 x13 x14) (row x i) (row s i) (row l i)) (row x10 0)) (mat x11) (mat x12) :=
    funext fun j => by
      refine (pay16_apply n x11 x12 i j).trans ?_
      rw [e6]
  refine (pay17_apply h x14 _ x13 i j).trans ?_
  rw [e7]
  exact congrArg (· + _) (congrFun e5 j)

end

section
variable (x0 : Vec Ideal S512x1024 .f32) (x1 x2 : Vec Ideal S512x512 .bf16) (x3 : Vec Ideal S1x1024 .f32) (x4 : Vec Ideal S1024x2048 .bf16) (x5 : Vec Ideal S1x2048 .f32)
    (x6 x7 : Vec Ideal S512x1024 .bf16) (x8 : Vec Ideal S1024x1024 .bf16) (x9 x10 : Vec Ideal S1x1024 .f32) (x11 x12 : Vec Ideal S1024x2816 .bf16) (x13 : Vec Ideal S2816x1024 .bf16)
    (x14 : Vec Ideal S1x1024 .f32)

def top : FVec Ideal S256x1024 .f32 :=
  group (View.ld (Val := Elt Ideal) (e' := .f32) x0 r0_0) (View.ld (Val := Elt Ideal) (e' := .bf16) x1 r0_4) (View.ld (Val := Elt Ideal) (e' := .bf16) x2 r0_4) x3 x4 x5 x6 x7 x8 x9 x10 x11 x12 x13 x14
def bottom : FVec Ideal S256x1024 .f32 :=
  group (View.ld (Val := Elt Ideal) (e' := .f32) x0 r0_6) (View.ld (Val := Elt Ideal) (e' := .bf16) x1 r0_8) (View.ld (Val := Elt Ideal) (e' := .bf16) x2 r0_8) x3 x4 x5 x6 x7 x8 x9 x10 x11 x12 x13 x14

/-- The body's stored block: its two row groups. -/
theorem out_eq :
    out0_15 (F := Ideal) x0 x1 x2 x3 x4 x5 x6 x7 x8 x9 x10 x11 x12 x13 x14 = View.canon (Val := Elt Ideal) (e := .f32)
      [⟨r0_6, bottom x0 x1 x2 x3 x4 x5 x6 x7 x8 x9 x10 x11 x12 x13 x14⟩, ⟨r0_0, top x0 x1 x2 x3 x4 x5 x6 x7 x8 x9 x10 x11 x12 x13 x14⟩] := by
  have l1 : ∀ x : Vec Ideal S1x1024 .f32, View.ld x r0_1 = x := fun x => ld_whole x _
  have l2 : ∀ x : Vec Ideal S1024x2048 .bf16, View.ld x r0_2 = x := fun x => ld_whole x _
  have l3 : ∀ x : Vec Ideal S1x2048 .f32, View.ld x r0_3 = x := fun x => ld_whole x _
  have l5 : ∀ x : Vec Ideal S512x1024 .bf16, View.ld x r0_5 = x := fun x => ld_whole x _
  have l7 : ∀ x : Vec Ideal S1024x1024 .bf16, View.ld x r0_7 = x := fun x => ld_whole x _
  have l9 : ∀ x : Vec Ideal S1024x2816 .bf16, View.ld x r0_9 = x := fun x => ld_whole x _
  have l10 : ∀ x : Vec Ideal S2816x1024 .bf16, View.ld x r0_10 = x := fun x => ld_whole x _
  unfold_out out0_15
  rw [l1 x3, l2 x4, l3 x5, l5 x6, l5 x7, l7 x8, l1 x9, l1 x10, l9 x11, l9 x12, l10 x13, l1 x14]
  rw [pay1_eq, pay15_eq, pay11_eq, pay13_eq, pay12_eq, pay6_eq, pay7_eq, pay4_eq]
  rfl

/-- The layer's row made of the inputs' rows of the same number. -/
def rowOf (y : S512x1024.Idx) : EReal :=
  result (held x3 x4 x5 x6 x7 x8 x9 x10 x11 x12 x13 x14) (row (φ := .f32) x0 (y 0)) (row (φ := .bf16) x1 (y 0)) (row (φ := .bf16) x2 (y 0)) (y 1)

/-- Both row groups read off: row `r` of the block is the layer's row made of the inputs' rows `r`. -/
theorem out_apply (y : S512x1024.Idx) :
    out0_15 (F := Ideal) x0 x1 x2 x3 x4 x5 x6 x7 x8 x9 x10 x11 x12 x13 x14 y = rowOf x0 x1 x2 x3 x4 x5 x6 x7 x8 x9 x10 x11 x12 x13 x14 y := by
  rw [out_eq]
  have ht : ∀ x : S256x1024.Idx, top x0 x1 x2 x3 x4 x5 x6 x7 x8 x9 x10 x11 x12 x13 x14 x = rowOf x0 x1 x2 x3 x4 x5 x6 x7 x8 x9 x10 x11 x12 x13 x14 (r0_0.emb x) := fun p => by
    idx_vars p
    have h : 0 + p0.val < 512 := by omega
    refine (group_apply x3 x4 x5 x6 x7 x8 x9 x10 x11 x12 x13 x14 _ _ _ p0 p1).trans ?_
    rw [row_ld_f x0 0 _ p0 h, row_ld_b x1 0 _ p0 h, row_ld_b x2 0 _ p0 h, emb_rows 0 _ p0 p1 h]
    rfl
  have hb : ∀ x : S256x1024.Idx, bottom x0 x1 x2 x3 x4 x5 x6 x7 x8 x9 x10 x11 x12 x13 x14 x = rowOf x0 x1 x2 x3 x4 x5 x6 x7 x8 x9 x10 x11 x12 x13 x14 (r0_6.emb x) := fun p => by
    idx_vars p
    have h : 256 + p0.val < 512 := by omega
    refine (group_apply x3 x4 x5 x6 x7 x8 x9 x10 x11 x12 x13 x14 _ _ _ p0 p1).trans ?_
    rw [row_ld_f x0 256 _ p0 h, row_ld_b x1 256 _ p0 h, row_ld_b x2 256 _ p0 h, emb_rows 256 _ p0 p1 h]
    rfl
  generalize top x0 x1 x2 x3 x4 x5 x6 x7 x8 x9 x10 x11 x12 x13 x14 = t at ht ⊢
  generalize bottom x0 x1 x2 x3 x4 x5 x6 x7 x8 x9 x10 x11 x12 x13 x14 = b at hb ⊢
  refine View.canon_apply_of_pieces (Val := Elt Ideal) (e := .f32) (rowOf x0 x1 x2 x3 x4 x5 x6 x7 x8 x9 x10 x11 x12 x13 x14) _ ?_ y (cover0_15 _ _ _)
  intro p hp x
  simp only [List.mem_cons, List.not_mem_nil, or_false] at hp
  rcases hp with rfl | rfl
  · exact hb x
  · exact ht x
end

end Cert.Proof.MergeBlock

end
-- ==== Proof.MergeArray.lean ====
/- The merge and feed-forward's array of results after the run. -/
module

public import proofs.«01_k».proof.Proof.MergeBlock
public import Idealize.ShloMosaic.Lib.Pipeline.ValueKit

@[expose] public section

set_option maxRecDepth 16384

noncomputable section

namespace Cert.Proof.MergeArray

open Cert.MergeIdeal Cert.MergeIdeal.Gen Idealize.ShloMosaic Idealize.ShloMosaic.TcCoe Idealize.SL.Sem
open Cert.Proof.RowMath Cert.Proof.MergeBlock

/-- The layer's weights, from the arguments; the gate's are the last 2048 columns of the wide projection. -/
def weightsOf (a3 : FVec Ideal S1024 .f32) (a4 : FVec Ideal S1024x4256 .f32) (a5 : FVec Ideal S2048 .f32) (a6 a7 : FVec Ideal S512x1024 .f32)
    (a8 : FVec Ideal S1024x1024 .f32) (a9 a10 : FVec Ideal S1024 .f32) (a11 a12 : FVec Ideal S1024x2816 .f32) (a13 : FVec Ideal S2816x1024 .f32) (a14 : FVec Ideal S1024 .f32) : Weights :=
  ⟨fun j => a3 (ix1 j), fun k j => a4 (ix2 k (⟨2208 + j.val, by omega⟩ : Fin 4256)), fun j => a5 (ix1 j), mat a6, mat a7, mat a8, fun j => a9 (ix1 j), fun j => a10 (ix1 j),
    mat a11, mat a12, mat a13, fun j => a14 (ix1 j)⟩

theorem cast_row (x : FVec Ideal S1024 .f32) (j : Fin 1024) : shapeCast S1x1024 x shapeCasts_S1024_S1x1024 (ix2 (0 : Fin 1) j) = x (ix1 j) := by pointwise
theorem cast_row' (x : FVec Ideal S2048 .f32) (j : Fin 2048) : shapeCast S1x2048 x shapeCasts_S2048_S1x2048 (ix2 (0 : Fin 1) j) = x (ix1 j) := by pointwise
theorem slice_gate (x : FVec Ideal S1024x4256 .f32) (k : Fin 1024) (j : Fin 2048) :
    truncf (F := Ideal) .bf16 (extractStridedSlice S1024x2048 ![0, 2208] x slices_S1024x4256_S1024x2048_0_2208) bitsLt_bf16_f32 (ix2 k j) = x (ix2 k (⟨2208 + j.val, by omega⟩ : Fin 4256)) := by
  pointwise

variable (m : (ℓ : Loc nD τ sig) → Buf (Elt Ideal) ℓ) (c : Dev nD) (t : Fin cfg0.grid.N)

theorem V_v0 (j : Fin 1024) : V m c main_v0 (ix2 (0 : Fin 1) j) = m (c, main_arg3) (ix1 j) := by
  simp only [V, hostOps0]
  after_results
  exact cast_row _ j
theorem blk3 (j : Fin 1024) : iblk m c 3 t (ix2 (0 : Fin 1) j) = m (c, main_arg3) (ix1 j) := by
  blk_simp [iblk]
  exact (congrArg (V m c main_v0) (whole_idx ((win0_3.blk t).view.emb (ix2 (0 : Fin 1) j)) (0 : Fin 1) j rfl rfl)).trans (V_v0 m c j)
theorem V_v2 (k : Fin 1024) (j : Fin 2048) : V m c main_v2 (ix2 k j) = m (c, main_arg4) (ix2 k (⟨2208 + j.val, by omega⟩ : Fin 4256)) := by
  simp only [V, hostOps0]
  after_results
  exact slice_gate _ k j
theorem blk4 (k : Fin 1024) (j : Fin 2048) : iblk m c 4 t (ix2 k j) = m (c, main_arg4) (ix2 k (⟨2208 + j.val, by omega⟩ : Fin 4256)) := by
  blk_simp [iblk]
  exact (congrArg (V m c main_v2) (whole_idx ((win0_4.blk t).view.emb (ix2 k j)) k j rfl rfl)).trans (V_v2 m c k j)
theorem V_v3 (j : Fin 2048) : V m c main_v3 (ix2 (0 : Fin 1) j) = m (c, main_arg5) (ix1 j) := by
  simp only [V, hostOps0]
  after_results
  exact cast_row' _ j
theorem blk5 (j : Fin 2048) : iblk m c 5 t (ix2 (0 : Fin 1) j) = m (c, main_arg5) (ix1 j) := by
  blk_simp [iblk]
  exact (congrArg (V m c main_v3) (whole_idx ((win0_5.blk t).view.emb (ix2 (0 : Fin 1) j)) (0 : Fin 1) j rfl rfl)).trans (V_v3 m c j)
theorem V_v4 (k : Fin 512) (j : Fin 1024) : V m c main_v4 (ix2 k j) = m (c, main_arg6) (ix2 k j) := by
  simp only [V, hostOps0]
  after_results
  exact rfl
theorem blk6 (k : Fin 512) (j : Fin 1024) : iblk m c 6 t (ix2 k j) = m (c, main_arg6) (ix2 k j) := by
  blk_simp [iblk]
  exact (congrArg (V m c main_v4) (whole_idx ((win0_6.blk t).view.emb (ix2 k j)) k j rfl rfl)).trans (V_v4 m c k j)
theorem V_v5 (k : Fin 512) (j : Fin 1024) : V m c main_v5 (ix2 k j) = m (c, main_arg7) (ix2 k j) := by
  simp only [V, hostOps0]
  after_results
  exact rfl
theorem blk7 (k : Fin 512) (j : Fin 1024) : iblk m c 7 t (ix2 k j) = m (c, main_arg7) (ix2 k j) := by
  blk_simp [iblk]
  exact (congrArg (V m c main_v5) (whole_idx ((win0_7.blk t).view.emb (ix2 k j)) k j rfl rfl)).trans (V_v5 m c k j)
theorem V_v6 (k : Fin 1024) (j : Fin 1024) : V m c main_v6 (ix2 k j) = m (c, main_arg8) (ix2 k j) := by
  simp only [V, hostOps0]
  after_results
  exact rfl
theorem blk8 (k : Fin 1024) (j : Fin 1024) : iblk m c 8 t (ix2 k j) = m (c, main_arg8) (ix2 k j) := by
  blk_simp [iblk]
  exact (congrArg (V m c main_v6) (whole_idx ((win0_8.blk t).view.emb (ix2 k j)) k j rfl rfl)).trans (V_v6 m c k j)
theorem V_v7 (j : Fin 1024) : V m c main_v7 (ix2 (0 : Fin 1) j) = m (c, main_arg9) (ix1 j) := by
  simp only [V, hostOps0]
  after_results
  exact cast_row _ j
theorem blk9 (j : Fin 1024) : iblk m c 9 t (ix2 (0 : Fin 1) j) = m (c, main_arg9) (ix1 j) := by
  blk_simp [iblk]
  exact (congrArg (V m c main_v7) (whole_idx ((win0_9.blk t).view.emb (ix2 (0 : Fin 1) j)) (0 : Fin 1) j rfl rfl)).trans (V_v7 m c j)
theorem V_v8 (j : Fin 1024) : V m c main_v8 (ix2 (0 : Fin 1) j) = m (c, main_arg10) (ix1 j) := by
  simp only [V, hostOps0]
  after_results
  exact cast_row _ j
theorem blk10 (j : Fin 1024) : iblk m c 10 t (ix2 (0 : Fin 1) j) = m (c, main_arg10) (ix1 j) := by
  blk_simp [iblk]
  exact (congrArg (V m c main_v8) (whole_idx ((win0_10.blk t).view.emb (ix2 (0 : Fin 1) j)) (0 : Fin 1) j rfl rfl)).trans (V_v8 m c j)
theorem V_v9 (k : Fin 1024) (j : Fin 2816) : V m c main_v9 (ix2 k j) = m (c, main_arg11) (ix2 k j) := by
  simp only [V, hostOps0]
  after_results
  exact rfl
theorem blk11 (k : Fin 1024) (j : Fin 2816) : iblk m c 11 t (ix2 k j) = m (c, main_arg11) (ix2 k j) := by
  blk_simp [iblk]
  exact (congrArg (V m c main_v9) (whole_idx ((win0_11.blk t).view.emb (ix2 k j)) k j rfl rfl)).trans (V_v9 m c k j)
theorem V_v10 (k : Fin 1024) (j : Fin 2816) : V m c main_v10 (ix2 k j) = m (c, main_arg12) (ix2 k j) := by
  simp only [V, hostOps0]
  after_results
  exact rfl
theorem blk12 (k : Fin 1024) (j : Fin 2816) : iblk m c 12 t (ix2 k j) = m (c, main_arg12) (ix2 k j) := by
  blk_simp [iblk]
  exact (congrArg (V m c main_v10) (whole_idx ((win0_12.blk t).view.emb (ix2 k j)) k j rfl rfl)).trans (V_v10 m c k j)
theorem V_v11 (k : Fin 2816) (j : Fin 1024) : V m c main_v11 (ix2 k j) = m (c, main_arg13) (ix2 k j) := by
  simp only [V, hostOps0]
  after_results
  exact rfl
theorem blk13 (k : Fin 2816) (j : Fin 1024) : iblk m c 13 t (ix2 k j) = m (c, main_arg13) (ix2 k j) := by
  blk_simp [iblk]
  exact (congrArg (V m c main_v11) (whole_idx ((win0_13.blk t).view.emb (ix2 k j)) k j rfl rfl)).trans (V_v11 m c k j)
theorem V_v12 (j : Fin 1024) : V m c main_v12 (ix2 (0 : Fin 1) j) = m (c, main_arg14) (ix1 j) := by
  simp only [V, hostOps0]
  after_results
  exact cast_row _ j
theorem blk14 (j : Fin 1024) : iblk m c 14 t (ix2 (0 : Fin 1) j) = m (c, main_arg14) (ix1 j) := by
  blk_simp [iblk]
  exact (congrArg (V m c main_v12) (whole_idx ((win0_14.blk t).view.emb (ix2 (0 : Fin 1) j)) (0 : Fin 1) j rfl rfl)).trans (V_v12 m c j)

/-- The weights that a grid point's blocks hold are the arguments'. -/
theorem held_eq : held (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) =
    weightsOf (m (c, main_arg3)) (m (c, main_arg4)) (m (c, main_arg5)) (m (c, main_arg6)) (m (c, main_arg7)) (m (c, main_arg8)) (m (c, main_arg9)) (m (c, main_arg10)) (m (c, main_arg11)) (m (c, main_arg12)) (m (c, main_arg13)) (m (c, main_arg14)) := by
  unfold held weightsOf
  rw [Weights.mk.injEq]
  exact ⟨funext (blk3 m c t), funext fun k => funext (blk4 m c t k), funext (blk5 m c t), funext fun k => funext (blk6 m c t k), funext fun k => funext (blk7 m c t k),
    funext fun k => funext (blk8 m c t k), funext (blk9 m c t), funext (blk10 m c t), funext fun k => funext (blk11 m c t k), funext fun k => funext (blk12 m c t k),
    funext fun k => funext (blk13 m c t k), funext (blk14 m c t)⟩

/-- The layer's result at a row of the inputs. -/
def layer (W : Weights) (a0 : FVec Ideal S32768x1024 .f32) (a1 a2 : FVec Ideal S32768x512 .bf16) (i : S32768x1024.Idx) : EReal :=
  result W (row a0 (i 0)) (row a1 (i 0)) (row a2 (i 0)) (i 1)

theorem idx0 : win0_0.index t = win0_15.index t := rfl
theorem idx1 : win0_1.index t = win0_15.index t := rfl
theorem idx2 : win0_2.index t = win0_15.index t := rfl
theorem idx15 : ∀ t : Fin cfg0.grid.N, win0_15.index t 0 < 64 ∧ win0_15.index t 1 = 0 := by decide +kernel

variable (h : win0_15.index t 0 < 64)

theorem rows0 (r : Fin 512) : row (φ := .f32) (n := 512) (k := 1024) (iblk m c 0 t) r = row (φ := .f32) (m (c, main_arg0)) (⟨win0_15.index t 0 * 512 + r.val, by omega⟩ : Fin 32768) := by
  funext d
  unfold row
  blk_simp [iblk]
  rw [V_main_arg0]
  refine congrArg (m (c, main_arg0)) (block_idx ((win0_0.blk t).view.emb (ix2 r d)) _ _ ?_ ?_)
  · show win0_0.index t 0 * 512 + 1 * r.val = _
    rw [idx0, Nat.one_mul]
  · show win0_0.index t 1 * 1024 + 1 * d.val = _
    rw [idx0, (idx15 t).2, Nat.zero_mul, Nat.zero_add, Nat.one_mul]

theorem rows1 (r : Fin 512) : row (φ := .bf16) (n := 512) (k := 512) (iblk m c 1 t) r = row (φ := .bf16) (m (c, main_arg1)) (⟨win0_15.index t 0 * 512 + r.val, by omega⟩ : Fin 32768) := by
  funext d
  unfold row
  blk_simp [iblk]
  rw [V_main_arg1]
  refine congrArg (m (c, main_arg1)) (block_idx ((win0_1.blk t).view.emb (ix2 r d)) _ _ ?_ ?_)
  · show win0_1.index t 0 * 512 + 1 * r.val = _
    rw [idx1, Nat.one_mul]
  · show win0_1.index t 1 * 512 + 1 * d.val = _
    rw [idx1, (idx15 t).2, Nat.zero_mul, Nat.zero_add, Nat.one_mul]

theorem rows2 (r : Fin 512) : row (φ := .bf16) (n := 512) (k := 512) (iblk m c 2 t) r = row (φ := .bf16) (m (c, main_arg2)) (⟨win0_15.index t 0 * 512 + r.val, by omega⟩ : Fin 32768) := by
  funext d
  unfold row
  blk_simp [iblk]
  rw [V_main_arg2]
  refine congrArg (m (c, main_arg2)) (block_idx ((win0_2.blk t).view.emb (ix2 r d)) _ _ ?_ ?_)
  · show win0_2.index t 0 * 512 + 1 * r.val = _
    rw [idx2, Nat.one_mul]
  · show win0_2.index t 1 * 512 + 1 * d.val = _
    rw [idx2, (idx15 t).2, Nat.zero_mul, Nat.zero_add, Nat.one_mul]

omit h m c t in
theorem result_congr {W W' : Weights} {x x' : Fin 1024 → EReal} {s s' l l' : Fin 512 → EReal} (hW : W = W') (hx : x = x') (hs : s = s') (hl : l = l') (j : Fin 1024) :
    result W x s l j = result W' x' s' l' j := by
  subst hW hx hs hl
  rfl

/-- One element of a grid point's block. -/
theorem point (y : S512x1024.Idx) : out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) y =
    layer (weightsOf (m (c, main_arg3)) (m (c, main_arg4)) (m (c, main_arg5)) (m (c, main_arg6)) (m (c, main_arg7)) (m (c, main_arg8)) (m (c, main_arg9)) (m (c, main_arg10)) (m (c, main_arg11)) (m (c, main_arg12)) (m (c, main_arg13)) (m (c, main_arg14))) (m (c, main_arg0)) (m (c, main_arg1)) (m (c, main_arg2)) (ix2 (⟨win0_15.index t 0 * 512 + (y 0).val, by have h : (y 0).val < 512 := (y 0).isLt; omega⟩ : Fin 32768) (y 1 : Fin 1024)) := by
  refine (out_apply _ _ _ _ _ _ _ _ _ _ _ _ _ _ _ y).trans ?_
  exact result_congr (held_eq m c t) (rows0 m c t h (y 0)) (rows1 m c t h (y 0)) (rows2 m c t h (y 0)) (y 1)

/-- The result's array after the run: the layer's result at every row and column. -/
theorem arr_eq : (dats m 0 c).arrAt 15 cfg0.N = layer (weightsOf (m (c, main_arg3)) (m (c, main_arg4)) (m (c, main_arg5)) (m (c, main_arg6)) (m (c, main_arg7)) (m (c, main_arg8)) (m (c, main_arg9)) (m (c, main_arg10)) (m (c, main_arg11)) (m (c, main_arg12)) (m (c, main_arg13)) (m (c, main_arg14)))
    (m (c, main_arg0)) (m (c, main_arg1)) (m (c, main_arg2)) := by
  refine (dats m 0 c).arrAt_eq_of_covers 15 _ (by decide +kernel) fun t hf y => ?_
  blk_simp
  rw [after0_15]
  refine (point m c t (idx15 t).1 y).trans (congrArg (layer _ _ _ _) (block_idx ((win0_15.blk t).view.emb y) _ _ ?_ ?_).symm)
  · show win0_15.index t 0 * 512 + 1 * (y 0).val = _
    rw [Nat.one_mul]
  · show win0_15.index t 1 * 1024 + 1 * (y 1).val = _
    rw [(idx15 t).2, Nat.zero_mul, Nat.zero_add, Nat.one_mul]

end Cert.Proof.MergeArray

end
-- ==== Proof.MergeRef.lean ====
/- The merge and feed-forward's reference, read row by row. -/
module

public import proofs.«01_k».proof.Proof.MergeArray
public import proofs.«01_k».proof.Proof.Gen.MergeRefIdeal.Read

@[expose] public section

set_option maxRecDepth 16384

noncomputable section

namespace Cert.Proof.MergeRef

open Cert.MergeRefIdeal Cert.MergeRefIdeal.Gen Cert.MergeRefIdeal.Read Idealize.ShloMosaic Idealize.ShloMosaic.TcCoe Idealize.SL.Sem
open Cert.Proof.RowMath Cert.Proof.MergeBlock Cert.Proof.MergeArray

theorem v12_row (x : FVec Ideal S32768x1024 .f32) (g : FVec Ideal S1024 .f32) (i : Fin 32768) :
    row (φ := .f32) (val_main_v12 (F := Ideal) x g) i = rms c1024 eps (row x i) fun j => g (ix1 j) := by
  funext j
  unfold row rms
  pointwise [val_main_v12, val_main_v11, val_main_v10, val_main_v9, val_main_v8, val_main_v7, val_main_v6, val_main_v5, val_main_cst_1, val_main_v4, val_main_v3, val_main_cst_0, val_main_v2, val_main_v1, val_main_cst, val_main_v0]
  rfl

variable (x0 : FVec Ideal S32768x1024 .f32) (x1 x2 : FVec Ideal S32768x512 .bf16) (x3 : FVec Ideal S1024 .f32) (x4 : FVec Ideal S1024x4256 .f32) (x5 : FVec Ideal S2048 .f32)
    (x6 x7 : FVec Ideal S512x1024 .f32) (x8 : FVec Ideal S1024x1024 .f32) (x9 x10 : FVec Ideal S1024 .f32) (x11 x12 : FVec Ideal S1024x2816 .f32) (x13 : FVec Ideal S2816x1024 .f32) (x14 : FVec Ideal S1024 .f32)

theorem v46_eq : val_main_v46 (F := Ideal) x0 x1 x2 x3 x4 x5 x6 x7 x8 x9 = val_main_v12 (val_main_v33 x0 x1 x2 x3 x4 x5 x6 x7 x8) x9 := rfl
theorem v60_eq : val_main_v60 (F := Ideal) x0 x1 x2 x3 x4 x5 x6 x7 x8 x9 x10 = val_main_v12 (val_main_v47 x0 x1 x2 x3 x4 x5 x6 x7 x8 x9) x10 := rfl
theorem v78_eq : val_main_v78 (F := Ideal) x0 x1 x2 x3 x4 x5 x6 x7 x8 x9 x10 x11 x12 x13 x14 = val_main_v12 (val_main_v65 x0 x1 x2 x3 x4 x5 x6 x7 x8 x9 x10 x11 x12 x13) x14 := rfl

theorem v27_row (i : Fin 32768) : row (φ := .f32) (val_main_v27 (F := Ideal) x0 x3 x4 x5) i = gates (weightsOf x3 x4 x5 x6 x7 x8 x9 x10 x11 x12 x13 x14) (row x0 i) := by
  funext j
  have e : val_main_v13 (F := Ideal) x0 x3 x4 (ix2 i (⟨2208 + j.val, by omega⟩ : Fin 4256)) = mulRow (row (φ := .f32) (val_main_v12 (F := Ideal) x0 x3) i) (mat x4) ⟨2208 + j.val, by omega⟩ := by
    unfold mulRow row mat
    pointwise [val_main_v13]
  unfold row
  pointwise [val_main_v27, val_main_v26, val_main_v25, val_main_v24, val_main_v23, val_main_v22, val_main_v21, val_main_v20, val_main_v19, val_main_v14, val_main_cst_2, val_main_cst_3]
  rw [e, v12_row]
  rfl

theorem v16_row (x : FVec Ideal S32768x512 .bf16) (w : FVec Ideal S512x1024 .f32) (i : Fin 32768) : row (φ := .f32) (val_main_v16 (F := Ideal) x w) i = mulRow (row x i) (mat w) := by
  funext j
  unfold row mulRow mat
  pointwise [val_main_v16, val_main_v15]

theorem v18_eq : val_main_v18 (F := Ideal) x2 x7 = val_main_v16 x2 x7 := rfl

theorem v33_row (i : Fin 32768) : row (φ := .f32) (val_main_v33 (F := Ideal) x0 x1 x2 x3 x4 x5 x6 x7 x8) i =
    merged (weightsOf x3 x4 x5 x6 x7 x8 x9 x10 x11 x12 x13 x14) (row x0 i) (row x1 i) (row x2 i) := by
  have e32 : row (φ := .f32) (val_main_v32 (F := Ideal) x0 x1 x2 x3 x4 x5 x6 x7) i =
      blend (row (φ := .f32) (val_main_v27 (F := Ideal) x0 x3 x4 x5) i) (row (φ := .f32) (val_main_v16 (F := Ideal) x1 x6) i) (row (φ := .f32) (val_main_v16 (F := Ideal) x2 x7) i) := by
    funext j
    unfold row blend
    pointwise [val_main_v32, val_main_v31, val_main_v30, val_main_v29, val_main_v28]
    rw [v18_eq]
  rw [v27_row x0 x3 x4 x5 x6 x7 x8 x9 x10 x11 x12 x13 x14, v16_row, v16_row] at e32
  unfold merged mulRow
  funext j
  unfold row
  pointwise [val_main_v33]
  exact Finset.sum_congr rfl fun k _ => congrArg (· * _) (congrFun e32 k)

theorem v47_row (i : Fin 32768) : row (φ := .f32) (val_main_v47 (F := Ideal) x0 x1 x2 x3 x4 x5 x6 x7 x8 x9) i =
    after (weightsOf x3 x4 x5 x6 x7 x8 x9 x10 x11 x12 x13 x14) (row x0 i) (row x1 i) (row x2 i) := by
  funext j
  have e := congrFun (v12_row (val_main_v33 (F := Ideal) x0 x1 x2 x3 x4 x5 x6 x7 x8) x9 i) j
  rw [v33_row x0 x1 x2 x3 x4 x5 x6 x7 x8 x9 x10 x11 x12 x13 x14] at e
  unfold row at e ⊢
  pointwise [val_main_v47]
  rw [v46_eq]
  exact congrArg (x0 (ix2 i j) + ·) e

theorem v64_row (i : Fin 32768) : row (φ := .f32) (val_main_v64 (F := Ideal) x0 x1 x2 x3 x4 x5 x6 x7 x8 x9 x10 x11 x12) i =
    act (row (φ := .f32) (val_main_v60 (F := Ideal) x0 x1 x2 x3 x4 x5 x6 x7 x8 x9 x10) i) (mat x11) (mat x12) := by
  have e61 : ∀ (w : FVec Ideal S1024x2816 .f32) (j : Fin 2816), val_main_v61 (F := Ideal) x0 x1 x2 x3 x4 x5 x6 x7 x8 x9 x10 w (ix2 i j) =
      mulRow (row (φ := .f32) (val_main_v60 (F := Ideal) x0 x1 x2 x3 x4 x5 x6 x7 x8 x9 x10) i) (mat w) j := fun w j => by
    unfold row mulRow mat
    pointwise [val_main_v61]
  have e63 : val_main_v63 (F := Ideal) x0 x1 x2 x3 x4 x5 x6 x7 x8 x9 x10 x12 = val_main_v61 x0 x1 x2 x3 x4 x5 x6 x7 x8 x9 x10 x12 := rfl
  funext j
  unfold act
  rw [← e61, ← e61, ← e63]
  unfold row
  pointwise [val_main_v64, val_main_v62, val_main_call0_v5, val_main_call0_v4, val_main_call0_cst_0, val_main_call0_v3, val_main_call0_v2, val_main_call0_cst, val_main_call0_v1, val_main_call0_v0]
  rfl

/-- The reference's result is the layer's. -/
theorem v81_apply (i : S32768x1024.Idx) : val_main_v81 (F := Ideal) x0 x1 x2 x3 x4 x5 x6 x7 x8 x9 x10 x11 x12 x13 x14 i =
    layer (weightsOf x3 x4 x5 x6 x7 x8 x9 x10 x11 x12 x13 x14) x0 x1 x2 i := by
  idx_vars i
  have e47 := v47_row x0 x1 x2 x3 x4 x5 x6 x7 x8 x9 x10 x11 x12 x13 x14 i0
  have e60 := v12_row (val_main_v47 (F := Ideal) x0 x1 x2 x3 x4 x5 x6 x7 x8 x9) x10 i0
  rw [e47, ← v60_eq] at e60
  have e64 := v64_row x0 x1 x2 x3 x4 x5 x6 x7 x8 x9 x10 x11 x12 i0
  rw [e60] at e64
  have e65 : row (φ := .f32) (val_main_v65 (F := Ideal) x0 x1 x2 x3 x4 x5 x6 x7 x8 x9 x10 x11 x12 x13) i0 =
      mulRow (row (φ := .f32) (val_main_v64 (F := Ideal) x0 x1 x2 x3 x4 x5 x6 x7 x8 x9 x10 x11 x12) i0) (mat x13) := by
    funext j
    unfold row mulRow mat
    pointwise [val_main_v65]
  have e78 := v12_row (val_main_v65 (F := Ideal) x0 x1 x2 x3 x4 x5 x6 x7 x8 x9 x10 x11 x12 x13) x14 i0
  rw [e65, e64, ← v78_eq] at e78
  pointwise [val_main_v81, val_main_v80, val_main_v79, val_main_cst_13]
  exact congrArg₂ (fun a b => a + half * b) (congrFun e47 i1) (congrFun e78 i1)

end Cert.Proof.MergeRef

end
-- ==== Proof.MergeClaims.lean ====
/- The merge and feed-forward's claims. -/
module

public import proofs.«01_k».proof.Defs
public import proofs.«01_k».proof.Proof.MergeRef
public import proofs.«01_k».proof.Proof.Gen.Merge.Frame
public import proofs.«01_k».proof.Proof.Gen.MergeIdeal.Frame
public import proofs.«01_k».proof.Proof.Gen.MergeIdeal.Value
public import proofs.«01_k».proof.Proof.Gen.MergeRefIdeal.Run

@[expose] public section

set_option maxRecDepth 16384

noncomputable section

namespace Cert.Proof.MergeClaims

open Idealize.ShloMosaic Idealize.ShloMosaic.TcCoe Idealize.SL.Sem
open Cert.Proof.MergeArray

/-- The kernel runs at the chip's own floats, leaves its arguments as they were and every counter at zero. -/
theorem frame_kernel : Cert.quiescent_Merge := fun m ρ _ => Cert.Merge.Gen.frame m ρ

/-- The same of the kernel over the reals. -/
theorem frame_ideal : Cert.quiescent_MergeIdeal := fun m ρ _ => Cert.MergeIdeal.Gen.frame m ρ

/-- The same of the reference over the reals: it has no counters. -/
theorem frame_ref : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

/-- From equal arguments, whatever they are, kernel and reference end with the same layer result. -/
theorem algebraic : Cert.algebraic_MergeIdeal_MergeRefIdeal := by
  intro m ρ m' ρ' hpre hag
  refine ⟨fun c => layer (weightsOf (m (c, Cert.MergeIdeal.main_arg3)) (m (c, Cert.MergeIdeal.main_arg4)) (m (c, Cert.MergeIdeal.main_arg5)) (m (c, Cert.MergeIdeal.main_arg6)) (m (c, Cert.MergeIdeal.main_arg7)) (m (c, Cert.MergeIdeal.main_arg8)) (m (c, Cert.MergeIdeal.main_arg9)) (m (c, Cert.MergeIdeal.main_arg10)) (m (c, Cert.MergeIdeal.main_arg11)) (m (c, Cert.MergeIdeal.main_arg12)) (m (c, Cert.MergeIdeal.main_arg13)) (m (c, Cert.MergeIdeal.main_arg14)))
    (m (c, Cert.MergeIdeal.main_arg0)) (m (c, Cert.MergeIdeal.main_arg1)) (m (c, Cert.MergeIdeal.main_arg2)), ?_, ?_⟩
  · refine (θ_run Cert.MergeIdeal.defs _ _).mono (fun r h c => ⟨(h c).1.trans ?_, (h c).2⟩) (Cert.MergeIdeal.Value.run_blocks m ρ)
    exact arr_eq m c
  · refine (θ_run Cert.MergeRefIdeal.defs _ _).mono (fun r h c => ⟨(h c).1.trans ?_, (h c).2⟩) (Cert.MergeRefIdeal.Value.run (F := Ideal) m' ρ')
    obtain ⟨a0, a1, a2, a3, a4, a5, a6, a7, a8, a9, a10, a11, a12, a13, a14⟩ := hag c
    refine (Cert.MergeRefIdeal.Read.val_main_v81_eq _).trans ?_
    change Cert.MergeRefIdeal.Read.val_main_v81 (m' (c.tc.loc Cert.MergeRefIdeal.main_arg0)) (m' (c.tc.loc Cert.MergeRefIdeal.main_arg1)) (m' (c.tc.loc Cert.MergeRefIdeal.main_arg2)) (m' (c.tc.loc Cert.MergeRefIdeal.main_arg3)) (m' (c.tc.loc Cert.MergeRefIdeal.main_arg4)) (m' (c.tc.loc Cert.MergeRefIdeal.main_arg5)) (m' (c.tc.loc Cert.MergeRefIdeal.main_arg6)) (m' (c.tc.loc Cert.MergeRefIdeal.main_arg7)) (m' (c.tc.loc Cert.MergeRefIdeal.main_arg8)) (m' (c.tc.loc Cert.MergeRefIdeal.main_arg9)) (m' (c.tc.loc Cert.MergeRefIdeal.main_arg10)) (m' (c.tc.loc Cert.MergeRefIdeal.main_arg11)) (m' (c.tc.loc Cert.MergeRefIdeal.main_arg12)) (m' (c.tc.loc Cert.MergeRefIdeal.main_arg13)) (m' (c.tc.loc Cert.MergeRefIdeal.main_arg14)) = _
    rw [a0, a1, a2, a3, a4, a5, a6, a7, a8, a9, a10, a11, a12, a13, a14]
    funext i
    exact MergeRef.v81_apply _ _ _ _ _ _ _ _ _ _ _ _ _ _ _ i

end Cert.Proof.MergeClaims

end
-- ==== Proof.ProjBlock.lean ====
/- The body of the first feed-forward and projections read at one row. -/
module

public import proofs.«01_k».proof.Proof.Gen.ProjIdeal.Value
public import proofs.«01_k».proof.Proof.RowMath

@[expose] public section

set_option maxRecDepth 16384

noncomputable section

namespace Cert.Proof.ProjBlock

open Cert.ProjIdeal Cert.ProjIdeal.Gen Idealize.ShloMosaic Idealize.ShloMosaic.TcCoe Idealize.SL.Sem
open Cert.Proof.RowMath

/-- The widths of the two latents, and the factor of the latent queries. -/
def c384 : EReal := Ideal.ofBits .f32 0x43C00000#32
def c256 : EReal := Ideal.ofBits .f32 0x43800000#32
def qscale : EReal := Ideal.ofBits .f32 0x3E16C740#32

/-! ## Row functions -/

/-- A row after the feed-forward: the row, and half of the normalised result. -/
def stage1 (pre : Fin 1024 → EReal) (wg wu : Fin 1024 → Fin 2816 → EReal) (wd : Fin 2816 → Fin 1024 → EReal) (post x : Fin 1024 → EReal) : Fin 1024 → EReal :=
  fun j => x j + half * rms c1024 eps (mulRow (act (rms c1024 eps x pre) wg wu) wd) post j

/-- `n` columns from `a` on. -/
def cols {p : ℕ} (a n : ℕ) (h : a + n ≤ p) (x : Fin p → EReal) : Fin n → EReal := fun j => x ⟨a + j.val, by omega⟩

/-- A latent, normalised and projected. -/
def lift {p n q : ℕ} (c : EReal) (a : ℕ) (h : a + n ≤ p) (g : Fin n → EReal) (w : Fin n → Fin q → EReal) (x : Fin p → EReal) : Fin q → EReal :=
  mulRow (rms c eps (cols a n h x) g) w

/-- All heads' queries: each head's lanes and its turned lanes, weighted by the two tables. -/
def queries (q : Fin 2048 → EReal) (cs sn : Fin 128 → EReal) : Fin 1024 → EReal :=
  fun j => (q ⟨j.val, by omega⟩ * cs ⟨j.val % 128, by omega⟩ + q ⟨1024 + j.val, by omega⟩ * sn ⟨j.val % 128, by omega⟩) * qscale

/-- All heads' keys: each head's own lanes and the shared turned lanes. -/
def keys (kv : Fin 1536 → EReal) (p : Fin 2432 → EReal) (cs sn : Fin 128 → EReal) : Fin 1024 → EReal :=
  fun j => kv ⟨j.val, by omega⟩ +
    (p ⟨2176 + j.val % 128, by omega⟩ * cs ⟨j.val % 128, by omega⟩ + p ⟨2304 + j.val % 128, by omega⟩ * sn ⟨j.val % 128, by omega⟩)

/-! ## One row group -/

theorem pay7_apply (x : FVec Ideal S256x1024 .f32) (g : FVec Ideal S1x1024 .f32) (i : Fin 256) (j : Fin 1024) :
    k0_pay7 (F := Ideal) x g (ix2 i j) = rms c1024 eps (row x i) (row g 0) j := by
  pointwise [k0_pay7]
  rfl
theorem pay8_apply (x : FVec Ideal S256x1024 .f32) (g : FVec Ideal S1x1024 .f32) (w : FVec Ideal S1024x2816 .bf16) (i : Fin 256) (j : Fin 2816) :
    k0_pay8 (F := Ideal) x g w (ix2 i j) = mulRow (rms c1024 eps (row x i) (row g 0)) (mat w) j := by
  have e : row (k0_pay7 (F := Ideal) x g) i = rms c1024 eps (row x i) (row g 0) := funext fun j => pay7_apply x g i j
  rw [← e]
  pointwise [k0_pay8]
  rfl
theorem pay17_apply (x : FVec Ideal S256x1024 .f32) (g : FVec Ideal S1x1024 .f32) (a b : FVec Ideal S256x2816 .f32) (w : FVec Ideal S2816x1024 .bf16) (i : Fin 256) (j : Fin 1024) :
    k0_pay17 (F := Ideal) x (k0_pay6 g) a b w (ix2 i j) =
      x (ix2 i j) + half * rms c1024 eps (mulRow (fun k => row a i k * sigm (row a i k) * row b i k) (mat w)) (row g 0) j := by
  pointwise [k0_pay17, k0_pay6]
  rfl

/-- 256 rows after the feed-forward. -/
def gH (x : FVec Ideal S256x1024 .f32) (g3 : FVec Ideal S1x1024 .f32) (wg wu : FVec Ideal S1024x2816 .bf16) (wd : FVec Ideal S2816x1024 .bf16) (g7 : FVec Ideal S1x1024 .f32) : FVec Ideal S256x1024 .f32 :=
  k0_pay17 x (k0_pay6 g7) (k0_pay8 x g3 wg) (k0_pay8 x g3 wu) wd

theorem gH_row (x : FVec Ideal S256x1024 .f32) (g3 : FVec Ideal S1x1024 .f32) (wg wu : FVec Ideal S1024x2816 .bf16) (wd : FVec Ideal S2816x1024 .bf16) (g7 : FVec Ideal S1x1024 .f32) (i : Fin 256) :
    row (gH x g3 wg wu wd g7) i = stage1 (row g3 0) (mat wg) (mat wu) (mat wd) (row g7 0) (row x i) := by
  funext j
  have e : ∀ w : FVec Ideal S1024x2816 .bf16, row (k0_pay8 (F := Ideal) x g3 w) i = mulRow (rms c1024 eps (row x i) (row g3 0)) (mat w) := fun w => funext fun j => pay8_apply x g3 w i j
  refine (pay17_apply x g7 _ _ wd i j).trans ?_
  rw [e, e]
  rfl

/-- The sum of squares of each row. -/
def squares (x : FVec Ideal S256x1024 .f32) : FVec Ideal S256 .f32 :=
  multiReduction .add [1] S256 (mulf x x) 0x00000000#32 reduces_S256x1024_S256 (.inl rfl) rfl

/-- The wide projection of 256 rows. -/
def gP (h : FVec Ideal S256x1024 .f32) (g : FVec Ideal S1x1024 .f32) (w : FVec Ideal S1024x2432 .bf16) : FVec Ideal S256x2432 .f32 := k0_pay38 h (k0_pay34 g) (squares h) w

theorem gP_row (h : FVec Ideal S256x1024 .f32) (g : FVec Ideal S1x1024 .f32) (w : FVec Ideal S1024x2432 .bf16) (i : Fin 256) :
    row (gP h g w) i = mulRow (rms c1024 eps (row h i) (row g 0)) (mat w) := by
  funext j
  unfold row
  pointwise [gP, k0_pay38, k0_pay34, squares]
  rfl

/-- The queries' two halves, and the keys and values, of 256 rows. -/
def gQ (p : FVec Ideal S256x2432 .f32) (g : FVec Ideal S1x384 .f32) (w : FVec Ideal S384x2048 .bf16) : FVec Ideal S256x2048 .f32 :=
  let c := extractStridedSlice S256x384 ![0, 1536] p slices_S256x2432_o0_1536_S256x384
  k0_pay36 (k0_pay29 c (k0_pay26 g) (divf (shapeCast S256x1 (multiReduction .add [1] S256 (mulf c c) 0x00000000#32 reduces_S256x384_S256 (.inl rfl) rfl) shapeCasts_S256_S256x1) k0_pay45) k0_pay28) w
def gKV (p : FVec Ideal S256x2432 .f32) (g : FVec Ideal S1x256 .f32) (w : FVec Ideal S256x1536 .bf16) : FVec Ideal S256x1536 .f32 := k0_pay37 (k0_pay30 p g) w

theorem gQ_row (p : FVec Ideal S256x2432 .f32) (g : FVec Ideal S1x384 .f32) (w : FVec Ideal S384x2048 .bf16) (i : Fin 256) :
    row (gQ p g w) i = lift c384 1536 (by decide) (row g 0) (mat w) (row p i) := by
  funext j
  unfold row
  pointwise [gQ, k0_pay36, k0_pay29, k0_pay26, k0_pay28, k0_pay45]
  rfl
theorem gKV_row (p : FVec Ideal S256x2432 .f32) (g : FVec Ideal S1x256 .f32) (w : FVec Ideal S256x1536 .bf16) (i : Fin 256) :
    row (gKV p g w) i = lift c256 1920 (by decide) (row g 0) (mat w) (row p i) := by
  funext j
  unfold row
  pointwise [gKV, k0_pay37, k0_pay30]
  rfl

/-- One head's queries: `a` its first lane. -/
def tileQ (a : ℕ) (h1 : S256x2048.Slices ![0, a] S256x128) (h2 : S256x2048.Slices ![0, 1024 + a] S256x128) (q : FVec Ideal S256x2048 .f32) (cs sn : FVec Ideal S256x128 .f32) : FVec Ideal S256x128 .bf16 :=
  truncf .bf16 (mulf (addf (mulf (extractStridedSlice S256x128 ![0, a] q h1) cs) (mulf (extractStridedSlice S256x128 ![0, 1024 + a] q h2) sn)) k0_pay76) bitsLt_bf16_f32
/-- One head's keys. -/
def tileK (a : ℕ) (h1 : S256x1536.Slices ![0, a] S256x128) (kv : FVec Ideal S256x1536 .f32) (r : FVec Ideal S256x128 .f32) : FVec Ideal S256x128 .bf16 :=
  truncf .bf16 (addf (extractStridedSlice S256x128 ![0, a] kv h1) r) bitsLt_bf16_f32

theorem tileQ_apply (n : ℕ) (hn : n < 8) (h1 : S256x2048.Slices ![0, 128 * n] S256x128) (h2 : S256x2048.Slices ![0, 1024 + 128 * n] S256x128) (q : FVec Ideal S256x2048 .f32) (cs sn : FVec Ideal S256x128 .f32)
    (i : Fin 256) (j : Fin 128) : tileQ (128 * n) h1 h2 q cs sn (ix2 i j) = queries (row q i) (row cs i) (row sn i) ⟨128 * n + j.val, by omega⟩ := by
  have e : (⟨(128 * n + j.val) % 128, by omega⟩ : Fin 128) = j := Fin.ext (by show (128 * n + j.val) % 128 = j.val; omega)
  have e2 : (⟨1024 + (128 * n + j.val), by omega⟩ : Fin 2048) = ⟨1024 + 128 * n + j.val, by omega⟩ := Fin.ext (Nat.add_assoc ..).symm
  unfold queries
  simp only [e, e2]
  pointwise [tileQ, k0_pay76]
  rfl

/-- The shared turned lanes of 256 rows. -/
def turned (p : FVec Ideal S256x2432 .f32) (cs sn : FVec Ideal S256x128 .f32) : FVec Ideal S256x128 .f32 := k0_pay52 (k0_pay31 p) (k0_pay32 p) cs sn

theorem tileK_apply (n : ℕ) (hn : n < 8) (h1 : S256x1536.Slices ![0, 128 * n] S256x128) (kv : FVec Ideal S256x1536 .f32) (p : FVec Ideal S256x2432 .f32) (cs sn : FVec Ideal S256x128 .f32)
    (i : Fin 256) (j : Fin 128) : tileK (128 * n) h1 kv (turned p cs sn) (ix2 i j) = keys (row kv i) (row p i) (row cs i) (row sn i) ⟨128 * n + j.val, by omega⟩ := by
  have e : (⟨(128 * n + j.val) % 128, by omega⟩ : Fin 128) = j := Fin.ext (by show (128 * n + j.val) % 128 = j.val; omega)
  have e2 : (⟨2176 + (128 * n + j.val) % 128, by omega⟩ : Fin 2432) = ⟨2176 + j.val, by omega⟩ := Fin.ext (by show 2176 + (128 * n + j.val) % 128 = 2176 + j.val; omega)
  have e3 : (⟨2304 + (128 * n + j.val) % 128, by omega⟩ : Fin 2432) = ⟨2304 + j.val, by omega⟩ := Fin.ext (by show 2304 + (128 * n + j.val) % 128 = 2304 + j.val; omega)
  unfold keys
  simp only [e, e2, e3]
  pointwise [tileK, turned, k0_pay52, k0_pay31, k0_pay32, k0_pay50, k0_pay51]
  rfl

/-- 512 columns of the wide projection, and of the keys' and values' one. -/
def part (a : ℕ) (h : S256x2432.Slices ![0, a] S256x512) (p : FVec Ideal S256x2432 .f32) : FVec Ideal S256x512 .bf16 :=
  truncf .bf16 (extractStridedSlice S256x512 ![0, a] p h) bitsLt_bf16_f32
theorem part_apply (a : ℕ) (h : S256x2432.Slices ![0, a] S256x512) (ha : a + 512 ≤ 2432) (p : FVec Ideal S256x2432 .f32) (i : Fin 256) (j : Fin 512) :
    part a h p (ix2 i j) = cols a 512 ha (row p i) j := by
  pointwise [part]
  rfl
theorem pay69_apply (kv : FVec Ideal S256x1536 .f32) (i : Fin 256) (j : Fin 512) : k0_pay69 (F := Ideal) kv (ix2 i j) = cols 1024 512 (by decide) (row kv i) j := by
  pointwise [k0_pay69]
  rfl

/-! ## The body's own spellings -/

theorem pay33_eq (x : FVec Ideal S256x1024 .f32) (g3 g7 : FVec Ideal S1x1024 .f32) (wg wu : FVec Ideal S1024x2816 .bf16) (wd : FVec Ideal S2816x1024 .bf16) :
    k0_pay33 (F := Ideal) x (k0_pay11 g7) (k0_pay20 (k0_pay15 x (k0_pay10 g3) (k0_pay12 x) k0_pay13 wg) (k0_pay16 x (k0_pay10 g3) (k0_pay12 x) k0_pay13 wu) wd) = gH x g3 wg wu wd g7 := rfl
theorem pay35_eq (x : FVec Ideal S256x1024 .f32) (g : FVec Ideal S1x1024 .f32) (f : FVec Ideal S256x1024 .f32) : k0_pay35 (F := Ideal) x g f = squares (k0_pay33 x g f) := rfl
theorem pay17_eq (x : FVec Ideal S256x1024 .f32) (g3 g7 : FVec Ideal S1x1024 .f32) (wg wu : FVec Ideal S1024x2816 .bf16) (wd : FVec Ideal S2816x1024 .bf16) :
    k0_pay17 (F := Ideal) x (k0_pay6 g7) (k0_pay8 x g3 wg) (k0_pay9 x g3 wu) wd = gH x g3 wg wu wd g7 := rfl
theorem pay19_eq (x : FVec Ideal S256x1024 .f32) (g : FVec Ideal S1x1024 .f32) (a b : FVec Ideal S256x2816 .f32) (w : FVec Ideal S2816x1024 .bf16) :
    k0_pay19 (F := Ideal) x g a b w = shapeCast S256x1 (squares (k0_pay17 x g a b w)) shapeCasts_S256_S256x1 := rfl
theorem pay21_eq (h : FVec Ideal S256x1024 .f32) (g : FVec Ideal S1x1024 .f32) (w : FVec Ideal S1024x2432 .bf16) :
    k0_pay21 (F := Ideal) h (k0_pay18 g) (shapeCast S256x1 (squares h) shapeCasts_S256_S256x1) w = gP h g w := rfl
theorem pay38_eq (h : FVec Ideal S256x1024 .f32) (g : FVec Ideal S1x1024 .f32) (w : FVec Ideal S1024x2432 .bf16) :
    k0_pay38 (F := Ideal) h (k0_pay34 g) (squares h) w = gP h g w := rfl
theorem pay36_eq (h : FVec Ideal S256x1024 .f32) (g : FVec Ideal S1x1024 .f32) (s : FVec Ideal S256x1 .f32) (wa : FVec Ideal S1024x2432 .bf16) (gq : FVec Ideal S1x384 .f32) (w : FVec Ideal S384x2048 .bf16) :
    k0_pay36 (F := Ideal) (k0_pay29 (k0_pay25 h g s wa) (k0_pay26 gq) (k0_pay27 h g s wa) k0_pay28) w = gQ (k0_pay21 h g s wa) gq w := rfl
theorem pay70_eq (h : FVec Ideal S256x1024 .f32) (g : FVec Ideal S1x1024 .f32) (s : FVec Ideal S256 .f32) (wa : FVec Ideal S1024x2432 .bf16) (gq : FVec Ideal S1x384 .f32) (w : FVec Ideal S384x2048 .bf16) :
    k0_pay70 (F := Ideal) (k0_pay46 (k0_pay42 h g s wa) (k0_pay43 gq) (k0_pay44 h g s wa) k0_pay45) w = gQ (k0_pay38 h g s wa) gq w := rfl
theorem pay71_eq (p : FVec Ideal S256x2432 .f32) (g : FVec Ideal S1x256 .f32) (w : FVec Ideal S256x1536 .bf16) : k0_pay71 (F := Ideal) (k0_pay47 p g) w = gKV p g w := rfl
theorem pay74_eq (p : FVec Ideal S256x2432 .f32) (cs sn : FVec Ideal S256x128 .f32) : k0_pay74 (F := Ideal) (k0_pay48 p) (k0_pay49 p) cs sn = turned p cs sn := rfl

/-! ## The two row groups of a block -/

/-- The two row groups of the inputs. -/
abbrev xT (x : FVec Ideal S512x1024 .f32) : FVec Ideal S256x1024 .f32 := View.ld (Val := Elt Ideal) (e' := .f32) x r0_0
abbrev xB (x : FVec Ideal S512x1024 .f32) : FVec Ideal S256x1024 .f32 := View.ld (Val := Elt Ideal) (e' := .f32) x r0_3
abbrev tT (x : FVec Ideal S512x128 .f32) : FVec Ideal S256x128 .f32 := View.ld (Val := Elt Ideal) (e' := .f32) x r0_12
abbrev tB (x : FVec Ideal S512x128 .f32) : FVec Ideal S256x128 .f32 := View.ld (Val := Elt Ideal) (e' := .f32) x r0_21

/-- A block stored in tiles, each tile holding `f` at its own rows and columns, holds `f`. -/
theorem tile_piece {k p q : ℕ} {e : EltTy} (f : Fin 512 → Fin k → Elt Ideal e) (a b : ℕ) (inb : _) (ha : a + p ≤ 512) (hb : b + q ≤ k) (v : Vec Ideal ⟨2, ![p, q]⟩ e)
    (h : ∀ (i : Fin p) (j : Fin q), v (ix2 i j) = f ⟨a + i.val, by omega⟩ ⟨b + j.val, by omega⟩) (x : Shape.Idx ⟨2, ![p, q]⟩) :
    v x = (fun y : Shape.Idx ⟨2, ![512, k]⟩ => f (y 0) (y 1)) ((Rect.unit (s := ⟨2, ![512, k]⟩) ![a, b] (Shape.size ⟨2, ![p, q]⟩) inb).emb x) := by
  have hx : x = ix2 (⟨(x 0).val, (x 0).isLt⟩ : Fin p) (⟨(x 1).val, (x 1).isLt⟩ : Fin q) := block_idx x _ _ rfl rfl
  rw [hx, emb_tile a b inb _ _ (by have := (x 0).isLt; show a + (x 0).val < 512; simp at this; omega) (by have := (x 1).isLt; show b + (x 1).val < k; simp at this; omega)]
  exact h _ _

/-- Two groups of 256 rows make a block. -/
theorem groups_f (f : Fin 512 → Fin 1024 → EReal) (t b : FVec Ideal S256x1024 .f32) (ht : ∀ i, row t i = f ⟨0 + i.val, by omega⟩) (hb : ∀ i, row b i = f ⟨256 + i.val, by omega⟩) (y : S512x1024.Idx) :
    View.canon (Val := Elt Ideal) (e := .f32) [⟨r0_3, b⟩, ⟨r0_0, t⟩] y = f (y 0) (y 1) := by
  refine View.canon_apply_of_pieces (Val := Elt Ideal) (e := .f32) (fun y => f (y 0) (y 1)) _ ?_ y (cover0_14 _ _ _)
  intro p hp x
  simp only [List.mem_cons, List.not_mem_nil, or_false] at hp
  rcases hp with rfl | rfl
  · exact tile_piece (k := 1024) (e := .f32) f 256 0 (by decide) (by decide) (by decide) b (fun i j => (congrFun (hb i) j).trans (congrArg _ (Fin.ext (Nat.zero_add _).symm))) x
  · exact tile_piece (k := 1024) (e := .f32) f 0 0 (by decide) (by decide) (by decide) t (fun i j => (congrFun (ht i) j).trans (congrArg _ (Fin.ext (Nat.zero_add _).symm))) x
theorem groups_b (f : Fin 512 → Fin 512 → EReal) (t b : FVec Ideal S256x512 .bf16) (ht : ∀ i, row t i = f ⟨0 + i.val, by omega⟩) (hb : ∀ i, row b i = f ⟨256 + i.val, by omega⟩) (y : S512x512.Idx) :
    View.canon (Val := Elt Ideal) (e := .bf16) [⟨r0_11, b⟩, ⟨r0_6, t⟩] y = f (y 0) (y 1) := by
  refine View.canon_apply_of_pieces (Val := Elt Ideal) (e := .bf16) (fun y => f (y 0) (y 1)) _ ?_ y (cover0_15 _ _ _)
  intro p hp x
  simp only [List.mem_cons, List.not_mem_nil, or_false] at hp
  rcases hp with rfl | rfl
  · exact tile_piece (k := 512) (e := .bf16) f 256 0 (by decide) (by decide) (by decide) b (fun i j => (congrFun (hb i) j).trans (congrArg _ (Fin.ext (Nat.zero_add _).symm))) x
  · exact tile_piece (k := 512) (e := .bf16) f 0 0 (by decide) (by decide) (by decide) t (fun i j => (congrFun (ht i) j).trans (congrArg _ (Fin.ext (Nat.zero_add _).symm))) x

/-- Two groups of eight tiles of 128 columns make a block. -/
theorem tiles (f : Fin 512 → Fin 1024 → EReal) (t b : Fin 8 → FVec Ideal S256x128 .bf16) (ht : ∀ n i (j : Fin 128), t n (ix2 i j) = f ⟨0 + i.val, by omega⟩ ⟨128 * n.val + j.val, by omega⟩)
    (hb : ∀ n i (j : Fin 128), b n (ix2 i j) = f ⟨256 + i.val, by omega⟩ ⟨128 * n.val + j.val, by omega⟩) (y : S512x1024.Idx) :
    View.canon (Val := Elt Ideal) (e := .bf16) [⟨r0_29, b 7⟩, ⟨r0_28, b 6⟩, ⟨r0_27, b 5⟩, ⟨r0_26, b 4⟩, ⟨r0_25, b 3⟩, ⟨r0_24, b 2⟩, ⟨r0_23, b 1⟩, ⟨r0_22, b 0⟩,
      ⟨r0_20, t 7⟩, ⟨r0_19, t 6⟩, ⟨r0_18, t 5⟩, ⟨r0_17, t 4⟩, ⟨r0_16, t 3⟩, ⟨r0_15, t 2⟩, ⟨r0_14, t 1⟩, ⟨r0_13, t 0⟩] y = f (y 0) (y 1) := by
  have hT : ∀ (n : Fin 8) (inb : _) (x : S256x128.Idx), t n x = (fun y : S512x1024.Idx => f (y 0) (y 1)) ((Rect.unit (s := S512x1024) ![0, 128 * n.val] S256x128.size inb).emb x) := fun n inb x =>
    tile_piece (k := 1024) (e := .bf16) f 0 (128 * n.val) inb (by decide) (by omega) (t n) (ht n) x
  have hB : ∀ (n : Fin 8) (inb : _) (x : S256x128.Idx), b n x = (fun y : S512x1024.Idx => f (y 0) (y 1)) ((Rect.unit (s := S512x1024) ![256, 128 * n.val] S256x128.size inb).emb x) := fun n inb x =>
    tile_piece (k := 1024) (e := .bf16) f 256 (128 * n.val) inb (by decide) (by omega) (b n) (hb n) x
  refine View.canon_apply_of_pieces (Val := Elt Ideal) (e := .bf16) (fun y => f (y 0) (y 1)) _ ?_ y (cover0_18 _ _ _ _ _ _ _ _ _ _ _ _ _ _ _ _ _)
  intro p hp x
  simp only [List.mem_cons, List.not_mem_nil, or_false] at hp
  rcases hp with rfl | rfl | rfl | rfl | rfl | rfl | rfl | rfl | rfl | rfl | rfl | rfl | rfl | rfl | rfl | rfl
  · exact hB 7 (by decide) x
  · exact hB 6 (by decide) x
  · exact hB 5 (by decide) x
  · exact hB 4 (by decide) x
  · exact hB 3 (by decide) x
  · exact hB 2 (by decide) x
  · exact hB 1 (by decide) x
  · exact hB 0 (by decide) x
  · exact hT 7 (by decide) x
  · exact hT 6 (by decide) x
  · exact hT 5 (by decide) x
  · exact hT 4 (by decide) x
  · exact hT 3 (by decide) x
  · exact hT 2 (by decide) x
  · exact hT 1 (by decide) x
  · exact hT 0 (by decide) x

section
variable (x0 : FVec Ideal S512x1024 .f32) (x1 : FVec Ideal S512x128 .f32) (x2 : FVec Ideal S512x128 .f32) (x3 : FVec Ideal S1x1024 .f32) (x4 : FVec Ideal S1024x2816 .bf16) (x5 : FVec Ideal S1024x2816 .bf16) (x6 : FVec Ideal S2816x1024 .bf16) (x7 : FVec Ideal S1x1024 .f32) (x8 : FVec Ideal S1x1024 .f32) (x9 : FVec Ideal S1024x2432 .bf16) (x10 : FVec Ideal S1x384 .f32) (x11 : FVec Ideal S384x2048 .bf16) (x12 : FVec Ideal S1x256 .f32) (x13 : FVec Ideal S256x1536 .bf16)

/-- Rows of a block: after the feed-forward, widely projected, and the two latents lifted. -/
def hR (r : Fin 512) : Fin 1024 → EReal := stage1 (row x3 0) (mat x4) (mat x5) (mat x6) (row x7 0) (row (φ := .f32) x0 r)
def pR (r : Fin 512) : Fin 2432 → EReal := mulRow (rms c1024 eps (hR x0 x3 x4 x5 x6 x7 r) (row x8 0)) (mat x9)
def qR (r : Fin 512) : Fin 2048 → EReal := lift c384 1536 (by decide) (row x10 0) (mat x11) (pR x0 x3 x4 x5 x6 x7 x8 x9 r)
def kvR (r : Fin 512) : Fin 1536 → EReal := lift c256 1920 (by decide) (row x12 0) (mat x13) (pR x0 x3 x4 x5 x6 x7 x8 x9 r)

section
variable (x : FVec Ideal S256x1024 .f32) (i : Fin 256) (r : Fin 512) (e : row x i = row (φ := .f32) x0 r)
include e
theorem h_group : row (gH x x3 x4 x5 x6 x7) i = hR x0 x3 x4 x5 x6 x7 r := by rw [gH_row, e]; rfl
theorem p_group : row (gP (gH x x3 x4 x5 x6 x7) x8 x9) i = pR x0 x3 x4 x5 x6 x7 x8 x9 r := by rw [gP_row, h_group x0 x3 x4 x5 x6 x7 x i r e]; rfl
theorem q_group : row (gQ (gP (gH x x3 x4 x5 x6 x7) x8 x9) x10 x11) i = qR x0 x3 x4 x5 x6 x7 x8 x9 x10 x11 r := by rw [gQ_row, p_group x0 x3 x4 x5 x6 x7 x8 x9 x i r e]; rfl
theorem kv_group : row (gKV (gP (gH x x3 x4 x5 x6 x7) x8 x9) x12 x13) i = kvR x0 x3 x4 x5 x6 x7 x8 x9 x12 x13 r := by rw [gKV_row, p_group x0 x3 x4 x5 x6 x7 x8 x9 x i r e]; rfl
end

theorem top_row (i : Fin 256) : row (φ := .f32) (xT x0) i = row (φ := .f32) x0 ⟨0 + i.val, by omega⟩ := row_ld_f x0 0 _ i _
theorem bot_row (i : Fin 256) : row (φ := .f32) (xB x0) i = row (φ := .f32) x0 ⟨256 + i.val, by omega⟩ := row_ld_f x0 256 _ i _
theorem top_tab (x : FVec Ideal S512x128 .f32) (i : Fin 256) : row (φ := .f32) (tT x) i = row x ⟨0 + i.val, by omega⟩ := row_ld_f x 0 _ i _
theorem bot_tab (x : FVec Ideal S512x128 .f32) (i : Fin 256) : row (φ := .f32) (tB x) i = row x ⟨256 + i.val, by omega⟩ := row_ld_f x 256 _ i _

/-! The values the body names, as the groups'. -/

theorem l1 (x : Vec Ideal S1x1024 .f32) : View.ld x r0_1 = x := ld_whole x _
theorem l2 (x : Vec Ideal S1024x2816 .bf16) : View.ld x r0_2 = x := ld_whole x _
theorem l4 (x : Vec Ideal S2816x1024 .bf16) : View.ld x r0_4 = x := ld_whole x _
theorem l5 (x : Vec Ideal S1024x2432 .bf16) : View.ld x r0_5 = x := ld_whole x _
theorem l7 (x : Vec Ideal S1x384 .f32) : View.ld x r0_7 = x := ld_whole x _
theorem l8 (x : Vec Ideal S1x256 .f32) : View.ld x r0_8 = x := ld_whole x _
theorem l9 (x : Vec Ideal S384x2048 .bf16) : View.ld x r0_9 = x := ld_whole x _
theorem l10 (x : Vec Ideal S256x1536 .bf16) : View.ld x r0_10 = x := ld_whole x _

theorem n_hT : k0_pay100 (F := Ideal) x0 x1 x2 x3 x4 x5 x6 x7 x8 x9 x10 x11 x12 x13 = gH (xT x0) x3 x4 x5 x6 x7 := by
  unfold k0_pay100 k0_pay93 k0_pay94 k0_pay95
  rw [l1, l1, l2, l2, l4]
  exact pay17_eq ..
theorem n_hB : k0_pay107 (F := Ideal) x0 x1 x2 x3 x4 x5 x6 x7 x8 x9 x10 x11 x12 x13 = gH (xB x0) x3 x4 x5 x6 x7 := by
  unfold k0_pay107 k0_pay97 k0_pay103 k0_pay96 k0_pay98 k0_pay99
  rw [l1, l1, l2, l2, l4]
  exact pay33_eq ..
theorem n_sT : k0_pay102 (F := Ideal) x0 x1 x2 x3 x4 x5 x6 x7 x8 x9 x10 x11 x12 x13 = shapeCast S256x1 (squares (gH (xT x0) x3 x4 x5 x6 x7)) shapeCasts_S256_S256x1 := by
  rw [← n_hT x0 x1 x2 x3 x4 x5 x6 x7 x8 x9 x10 x11 x12 x13]
  exact pay19_eq ..
theorem n_sB : k0_pay109 (F := Ideal) x0 x1 x2 x3 x4 x5 x6 x7 x8 x9 x10 x11 x12 x13 = squares (gH (xB x0) x3 x4 x5 x6 x7) := by
  rw [← n_hB x0 x1 x2 x3 x4 x5 x6 x7 x8 x9 x10 x11 x12 x13]
  exact pay35_eq ..
theorem n_pT : k0_pay104 (F := Ideal) x0 x1 x2 x3 x4 x5 x6 x7 x8 x9 x10 x11 x12 x13 = gP (gH (xT x0) x3 x4 x5 x6 x7) x8 x9 := by
  unfold k0_pay104 k0_pay101
  rw [n_hT, n_sT, l1, l5]
  exact pay21_eq ..
theorem n_pB : k0_pay112 (F := Ideal) x0 x1 x2 x3 x4 x5 x6 x7 x8 x9 x10 x11 x12 x13 = gP (gH (xB x0) x3 x4 x5 x6 x7) x8 x9 := by
  unfold k0_pay112 k0_pay108
  rw [n_hB, n_sB, l1, l5]
  exact pay38_eq ..
theorem n_qT : k0_pay110 (F := Ideal) x0 x1 x2 x3 x4 x5 x6 x7 x8 x9 x10 x11 x12 x13 = gQ (gP (gH (xT x0) x3 x4 x5 x6 x7) x8 x9) x10 x11 := by
  rw [← n_pT x0 x1 x2 x3 x4 x5 x6 x7 x8 x9 x10 x11 x12 x13]
  unfold k0_pay110
  rw [l7, l9]
  exact pay36_eq ..
theorem n_qB : k0_pay117 (F := Ideal) x0 x1 x2 x3 x4 x5 x6 x7 x8 x9 x10 x11 x12 x13 = gQ (gP (gH (xB x0) x3 x4 x5 x6 x7) x8 x9) x10 x11 := by
  rw [← n_pB x0 x1 x2 x3 x4 x5 x6 x7 x8 x9 x10 x11 x12 x13]
  unfold k0_pay117 k0_pay113
  rw [l7, l9]
  exact pay70_eq ..
theorem n_kvT : k0_pay111 (F := Ideal) x0 x1 x2 x3 x4 x5 x6 x7 x8 x9 x10 x11 x12 x13 = gKV (gP (gH (xT x0) x3 x4 x5 x6 x7) x8 x9) x12 x13 := by
  unfold k0_pay111
  rw [n_pT, l8, l10]
  rfl
theorem n_kvB : k0_pay118 (F := Ideal) x0 x1 x2 x3 x4 x5 x6 x7 x8 x9 x10 x11 x12 x13 = gKV (gP (gH (xB x0) x3 x4 x5 x6 x7) x8 x9) x12 x13 := by
  unfold k0_pay118
  rw [n_pB, l8, l10]
  exact pay71_eq ..
theorem n_rT : k0_pay116 (F := Ideal) x0 x1 x2 x3 x4 x5 x6 x7 x8 x9 x10 x11 x12 x13 = turned (gP (gH (xT x0) x3 x4 x5 x6 x7) x8 x9) (tT x1) (tT x2) := by
  unfold k0_pay116 k0_pay105 k0_pay106
  rw [n_pT]
  rfl
theorem n_rB : k0_pay121 (F := Ideal) x0 x1 x2 x3 x4 x5 x6 x7 x8 x9 x10 x11 x12 x13 = turned (gP (gH (xB x0) x3 x4 x5 x6 x7) x8 x9) (tB x1) (tB x2) := by
  unfold k0_pay121
  rw [n_pB]
  exact pay74_eq ..

/-! ## The seven results of a block -/

theorem out14_apply (y : S512x1024.Idx) : out0_14 (F := Ideal) x0 x1 x2 x3 x4 x5 x6 x7 x8 x9 x10 x11 x12 x13 y = hR x0 x3 x4 x5 x6 x7 (y 0) (y 1) := by
  have e : out0_14 (F := Ideal) x0 x1 x2 x3 x4 x5 x6 x7 x8 x9 x10 x11 x12 x13 = View.canon (Val := Elt Ideal) (e := .f32) [⟨r0_3, gH (xB x0) x3 x4 x5 x6 x7⟩, ⟨r0_0, gH (xT x0) x3 x4 x5 x6 x7⟩] := by
    rw [← n_hT x0 x1 x2 x3 x4 x5 x6 x7 x8 x9 x10 x11 x12 x13, ← n_hB x0 x1 x2 x3 x4 x5 x6 x7 x8 x9 x10 x11 x12 x13]
    rfl
  rw [e]
  exact groups_f (hR x0 x3 x4 x5 x6 x7) _ _ (fun i => h_group x0 x3 x4 x5 x6 x7 _ i _ (top_row x0 i)) (fun i => h_group x0 x3 x4 x5 x6 x7 _ i _ (bot_row x0 i)) y

theorem part_row (a : ℕ) (ha : a + 512 ≤ 2432) (h : S256x2432.Slices ![0, a] S256x512) (x : FVec Ideal S256x1024 .f32) (i : Fin 256) (r : Fin 512) (e : row x i = row (φ := .f32) x0 r) :
    row (part a h (gP (gH x x3 x4 x5 x6 x7) x8 x9)) i = cols a 512 ha (pR x0 x3 x4 x5 x6 x7 x8 x9 r) := by
  funext j
  rw [← p_group x0 x3 x4 x5 x6 x7 x8 x9 x i r e]
  exact part_apply a h ha _ i j

theorem out15_apply (y : S512x512.Idx) : out0_15 (F := Ideal) x0 x1 x2 x3 x4 x5 x6 x7 x8 x9 x10 x11 x12 x13 y = cols 0 512 (by decide) (pR x0 x3 x4 x5 x6 x7 x8 x9 (y 0)) (y 1) := by
  have e : out0_15 (F := Ideal) x0 x1 x2 x3 x4 x5 x6 x7 x8 x9 x10 x11 x12 x13 = View.canon (Val := Elt Ideal) (e := .bf16)
      [⟨r0_11, part 0 slices_S256x2432_o0_0_S256x512 (gP (gH (xB x0) x3 x4 x5 x6 x7) x8 x9)⟩, ⟨r0_6, part 0 slices_S256x2432_o0_0_S256x512 (gP (gH (xT x0) x3 x4 x5 x6 x7) x8 x9)⟩] := by
    rw [← n_pT x0 x1 x2 x3 x4 x5 x6 x7 x8 x9 x10 x11 x12 x13, ← n_pB x0 x1 x2 x3 x4 x5 x6 x7 x8 x9 x10 x11 x12 x13]
    rfl
  rw [e]
  exact groups_b (fun r => cols 0 512 (by decide) (pR x0 x3 x4 x5 x6 x7 x8 x9 r)) _ _ (fun i => part_row x0 x3 x4 x5 x6 x7 x8 x9 0 _ _ _ i _ (top_row x0 i)) (fun i => part_row x0 x3 x4 x5 x6 x7 x8 x9 0 _ _ _ i _ (bot_row x0 i)) y

theorem out16_apply (y : S512x512.Idx) : out0_16 (F := Ideal) x0 x1 x2 x3 x4 x5 x6 x7 x8 x9 x10 x11 x12 x13 y = cols 512 512 (by decide) (pR x0 x3 x4 x5 x6 x7 x8 x9 (y 0)) (y 1) := by
  have e : out0_16 (F := Ideal) x0 x1 x2 x3 x4 x5 x6 x7 x8 x9 x10 x11 x12 x13 = View.canon (Val := Elt Ideal) (e := .bf16)
      [⟨r0_11, part 512 slices_S256x2432_o0_512_S256x512 (gP (gH (xB x0) x3 x4 x5 x6 x7) x8 x9)⟩, ⟨r0_6, part 512 slices_S256x2432_o0_512_S256x512 (gP (gH (xT x0) x3 x4 x5 x6 x7) x8 x9)⟩] := by
    rw [← n_pT x0 x1 x2 x3 x4 x5 x6 x7 x8 x9 x10 x11 x12 x13, ← n_pB x0 x1 x2 x3 x4 x5 x6 x7 x8 x9 x10 x11 x12 x13]
    rfl
  rw [e]
  exact groups_b (fun r => cols 512 512 (by decide) (pR x0 x3 x4 x5 x6 x7 x8 x9 r)) _ _ (fun i => part_row x0 x3 x4 x5 x6 x7 x8 x9 512 _ _ _ i _ (top_row x0 i)) (fun i => part_row x0 x3 x4 x5 x6 x7 x8 x9 512 _ _ _ i _ (bot_row x0 i)) y

theorem out17_apply (y : S512x512.Idx) : out0_17 (F := Ideal) x0 x1 x2 x3 x4 x5 x6 x7 x8 x9 x10 x11 x12 x13 y = cols 1024 512 (by decide) (pR x0 x3 x4 x5 x6 x7 x8 x9 (y 0)) (y 1) := by
  have e : out0_17 (F := Ideal) x0 x1 x2 x3 x4 x5 x6 x7 x8 x9 x10 x11 x12 x13 = View.canon (Val := Elt Ideal) (e := .bf16)
      [⟨r0_11, part 1024 slices_S256x2432_o0_1024_S256x512 (gP (gH (xB x0) x3 x4 x5 x6 x7) x8 x9)⟩, ⟨r0_6, part 1024 slices_S256x2432_o0_1024_S256x512 (gP (gH (xT x0) x3 x4 x5 x6 x7) x8 x9)⟩] := by
    rw [← n_pT x0 x1 x2 x3 x4 x5 x6 x7 x8 x9 x10 x11 x12 x13, ← n_pB x0 x1 x2 x3 x4 x5 x6 x7 x8 x9 x10 x11 x12 x13]
    rfl
  rw [e]
  exact groups_b (fun r => cols 1024 512 (by decide) (pR x0 x3 x4 x5 x6 x7 x8 x9 r)) _ _ (fun i => part_row x0 x3 x4 x5 x6 x7 x8 x9 1024 _ _ _ i _ (top_row x0 i)) (fun i => part_row x0 x3 x4 x5 x6 x7 x8 x9 1024 _ _ _ i _ (bot_row x0 i)) y

theorem vals_row (x : FVec Ideal S256x1024 .f32) (i : Fin 256) (r : Fin 512) (e : row x i = row (φ := .f32) x0 r) :
    row (k0_pay69 (gKV (gP (gH x x3 x4 x5 x6 x7) x8 x9) x12 x13)) i = cols 1024 512 (by decide) (kvR x0 x3 x4 x5 x6 x7 x8 x9 x12 x13 r) := by
  funext j
  rw [← kv_group x0 x3 x4 x5 x6 x7 x8 x9 x12 x13 x i r e]
  exact pay69_apply _ i j

theorem out20_apply (y : S512x512.Idx) : out0_20 (F := Ideal) x0 x1 x2 x3 x4 x5 x6 x7 x8 x9 x10 x11 x12 x13 y = cols 1024 512 (by decide) (kvR x0 x3 x4 x5 x6 x7 x8 x9 x12 x13 (y 0)) (y 1) := by
  have e : out0_20 (F := Ideal) x0 x1 x2 x3 x4 x5 x6 x7 x8 x9 x10 x11 x12 x13 = View.canon (Val := Elt Ideal) (e := .bf16)
      [⟨r0_11, k0_pay69 (gKV (gP (gH (xB x0) x3 x4 x5 x6 x7) x8 x9) x12 x13)⟩, ⟨r0_6, k0_pay69 (gKV (gP (gH (xT x0) x3 x4 x5 x6 x7) x8 x9) x12 x13)⟩] := by
    rw [← n_kvT x0 x1 x2 x3 x4 x5 x6 x7 x8 x9 x10 x11 x12 x13, ← n_kvB x0 x1 x2 x3 x4 x5 x6 x7 x8 x9 x10 x11 x12 x13]
    rfl
  rw [e]
  exact groups_b (fun r => cols 1024 512 (by decide) (kvR x0 x3 x4 x5 x6 x7 x8 x9 x12 x13 r)) _ _ (fun i => vals_row x0 x3 x4 x5 x6 x7 x8 x9 x12 x13 _ i _ (top_row x0 i)) (fun i => vals_row x0 x3 x4 x5 x6 x7 x8 x9 x12 x13 _ i _ (bot_row x0 i)) y

/-- A block's queries and keys, row by row. -/
def qmR (r : Fin 512) : Fin 1024 → EReal := queries (qR x0 x3 x4 x5 x6 x7 x8 x9 x10 x11 r) (row (φ := .f32) x1 r) (row (φ := .f32) x2 r)
def kmR (r : Fin 512) : Fin 1024 → EReal := keys (kvR x0 x3 x4 x5 x6 x7 x8 x9 x12 x13 r) (pR x0 x3 x4 x5 x6 x7 x8 x9 r) (row (φ := .f32) x1 r) (row (φ := .f32) x2 r)

/-! The heads' tiles. -/

theorem sl_q1 (n : Fin 8) : S256x2048.Slices ![0, 128 * n.val] S256x128 := by revert n; decide +kernel
theorem sl_q2 (n : Fin 8) : S256x2048.Slices ![0, 1024 + 128 * n.val] S256x128 := by revert n; decide +kernel
theorem sl_k (n : Fin 8) : S256x1536.Slices ![0, 128 * n.val] S256x128 := by revert n; decide +kernel
def headsQ (q : FVec Ideal S256x2048 .f32) (cs sn : FVec Ideal S256x128 .f32) (n : Fin 8) : FVec Ideal S256x128 .bf16 := tileQ (128 * n.val) (sl_q1 n) (sl_q2 n) q cs sn
def headsK (kv : FVec Ideal S256x1536 .f32) (r : FVec Ideal S256x128 .f32) (n : Fin 8) : FVec Ideal S256x128 .bf16 := tileK (128 * n.val) (sl_k n) kv r

theorem cast50 (x : FVec Ideal S256x128 .f32) : k0_pay50 (F := Ideal) x = x := by
  funext p
  idx_vars p
  pointwise [k0_pay50]

theorem firstB (v : FVec Ideal S256x384 .bf16) (w : FVec Ideal S384x2048 .bf16) (cs sn : FVec Ideal S256x128 .f32) :
    k0_pay77 (F := Ideal) (k0_pay75 v w cs sn) k0_pay76 = headsQ (k0_pay70 v w) (k0_pay72 cs) (k0_pay73 sn) 0 := rfl
theorem firstT (q : FVec Ideal S256x2048 .f32) (cs sn : FVec Ideal S256x128 .f32) : k0_pay53 (F := Ideal) q cs sn = headsQ q (k0_pay50 cs) (k0_pay51 sn) 0 := rfl
theorem firstK (p : FVec Ideal S256x2432 .f32) (kv : FVec Ideal S256x1536 .f32) (cs sn : FVec Ideal S256x128 .f32) : k0_pay54 (F := Ideal) (k0_pay31 p) (k0_pay32 p) kv cs sn = headsK kv (k0_pay52 (k0_pay31 p) (k0_pay32 p) cs sn) 0 := rfl
theorem restT (q : FVec Ideal S256x2048 .f32) (cs sn : FVec Ideal S256x128 .f32) :
    (k0_pay67 (F := Ideal) q cs sn = headsQ q cs sn 7 ∧ k0_pay65 (F := Ideal) q cs sn = headsQ q cs sn 6 ∧ k0_pay63 (F := Ideal) q cs sn = headsQ q cs sn 5 ∧ k0_pay61 (F := Ideal) q cs sn = headsQ q cs sn 4) ∧
      k0_pay59 (F := Ideal) q cs sn = headsQ q cs sn 3 ∧ k0_pay57 (F := Ideal) q cs sn = headsQ q cs sn 2 ∧ k0_pay55 (F := Ideal) q cs sn = headsQ q cs sn 1 := ⟨⟨rfl, rfl, rfl, rfl⟩, rfl, rfl, rfl⟩
theorem restB (q : FVec Ideal S256x2048 .f32) (cs sn : FVec Ideal S256x128 .f32) :
    (k0_pay3 (F := Ideal) q cs sn = headsQ q cs sn 7 ∧ k0_pay1 (F := Ideal) (k0_pay91 q cs sn) k0_pay92 = headsQ q cs sn 6 ∧ k0_pay89 (F := Ideal) q cs sn = headsQ q cs sn 5 ∧ k0_pay87 (F := Ideal) q cs sn = headsQ q cs sn 4) ∧
      k0_pay85 (F := Ideal) (k0_pay83 q cs sn) k0_pay84 = headsQ q cs sn 3 ∧ k0_pay81 (F := Ideal) q cs sn = headsQ q cs sn 2 ∧ k0_pay79 (F := Ideal) q cs sn = headsQ q cs sn 1 := ⟨⟨rfl, rfl, rfl, rfl⟩, rfl, rfl, rfl⟩
theorem restKT (k : FVec Ideal S256x1536 .f32) (r : FVec Ideal S256x128 .f32) :
    (k0_pay68 (F := Ideal) k r = headsK k r 7 ∧ k0_pay66 (F := Ideal) k r = headsK k r 6 ∧ k0_pay64 (F := Ideal) k r = headsK k r 5 ∧ k0_pay62 (F := Ideal) k r = headsK k r 4) ∧
      k0_pay60 (F := Ideal) k r = headsK k r 3 ∧ k0_pay58 (F := Ideal) k r = headsK k r 2 ∧ k0_pay56 (F := Ideal) k r = headsK k r 1 := ⟨⟨rfl, rfl, rfl, rfl⟩, rfl, rfl, rfl⟩
theorem restKB (k : FVec Ideal S256x1536 .f32) (r : FVec Ideal S256x128 .f32) :
    (k0_pay4 (F := Ideal) k r = headsK k r 7 ∧ k0_pay2 (F := Ideal) k r = headsK k r 6 ∧ k0_pay90 (F := Ideal) k r = headsK k r 5 ∧ k0_pay88 (F := Ideal) k r = headsK k r 4) ∧
      k0_pay86 (F := Ideal) k r = headsK k r 3 ∧ k0_pay82 (F := Ideal) k r = headsK k r 2 ∧ k0_pay80 (F := Ideal) k r = headsK k r 1 ∧ k0_pay78 (F := Ideal) k r = headsK k r 0 := ⟨⟨rfl, rfl, rfl, rfl⟩, rfl, rfl, rfl, rfl⟩

theorem q_heads (x : FVec Ideal S256x1024 .f32) (cs sn : FVec Ideal S256x128 .f32) (i : Fin 256) (r : Fin 512) (e : row x i = row (φ := .f32) x0 r) (e1 : row cs i = row (φ := .f32) x1 r) (e2 : row sn i = row (φ := .f32) x2 r)
    (n : Fin 8) (j : Fin 128) : headsQ (gQ (gP (gH x x3 x4 x5 x6 x7) x8 x9) x10 x11) cs sn n (ix2 i j) = qmR x0 x1 x2 x3 x4 x5 x6 x7 x8 x9 x10 x11 r ⟨128 * n.val + j.val, by omega⟩ := by
  unfold headsQ
  rw [tileQ_apply n.val n.isLt, q_group x0 x3 x4 x5 x6 x7 x8 x9 x10 x11 x i r e, e1, e2]
  rfl
theorem k_heads (x : FVec Ideal S256x1024 .f32) (cs sn : FVec Ideal S256x128 .f32) (i : Fin 256) (r : Fin 512) (e : row x i = row (φ := .f32) x0 r) (e1 : row cs i = row (φ := .f32) x1 r) (e2 : row sn i = row (φ := .f32) x2 r)
    (n : Fin 8) (j : Fin 128) : headsK (gKV (gP (gH x x3 x4 x5 x6 x7) x8 x9) x12 x13) (turned (gP (gH x x3 x4 x5 x6 x7) x8 x9) cs sn) n (ix2 i j) = kmR x0 x1 x2 x3 x4 x5 x6 x7 x8 x9 x12 x13 r ⟨128 * n.val + j.val, by omega⟩ := by
  unfold headsK
  rw [tileK_apply n.val n.isLt, kv_group x0 x3 x4 x5 x6 x7 x8 x9 x12 x13 x i r e, p_group x0 x3 x4 x5 x6 x7 x8 x9 x i r e, e1, e2]
  rfl

theorem out18_apply (y : S512x1024.Idx) : out0_18 (F := Ideal) x0 x1 x2 x3 x4 x5 x6 x7 x8 x9 x10 x11 x12 x13 y = qmR x0 x1 x2 x3 x4 x5 x6 x7 x8 x9 x10 x11 (y 0) (y 1) := by
  have c1 : k0_pay114 (F := Ideal) x0 x1 x2 x3 x4 x5 x6 x7 x8 x9 x10 x11 x12 x13 = tT x1 := cast50 _
  have c2 : k0_pay115 (F := Ideal) x0 x1 x2 x3 x4 x5 x6 x7 x8 x9 x10 x11 x12 x13 = tT x2 := cast50 _
  have c3 : k0_pay119 (F := Ideal) x0 x1 x2 x3 x4 x5 x6 x7 x8 x9 x10 x11 x12 x13 = tB x1 := cast50 _
  have c4 : k0_pay120 (F := Ideal) x0 x1 x2 x3 x4 x5 x6 x7 x8 x9 x10 x11 x12 x13 = tB x2 := cast50 _
  have eB : k0_pay77 (F := Ideal) (k0_pay75 (k0_pay113 x0 x1 x2 x3 x4 x5 x6 x7 x8 x9 x10 x11 x12 x13) (View.ld x11 r0_9) (View.ld x1 r0_21) (View.ld x2 r0_21)) k0_pay76 = headsQ (k0_pay117 x0 x1 x2 x3 x4 x5 x6 x7 x8 x9 x10 x11 x12 x13) (tB x1) (tB x2) 0 := by
    refine (firstB _ _ _ _).trans ?_
    rw [← c3, ← c4]
    rfl
  have eT : k0_pay53 (F := Ideal) (k0_pay110 x0 x1 x2 x3 x4 x5 x6 x7 x8 x9 x10 x11 x12 x13) (View.ld x1 r0_12) (View.ld x2 r0_12) = headsQ (k0_pay110 x0 x1 x2 x3 x4 x5 x6 x7 x8 x9 x10 x11 x12 x13) (tT x1) (tT x2) 0 := by
    refine (firstT _ _ _).trans ?_
    rw [← c1, ← c2]
    rfl
  obtain ⟨⟨t7, t6, t5, t4⟩, t3, t2, t1⟩ := restT (k0_pay110 x0 x1 x2 x3 x4 x5 x6 x7 x8 x9 x10 x11 x12 x13) (tT x1) (tT x2)
  obtain ⟨⟨b7, b6, b5, b4⟩, b3, b2, b1⟩ := restB (k0_pay117 x0 x1 x2 x3 x4 x5 x6 x7 x8 x9 x10 x11 x12 x13) (tB x1) (tB x2)
  unfold out0_18
  rw [c1, c2, c3, c4, eB, eT, t7, t6, t5, t4, t3, t2, t1, b7, b6, b5, b4, b3, b2, b1, n_qT, n_qB]
  exact tiles (qmR x0 x1 x2 x3 x4 x5 x6 x7 x8 x9 x10 x11) _ _ (fun n i j => q_heads x0 x1 x2 x3 x4 x5 x6 x7 x8 x9 x10 x11 _ _ _ i _ (top_row x0 i) (top_tab x1 i) (top_tab x2 i) n j)
    (fun n i j => q_heads x0 x1 x2 x3 x4 x5 x6 x7 x8 x9 x10 x11 _ _ _ i _ (bot_row x0 i) (bot_tab x1 i) (bot_tab x2 i) n j) y

theorem out19_apply (y : S512x1024.Idx) : out0_19 (F := Ideal) x0 x1 x2 x3 x4 x5 x6 x7 x8 x9 x10 x11 x12 x13 y = kmR x0 x1 x2 x3 x4 x5 x6 x7 x8 x9 x12 x13 (y 0) (y 1) := by
  have eT : k0_pay54 (F := Ideal) (k0_pay105 x0 x1 x2 x3 x4 x5 x6 x7 x8 x9 x10 x11 x12 x13) (k0_pay106 x0 x1 x2 x3 x4 x5 x6 x7 x8 x9 x10 x11 x12 x13) (k0_pay111 x0 x1 x2 x3 x4 x5 x6 x7 x8 x9 x10 x11 x12 x13) (View.ld x1 r0_12) (View.ld x2 r0_12) = headsK (k0_pay111 x0 x1 x2 x3 x4 x5 x6 x7 x8 x9 x10 x11 x12 x13) (k0_pay116 x0 x1 x2 x3 x4 x5 x6 x7 x8 x9 x10 x11 x12 x13) 0 := firstK _ _ _ _
  obtain ⟨⟨t7, t6, t5, t4⟩, t3, t2, t1⟩ := restKT (k0_pay111 x0 x1 x2 x3 x4 x5 x6 x7 x8 x9 x10 x11 x12 x13) (k0_pay116 x0 x1 x2 x3 x4 x5 x6 x7 x8 x9 x10 x11 x12 x13)
  obtain ⟨⟨b7, b6, b5, b4⟩, b3, b2, b1, b0⟩ := restKB (k0_pay118 x0 x1 x2 x3 x4 x5 x6 x7 x8 x9 x10 x11 x12 x13) (k0_pay121 x0 x1 x2 x3 x4 x5 x6 x7 x8 x9 x10 x11 x12 x13)
  unfold out0_19
  rw [eT, t7, t6, t5, t4, t3, t2, t1, b7, b6, b5, b4, b3, b2, b1, b0, n_kvT, n_kvB, n_rT, n_rB]
  exact tiles (kmR x0 x1 x2 x3 x4 x5 x6 x7 x8 x9 x12 x13) _ _ (fun n i j => k_heads x0 x1 x2 x3 x4 x5 x6 x7 x8 x9 x12 x13 _ _ _ i _ (top_row x0 i) (top_tab x1 i) (top_tab x2 i) n j)
    (fun n i j => k_heads x0 x1 x2 x3 x4 x5 x6 x7 x8 x9 x12 x13 _ _ _ i _ (bot_row x0 i) (bot_tab x1 i) (bot_tab x2 i) n j) y
end

end Cert.Proof.ProjBlock

end
-- ==== Proof.ProjModel.lean ====
/- What the first feed-forward and projections compute, row by row. -/
module

public import proofs.«01_k».proof.Proof.ProjBlock
public import proofs.«01_k».proof.Proof.Weights

@[expose] public section

set_option maxRecDepth 16384

noncomputable section

namespace Cert.Proof.ProjModel

open Idealize.ShloMosaic Idealize.ShloMosaic.TcCoe
open Cert.Proof.RowMath Cert.Proof.ProjBlock Cert.Proof.Weights

/-- The factor of the stick-breaking queries. -/
def sbscale : EReal := Ideal.ofBits .f32 0x3E38AA3B#32

/-- The stage's weights, as functions of their indices. -/
structure Params where
  pre : Fin 1024 → EReal
  wg : Fin 1024 → Fin 2816 → EReal
  wu : Fin 1024 → Fin 2816 → EReal
  wd : Fin 2816 → Fin 1024 → EReal
  post : Fin 1024 → EReal
  mix : Fin 1024 → EReal
  win : Fin 1024 → Fin 4256 → EReal
  gq : Fin 384 → EReal
  uq : Fin 384 → Fin 8 → Fin 96 → EReal
  gkv : Fin 256 → EReal
  ukv : Fin 256 → Fin 8 → Fin 128 → EReal

variable (W : Params) (x : Fin 1024 → EReal)

/-- The row after the feed-forward, its normalised row, the wide projection, and the two latents. -/
def h1 : Fin 1024 → EReal := stage1 W.pre W.wg W.wu W.wd W.post x
def u : Fin 1024 → EReal := rms c1024 eps (h1 W x) W.mix
def wide : Fin 4256 → EReal := mulRow (u W x) W.win
def cq : Fin 384 → EReal := rms c384 eps (cols 1536 384 (by decide) (wide W x)) W.gq
def ckv : Fin 256 → EReal := rms c256 eps (cols 1920 256 (by decide) (wide W x)) W.gkv
def qh (n : Fin 8) (l : Fin 96) : EReal := ∑ k, cq W x k * W.uq k n l
def kvh (n : Fin 8) (l : Fin 128) : EReal := ∑ k, ckv W x k * W.ukv k n l

/-- Rotary turning of 32 lanes: the first 16 and the last 16. -/
def turnA (z : Fin 32 → EReal) (cs sn : Fin 16 → EReal) (d : Fin 16) : EReal := z ⟨d.val, by omega⟩ * cs d - z ⟨16 + d.val, by omega⟩ * sn d
def turnB (z : Fin 32 → EReal) (cs sn : Fin 16 → EReal) (d : Fin 16) : EReal := z ⟨d.val, by omega⟩ * sn d + z ⟨16 + d.val, by omega⟩ * cs d

/-- The lanes of one head that are turned, and the shared ones. -/
def qrot (n : Fin 8) : Fin 32 → EReal := fun d => qh W x n ⟨64 + d.val, by omega⟩
def krot : Fin 32 → EReal := cols 2176 32 (by decide) (wide W x)

/-- One head's 128 lanes: 64 of its own, 32 turned ones, and zeros. -/
def lanes (own : Fin 64 → EReal) (z : Fin 32 → EReal) (cs sn : Fin 16 → EReal) (l : Fin 128) : EReal :=
  if h : l.val < 64 then own ⟨l.val, h⟩
  else if h : l.val < 80 then turnA z cs sn ⟨l.val - 64, by omega⟩
  else if h : l.val < 96 then turnB z cs sn ⟨l.val - 80, by omega⟩
  else 0

def qlanes (cs sn : Fin 16 → EReal) (n : Fin 8) (l : Fin 128) : EReal := lanes (fun d => qh W x n ⟨d.val, by omega⟩) (qrot W x n) cs sn l * qscale
def klanes (cs sn : Fin 16 → EReal) (n : Fin 8) (l : Fin 128) : EReal := lanes (fun d => kvh W x n ⟨d.val, by omega⟩) (krot W x) cs sn l
def vlanes (n : Fin 8) (d : Fin 64) : EReal := kvh W x n ⟨64 + d.val, by omega⟩

theorem lanes_own (own : Fin 64 → EReal) (z : Fin 32 → EReal) (cs sn : Fin 16 → EReal) (d : Fin 64) : lanes own z cs sn ⟨d.val, by omega⟩ = own d := by
  unfold lanes; rw [dif_pos d.isLt]
theorem lanes_a (own : Fin 64 → EReal) (z : Fin 32 → EReal) (cs sn : Fin 16 → EReal) (d : Fin 16) : lanes own z cs sn ⟨64 + d.val, by omega⟩ = turnA z cs sn d := by
  unfold lanes
  rw [dif_neg (by show ¬ 64 + d.val < 64; omega), dif_pos (by show 64 + d.val < 80; omega)]
  exact congrArg _ (Fin.ext (by show 64 + d.val - 64 = d.val; omega))
theorem lanes_b (own : Fin 64 → EReal) (z : Fin 32 → EReal) (cs sn : Fin 16 → EReal) (d : Fin 16) : lanes own z cs sn ⟨80 + d.val, by omega⟩ = turnB z cs sn d := by
  unfold lanes
  rw [dif_neg (by show ¬ 80 + d.val < 64; omega), dif_neg (by show ¬ 80 + d.val < 80; omega), dif_pos (by show 80 + d.val < 96; omega)]
  exact congrArg _ (Fin.ext (by show 80 + d.val - 80 = d.val; omega))
theorem lanes_pad (own : Fin 64 → EReal) (z : Fin 32 → EReal) (cs sn : Fin 16 → EReal) (d : Fin 32) : lanes own z cs sn ⟨96 + d.val, by omega⟩ = 0 := by
  unfold lanes
  rw [dif_neg (by show ¬ 96 + d.val < 64; omega), dif_neg (by show ¬ 96 + d.val < 80; omega), dif_neg (by show ¬ 96 + d.val < 96; omega)]

/-- A lane is one of a head's own, of the first or second half turned, or a zero. -/
theorem lane_cases {P : Fin 128 → Prop} (h0 : ∀ d : Fin 64, P ⟨d.val, by omega⟩) (ha : ∀ d : Fin 16, P ⟨64 + d.val, by omega⟩) (hb : ∀ d : Fin 16, P ⟨80 + d.val, by omega⟩)
    (hp : ∀ d : Fin 32, P ⟨96 + d.val, by omega⟩) (l : Fin 128) : P l := by
  obtain ⟨l, hl⟩ := l
  by_cases c0 : l < 64
  · exact h0 ⟨l, c0⟩
  by_cases c1 : l < 80
  · have := ha ⟨l - 64, by omega⟩
    simpa only [show 64 + (l - 64) = l by omega] using this
  by_cases c2 : l < 96
  · have := hb ⟨l - 80, by omega⟩
    simpa only [show 80 + (l - 80) = l by omega] using this
  · have := hp ⟨l - 96, by omega⟩
    simpa only [show 96 + (l - 96) = l by omega] using this

end Cert.Proof.ProjModel

end
-- ==== Proof.ProjMath.lean ====
/- The kernel's combined weights compute the same rows: a factor moved out of a sum, and turned lanes as a second
   projection, which needs real numbers. -/
module

public import proofs.«01_k».proof.Proof.ProjModel

@[expose] public section

set_option maxRecDepth 16384

noncomputable section

namespace Cert.Proof.ProjMath

open Idealize.ShloMosaic Idealize.ShloMosaic.TcCoe
open Cert.Proof.RowMath Cert.Proof.ProjBlock Cert.Proof.Weights Cert.Proof.ProjModel

/-! ## Real numbers stay real -/

/-- A positive real number. -/
def Pos? (x : EReal) : Prop := ∃ r : ℝ, 0 < r ∧ x = ↑r
theorem Pos?.real {x : EReal} (h : Pos? x) : Real? x := by obtain ⟨r, _, e⟩ := h; exact ⟨r, e⟩

theorem pos_c1024 : Pos? c1024 := by
  refine ⟨_, ?_, by unfold c1024; simp [Ideal.ofBits, Ideal.ieee]; rfl⟩
  norm_num
theorem pos_c384 : Pos? c384 := by
  refine ⟨_, ?_, by unfold c384; simp [Ideal.ofBits, Ideal.ieee]; rfl⟩
  norm_num
theorem pos_eps : Pos? eps := by
  refine ⟨_, ?_, by unfold eps; simp [Ideal.ofBits, Ideal.ieee]; rfl⟩
  norm_num
theorem pos_half : Pos? half := by
  refine ⟨_, ?_, by unfold half; simp [Ideal.ofBits, Ideal.ieee]; rfl⟩
  norm_num
theorem pos_sbscale : Pos? sbscale := by
  refine ⟨_, ?_, by unfold sbscale; simp [Ideal.ofBits, Ideal.ieee]; rfl⟩
  norm_num

theorem real_rms {n : ℕ} {c e : EReal} (hc : Pos? c) (he : Pos? e) {x g : Fin n → EReal} (hx : ∀ k, Real? (x k)) (hg : ∀ k, Real? (g k)) (j : Fin n) : Real? (rms c e x g j) := by
  obtain ⟨c, hc, rfl⟩ := hc
  obtain ⟨e, he, rfl⟩ := he
  choose f hf using hx
  have hs : ∑ k, x k * x k = ((∑ k, f k * f k : ℝ) : EReal) := by
    rw [← sum_coe]
    exact Finset.sum_congr rfl fun k _ => by rw [hf k, EReal.coe_mul]
  have hm : Ideal.rsqrt (Ideal.div (∑ k, x k * x k) (c : EReal) + (e : EReal)) = (((Real.sqrt ((∑ k, f k * f k) * (1 / c) + e))⁻¹ : ℝ) : EReal) := by
    have h0 : 0 < (∑ k, f k * f k) * (1 / c) + e := by
      have : 0 ≤ ∑ k, f k * f k := Finset.sum_nonneg fun k _ => mul_self_nonneg (f k)
      positivity
    rw [Ideal.div_coe hc.ne', hs, ← EReal.coe_mul, ← EReal.coe_add, Ideal.rsqrt_coe, if_neg h0.not_gt, if_neg h0.ne']
  unfold rms
  rw [hm, hf j]
  exact (Real?.mul ⟨_, rfl⟩ ⟨_, rfl⟩).mul (hg j)

theorem real_mulRow {n p : ℕ} {x : Fin n → EReal} {w : Fin n → Fin p → EReal} (hx : ∀ k, Real? (x k)) (hw : ∀ k j, Real? (w k j)) (j : Fin p) : Real? (mulRow x w j) :=
  Real?.sum _ _ fun k _ => (hx k).mul (hw k j)

theorem real_sigm {x : EReal} (hx : Real? x) : Real? (sigm x) := by
  obtain ⟨r, rfl⟩ := hx
  unfold sigm
  have h : (0 : ℝ) < 1 + Real.exp (-r) := by positivity
  have e : (1 : EReal) + Ideal.exp (-(r : EReal)) = ((1 + Real.exp (-r) : ℝ) : EReal) := by
    rw [← EReal.coe_neg, Ideal.exp_coe, EReal.coe_add, EReal.coe_one]
  rw [e, Ideal.div_coe h.ne', one_mul]
  exact ⟨_, rfl⟩

/-- The stage's weights that turned lanes depend on are real numbers. -/
structure Params.Finite (W : Params) : Prop where
  pre : ∀ j, Real? (W.pre j)
  wg : ∀ k j, Real? (W.wg k j)
  wu : ∀ k j, Real? (W.wu k j)
  wd : ∀ k j, Real? (W.wd k j)
  post : ∀ j, Real? (W.post j)
  mix : ∀ j, Real? (W.mix j)
  win : ∀ k j, Real? (W.win k j)
  gq : ∀ j, Real? (W.gq j)
  uq : ∀ k n l, Real? (W.uq k n l)

section
variable {W : Params} (hW : Params.Finite W) {x : Fin 1024 → EReal} (hx : ∀ k, Real? (x k))
include hW hx

theorem real_h1 (j : Fin 1024) : Real? (h1 W x j) := by
  have hn := real_rms pos_c1024 pos_eps hx hW.pre
  have ha : ∀ k, Real? (act (rms c1024 eps x W.pre) W.wg W.wu k) := fun k =>
    ((real_mulRow hn hW.wg k).mul (real_sigm (real_mulRow hn hW.wg k))).mul (real_mulRow hn hW.wu k)
  exact (hx j).add (pos_half.real.mul (real_rms pos_c1024 pos_eps (real_mulRow ha hW.wd) hW.post j))
theorem real_u (j : Fin 1024) : Real? (u W x j) := real_rms pos_c1024 pos_eps (real_h1 hW hx) hW.mix j
theorem real_wide (j : Fin 4256) : Real? (wide W x j) := real_mulRow (real_u hW hx) hW.win j
theorem real_cq (j : Fin 384) : Real? (cq W x j) := real_rms pos_c384 pos_eps (fun k => real_wide hW hx _) hW.gq j
end

/-! ## Sums -/

/-- A positive factor of every weight is a factor of the sum. -/
theorem sum_scaled {n : ℕ} {c : EReal} (hc : Pos? c) (x w : Fin n → EReal) : ∑ k, x k * (w k * c) = (∑ k, x k * w k) * c := by
  obtain ⟨c, hc, rfl⟩ := hc
  rw [mul_comm _ (c : EReal), ← mul_sum_coe _ hc.le]
  exact Finset.sum_congr rfl fun k _ => by rw [← mul_assoc, mul_comm]

/-- The sum with negated weights is the negated sum, of real numbers. -/
theorem sum_neg {n : ℕ} {x w : Fin n → EReal} (hx : ∀ k, Real? (x k)) (hw : ∀ k, Real? (w k)) : ∑ k, x k * -(w k) = -∑ k, x k * w k := by
  choose f hf using hx
  choose g hg using hw
  have e1 : ∀ k, x k * -(w k) = ((-(f k * g k) : ℝ) : EReal) := fun k => by
    rw [hf, hg, ← EReal.coe_neg, ← EReal.coe_mul, mul_neg]
  have e2 : ∀ k, x k * w k = ((f k * g k : ℝ) : EReal) := fun k => by rw [hf, hg, ← EReal.coe_mul]
  rw [Finset.sum_congr rfl fun k _ => e1 k, Finset.sum_congr rfl fun k _ => e2 k, sum_coe, sum_coe, Finset.sum_neg_distrib, EReal.coe_neg]

theorem sum_zero {n : ℕ} (x : Fin n → EReal) : ∑ k, x k * (0 : EReal) = 0 := by
  rw [Finset.sum_congr rfl fun k _ => mul_zero (x k), Finset.sum_const_zero]

/-- One element of a product, by the weights' column. -/
theorem dot {n p : ℕ} (x : Fin n → EReal) (w : Fin n → Fin p → EReal) (j : Fin p) (v : Fin n → EReal) (h : ∀ k, w k j = v k) : mulRow x w j = ∑ k, x k * v k :=
  Finset.sum_congr rfl fun k _ => congrArg (fun a => x k * a) (h k)

/-! ## The combined weights -/

/-- The wide projection's columns: the stick-breaking queries' with their factor, the others as they are, and the
    shared lanes twice, the second time turned. -/
structure IsA (W : Params) (w : Fin 1024 → Fin 2432 → EReal) : Prop where
  scaled : ∀ k (j : Fin 512), w k ⟨j.val, by omega⟩ = W.win k ⟨j.val, by omega⟩ * sbscale
  plain : ∀ k (j : Fin 1664), w k ⟨512 + j.val, by omega⟩ = W.win k ⟨512 + j.val, by omega⟩
  own : ∀ k (j : Fin 64), w k ⟨2176 + j.val, by omega⟩ = 0
  fst : ∀ k (j : Fin 16), w k ⟨2176 + (64 + j.val), by omega⟩ = W.win k ⟨2176 + j.val, by omega⟩
  snd : ∀ k (j : Fin 16), w k ⟨2176 + (80 + j.val), by omega⟩ = W.win k ⟨2176 + (16 + j.val), by omega⟩
  neg : ∀ k (j : Fin 16), w k ⟨2304 + (64 + j.val), by omega⟩ = -W.win k ⟨2176 + (16 + j.val), by omega⟩
  swp : ∀ k (j : Fin 16), w k ⟨2304 + (80 + j.val), by omega⟩ = W.win k ⟨2176 + j.val, by omega⟩

/-- The queries' columns: each head's, and each head's turned ones. -/
structure IsQ (W : Params) (w : Fin 384 → Fin 2048 → EReal) : Prop where
  own : ∀ k (n : Fin 8) (j : Fin 64), w k ⟨n.val * 128 + j.val, by omega⟩ = W.uq k n ⟨j.val, by omega⟩
  fst : ∀ k (n : Fin 8) (j : Fin 16), w k ⟨n.val * 128 + (64 + j.val), by omega⟩ = W.uq k n ⟨64 + j.val, by omega⟩
  snd : ∀ k (n : Fin 8) (j : Fin 16), w k ⟨n.val * 128 + (80 + j.val), by omega⟩ = W.uq k n ⟨64 + (16 + j.val), by omega⟩
  neg : ∀ k (n : Fin 8) (j : Fin 16), w k ⟨1024 + (n.val * 128 + (64 + j.val)), by omega⟩ = -W.uq k n ⟨64 + (16 + j.val), by omega⟩
  swp : ∀ k (n : Fin 8) (j : Fin 16), w k ⟨1024 + (n.val * 128 + (80 + j.val)), by omega⟩ = W.uq k n ⟨64 + j.val, by omega⟩

/-- The keys' and values' columns: each head's keys, and all values after them. -/
structure IsKV (W : Params) (w : Fin 256 → Fin 1536 → EReal) : Prop where
  own : ∀ k (n : Fin 8) (j : Fin 64), w k ⟨n.val * 128 + j.val, by omega⟩ = W.ukv k n ⟨j.val, by omega⟩
  pad : ∀ k (n : Fin 8) (j : Fin 128), 64 ≤ j.val → w k ⟨n.val * 128 + j.val, by omega⟩ = 0
  vals : ∀ k (n : Fin 8) (j : Fin 64), w k ⟨1024 + (n.val * 64 + j.val), by omega⟩ = W.ukv k n ⟨64 + j.val, by omega⟩

/-- A position's rows of the two tables: over a head's own lanes 1 and 0, and zeros at the end. -/
structure IsTab (cos sin : Fin 16 → EReal) (cs sn : Fin 128 → EReal) : Prop where
  own : ∀ j : Fin 64, cs ⟨j.val, by omega⟩ = 1 ∧ sn ⟨j.val, by omega⟩ = 0
  fst : ∀ j : Fin 16, cs ⟨64 + j.val, by omega⟩ = cos j ∧ sn ⟨64 + j.val, by omega⟩ = sin j
  snd : ∀ j : Fin 16, cs ⟨80 + j.val, by omega⟩ = cos j ∧ sn ⟨80 + j.val, by omega⟩ = sin j
  pad : ∀ j : Fin 32, cs ⟨96 + j.val, by omega⟩ = 0 ∧ sn ⟨96 + j.val, by omega⟩ = 0

/-- Two projections weighted by the tables are the turned lanes. -/
theorem turned {cos sin : Fin 16 → EReal} {cs sn : Fin 128 → EReal} (ht : IsTab cos sin cs sn) {own : Fin 64 → EReal} {z : Fin 32 → EReal} (A B : Fin 128 → EReal)
    (h0 : ∀ d : Fin 64, A ⟨d.val, by omega⟩ = own d) (h1 : ∀ d : Fin 16, A ⟨64 + d.val, by omega⟩ = z ⟨d.val, by omega⟩) (h2 : ∀ d : Fin 16, A ⟨80 + d.val, by omega⟩ = z ⟨16 + d.val, by omega⟩)
    (h3 : ∀ d : Fin 16, B ⟨64 + d.val, by omega⟩ = -z ⟨16 + d.val, by omega⟩) (h4 : ∀ d : Fin 16, B ⟨80 + d.val, by omega⟩ = z ⟨d.val, by omega⟩) (l : Fin 128) :
    A l * cs l + B l * sn l = lanes own z cos sin l := by
  refine lane_cases (P := fun l => A l * cs l + B l * sn l = lanes own z cos sin l) (fun d => ?_) (fun d => ?_) (fun d => ?_) (fun d => ?_) l
  · rw [lanes_own, (ht.own d).1, (ht.own d).2, mul_one, mul_zero, add_zero, h0]
  · rw [lanes_a, (ht.fst d).1, (ht.fst d).2, h1, h3, neg_mul, ← sub_eq_add_neg]
    rfl
  · rw [lanes_b, (ht.snd d).1, (ht.snd d).2, h2, h4, add_comm]
    rfl
  · rw [lanes_pad, (ht.pad d).1, (ht.pad d).2, mul_zero, mul_zero, add_zero]

/-- A head's own lanes added to turned ones. -/
theorem lanes_add {cos sin : Fin 16 → EReal} {own : Fin 64 → EReal} {z : Fin 32 → EReal} (K : Fin 128 → EReal) (h0 : ∀ d : Fin 64, K ⟨d.val, by omega⟩ = own d)
    (h1 : ∀ l : Fin 128, 64 ≤ l.val → K l = 0) (l : Fin 128) : K l + lanes (fun _ => 0) z cos sin l = lanes own z cos sin l := by
  refine lane_cases (P := fun l => K l + lanes (fun _ => 0) z cos sin l = lanes own z cos sin l) (fun d => ?_) (fun d => ?_) (fun d => ?_) (fun d => ?_) l
  · rw [lanes_own, lanes_own, add_zero, h0]
  · rw [lanes_a, lanes_a, h1 _ (by show 64 ≤ 64 + d.val; omega), zero_add]
  · rw [lanes_b, lanes_b, h1 _ (by show 64 ≤ 80 + d.val; omega), zero_add]
  · rw [lanes_pad, lanes_pad, h1 _ (by show 64 ≤ 96 + d.val; omega), zero_add]

theorem queries_at (q : Fin 2048 → EReal) (cs sn : Fin 128 → EReal) (n : Fin 8) (l : Fin 128) : queries q cs sn ⟨n.val * 128 + l.val, by omega⟩ =
    (q ⟨n.val * 128 + l.val, by omega⟩ * cs l + q ⟨1024 + (n.val * 128 + l.val), by omega⟩ * sn l) * qscale := by
  have e : (⟨(n.val * 128 + l.val) % 128, by omega⟩ : Fin 128) = l := Fin.ext (by show (n.val * 128 + l.val) % 128 = l.val; omega)
  unfold queries
  dsimp only
  rw [e]
theorem keys_at (kv : Fin 1536 → EReal) (p : Fin 2432 → EReal) (cs sn : Fin 128 → EReal) (n : Fin 8) (l : Fin 128) : keys kv p cs sn ⟨n.val * 128 + l.val, by omega⟩ =
    kv ⟨n.val * 128 + l.val, by omega⟩ + (p ⟨2176 + l.val, by omega⟩ * cs l + p ⟨2304 + l.val, by omega⟩ * sn l) := by
  have e : (n.val * 128 + l.val) % 128 = l.val := by omega
  unfold keys
  simp only [e]

section
variable {W : Params} {wa : Fin 1024 → Fin 2432 → EReal} (ha : IsA W wa) (x : Fin 1024 → EReal)
include ha

/-- The kernel's wide row. -/
theorem p_scaled (j : Fin 512) : mulRow (u W x) wa ⟨j.val, by omega⟩ = wide W x ⟨j.val, by omega⟩ * sbscale :=
  (dot _ _ _ _ fun k => ha.scaled k j).trans (sum_scaled pos_sbscale _ _)
theorem p_plain (j : Fin 1664) : mulRow (u W x) wa ⟨512 + j.val, by omega⟩ = wide W x ⟨512 + j.val, by omega⟩ := dot _ _ _ _ fun k => ha.plain k j
theorem p_cols (a n : ℕ) (h0 : 512 ≤ a) (h1 : a + n ≤ 2176) : cols a n (by omega) (mulRow (u W x) wa) = cols a n (by omega) (wide W x) := by
  funext j
  have e := p_plain ha x ⟨a - 512 + j.val, by omega⟩
  have v : 512 + (a - 512 + j.val) = a + j.val := by omega
  simp only [v] at e
  exact e

/-- The stick-breaking queries, with their factor. -/
theorem p_head : cols 0 512 (by decide) (mulRow (u W x) wa) = fun j => cols 0 512 (by decide) (wide W x) j * sbscale := by
  funext j
  have e := p_scaled ha x j
  unfold cols
  simp only [Nat.zero_add]
  exact e

theorem lift_q {q : ℕ} (w : Fin 384 → Fin q → EReal) : lift c384 1536 (by decide) W.gq w (mulRow (u W x) wa) = mulRow (cq W x) w := by
  unfold lift cq
  rw [p_cols ha x 1536 384 (by decide) (by decide)]
theorem lift_kv {q : ℕ} (w : Fin 256 → Fin q → EReal) : lift c256 1920 (by decide) W.gkv w (mulRow (u W x) wa) = mulRow (ckv W x) w := by
  unfold lift ckv
  rw [p_cols ha x 1920 256 (by decide) (by decide)]

variable {cos sin : Fin 16 → EReal} {cs sn : Fin 128 → EReal} (ht : IsTab cos sin cs sn) (hf : Params.Finite W) (hx : ∀ k, Real? (x k))

include ht hf hx in
/-- The kernel's queries of one head are the reference's. -/
theorem q_eq {wq : Fin 384 → Fin 2048 → EReal} (hq : IsQ W wq) (n : Fin 8) (l : Fin 128) :
    queries (lift c384 1536 (by decide) W.gq wq (mulRow (u W x) wa)) cs sn ⟨n.val * 128 + l.val, by omega⟩ = qlanes W x cos sin n l := by
  rw [lift_q ha, queries_at]
  refine congrArg (fun a => a * qscale) ?_
  exact turned ht (fun l => mulRow (cq W x) wq ⟨n.val * 128 + l.val, by omega⟩) (fun l => mulRow (cq W x) wq ⟨1024 + (n.val * 128 + l.val), by omega⟩)
    (fun d => dot _ _ _ _ fun k => hq.own k n d) (fun d => dot _ _ _ _ fun k => hq.fst k n d) (fun d => dot _ _ _ _ fun k => hq.snd k n d)
    (fun d => (dot _ _ _ _ fun k => hq.neg k n d).trans (sum_neg (real_cq hf hx) fun k => hf.uq k n _)) (fun d => dot _ _ _ _ fun k => hq.swp k n d) l

include ht hf hx in
/-- The kernel's keys of one head are the reference's. -/
theorem k_eq {wkv : Fin 256 → Fin 1536 → EReal} (hkv : IsKV W wkv) (n : Fin 8) (l : Fin 128) :
    keys (lift c256 1920 (by decide) W.gkv wkv (mulRow (u W x) wa)) (mulRow (u W x) wa) cs sn ⟨n.val * 128 + l.val, by omega⟩ = klanes W x cos sin n l := by
  rw [lift_kv ha, keys_at]
  refine (congrArg (fun a => mulRow (ckv W x) wkv ⟨n.val * 128 + l.val, by omega⟩ + a) ?_).trans
    (lanes_add (fun l => mulRow (ckv W x) wkv ⟨n.val * 128 + l.val, by omega⟩) (fun d => dot _ _ _ _ fun k => hkv.own k n d)
      (fun l h => (dot _ _ _ _ fun k => hkv.pad k n l h).trans (sum_zero _)) l)
  exact turned ht (fun l => mulRow (u W x) wa ⟨2176 + l.val, by omega⟩) (fun l => mulRow (u W x) wa ⟨2304 + l.val, by omega⟩)
    (fun d => (dot _ _ _ _ fun k => ha.own k d).trans (sum_zero _)) (fun d => dot _ _ _ _ fun k => ha.fst k d) (fun d => dot _ _ _ _ fun k => ha.snd k d)
    (fun d => (dot _ _ _ _ fun k => ha.neg k d).trans (sum_neg (real_u hf hx) fun k => hf.win k _)) (fun d => dot _ _ _ _ fun k => ha.swp k d) l

/-- The kernel's values of one head are the reference's. -/
theorem v_eq {wkv : Fin 256 → Fin 1536 → EReal} (hkv : IsKV W wkv) (n : Fin 8) (d : Fin 64) :
    cols 1024 512 (by decide) (lift c256 1920 (by decide) W.gkv wkv (mulRow (u W x) wa)) ⟨n.val * 64 + d.val, by omega⟩ = vlanes W x n d := by
  rw [lift_kv ha]
  exact dot (ckv W x) wkv _ _ fun k => hkv.vals k n d
end

end Cert.Proof.ProjMath

end
-- ==== Proof.ProjRef.lean ====
/- The reference of the first feed-forward and projections, read row by row. -/
module

public import proofs.«01_k».proof.Proof.ProjModel
public import proofs.«01_k».proof.Proof.Gen.ProjRefIdeal.Read

@[expose] public section

set_option maxRecDepth 16384

noncomputable section

namespace Cert.Proof.ProjRef

open Cert.ProjRefIdeal Cert.ProjRefIdeal.Gen Cert.ProjRefIdeal.Read Idealize.ShloMosaic Idealize.ShloMosaic.TcCoe Idealize.SL.Sem
open Cert.Proof.RowMath Cert.Proof.ProjBlock Cert.Proof.ProjModel

/-- The stage's weights, from the arguments. -/
def paramsOf (x1 : FVec Ideal S1024 .f32) (x2 x3 : FVec Ideal S1024x2816 .f32) (x4 : FVec Ideal S2816x1024 .f32) (x5 x6 : FVec Ideal S1024 .f32) (x7 : FVec Ideal S1024x4256 .f32)
    (x8 : FVec Ideal S384 .f32) (x9 : FVec Ideal S384x8x96 .f32) (x10 : FVec Ideal S256 .f32) (x11 : FVec Ideal S256x8x128 .f32) : Params :=
  ⟨fun j => x1 (ix1 j), mat x2, mat x3, mat x4, fun j => x5 (ix1 j), fun j => x6 (ix1 j), mat x7, fun j => x8 (ix1 j), fun k n l => x9 (ix3 k n l), fun j => x10 (ix1 j), fun k n l => x11 (ix3 k n l)⟩

/-- The two tables' rows at a position. -/
def cosT (s : Fin 2048) : Fin 16 → EReal := fun d => val_main_v104 (F := Ideal) (ix2 s d)
def sinT (s : Fin 2048) : Fin 16 → EReal := fun d => val_main_v106 (F := Ideal) (ix2 s d)

theorem v12_row (x : FVec Ideal S32768x1024 .f32) (g : FVec Ideal S1024 .f32) (i : Fin 32768) :
    row (φ := .f32) (val_main_v12 (F := Ideal) x g) i = rms c1024 eps (row x i) fun j => g (ix1 j) := by
  funext j
  unfold row rms
  pointwise [val_main_v12, val_main_v11, val_main_v10, val_main_v9, val_main_v8, val_main_v7, val_main_v6, val_main_v5, val_main_cst_1, val_main_v4, val_main_v3, val_main_cst_0, val_main_v2, val_main_v1, val_main_cst, val_main_v0]
  rfl

variable (x0 : FVec Ideal S32768x1024 .f32) (x1 : FVec Ideal S1024 .f32) (x2 x3 : FVec Ideal S1024x2816 .f32) (x4 : FVec Ideal S2816x1024 .f32) (x5 x6 : FVec Ideal S1024 .f32) (x7 : FVec Ideal S1024x4256 .f32)
    (x8 : FVec Ideal S384 .f32) (x9 : FVec Ideal S384x8x96 .f32) (x10 : FVec Ideal S256 .f32) (x11 : FVec Ideal S256x8x128 .f32)

theorem v30_eq : val_main_v30 (F := Ideal) x0 x1 x2 x3 x4 x5 = val_main_v12 (val_main_v17 x0 x1 x2 x3 x4) x5 := rfl
theorem v46_eq : val_main_v46 (F := Ideal) x0 x1 x2 x3 x4 x5 x6 = val_main_v12 (val_main_v33 x0 x1 x2 x3 x4 x5) x6 := rfl

theorem v16_row (i : Fin 32768) : row (φ := .f32) (val_main_v16 (F := Ideal) x0 x1 x2 x3) i = act (row (φ := .f32) (val_main_v12 (F := Ideal) x0 x1) i) (mat x2) (mat x3) := by
  have e13 : ∀ (w : FVec Ideal S1024x2816 .f32) (j : Fin 2816), val_main_v13 (F := Ideal) x0 x1 w (ix2 i j) = mulRow (row (φ := .f32) (val_main_v12 (F := Ideal) x0 x1) i) (mat w) j := fun w j => by
    unfold row mulRow mat
    pointwise [val_main_v13]
  have e15 : val_main_v15 (F := Ideal) x0 x1 x3 = val_main_v13 x0 x1 x3 := rfl
  funext j
  unfold act
  rw [← e13, ← e13, ← e15]
  unfold row
  pointwise [val_main_v16, val_main_v14, val_main_call0_v5, val_main_call0_v4, val_main_call0_cst_0, val_main_call0_v3, val_main_call0_v2, val_main_call0_cst, val_main_call0_v1, val_main_call0_v0]
  rfl

theorem v33_row (i : Fin 32768) : row (φ := .f32) (val_main_v33 (F := Ideal) x0 x1 x2 x3 x4 x5) i = h1 (paramsOf x1 x2 x3 x4 x5 x6 x7 x8 x9 x10 x11) (row x0 i) := by
  have e16 := v16_row x0 x1 x2 x3 i
  rw [v12_row] at e16
  have e17 : row (φ := .f32) (val_main_v17 (F := Ideal) x0 x1 x2 x3 x4) i = mulRow (row (φ := .f32) (val_main_v16 (F := Ideal) x0 x1 x2 x3) i) (mat x4) := by
    funext j
    unfold row mulRow mat
    pointwise [val_main_v17]
  have e30 := v12_row (val_main_v17 (F := Ideal) x0 x1 x2 x3 x4) x5 i
  rw [e17, e16, ← v30_eq] at e30
  funext j
  refine Eq.trans ?_ (congrArg (fun b => x0 (ix2 i j) + half * b) (congrFun e30 j))
  unfold row
  pointwise [val_main_v33, val_main_v32, val_main_v31, val_main_cst_5]
  rfl

theorem v47_row (i : Fin 32768) : row (φ := .f32) (val_main_v47 (F := Ideal) x0 x1 x2 x3 x4 x5 x6 x7) i = wide (paramsOf x1 x2 x3 x4 x5 x6 x7 x8 x9 x10 x11) (row x0 i) := by
  have e46 := v12_row (val_main_v33 (F := Ideal) x0 x1 x2 x3 x4 x5) x6 i
  rw [v33_row x0 x1 x2 x3 x4 x5 x6 x7 x8 x9 x10 x11, ← v46_eq] at e46
  have e47 : row (φ := .f32) (val_main_v47 (F := Ideal) x0 x1 x2 x3 x4 x5 x6 x7) i = mulRow (row (φ := .f32) (val_main_v46 (F := Ideal) x0 x1 x2 x3 x4 x5 x6) i) (mat x7) := by
    funext j
    unfold row mulRow mat
    pointwise [val_main_v47]
  rw [e47, e46]
  rfl

theorem v74_apply (i : Fin 32768) (n : Fin 8) (l : Fin 96) :
    val_main_v74 (F := Ideal) x0 x1 x2 x3 x4 x5 x6 x7 x8 x9 (ix2 i (⟨n.val * 96 + l.val, by omega⟩ : Fin 768)) = qh (paramsOf x1 x2 x3 x4 x5 x6 x7 x8 x9 x10 x11) (row x0 i) n l := by
  have e72 : row (φ := .f32) (val_main_v72 (F := Ideal) x0 x1 x2 x3 x4 x5 x6 x7 x8) i = rms c384 eps (cols 1536 384 (by decide) (row (φ := .f32) (val_main_v47 (F := Ideal) x0 x1 x2 x3 x4 x5 x6 x7) i)) fun j => x8 (ix1 j) := by
    funext j
    unfold row rms cols
    pointwise [val_main_v72, val_main_v71, val_main_v70, val_main_v69, val_main_v68, val_main_v67, val_main_v66, val_main_v65, val_main_cst_12, val_main_v64, val_main_v63, val_main_cst_11, val_main_v62, val_main_v61, val_main_cst_10, val_main_v60, val_main_v57]
    rfl
  rw [v47_row x0 x1 x2 x3 x4 x5 x6 x7 x8 x9 x10 x11] at e72
  have e73 : ∀ k : Fin 384, val_main_v73 (F := Ideal) x9 (ix2 k (⟨n.val * 96 + l.val, by omega⟩ : Fin 768)) = x9 (ix3 k n l) := fun k => by
    pointwise [val_main_v73]
    done
  have e74 : val_main_v74 (F := Ideal) x0 x1 x2 x3 x4 x5 x6 x7 x8 x9 (ix2 i (⟨n.val * 96 + l.val, by omega⟩ : Fin 768)) =
      ∑ k : Fin 384, row (φ := .f32) (val_main_v72 (F := Ideal) x0 x1 x2 x3 x4 x5 x6 x7 x8) i k * val_main_v73 (F := Ideal) x9 (ix2 k (⟨n.val * 96 + l.val, by omega⟩ : Fin 768)) := by
    unfold row
    pointwise [val_main_v74]
  rw [e74, e72]
  exact Finset.sum_congr rfl fun k _ => congrArg (_ * ·) (e73 k)

theorem v90_apply (i : Fin 32768) (n : Fin 8) (l : Fin 128) :
    val_main_v90 (F := Ideal) x0 x1 x2 x3 x4 x5 x6 x7 x10 x11 (ix2 i (⟨n.val * 128 + l.val, by omega⟩ : Fin 1024)) = kvh (paramsOf x1 x2 x3 x4 x5 x6 x7 x8 x9 x10 x11) (row x0 i) n l := by
  have e88 : row (φ := .f32) (val_main_v88 (F := Ideal) x0 x1 x2 x3 x4 x5 x6 x7 x10) i = rms c256 eps (cols 1920 256 (by decide) (row (φ := .f32) (val_main_v47 (F := Ideal) x0 x1 x2 x3 x4 x5 x6 x7) i)) fun j => x10 (ix1 j) := by
    funext j
    unfold row rms cols
    pointwise [val_main_v88, val_main_v87, val_main_v86, val_main_v85, val_main_v84, val_main_v83, val_main_v82, val_main_v81, val_main_cst_15, val_main_v80, val_main_v79, val_main_cst_14, val_main_v78, val_main_v77, val_main_cst_13, val_main_v76, val_main_v58]
    rfl
  rw [v47_row x0 x1 x2 x3 x4 x5 x6 x7 x8 x9 x10 x11] at e88
  have e89 : ∀ k : Fin 256, val_main_v89 (F := Ideal) x11 (ix2 k (⟨n.val * 128 + l.val, by omega⟩ : Fin 1024)) = x11 (ix3 k n l) := fun k => by
    pointwise [val_main_v89]
  have e90 : val_main_v90 (F := Ideal) x0 x1 x2 x3 x4 x5 x6 x7 x10 x11 (ix2 i (⟨n.val * 128 + l.val, by omega⟩ : Fin 1024)) =
      ∑ k : Fin 256, row (φ := .f32) (val_main_v88 (F := Ideal) x0 x1 x2 x3 x4 x5 x6 x7 x10) i k * val_main_v89 (F := Ideal) x11 (ix2 k (⟨n.val * 128 + l.val, by omega⟩ : Fin 1024)) := by
    unfold row
    pointwise [val_main_v90]
  rw [e90, e88]
  exact Finset.sum_congr rfl fun k _ => congrArg (_ * ·) (e89 k)

/-! The arrays over batches, positions and heads. -/

theorem v75_apply (b : Fin 16) (s : Fin 2048) (n : Fin 8) (l : Fin 96) :
    val_main_v75 (F := Ideal) x0 x1 x2 x3 x4 x5 x6 x7 x8 x9 (ix4 b s n l) = qh (paramsOf x1 x2 x3 x4 x5 x6 x7 x8 x9 x10 x11) (row x0 ⟨b.val * 2048 + s.val, by omega⟩) n l := by
  rw [← v74_apply]
  pointwise [val_main_v75]
theorem v91_apply (b : Fin 16) (s : Fin 2048) (n : Fin 8) (l : Fin 128) :
    val_main_v91 (F := Ideal) x0 x1 x2 x3 x4 x5 x6 x7 x10 x11 (ix4 b s n l) = kvh (paramsOf x1 x2 x3 x4 x5 x6 x7 x8 x9 x10 x11) (row x0 ⟨b.val * 2048 + s.val, by omega⟩) n l := by
  rw [← v90_apply]
  pointwise [val_main_v91]

theorem cos_eq : val_main_v140 (F := Ideal) = val_main_v104 := rfl
theorem sin_eq : val_main_v142 (F := Ideal) = val_main_v106 := rfl

theorem v128_apply (b : Fin 16) (s : Fin 2048) (n : Fin 8) (d : Fin 32) :
    val_main_v128 (F := Ideal) x0 x1 x2 x3 x4 x5 x6 x7 x8 x9 (ix4 b s n d) = qrot (paramsOf x1 x2 x3 x4 x5 x6 x7 x8 x9 x10 x11) (row x0 ⟨b.val * 2048 + s.val, by omega⟩) n d := by
  refine Eq.trans ?_ (v75_apply x0 x1 x2 x3 x4 x5 x6 x7 x8 x9 x10 x11 b s n ⟨64 + d.val, by omega⟩)
  pointwise [val_main_v128]
theorem v160_a (b : Fin 16) (s : Fin 2048) (n : Fin 8) (d : Fin 16) :
    val_main_v160 (F := Ideal) x0 x1 x2 x3 x4 x5 x6 x7 x8 x9 (ix4 b s n (⟨d.val, by omega⟩ : Fin 32)) = turnA (qrot (paramsOf x1 x2 x3 x4 x5 x6 x7 x8 x9 x10 x11) (row x0 ⟨b.val * 2048 + s.val, by omega⟩) n) (cosT s) (sinT s) d := by
  unfold turnA cosT sinT
  rw [← v128_apply, ← v128_apply, ← cos_eq, ← sin_eq]
  pointwise [val_main_v160, val_main_v152, val_main_v151, val_main_v150, val_main_v149, val_main_v148, val_main_v147, val_main_v146, val_main_v145, val_main_v144, val_main_v143, val_main_v141]
theorem v160_b (b : Fin 16) (s : Fin 2048) (n : Fin 8) (d : Fin 16) :
    val_main_v160 (F := Ideal) x0 x1 x2 x3 x4 x5 x6 x7 x8 x9 (ix4 b s n (⟨16 + d.val, by omega⟩ : Fin 32)) = turnB (qrot (paramsOf x1 x2 x3 x4 x5 x6 x7 x8 x9 x10 x11) (row x0 ⟨b.val * 2048 + s.val, by omega⟩) n) (cosT s) (sinT s) d := by
  unfold turnB cosT sinT
  rw [← v128_apply, ← v128_apply, ← cos_eq, ← sin_eq]
  pointwise [val_main_v160, val_main_v159, val_main_v158, val_main_v157, val_main_v156, val_main_v155, val_main_v154, val_main_v153, val_main_v145, val_main_v144, val_main_v143, val_main_v141]

theorem v163_apply (b : Fin 16) (s : Fin 2048) (n : Fin 8) (l : Fin 128) :
    val_main_v163 (F := Ideal) x0 x1 x2 x3 x4 x5 x6 x7 x8 x9 (ix4 b s n l) = qlanes (paramsOf x1 x2 x3 x4 x5 x6 x7 x8 x9 x10 x11) (row x0 ⟨b.val * 2048 + s.val, by omega⟩) (cosT s) (sinT s) n l := by
  have e : val_main_v161 (F := Ideal) x0 x1 x2 x3 x4 x5 x6 x7 x8 x9 (ix4 b s n l) = lanes (fun d => qh (paramsOf x1 x2 x3 x4 x5 x6 x7 x8 x9 x10 x11) (row x0 ⟨b.val * 2048 + s.val, by omega⟩) n ⟨d.val, by omega⟩) (qrot (paramsOf x1 x2 x3 x4 x5 x6 x7 x8 x9 x10 x11) (row x0 ⟨b.val * 2048 + s.val, by omega⟩) n) (cosT s) (sinT s) l := by
    refine lane_cases (P := fun l => val_main_v161 (F := Ideal) x0 x1 x2 x3 x4 x5 x6 x7 x8 x9 (ix4 b s n l) = lanes _ _ _ _ l) (fun d => ?_) (fun d => ?_) (fun d => ?_) (fun d => ?_) l
    · rw [lanes_own, ← v75_apply]
      pointwise [val_main_v161, val_main_v127]
    · rw [lanes_a, ← v160_a]
      pointwise [val_main_v161]
      rw [dif_pos (show d.val < 32 by omega)]
    · rw [lanes_b, ← v160_b]
      pointwise [val_main_v161]
      rw [dif_neg (show ¬ 80 + d.val < 64 by omega), dif_pos (show 80 + d.val - 64 < 32 by omega)]
      exact congrArg (fun a => val_main_v160 (F := Ideal) x0 x1 x2 x3 x4 x5 x6 x7 x8 x9 (ix4 b s n a)) (Fin.ext (by show 80 + d.val - 64 = 16 + d.val; omega))
    · rw [lanes_pad]
      pointwise [val_main_v161, val_main_v126, val_main_cst_18]
      rw [dif_neg (show ¬ 96 + d.val < 64 by omega), dif_neg (show ¬ 96 + d.val - 64 < 32 by omega)]
  unfold qlanes
  rw [← e]
  pointwise [val_main_v163, val_main_v162, val_main_cst_21]
  rfl

theorem v92_apply (b : Fin 16) (s : Fin 2048) (d : Fin 32) :
    val_main_v92 (F := Ideal) x0 x1 x2 x3 x4 x5 x6 x7 (ix4 b s (0 : Fin 1) d) = krot (paramsOf x1 x2 x3 x4 x5 x6 x7 x8 x9 x10 x11) (row x0 ⟨b.val * 2048 + s.val, by omega⟩) d := by
  unfold krot
  rw [← v47_row]
  unfold cols row
  pointwise [val_main_v92, val_main_v59]
theorem v124_a (b : Fin 16) (s : Fin 2048) (d : Fin 16) :
    val_main_v124 (F := Ideal) x0 x1 x2 x3 x4 x5 x6 x7 (ix4 b s (0 : Fin 1) (⟨d.val, by omega⟩ : Fin 32)) = turnA (krot (paramsOf x1 x2 x3 x4 x5 x6 x7 x8 x9 x10 x11) (row x0 ⟨b.val * 2048 + s.val, by omega⟩)) (cosT s) (sinT s) d := by
  unfold turnA cosT sinT
  rw [← v92_apply, ← v92_apply]
  pointwise [val_main_v124, val_main_v116, val_main_v115, val_main_v114, val_main_v113, val_main_v112, val_main_v111, val_main_v110, val_main_v109, val_main_v108, val_main_v107, val_main_v105]
theorem v124_b (b : Fin 16) (s : Fin 2048) (d : Fin 16) :
    val_main_v124 (F := Ideal) x0 x1 x2 x3 x4 x5 x6 x7 (ix4 b s (0 : Fin 1) (⟨16 + d.val, by omega⟩ : Fin 32)) = turnB (krot (paramsOf x1 x2 x3 x4 x5 x6 x7 x8 x9 x10 x11) (row x0 ⟨b.val * 2048 + s.val, by omega⟩)) (cosT s) (sinT s) d := by
  unfold turnB cosT sinT
  rw [← v92_apply, ← v92_apply]
  pointwise [val_main_v124, val_main_v123, val_main_v122, val_main_v121, val_main_v120, val_main_v119, val_main_v118, val_main_v117, val_main_v109, val_main_v108, val_main_v107, val_main_v105]

theorem v165_apply (b : Fin 16) (s : Fin 2048) (n : Fin 8) (l : Fin 128) :
    val_main_v165 (F := Ideal) x0 x1 x2 x3 x4 x5 x6 x7 x10 x11 (ix4 b s n l) = klanes (paramsOf x1 x2 x3 x4 x5 x6 x7 x8 x9 x10 x11) (row x0 ⟨b.val * 2048 + s.val, by omega⟩) (cosT s) (sinT s) n l := by
  unfold klanes
  refine lane_cases (P := fun l => val_main_v165 (F := Ideal) x0 x1 x2 x3 x4 x5 x6 x7 x10 x11 (ix4 b s n l) = lanes _ _ _ _ l) (fun d => ?_) (fun d => ?_) (fun d => ?_) (fun d => ?_) l
  · rw [lanes_own, ← v91_apply]
    pointwise [val_main_v165, val_main_v164]
  · rw [lanes_a, ← v124_a]
    pointwise [val_main_v165, val_main_v125]
    rw [dif_pos (show d.val < 32 by omega)]
  · rw [lanes_b, ← v124_b]
    pointwise [val_main_v165, val_main_v125]
    rw [dif_neg (show ¬ 80 + d.val < 64 by omega), dif_pos (show 80 + d.val - 64 < 32 by omega)]
    exact congrArg (fun a => val_main_v124 (F := Ideal) x0 x1 x2 x3 x4 x5 x6 x7 (ix4 b s (0 : Fin 1) a)) (Fin.ext (by show 80 + d.val - 64 = 16 + d.val; omega))
  · rw [lanes_pad]
    pointwise [val_main_v165, val_main_v126, val_main_cst_18]
    rw [dif_neg (show ¬ 96 + d.val < 64 by omega), dif_neg (show ¬ 96 + d.val - 64 < 32 by omega)]

/-! ## The seven results -/

/-- A row's batch, and its position in it. -/
def batch (i : Fin 32768) : Fin 16 := ⟨i.val / 2048, by omega⟩
def pos (i : Fin 32768) : Fin 2048 := ⟨i.val % 2048, by omega⟩

theorem batch_pos (i : Fin 32768) : (⟨(batch i).val * 2048 + (pos i).val, by show i.val / 2048 * 2048 + i.val % 2048 < 32768; omega⟩ : Fin 32768) = i :=
  Fin.ext (by show i.val / 2048 * 2048 + i.val % 2048 = i.val; omega)

/-- What the seven results hold. -/
def res0 (W : Params) (x0 : FVec Ideal S32768x1024 .f32) (i : S32768x1024.Idx) : EReal := h1 W (row x0 (i 0)) (i 1)
def res1 (W : Params) (x0 : FVec Ideal S32768x1024 .f32) (i : S32768x512.Idx) : EReal := cols 0 512 (by decide) (wide W (row x0 (i 0))) (i 1) * sbscale
def res2 (W : Params) (x0 : FVec Ideal S32768x1024 .f32) (i : S32768x512.Idx) : EReal := cols 512 512 (by decide) (wide W (row x0 (i 0))) (i 1)
def res3 (W : Params) (x0 : FVec Ideal S32768x1024 .f32) (i : S32768x512.Idx) : EReal := cols 1024 512 (by decide) (wide W (row x0 (i 0))) (i 1)
def res4 (W : Params) (x0 : FVec Ideal S32768x1024 .f32) (i : S32768x1024.Idx) : EReal := qlanes W (row x0 (i 0)) (cosT (pos (i 0))) (sinT (pos (i 0))) ⟨(i 1).val / 128, by have := (i 1).isLt; simp at this; omega⟩ ⟨(i 1).val % 128, by omega⟩
def res5 (W : Params) (x0 : FVec Ideal S32768x1024 .f32) (i : S32768x1024.Idx) : EReal := klanes W (row x0 (i 0)) (cosT (pos (i 0))) (sinT (pos (i 0))) ⟨(i 1).val / 128, by have := (i 1).isLt; simp at this; omega⟩ ⟨(i 1).val % 128, by omega⟩
def res6 (W : Params) (x0 : FVec Ideal S32768x1024 .f32) (i : S32768x512.Idx) : EReal := vlanes W (row x0 (i 0)) ⟨(i 1).val / 64, by have := (i 1).isLt; simp at this; omega⟩ ⟨(i 1).val % 64, by omega⟩

theorem v33_eq : val_main_v33 (F := Ideal) x0 x1 x2 x3 x4 x5 = res0 (paramsOf x1 x2 x3 x4 x5 x6 x7 x8 x9 x10 x11) x0 := by
  funext i
  idx_vars i
  exact congrFun (v33_row x0 x1 x2 x3 x4 x5 x6 x7 x8 x9 x10 x11 i0) i1
theorem v166_eq : val_main_v166 (F := Ideal) x0 x1 x2 x3 x4 x5 x6 x7 = res1 (paramsOf x1 x2 x3 x4 x5 x6 x7 x8 x9 x10 x11) x0 := by
  funext i
  idx_vars i
  refine Eq.trans ?_ (congrArg (· * sbscale) (congrFun (v47_row x0 x1 x2 x3 x4 x5 x6 x7 x8 x9 x10 x11 i0) ⟨0 + i1.val, by omega⟩))
  unfold row
  pointwise [val_main_v166, val_main_v54, val_main_v53, val_main_cst_9, val_main_v52]
  rfl
theorem v167_eq : val_main_v167 (F := Ideal) x0 x1 x2 x3 x4 x5 x6 x7 = res2 (paramsOf x1 x2 x3 x4 x5 x6 x7 x8 x9 x10 x11) x0 := by
  funext i
  idx_vars i
  refine Eq.trans ?_ (congrFun (v47_row x0 x1 x2 x3 x4 x5 x6 x7 x8 x9 x10 x11 i0) ⟨512 + i1.val, by omega⟩)
  unfold row
  pointwise [val_main_v167, val_main_v55]
theorem v168_eq : val_main_v168 (F := Ideal) x0 x1 x2 x3 x4 x5 x6 x7 = res3 (paramsOf x1 x2 x3 x4 x5 x6 x7 x8 x9 x10 x11) x0 := by
  funext i
  idx_vars i
  refine Eq.trans ?_ (congrFun (v47_row x0 x1 x2 x3 x4 x5 x6 x7 x8 x9 x10 x11 i0) ⟨1024 + i1.val, by omega⟩)
  unfold row
  pointwise [val_main_v168, val_main_v56]
theorem v170_eq : val_main_v170 (F := Ideal) x0 x1 x2 x3 x4 x5 x6 x7 x8 x9 = res4 (paramsOf x1 x2 x3 x4 x5 x6 x7 x8 x9 x10 x11) x0 := by
  funext i
  idx_vars i
  have e := v163_apply x0 x1 x2 x3 x4 x5 x6 x7 x8 x9 x10 x11 (batch i0) (pos i0) ⟨i1.val / 128, by omega⟩ ⟨i1.val % 128, by omega⟩
  rw [batch_pos] at e
  refine Eq.trans ?_ e
  unfold batch pos
  pointwise [val_main_v170, val_main_v169]
theorem v172_eq : val_main_v172 (F := Ideal) x0 x1 x2 x3 x4 x5 x6 x7 x10 x11 = res5 (paramsOf x1 x2 x3 x4 x5 x6 x7 x8 x9 x10 x11) x0 := by
  funext i
  idx_vars i
  have e := v165_apply x0 x1 x2 x3 x4 x5 x6 x7 x8 x9 x10 x11 (batch i0) (pos i0) ⟨i1.val / 128, by omega⟩ ⟨i1.val % 128, by omega⟩
  rw [batch_pos] at e
  refine Eq.trans ?_ e
  unfold batch pos
  pointwise [val_main_v172, val_main_v171]
theorem v175_eq : val_main_v175 (F := Ideal) x0 x1 x2 x3 x4 x5 x6 x7 x10 x11 = res6 (paramsOf x1 x2 x3 x4 x5 x6 x7 x8 x9 x10 x11) x0 := by
  funext i
  idx_vars i
  have e := v91_apply x0 x1 x2 x3 x4 x5 x6 x7 x8 x9 x10 x11 (batch i0) (pos i0) ⟨i1.val / 64, by omega⟩ ⟨64 + i1.val % 64, by omega⟩
  rw [batch_pos] at e
  refine Eq.trans ?_ e
  unfold batch pos
  pointwise [val_main_v175, val_main_v174, val_main_v173]

end Cert.Proof.ProjRef

end
-- ==== Proof.ProjHost.lean ====
/- The weights and tables that the kernel's host part prepares: the combined columns and the padded tables. -/
module

public import proofs.«01_k».proof.Proof.ProjMath
public import proofs.«01_k».proof.Proof.ProjRef

@[expose] public section

set_option maxRecDepth 16384

noncomputable section

namespace Cert.Proof.ProjHost

open Cert.ProjIdeal Cert.ProjIdeal.Gen Idealize.ShloMosaic Idealize.ShloMosaic.TcCoe
open Cert.Proof.RowMath Cert.Proof.ProjBlock Cert.Proof.ProjModel Cert.Proof.ProjMath Cert.Proof.ProjRef

/-! ## The wide projection -/

/-- Elements at equal indices. -/
theorem at1 {n : ℕ} (f : Fin n → EReal) {a b : ℕ} {ha : a < n} {hb : b < n} (e : a = b) : f ⟨a, ha⟩ = f ⟨b, hb⟩ := by
  subst e
  rfl

/-- The columns of the lanes that all heads share, and the wide projection's columns as the kernel holds them. -/
def shared (w : FVec Ideal S1024x4256 .f32) : FVec Ideal S1024x32 .f32 := extractStridedSlice S1024x32 ![0, 2176] w slices_S1024x4256_S1024x32_0_2176
def wideW (w : FVec Ideal S1024x4256 .f32) : FVec Ideal S1024x2432 .bf16 :=
  truncf .bf16 (concatenate S1024x2432 1
    [⟨S1024x512, mulf (extractStridedSlice S1024x512 ![0, 0] w slices_S1024x4256_S1024x512_0_0) (broadcastInDim S1024x512 ![] bcast_S_S1024x512 (constant S_ .f32 0x3E38AA3B#32))⟩,
     ⟨S1024x1664, extractStridedSlice S1024x1664 ![0, 512] w slices_S1024x4256_S1024x1664_0_512⟩,
     ⟨S1024x64, broadcastInDim S1024x64 ![] bcast_S_S1024x64 (constant S_ .f32 0x00000000#32)⟩, ⟨S1024x32, shared w⟩,
     ⟨S1024x32, broadcastInDim S1024x32 ![] bcast_S_S1024x32 (constant S_ .f32 0x00000000#32)⟩, ⟨S1024x64, broadcastInDim S1024x64 ![] bcast_S_S1024x64 (constant S_ .f32 0x00000000#32)⟩,
     ⟨S1024x32, concatenate S1024x32 1 [⟨S1024x16, Host.negf (extractStridedSlice S1024x16 ![0, 16] (shared w) slices_S1024x32_S1024x16_0_16)⟩,
       ⟨S1024x16, extractStridedSlice S1024x16 ![0, 0] (shared w) slices_S1024x32_S1024x16_0_0⟩] concatenates_S1024x16_S1024x16_S1024x32_d1⟩,
     ⟨S1024x32, broadcastInDim S1024x32 ![] bcast_S_S1024x32 (constant S_ .f32 0x00000000#32)⟩]
    concatenates_S1024x512_S1024x1664_S1024x64_S1024x32_S1024x32_S1024x64_S1024x32_S1024x32_S1024x2432_d1) bitsLt_bf16_f32

theorem wideW_is (x1 : FVec Ideal S1024 .f32) (x2 x3 : FVec Ideal S1024x2816 .f32) (x4 : FVec Ideal S2816x1024 .f32) (x5 x6 : FVec Ideal S1024 .f32) (w : FVec Ideal S1024x4256 .f32)
    (x8 : FVec Ideal S384 .f32) (x9 : FVec Ideal S384x8x96 .f32) (x10 : FVec Ideal S256 .f32) (x11 : FVec Ideal S256x8x128 .f32) :
    IsA (paramsOf x1 x2 x3 x4 x5 x6 w x8 x9 x10 x11) (mat (φ := .bf16) (wideW w)) := by
  have o : ∀ k (a : ℕ) (h : a < 4256), (paramsOf x1 x2 x3 x4 x5 x6 w x8 x9 x10 x11).win k ⟨a, h⟩ = w (ix2 k (⟨a, h⟩ : Fin 4256)) := fun _ _ _ => rfl
  constructor <;> intro k j <;> try rw [o]
  all_goals unfold mat
  · pointwise [wideW, shared]
    rfl
  · pointwise [wideW, shared]
  · pointwise [wideW, shared]
    simp (disch := omega) only [dif_pos, dif_neg]
  · pointwise [wideW, shared]
    simp (disch := omega) only [dif_pos, dif_neg]
    exact at1 (fun a => w (ix2 k a)) (by omega)
  · pointwise [wideW, shared]
    simp (disch := omega) only [dif_pos, dif_neg]
    exact at1 (fun a => w (ix2 k a)) (by omega)
  · pointwise [wideW, shared]
    simp (disch := omega) only [dif_pos, dif_neg]
    exact at1 (fun a => -w (ix2 k a)) (by omega)
  · pointwise [wideW, shared]
    simp (disch := omega) only [dif_pos, dif_neg]
    exact at1 (fun a => w (ix2 k a)) (by omega)

/-! ## The queries -/

/-- Each head's turned columns, each head's 128 columns, its 128 turned ones, and all heads' as the kernel holds them. -/
def rotQ (w : FVec Ideal S384x8x96 .f32) : FVec Ideal S384x8x32 .f32 := extractStridedSlice S384x8x32 ![0, 0, 64] w slices_S384x8x96_S384x8x32_0_0_64
def headQ (w : FVec Ideal S384x8x96 .f32) : FVec Ideal S384x8x128 .f32 :=
  concatenate S384x8x128 2 [⟨S384x8x64, extractStridedSlice S384x8x64 ![0, 0, 0] w slices_S384x8x96_S384x8x64_0_0_0⟩, ⟨S384x8x32, rotQ w⟩,
    ⟨S384x8x32, broadcastInDim S384x8x32 ![] bcast_S_S384x8x32 (constant S_ .f32 0x00000000#32)⟩] concatenates_S384x8x64_S384x8x32_S384x8x32_S384x8x128_d2
def turnQ (w : FVec Ideal S384x8x96 .f32) : FVec Ideal S384x8x128 .f32 :=
  concatenate S384x8x128 2 [⟨S384x8x64, broadcastInDim S384x8x64 ![] bcast_S_S384x8x64 (constant S_ .f32 0x00000000#32)⟩,
    ⟨S384x8x32, concatenate S384x8x32 2 [⟨S384x8x16, Host.negf (extractStridedSlice S384x8x16 ![0, 0, 16] (rotQ w) slices_S384x8x32_S384x8x16_0_0_16)⟩,
      ⟨S384x8x16, extractStridedSlice S384x8x16 ![0, 0, 0] (rotQ w) slices_S384x8x32_S384x8x16_0_0_0⟩] concatenates_S384x8x16_S384x8x16_S384x8x32_d2⟩,
    ⟨S384x8x32, broadcastInDim S384x8x32 ![] bcast_S_S384x8x32 (constant S_ .f32 0x00000000#32)⟩] concatenates_S384x8x64_S384x8x32_S384x8x32_S384x8x128_d2
def queryW (w : FVec Ideal S384x8x96 .f32) : FVec Ideal S384x2048 .bf16 :=
  truncf .bf16 (concatenate S384x2048 1 [⟨S384x1024, shapeCast S384x1024 (headQ w) shapeCasts_S384x8x128_S384x1024⟩, ⟨S384x1024, shapeCast S384x1024 (turnQ w) shapeCasts_S384x8x128_S384x1024⟩]
    concatenates_S384x1024_S384x1024_S384x2048_d1) bitsLt_bf16_f32

theorem cast_head (v : FVec Ideal S384x8x128 .f32) (k : Fin 384) (n : Fin 8) (l : Fin 128) : shapeCast S384x1024 v shapeCasts_S384x8x128_S384x1024 (ix2 k (⟨n.val * 128 + l.val, by omega⟩ : Fin 1024)) = v (ix3 k n l) := by
  pointwise
theorem queryW_head (w : FVec Ideal S384x8x96 .f32) (k : Fin 384) (n : Fin 8) (l : Fin 128) : queryW w (ix2 k (⟨n.val * 128 + l.val, by omega⟩ : Fin 2048)) = headQ w (ix3 k n l) := by
  refine Eq.trans ?_ (cast_head (headQ w) k n l)
  unfold queryW
  generalize shapeCast S384x1024 (headQ w) shapeCasts_S384x8x128_S384x1024 = a
  generalize shapeCast S384x1024 (turnQ w) shapeCasts_S384x8x128_S384x1024 = b
  pointwise
  rw [dif_pos (by omega)]
theorem queryW_turn (w : FVec Ideal S384x8x96 .f32) (k : Fin 384) (n : Fin 8) (l : Fin 128) : queryW w (ix2 k (⟨1024 + (n.val * 128 + l.val), by omega⟩ : Fin 2048)) = turnQ w (ix3 k n l) := by
  refine Eq.trans ?_ (cast_head (turnQ w) k n l)
  unfold queryW
  generalize shapeCast S384x1024 (headQ w) shapeCasts_S384x8x128_S384x1024 = a
  generalize shapeCast S384x1024 (turnQ w) shapeCasts_S384x8x128_S384x1024 = b
  pointwise

theorem queryW_is (x1 : FVec Ideal S1024 .f32) (x2 x3 : FVec Ideal S1024x2816 .f32) (x4 : FVec Ideal S2816x1024 .f32) (x5 x6 : FVec Ideal S1024 .f32) (x7 : FVec Ideal S1024x4256 .f32)
    (x8 : FVec Ideal S384 .f32) (w : FVec Ideal S384x8x96 .f32) (x10 : FVec Ideal S256 .f32) (x11 : FVec Ideal S256x8x128 .f32) :
    IsQ (paramsOf x1 x2 x3 x4 x5 x6 x7 x8 w x10 x11) (mat (φ := .bf16) (queryW w)) := by
  have o : ∀ k n (a : ℕ) (h : a < 96), (paramsOf x1 x2 x3 x4 x5 x6 x7 x8 w x10 x11).uq k n ⟨a, h⟩ = w (ix3 k n (⟨a, h⟩ : Fin 96)) := fun _ _ _ _ => rfl
  constructor <;> intro k n j <;> simp only [o] <;> unfold mat
  · refine (queryW_head w k n ⟨j.val, by omega⟩).trans ?_
    pointwise [headQ, rotQ]
  · refine (queryW_head w k n ⟨64 + j.val, by omega⟩).trans ?_
    pointwise [headQ, rotQ]
    simp (disch := omega) only [dif_pos, dif_neg]
  · refine (queryW_head w k n ⟨80 + j.val, by omega⟩).trans ?_
    pointwise [headQ, rotQ]
    simp (disch := omega) only [dif_pos, dif_neg]
    exact at1 (fun a => w (ix3 k n a)) (by omega)
  · refine (queryW_turn w k n ⟨64 + j.val, by omega⟩).trans ?_
    pointwise [turnQ, rotQ]
    simp (disch := omega) only [dif_pos, dif_neg]
  · refine (queryW_turn w k n ⟨80 + j.val, by omega⟩).trans ?_
    pointwise [turnQ, rotQ]
    simp (disch := omega) only [dif_pos, dif_neg]
    exact at1 (fun a => w (ix3 k n a)) (by omega)

/-! ## The keys and values -/

/-- Each head's 128 key columns, and all heads' keys and values as the kernel holds them. -/
def headK (w : FVec Ideal S256x8x128 .f32) : FVec Ideal S256x8x128 .f32 :=
  concatenate S256x8x128 2 [⟨S256x8x64, extractStridedSlice S256x8x64 ![0, 0, 0] w slices_S256x8x128_S256x8x64_0_0_0⟩,
    ⟨S256x8x64, broadcastInDim S256x8x64 ![] bcast_S_S256x8x64 (constant S_ .f32 0x00000000#32)⟩] concatenates_S256x8x64_S256x8x64_S256x8x128_d2
def headV (w : FVec Ideal S256x8x128 .f32) : FVec Ideal S256x8x64 .f32 := extractStridedSlice S256x8x64 ![0, 0, 64] w slices_S256x8x128_S256x8x64_0_0_64
def keyW (w : FVec Ideal S256x8x128 .f32) : FVec Ideal S256x1536 .bf16 :=
  truncf .bf16 (concatenate S256x1536 1 [⟨S256x1024, shapeCast S256x1024 (headK w) shapeCasts_S256x8x128_S256x1024⟩, ⟨S256x512, shapeCast S256x512 (headV w) shapeCasts_S256x8x64_S256x512⟩]
    concatenates_S256x1024_S256x512_S256x1536_d1) bitsLt_bf16_f32

theorem cast_key (v : FVec Ideal S256x8x128 .f32) (k : Fin 256) (n : Fin 8) (l : Fin 128) : shapeCast S256x1024 v shapeCasts_S256x8x128_S256x1024 (ix2 k (⟨n.val * 128 + l.val, by omega⟩ : Fin 1024)) = v (ix3 k n l) := by
  pointwise
theorem cast_val (v : FVec Ideal S256x8x64 .f32) (k : Fin 256) (n : Fin 8) (l : Fin 64) : shapeCast S256x512 v shapeCasts_S256x8x64_S256x512 (ix2 k (⟨n.val * 64 + l.val, by omega⟩ : Fin 512)) = v (ix3 k n l) := by
  pointwise
theorem keyW_head (w : FVec Ideal S256x8x128 .f32) (k : Fin 256) (n : Fin 8) (l : Fin 128) : keyW w (ix2 k (⟨n.val * 128 + l.val, by omega⟩ : Fin 1536)) = headK w (ix3 k n l) := by
  refine Eq.trans ?_ (cast_key (headK w) k n l)
  unfold keyW
  generalize shapeCast S256x1024 (headK w) shapeCasts_S256x8x128_S256x1024 = a
  generalize shapeCast S256x512 (headV w) shapeCasts_S256x8x64_S256x512 = b
  pointwise
  rw [dif_pos (by omega)]
theorem keyW_val (w : FVec Ideal S256x8x128 .f32) (k : Fin 256) (n : Fin 8) (l : Fin 64) : keyW w (ix2 k (⟨1024 + (n.val * 64 + l.val), by omega⟩ : Fin 1536)) = headV w (ix3 k n l) := by
  refine Eq.trans ?_ (cast_val (headV w) k n l)
  unfold keyW
  generalize shapeCast S256x1024 (headK w) shapeCasts_S256x8x128_S256x1024 = a
  generalize shapeCast S256x512 (headV w) shapeCasts_S256x8x64_S256x512 = b
  pointwise

theorem keyW_is (x1 : FVec Ideal S1024 .f32) (x2 x3 : FVec Ideal S1024x2816 .f32) (x4 : FVec Ideal S2816x1024 .f32) (x5 x6 : FVec Ideal S1024 .f32) (x7 : FVec Ideal S1024x4256 .f32)
    (x8 : FVec Ideal S384 .f32) (x9 : FVec Ideal S384x8x96 .f32) (x10 : FVec Ideal S256 .f32) (w : FVec Ideal S256x8x128 .f32) :
    IsKV (paramsOf x1 x2 x3 x4 x5 x6 x7 x8 x9 x10 w) (mat (φ := .bf16) (keyW w)) := by
  have o : ∀ k n (a : ℕ) (h : a < 128), (paramsOf x1 x2 x3 x4 x5 x6 x7 x8 x9 x10 w).ukv k n ⟨a, h⟩ = w (ix3 k n (⟨a, h⟩ : Fin 128)) := fun _ _ _ _ => rfl
  constructor
  · intro k n j
    refine (keyW_head w k n ⟨j.val, by omega⟩).trans ?_
    rw [o]
    pointwise [headK]
  · intro k n j h
    refine (keyW_head w k n j).trans ?_
    pointwise [headK]
    rw [dif_neg (by omega)]
  · intro k n j
    refine (keyW_val w k n j).trans ?_
    rw [o]
    pointwise [headV]

/-! ## The tables -/

/-- The positions' angles, and the two padded tables. -/
def angles : FVec Ideal S2048x16 .f32 :=
  mulf (broadcastInDim S2048x16 ![0, 1] bcast_S2048x1_S2048x16_0_1 (broadcastInDim S2048x1 ![0] bcast_S2048_S2048x1_0
      (sitofp .f32 (addi (broadcastInDim S2048 ![] bcast_S_S2048 (constantI S_ 32 16#32)) (iotaInDim S2048 32 0)) : FVec Ideal S2048 .f32)))
    (broadcastInDim S2048x16 ![0, 1] bcast_S1x16_S2048x16_0_1 (broadcastInDim S1x16 ![1] bcast_S16_S1x16_1
      (Host.powf (broadcastInDim S16 ![] bcast_S_S16 (constant S_ .f32 0x461C4000#32))
        (Host.divf (Host.negf (sitofp .f32 (iotaInDim S16 32 0))) (broadcastInDim S16 ![] bcast_S_S16 (constant S_ .f32 0x41800000#32))))))
def table (one : FVec Ideal S_ .f32) (v : FVec Ideal S2048x16 .f32) : FVec Ideal S2048x128 .f32 :=
  concatenate S2048x128 1 [⟨S2048x64, broadcastInDim S2048x64 ![] bcast_S_S2048x64 one⟩, ⟨S2048x16, v⟩, ⟨S2048x16, v⟩,
    ⟨S2048x32, broadcastInDim S2048x32 ![] bcast_S_S2048x32 (constant S_ .f32 0x00000000#32)⟩] concatenates_S2048x64_S2048x16_S2048x16_S2048x32_S2048x128_d1
def cosW : FVec Ideal S2048x128 .f32 := table (constant S_ .f32 0x3F800000#32) (Host.cos angles)
def sinW : FVec Ideal S2048x128 .f32 := table (constant S_ .f32 0x00000000#32) (Host.sin angles)

theorem table_own (one : FVec Ideal S_ .f32) (v : FVec Ideal S2048x16 .f32) (s : Fin 2048) (j : Fin 64) : table one v (ix2 s (⟨j.val, by omega⟩ : Fin 128)) = one ix0 := by
  pointwise [table]
theorem table_fst (one : FVec Ideal S_ .f32) (v : FVec Ideal S2048x16 .f32) (s : Fin 2048) (j : Fin 16) : table one v (ix2 s (⟨64 + j.val, by omega⟩ : Fin 128)) = v (ix2 s j) := by
  pointwise [table]
theorem table_snd (one : FVec Ideal S_ .f32) (v : FVec Ideal S2048x16 .f32) (s : Fin 2048) (j : Fin 16) : table one v (ix2 s (⟨80 + j.val, by omega⟩ : Fin 128)) = v (ix2 s j) := by
  pointwise [table]
  simp (disch := omega) only [dif_pos, dif_neg]
  exact at1 (fun a => v (ix2 s a)) (by omega)
theorem table_pad (one : FVec Ideal S_ .f32) (v : FVec Ideal S2048x16 .f32) (s : Fin 2048) (j : Fin 32) : table one v (ix2 s (⟨96 + j.val, by omega⟩ : Fin 128)) = 0 := by
  pointwise [table]
  simp (disch := omega) only [dif_pos, dif_neg]

theorem one_bits : Ideal.ofBits FTy.f32 0x3F800000#32 = 1 := by
  simp [Ideal.ofBits, Ideal.ieee]
  rw [← EReal.coe_mul]
  norm_num
theorem zero_bits : Ideal.ofBits FTy.f32 0x00000000#32 = 0 := by
  simp [Ideal.ofBits, Ideal.ieee]

theorem tables_are (s : Fin 2048) : IsTab (cosT s) (sinT s) (row cosW s) (row sinW s) := by
  constructor <;> intro j <;> refine ⟨?_, ?_⟩
  · exact (table_own _ _ s j).trans one_bits
  · exact (table_own _ _ s j).trans zero_bits
  · exact table_fst _ _ s j
  · exact table_fst _ _ s j
  · exact table_snd _ _ s j
  · exact table_snd _ _ s j
  · exact table_pad _ _ s j
  · exact table_pad _ _ s j

end Cert.Proof.ProjHost

end
-- ==== Proof.ProjArray.lean ====
/- The first feed-forward and projections' arrays of results after the run. -/
module

public import proofs.«01_k».proof.Proof.ProjHost
public import Idealize.ShloMosaic.Lib.Pipeline.ValueKit

@[expose] public section

set_option maxRecDepth 16384

noncomputable section

namespace Cert.Proof.ProjArray

open Cert.ProjIdeal Cert.ProjIdeal.Gen Idealize.ShloMosaic Idealize.ShloMosaic.TcCoe Idealize.SL.Sem
open Cert.Proof.RowMath Cert.Proof.ProjBlock Cert.Proof.ProjModel Cert.Proof.ProjMath Cert.Proof.ProjRef Cert.Proof.ProjHost Cert.Proof.Weights

theorem cast_row (x : FVec Ideal S1024 .f32) : row (φ := .f32) (shapeCast S1x1024 x shapeCasts_S1024_S1x1024) 0 = fun j => x (ix1 j) := by
  funext j
  unfold row
  pointwise
theorem cast_row_q (x : FVec Ideal S384 .f32) : row (φ := .f32) (shapeCast S1x384 x shapeCasts_S384_S1x384) 0 = fun j => x (ix1 j) := by
  funext j
  unfold row
  pointwise
theorem cast_row_kv (x : FVec Ideal S256 .f32) : row (φ := .f32) (shapeCast S1x256 x shapeCasts_S256_S1x256) 0 = fun j => x (ix1 j) := by
  funext j
  unfold row
  pointwise

variable (m : (ℓ : Loc nD τ sig) → Buf (Elt Ideal) ℓ) (c : Dev nD) (t : Fin cfg0.grid.N)

/-! ## What the host part leaves in the arrays the kernel reads -/

theorem V_v62 : V m c main_v62 = cosW := by
  simp only [V, hostOps0]
  after_results
  rfl
theorem V_v64 : V m c main_v64 = sinW := by
  simp only [V, hostOps0]
  after_results
  rfl
theorem V_v32 : V m c main_v32 = wideW (m (c, main_arg7)) := by
  simp only [V, hostOps0]
  after_results
  rfl
theorem V_v33 : V m c main_v33 = queryW (m (c, main_arg9)) := by
  simp only [V, hostOps0]
  after_results
  rfl
theorem V_v34 : V m c main_v34 = keyW (m (c, main_arg11)) := by
  simp only [V, hostOps0]
  after_results
  rfl
theorem V_v36 : mat (φ := .bf16) (V m c main_v36) = mat (φ := .f32) (m (c, main_arg2)) := by
  simp only [V, hostOps0]
  after_results
  rfl
theorem V_v37 : mat (φ := .bf16) (V m c main_v37) = mat (φ := .f32) (m (c, main_arg3)) := by
  simp only [V, hostOps0]
  after_results
  rfl
theorem V_v38 : mat (φ := .bf16) (V m c main_v38) = mat (φ := .f32) (m (c, main_arg4)) := by
  simp only [V, hostOps0]
  after_results
  rfl
theorem V_v35 : row (φ := .f32) (n := 1) (k := 1024) (V m c main_v35) 0 = fun j => m (c, main_arg1) (ix1 j) := by
  simp only [V, hostOps0]
  after_results
  exact cast_row _
theorem V_v39 : row (φ := .f32) (n := 1) (k := 1024) (V m c main_v39) 0 = fun j => m (c, main_arg5) (ix1 j) := by
  simp only [V, hostOps0]
  after_results
  exact cast_row _
theorem V_v40 : row (φ := .f32) (n := 1) (k := 1024) (V m c main_v40) 0 = fun j => m (c, main_arg6) (ix1 j) := by
  simp only [V, hostOps0]
  after_results
  exact cast_row _
theorem V_v41 : row (φ := .f32) (n := 1) (k := 384) (V m c main_v41) 0 = fun j => m (c, main_arg8) (ix1 j) := by
  simp only [V, hostOps0]
  after_results
  exact cast_row_q _
theorem V_v42 : row (φ := .f32) (n := 1) (k := 256) (V m c main_v42) 0 = fun j => m (c, main_arg10) (ix1 j) := by
  simp only [V, hostOps0]
  after_results
  exact cast_row_kv _

/-! ## The blocks of a grid point -/

theorem blk3 : row (φ := .f32) (n := 1) (k := 1024) (iblk m c 3 t) 0 = row (φ := .f32) (n := 1) (k := 1024) (V m c main_v35) 0 := by
  funext j
  unfold row
  blk_simp [iblk]
  exact congrArg (V m c main_v35) (whole_idx ((win0_3.blk t).view.emb (ix2 (0 : Fin 1) j)) (0 : Fin 1) j rfl rfl)
theorem blk7 : row (φ := .f32) (n := 1) (k := 1024) (iblk m c 7 t) 0 = row (φ := .f32) (n := 1) (k := 1024) (V m c main_v39) 0 := by
  funext j
  unfold row
  blk_simp [iblk]
  exact congrArg (V m c main_v39) (whole_idx ((win0_7.blk t).view.emb (ix2 (0 : Fin 1) j)) (0 : Fin 1) j rfl rfl)
theorem blk8 : row (φ := .f32) (n := 1) (k := 1024) (iblk m c 8 t) 0 = row (φ := .f32) (n := 1) (k := 1024) (V m c main_v40) 0 := by
  funext j
  unfold row
  blk_simp [iblk]
  exact congrArg (V m c main_v40) (whole_idx ((win0_8.blk t).view.emb (ix2 (0 : Fin 1) j)) (0 : Fin 1) j rfl rfl)
theorem blk10 : row (φ := .f32) (n := 1) (k := 384) (iblk m c 10 t) 0 = row (φ := .f32) (n := 1) (k := 384) (V m c main_v41) 0 := by
  funext j
  unfold row
  blk_simp [iblk]
  exact congrArg (V m c main_v41) (whole_idx ((win0_10.blk t).view.emb (ix2 (0 : Fin 1) j)) (0 : Fin 1) j rfl rfl)
theorem blk12 : row (φ := .f32) (n := 1) (k := 256) (iblk m c 12 t) 0 = row (φ := .f32) (n := 1) (k := 256) (V m c main_v42) 0 := by
  funext j
  unfold row
  blk_simp [iblk]
  exact congrArg (V m c main_v42) (whole_idx ((win0_12.blk t).view.emb (ix2 (0 : Fin 1) j)) (0 : Fin 1) j rfl rfl)
theorem blk4 : mat (φ := .bf16) (n := 1024) (k := 2816) (iblk m c 4 t) = mat (φ := .bf16) (n := 1024) (k := 2816) (V m c main_v36) := by
  funext k j
  unfold mat
  blk_simp [iblk]
  exact congrArg (V m c main_v36) (whole_idx ((win0_4.blk t).view.emb (ix2 k j)) k j rfl rfl)
theorem blk5 : mat (φ := .bf16) (n := 1024) (k := 2816) (iblk m c 5 t) = mat (φ := .bf16) (n := 1024) (k := 2816) (V m c main_v37) := by
  funext k j
  unfold mat
  blk_simp [iblk]
  exact congrArg (V m c main_v37) (whole_idx ((win0_5.blk t).view.emb (ix2 k j)) k j rfl rfl)
theorem blk6 : mat (φ := .bf16) (n := 2816) (k := 1024) (iblk m c 6 t) = mat (φ := .bf16) (n := 2816) (k := 1024) (V m c main_v38) := by
  funext k j
  unfold mat
  blk_simp [iblk]
  exact congrArg (V m c main_v38) (whole_idx ((win0_6.blk t).view.emb (ix2 k j)) k j rfl rfl)
theorem blk9 : mat (φ := .bf16) (n := 1024) (k := 2432) (iblk m c 9 t) = mat (φ := .bf16) (n := 1024) (k := 2432) (V m c main_v32) := by
  funext k j
  unfold mat
  blk_simp [iblk]
  exact congrArg (V m c main_v32) (whole_idx ((win0_9.blk t).view.emb (ix2 k j)) k j rfl rfl)
theorem blk11 : mat (φ := .bf16) (n := 384) (k := 2048) (iblk m c 11 t) = mat (φ := .bf16) (n := 384) (k := 2048) (V m c main_v33) := by
  funext k j
  unfold mat
  blk_simp [iblk]
  exact congrArg (V m c main_v33) (whole_idx ((win0_11.blk t).view.emb (ix2 k j)) k j rfl rfl)
theorem blk13 : mat (φ := .bf16) (n := 256) (k := 1536) (iblk m c 13 t) = mat (φ := .bf16) (n := 256) (k := 1536) (V m c main_v34) := by
  funext k j
  unfold mat
  blk_simp [iblk]
  exact congrArg (V m c main_v34) (whole_idx ((win0_13.blk t).view.emb (ix2 k j)) k j rfl rfl)

theorem idx_in : ∀ t : Fin cfg0.grid.N, win0_0.index t 0 < 64 ∧ win0_0.index t 1 = 0 := by decide +kernel
theorem idx_tab : ∀ t : Fin cfg0.grid.N, win0_1.index t 0 = win0_0.index t 0 % 4 ∧ win0_1.index t 1 = 0 := by decide +kernel
theorem idx2 : win0_2.index t = win0_1.index t := rfl

variable (h : win0_0.index t 0 < 64)

/-- The row of the inputs that row `r` of the grid point's block is. -/
def at0 (r : Fin 512) : Fin 32768 := ⟨win0_0.index t 0 * 512 + r.val, by omega⟩

theorem rows0 (r : Fin 512) : row (φ := .f32) (n := 512) (k := 1024) (iblk m c 0 t) r = row (φ := .f32) (m (c, main_arg0)) (at0 t h r) := by
  funext d
  unfold row
  blk_simp [iblk]
  rw [V_main_arg0]
  refine congrArg (m (c, main_arg0)) (block_idx ((win0_0.blk t).view.emb (ix2 r d)) _ _ ?_ ?_)
  · show win0_0.index t 0 * 512 + 1 * r.val = _
    rw [Nat.one_mul]
    rfl
  · show win0_0.index t 1 * 1024 + 1 * d.val = _
    rw [(idx_in t).2, Nat.zero_mul, Nat.zero_add, Nat.one_mul]

theorem rows1 (r : Fin 512) : row (φ := .f32) (n := 512) (k := 128) (iblk m c 1 t) r = row (φ := .f32) cosW (pos (at0 t h r)) := by
  funext d
  unfold row
  blk_simp [iblk]
  refine (congrArg (V m c main_v62) (block_idx ((win0_1.blk t).view.emb (ix2 r d)) (pos (at0 t h r)) d ?_ ?_)).trans (congrFun (V_v62 m c) _)
  · show win0_1.index t 0 * 512 + 1 * r.val = (win0_0.index t 0 * 512 + r.val) % 2048
    rw [(idx_tab t).1]
    omega
  · show win0_1.index t 1 * 128 + 1 * d.val = _
    rw [(idx_tab t).2, Nat.zero_mul, Nat.zero_add, Nat.one_mul]

theorem rows2 (r : Fin 512) : row (φ := .f32) (n := 512) (k := 128) (iblk m c 2 t) r = row (φ := .f32) sinW (pos (at0 t h r)) := by
  funext d
  unfold row
  blk_simp [iblk]
  refine (congrArg (V m c main_v64) (block_idx ((win0_2.blk t).view.emb (ix2 r d)) (pos (at0 t h r)) d ?_ ?_)).trans (congrFun (V_v64 m c) _)
  · show win0_2.index t 0 * 512 + 1 * r.val = (win0_0.index t 0 * 512 + r.val) % 2048
    rw [idx2, (idx_tab t).1]
    omega
  · show win0_2.index t 1 * 128 + 1 * d.val = _
    rw [idx2, (idx_tab t).2, Nat.zero_mul, Nat.zero_add, Nat.one_mul]

/-! ## The rows of a grid point -/

/-- The stage's weights in the arguments. -/
abbrev args (m : (ℓ : Loc nD τ sig) → Buf (Elt Ideal) ℓ) (c : Dev nD) : Params :=
  paramsOf (m (c, main_arg1)) (m (c, main_arg2)) (m (c, main_arg3)) (m (c, main_arg4)) (m (c, main_arg5)) (m (c, main_arg6)) (m (c, main_arg7)) (m (c, main_arg8)) (m (c, main_arg9)) (m (c, main_arg10)) (m (c, main_arg11))
/-- A row of the input, at a row of a grid point's block. -/
abbrev rowIn (r : Fin 512) : Fin 1024 → EReal := row (φ := .f32) (m (c, main_arg0)) (at0 t h r)

theorem isA : IsA (args m c) (mat (φ := .bf16) (wideW (m (c, main_arg7)))) := wideW_is _ _ _ _ _ _ _ _ _ _ _
theorem isQ : IsQ (args m c) (mat (φ := .bf16) (queryW (m (c, main_arg9)))) := queryW_is _ _ _ _ _ _ _ _ _ _ _
theorem isKV : IsKV (args m c) (mat (φ := .bf16) (keyW (m (c, main_arg11)))) := keyW_is _ _ _ _ _ _ _ _ _ _ _

omit m c t h in
theorem stage1_congr {a a' : Fin 1024 → EReal} {b b' d d' : Fin 1024 → Fin 2816 → EReal} {e e' : Fin 2816 → Fin 1024 → EReal} {f f' x x' : Fin 1024 → EReal}
    (ha : a = a') (hb : b = b') (hd : d = d') (he : e = e') (hf : f = f') (hx : x = x') : stage1 a b d e f x = stage1 a' b' d' e' f' x' := by
  subst ha hb hd he hf hx
  rfl
omit m c t h in
theorem proj_congr {n p : ℕ} {k : EReal} {x x' g g' : Fin n → EReal} {w w' : Fin n → Fin p → EReal} (hx : x = x') (hg : g = g') (hw : w = w') :
    mulRow (rms k eps x g) w = mulRow (rms k eps x' g') w' := by
  subst hx hg hw
  rfl
omit m c t h in
theorem lift_congr {p n q : ℕ} {k : EReal} {a : ℕ} {l : a + n ≤ p} {g g' : Fin n → EReal} {w w' : Fin n → Fin q → EReal} {x x' : Fin p → EReal} (hg : g = g') (hw : w = w') (hx : x = x') :
    lift k a l g w x = lift k a l g' w' x' := by
  subst hg hw hx
  rfl
omit m c t h in
theorem queries_congr {q q' : Fin 2048 → EReal} {a a' b b' : Fin 128 → EReal} (hq : q = q') (ha : a = a') (hb : b = b') : queries q a b = queries q' a' b' := by
  subst hq ha hb
  rfl
omit m c t h in
theorem keys_congr {q q' : Fin 1536 → EReal} {p p' : Fin 2432 → EReal} {a a' b b' : Fin 128 → EReal} (hq : q = q') (hp : p = p') (ha : a = a') (hb : b = b') : keys q p a b = keys q' p' a' b' := by
  subst hq hp ha hb
  rfl

theorem h_eq (r : Fin 512) : hR (iblk m c 0 t) (iblk m c 3 t) (iblk m c 4 t) (iblk m c 5 t) (iblk m c 6 t) (iblk m c 7 t) r = h1 (args m c) (rowIn m c t h r) :=
  stage1_congr ((blk3 m c t).trans (V_v35 m c)) ((blk4 m c t).trans (V_v36 m c)) ((blk5 m c t).trans (V_v37 m c)) ((blk6 m c t).trans (V_v38 m c)) ((blk7 m c t).trans (V_v39 m c)) (rows0 m c t h r)
theorem p_eq (r : Fin 512) : pR (iblk m c 0 t) (iblk m c 3 t) (iblk m c 4 t) (iblk m c 5 t) (iblk m c 6 t) (iblk m c 7 t) (iblk m c 8 t) (iblk m c 9 t) r =
    mulRow (u (args m c) (rowIn m c t h r)) (mat (φ := .bf16) (wideW (m (c, main_arg7)))) :=
  proj_congr (h_eq m c t h r) ((blk8 m c t).trans (V_v40 m c)) ((blk9 m c t).trans (congrArg (mat (φ := .bf16)) (V_v32 m c)))
theorem lq_eq (r : Fin 512) : qR (iblk m c 0 t) (iblk m c 3 t) (iblk m c 4 t) (iblk m c 5 t) (iblk m c 6 t) (iblk m c 7 t) (iblk m c 8 t) (iblk m c 9 t) (iblk m c 10 t) (iblk m c 11 t) r =
    lift c384 1536 (by decide) (args m c).gq (mat (φ := .bf16) (queryW (m (c, main_arg9)))) (mulRow (u (args m c) (rowIn m c t h r)) (mat (φ := .bf16) (wideW (m (c, main_arg7))))) :=
  lift_congr ((blk10 m c t).trans (V_v41 m c)) ((blk11 m c t).trans (congrArg (mat (φ := .bf16)) (V_v33 m c))) (p_eq m c t h r)
theorem lkv_eq (r : Fin 512) : kvR (iblk m c 0 t) (iblk m c 3 t) (iblk m c 4 t) (iblk m c 5 t) (iblk m c 6 t) (iblk m c 7 t) (iblk m c 8 t) (iblk m c 9 t) (iblk m c 12 t) (iblk m c 13 t) r =
    lift c256 1920 (by decide) (args m c).gkv (mat (φ := .bf16) (keyW (m (c, main_arg11)))) (mulRow (u (args m c) (rowIn m c t h r)) (mat (φ := .bf16) (wideW (m (c, main_arg7))))) :=
  lift_congr ((blk12 m c t).trans (V_v42 m c)) ((blk13 m c t).trans (congrArg (mat (φ := .bf16)) (V_v34 m c))) (p_eq m c t h r)

/-! ## The elements of a grid point's blocks -/

theorem point14 (y : S512x1024.Idx) : out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y =
    res0 (args m c) (m (c, main_arg0)) (ix2 (at0 t h (y 0)) (y 1)) := by
  refine (out14_apply _ _ _ _ _ _ _ _ _ _ _ _ _ _ y).trans ?_
  exact congrFun (h_eq m c t h (y 0)) (y 1)
theorem point15 (y : S512x512.Idx) : out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y =
    res1 (args m c) (m (c, main_arg0)) (ix2 (at0 t h (y 0)) (y 1)) := by
  refine (out15_apply _ _ _ _ _ _ _ _ _ _ _ _ _ _ y).trans ?_
  exact (congrArg (fun p => cols 0 512 (by decide) p (y 1)) (p_eq m c t h (y 0))).trans (congrFun (p_head (isA m c) _) (y 1))
theorem point16 (y : S512x512.Idx) : out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y =
    res2 (args m c) (m (c, main_arg0)) (ix2 (at0 t h (y 0)) (y 1)) := by
  refine (out16_apply _ _ _ _ _ _ _ _ _ _ _ _ _ _ y).trans ?_
  exact (congrArg (fun p => cols 512 512 (by decide) p (y 1)) (p_eq m c t h (y 0))).trans (congrFun (p_cols (isA m c) _ 512 512 (by decide) (by decide)) (y 1))
theorem point17 (y : S512x512.Idx) : out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y =
    res3 (args m c) (m (c, main_arg0)) (ix2 (at0 t h (y 0)) (y 1)) := by
  refine (out17_apply _ _ _ _ _ _ _ _ _ _ _ _ _ _ y).trans ?_
  exact (congrArg (fun p => cols 1024 512 (by decide) p (y 1)) (p_eq m c t h (y 0))).trans (congrFun (p_cols (isA m c) _ 1024 512 (by decide) (by decide)) (y 1))
theorem point18 (hf : Params.Finite (args m c)) (hx : ∀ i, Real? (m (c, main_arg0) i)) (y : S512x1024.Idx) : out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y =
    res4 (args m c) (m (c, main_arg0)) (ix2 (at0 t h (y 0)) (y 1)) := by
  refine (out18_apply _ _ _ _ _ _ _ _ _ _ _ _ _ _ y).trans ?_
  refine (congrFun (queries_congr (lq_eq m c t h (y 0)) (rows1 m c t h (y 0)) (rows2 m c t h (y 0))) (y 1)).trans ?_
  have hy : (y 1).val < 1024 := (y 1).isLt
  refine Eq.trans ?_ (q_eq (isA m c) (rowIn m c t h (y 0)) (tables_are (pos (at0 t h (y 0)))) hf (fun k => hx _) (isQ m c) ⟨(y 1).val / 128, by omega⟩ ⟨(y 1).val % 128, by omega⟩)
  exact congrArg _ (Fin.ext (by show (y 1).val = (y 1).val / 128 * 128 + (y 1).val % 128; omega))
theorem point19 (hf : Params.Finite (args m c)) (hx : ∀ i, Real? (m (c, main_arg0) i)) (y : S512x1024.Idx) : out0_19 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y =
    res5 (args m c) (m (c, main_arg0)) (ix2 (at0 t h (y 0)) (y 1)) := by
  refine (out19_apply _ _ _ _ _ _ _ _ _ _ _ _ _ _ y).trans ?_
  refine (congrFun (keys_congr (lkv_eq m c t h (y 0)) (p_eq m c t h (y 0)) (rows1 m c t h (y 0)) (rows2 m c t h (y 0))) (y 1)).trans ?_
  have hy : (y 1).val < 1024 := (y 1).isLt
  refine Eq.trans ?_ (k_eq (isA m c) (rowIn m c t h (y 0)) (tables_are (pos (at0 t h (y 0)))) hf (fun k => hx _) (isKV m c) ⟨(y 1).val / 128, by omega⟩ ⟨(y 1).val % 128, by omega⟩)
  exact congrArg _ (Fin.ext (by show (y 1).val = (y 1).val / 128 * 128 + (y 1).val % 128; omega))
theorem point20 (y : S512x512.Idx) : out0_20 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y =
    res6 (args m c) (m (c, main_arg0)) (ix2 (at0 t h (y 0)) (y 1)) := by
  refine (out20_apply _ _ _ _ _ _ _ _ _ _ _ _ _ _ y).trans ?_
  refine (congrArg (fun p => cols 1024 512 (by decide) p (y 1)) (lkv_eq m c t h (y 0))).trans ?_
  have hy : (y 1).val < 512 := (y 1).isLt
  refine Eq.trans ?_ (v_eq (isA m c) (rowIn m c t h (y 0)) (isKV m c) ⟨(y 1).val / 64, by omega⟩ ⟨(y 1).val % 64, by omega⟩)
  exact congrArg _ (Fin.ext (by show (y 1).val = (y 1).val / 64 * 64 + (y 1).val % 64; omega))

/-! ## The seven arrays -/

theorem idx14 : win0_14.index t = win0_0.index t := rfl
theorem arr14 : (dats m 0 c).arrAt 14 cfg0.N = res0 (args m c) (m (c, main_arg0)) := by
  refine (dats m 0 c).arrAt_eq_of_covers 14 _ (by decide +kernel) fun t hw y => ?_
  blk_simp
  rw [after0_14]
  refine (point14 m c t (idx_in t).1 y).trans (congrArg (res0 _ _) (block_idx ((win0_14.blk t).view.emb y) _ _ ?_ ?_).symm)
  · show win0_14.index t 0 * 512 + 1 * (y 0).val = _
    rw [idx14, Nat.one_mul]
    rfl
  · show win0_14.index t 1 * 1024 + 1 * (y 1).val = _
    rw [idx14, (idx_in t).2, Nat.zero_mul, Nat.zero_add, Nat.one_mul]
theorem idx15 : win0_15.index t = win0_0.index t := rfl
theorem arr15 : (dats m 0 c).arrAt 15 cfg0.N = res1 (args m c) (m (c, main_arg0)) := by
  refine (dats m 0 c).arrAt_eq_of_covers 15 _ (by decide +kernel) fun t hw y => ?_
  blk_simp
  rw [after0_15]
  refine (point15 m c t (idx_in t).1 y).trans (congrArg (res1 _ _) (block_idx ((win0_15.blk t).view.emb y) _ _ ?_ ?_).symm)
  · show win0_15.index t 0 * 512 + 1 * (y 0).val = _
    rw [idx15, Nat.one_mul]
    rfl
  · show win0_15.index t 1 * 512 + 1 * (y 1).val = _
    rw [idx15, (idx_in t).2, Nat.zero_mul, Nat.zero_add, Nat.one_mul]
theorem idx16 : win0_16.index t = win0_0.index t := rfl
theorem arr16 : (dats m 0 c).arrAt 16 cfg0.N = res2 (args m c) (m (c, main_arg0)) := by
  refine (dats m 0 c).arrAt_eq_of_covers 16 _ (by decide +kernel) fun t hw y => ?_
  blk_simp
  rw [after0_16]
  refine (point16 m c t (idx_in t).1 y).trans (congrArg (res2 _ _) (block_idx ((win0_16.blk t).view.emb y) _ _ ?_ ?_).symm)
  · show win0_16.index t 0 * 512 + 1 * (y 0).val = _
    rw [idx16, Nat.one_mul]
    rfl
  · show win0_16.index t 1 * 512 + 1 * (y 1).val = _
    rw [idx16, (idx_in t).2, Nat.zero_mul, Nat.zero_add, Nat.one_mul]
theorem idx17 : win0_17.index t = win0_0.index t := rfl
theorem arr17 : (dats m 0 c).arrAt 17 cfg0.N = res3 (args m c) (m (c, main_arg0)) := by
  refine (dats m 0 c).arrAt_eq_of_covers 17 _ (by decide +kernel) fun t hw y => ?_
  blk_simp
  rw [after0_17]
  refine (point17 m c t (idx_in t).1 y).trans (congrArg (res3 _ _) (block_idx ((win0_17.blk t).view.emb y) _ _ ?_ ?_).symm)
  · show win0_17.index t 0 * 512 + 1 * (y 0).val = _
    rw [idx17, Nat.one_mul]
    rfl
  · show win0_17.index t 1 * 512 + 1 * (y 1).val = _
    rw [idx17, (idx_in t).2, Nat.zero_mul, Nat.zero_add, Nat.one_mul]
theorem idx18 : win0_18.index t = win0_0.index t := rfl
theorem arr18 (hf : Params.Finite (args m c)) (hx : ∀ i, Real? (m (c, main_arg0) i)) : (dats m 0 c).arrAt 18 cfg0.N = res4 (args m c) (m (c, main_arg0)) := by
  refine (dats m 0 c).arrAt_eq_of_covers 18 _ (by decide +kernel) fun t hw y => ?_
  blk_simp
  rw [after0_18]
  refine (point18 m c t (idx_in t).1 hf hx y).trans (congrArg (res4 _ _) (block_idx ((win0_18.blk t).view.emb y) _ _ ?_ ?_).symm)
  · show win0_18.index t 0 * 512 + 1 * (y 0).val = _
    rw [idx18, Nat.one_mul]
    rfl
  · show win0_18.index t 1 * 1024 + 1 * (y 1).val = _
    rw [idx18, (idx_in t).2, Nat.zero_mul, Nat.zero_add, Nat.one_mul]
theorem idx19 : win0_19.index t = win0_0.index t := rfl
theorem arr19 (hf : Params.Finite (args m c)) (hx : ∀ i, Real? (m (c, main_arg0) i)) : (dats m 0 c).arrAt 19 cfg0.N = res5 (args m c) (m (c, main_arg0)) := by
  refine (dats m 0 c).arrAt_eq_of_covers 19 _ (by decide +kernel) fun t hw y => ?_
  blk_simp
  rw [after0_19]
  refine (point19 m c t (idx_in t).1 hf hx y).trans (congrArg (res5 _ _) (block_idx ((win0_19.blk t).view.emb y) _ _ ?_ ?_).symm)
  · show win0_19.index t 0 * 512 + 1 * (y 0).val = _
    rw [idx19, Nat.one_mul]
    rfl
  · show win0_19.index t 1 * 1024 + 1 * (y 1).val = _
    rw [idx19, (idx_in t).2, Nat.zero_mul, Nat.zero_add, Nat.one_mul]
theorem idx20 : win0_20.index t = win0_0.index t := rfl
theorem arr20 : (dats m 0 c).arrAt 20 cfg0.N = res6 (args m c) (m (c, main_arg0)) := by
  refine (dats m 0 c).arrAt_eq_of_covers 20 _ (by decide +kernel) fun t hw y => ?_
  blk_simp
  rw [after0_20]
  refine (point20 m c t (idx_in t).1 y).trans (congrArg (res6 _ _) (block_idx ((win0_20.blk t).view.emb y) _ _ ?_ ?_).symm)
  · show win0_20.index t 0 * 512 + 1 * (y 0).val = _
    rw [idx20, Nat.one_mul]
    rfl
  · show win0_20.index t 1 * 512 + 1 * (y 1).val = _
    rw [idx20, (idx_in t).2, Nat.zero_mul, Nat.zero_add, Nat.one_mul]

end Cert.Proof.ProjArray

end
-- ==== Proof.ProjClaims.lean ====
/- The first feed-forward and projections' claims. -/
module

public import proofs.«01_k».proof.Defs
public import proofs.«01_k».proof.Proof.Finite
public import proofs.«01_k».proof.Proof.ProjArray
public import proofs.«01_k».proof.Proof.Gen.Proj.Frame
public import proofs.«01_k».proof.Proof.Gen.ProjIdeal.Frame
public import proofs.«01_k».proof.Proof.Gen.ProjIdeal.Value
public import proofs.«01_k».proof.Proof.Gen.ProjRefIdeal.Run
public import proofs.«01_k».proof.Proof.Gen.Pre_proj_finite

@[expose] public section

set_option maxRecDepth 16384

noncomputable section

namespace Cert.Proof.ProjClaims

open Idealize.ShloMosaic Idealize.ShloMosaic.TcCoe Idealize.SL.Sem
open Cert.Proof.Weights Cert.Proof.ProjMath Cert.Proof.ProjRef Cert.Proof.ProjArray Cert.Proof.Finite

/-- The precondition read: the inputs and the weights that the turned lanes depend on are real numbers. -/
theorem real_args (m : (ℓ : Loc Cert.ProjIdeal.nD Cert.ProjIdeal.τ Cert.ProjIdeal.sig) → Buf (Elt Ideal) ℓ) (hpre : Pre_ProjIdeal_proj_finite m) (c : Dev Cert.ProjIdeal.nD) :
    Params.Finite (args m c) ∧ ∀ i, Real? (m (c, Cert.ProjIdeal.main_arg0) i) := by
  have e := congrFun (hpre c) (fun a => a.elim0)
  haveI : Subsingleton Cert.Pre_proj_finite.S_.Idx := ⟨fun a b => funext fun k => k.elim0⟩
  unfold Cert.Pre_proj_finite.fn Cert.Pre_proj_finite.fn_part1 Cert.Pre_proj_finite.fn_part2 at e
  obtain ⟨e, e9⟩ := (andi_one _ _).mp e
  obtain ⟨e, e8⟩ := (andi_one _ _).mp e
  obtain ⟨e, e7⟩ := (andi_one _ _).mp e
  obtain ⟨e, e6⟩ := (andi_one _ _).mp e
  obtain ⟨e, e5⟩ := (andi_one _ _).mp e
  obtain ⟨e, e4⟩ := (andi_one _ _).mp e
  obtain ⟨e, e3⟩ := (andi_one _ _).mp e
  obtain ⟨e, e2⟩ := (andi_one _ _).mp e
  obtain ⟨e0, e1⟩ := (andi_one _ _).mp e
  refine ⟨⟨fun j => ?_, fun k j => ?_, fun k j => ?_, fun k j => ?_, fun j => ?_, fun j => ?_, fun k j => ?_, fun j => ?_, fun k n l => ?_⟩, all_real' _ _ (fun _ => rfl) _ _ _ _ e0⟩
  · exact all_real' _ _ (fun _ => rfl) _ _ _ _ e1 _
  · exact all_real' _ _ (fun _ => rfl) _ _ _ _ e2 _
  · exact all_real' _ _ (fun _ => rfl) _ _ _ _ e3 _
  · exact all_real' _ _ (fun _ => rfl) _ _ _ _ e4 _
  · exact all_real' _ _ (fun _ => rfl) _ _ _ _ e5 _
  · exact all_real' _ _ (fun _ => rfl) _ _ _ _ e6 _
  · exact all_real' _ _ (fun _ => rfl) _ _ _ _ e7 _
  · exact all_real' _ _ (fun _ => rfl) _ _ _ _ e8 _
  · exact all_real' _ _ (fun _ => rfl) _ _ _ _ e9 _

/-- The kernel runs at the chip's own floats, leaves its arguments as they were and every counter at zero. -/
theorem frame_kernel : Cert.quiescent_Proj := fun m ρ _ => Cert.Proj.Gen.frame m ρ

/-- The same of the kernel over the reals. -/
theorem frame_ideal : Cert.quiescent_ProjIdeal := fun m ρ _ => Cert.ProjIdeal.Gen.frame m ρ
theorem frame_ideal_pre : Cert.quiescent_ProjIdeal_pre_proj_finite := fun m ρ _ => Cert.ProjIdeal.Gen.frame m ρ

/-- The same of the reference over the reals: it has no counters. -/
theorem frame_ref : Cert.quiescent_ProjRefIdeal := fun m ρ _ =>
  (θ_run Cert.ProjRefIdeal.defs _ _).mono (fun r h => ⟨fun c => (h c).2.2.2.2.2.2.2, sem_eq_zero_of_no_sems (by decide) r.2⟩)
    (Cert.ProjRefIdeal.Value.run (F := Ideal) m ρ)
theorem frame_ref_pre : Cert.quiescent_ProjRefIdeal_pre_proj_finite := fun m ρ _ => frame_ref m ρ trivial

/-- The stage's weights in the reference's arguments. -/
abbrev argsRef (m' : (ℓ : Loc Cert.ProjRefIdeal.nD Cert.ProjRefIdeal.τ Cert.ProjRefIdeal.sig) → Buf (Elt Ideal) ℓ) (c : Dev Cert.ProjRefIdeal.nD) : ProjModel.Params := paramsOf (m' (c, Cert.ProjRefIdeal.main_arg1)) (m' (c, Cert.ProjRefIdeal.main_arg2)) (m' (c, Cert.ProjRefIdeal.main_arg3)) (m' (c, Cert.ProjRefIdeal.main_arg4)) (m' (c, Cert.ProjRefIdeal.main_arg5)) (m' (c, Cert.ProjRefIdeal.main_arg6)) (m' (c, Cert.ProjRefIdeal.main_arg7)) (m' (c, Cert.ProjRefIdeal.main_arg8)) (m' (c, Cert.ProjRefIdeal.main_arg9)) (m' (c, Cert.ProjRefIdeal.main_arg10)) (m' (c, Cert.ProjRefIdeal.main_arg11))

section
variable (m' : (ℓ : Loc Cert.ProjRefIdeal.nD Cert.ProjRefIdeal.τ Cert.ProjRefIdeal.sig) → Buf (Elt Ideal) ℓ) (c : Dev Cert.ProjRefIdeal.nD)

/-! The reference's results, of its own arguments. -/

theorem ref0 : Cert.ProjRefIdeal.Read.val_main_v33 (F := Ideal) (m' (c, Cert.ProjRefIdeal.main_arg0)) (m' (c, Cert.ProjRefIdeal.main_arg1)) (m' (c, Cert.ProjRefIdeal.main_arg2)) (m' (c, Cert.ProjRefIdeal.main_arg3)) (m' (c, Cert.ProjRefIdeal.main_arg4)) (m' (c, Cert.ProjRefIdeal.main_arg5)) = res0 (argsRef m' c) (m' (c, Cert.ProjRefIdeal.main_arg0)) := v33_eq (m' (c, Cert.ProjRefIdeal.main_arg0)) (m' (c, Cert.ProjRefIdeal.main_arg1)) (m' (c, Cert.ProjRefIdeal.main_arg2)) (m' (c, Cert.ProjRefIdeal.main_arg3)) (m' (c, Cert.ProjRefIdeal.main_arg4)) (m' (c, Cert.ProjRefIdeal.main_arg5)) (m' (c, Cert.ProjRefIdeal.main_arg6)) (m' (c, Cert.ProjRefIdeal.main_arg7)) (m' (c, Cert.ProjRefIdeal.main_arg8)) (m' (c, Cert.ProjRefIdeal.main_arg9)) (m' (c, Cert.ProjRefIdeal.main_arg10)) (m' (c, Cert.ProjRefIdeal.main_arg11))
theorem ref1 : Cert.ProjRefIdeal.Read.val_main_v166 (F := Ideal) (m' (c, Cert.ProjRefIdeal.main_arg0)) (m' (c, Cert.ProjRefIdeal.main_arg1)) (m' (c, Cert.ProjRefIdeal.main_arg2)) (m' (c, Cert.ProjRefIdeal.main_arg3)) (m' (c, Cert.ProjRefIdeal.main_arg4)) (m' (c, Cert.ProjRefIdeal.main_arg5)) (m' (c, Cert.ProjRefIdeal.main_arg6)) (m' (c, Cert.ProjRefIdeal.main_arg7)) = res1 (argsRef m' c) (m' (c, Cert.ProjRefIdeal.main_arg0)) := v166_eq (m' (c, Cert.ProjRefIdeal.main_arg0)) (m' (c, Cert.ProjRefIdeal.main_arg1)) (m' (c, Cert.ProjRefIdeal.main_arg2)) (m' (c, Cert.ProjRefIdeal.main_arg3)) (m' (c, Cert.ProjRefIdeal.main_arg4)) (m' (c, Cert.ProjRefIdeal.main_arg5)) (m' (c, Cert.ProjRefIdeal.main_arg6)) (m' (c, Cert.ProjRefIdeal.main_arg7)) (m' (c, Cert.ProjRefIdeal.main_arg8)) (m' (c, Cert.ProjRefIdeal.main_arg9)) (m' (c, Cert.ProjRefIdeal.main_arg10)) (m' (c, Cert.ProjRefIdeal.main_arg11))
theorem ref2 : Cert.ProjRefIdeal.Read.val_main_v167 (F := Ideal) (m' (c, Cert.ProjRefIdeal.main_arg0)) (m' (c, Cert.ProjRefIdeal.main_arg1)) (m' (c, Cert.ProjRefIdeal.main_arg2)) (m' (c, Cert.ProjRefIdeal.main_arg3)) (m' (c, Cert.ProjRefIdeal.main_arg4)) (m' (c, Cert.ProjRefIdeal.main_arg5)) (m' (c, Cert.ProjRefIdeal.main_arg6)) (m' (c, Cert.ProjRefIdeal.main_arg7)) = res2 (argsRef m' c) (m' (c, Cert.ProjRefIdeal.main_arg0)) := v167_eq (m' (c, Cert.ProjRefIdeal.main_arg0)) (m' (c, Cert.ProjRefIdeal.main_arg1)) (m' (c, Cert.ProjRefIdeal.main_arg2)) (m' (c, Cert.ProjRefIdeal.main_arg3)) (m' (c, Cert.ProjRefIdeal.main_arg4)) (m' (c, Cert.ProjRefIdeal.main_arg5)) (m' (c, Cert.ProjRefIdeal.main_arg6)) (m' (c, Cert.ProjRefIdeal.main_arg7)) (m' (c, Cert.ProjRefIdeal.main_arg8)) (m' (c, Cert.ProjRefIdeal.main_arg9)) (m' (c, Cert.ProjRefIdeal.main_arg10)) (m' (c, Cert.ProjRefIdeal.main_arg11))
theorem ref3 : Cert.ProjRefIdeal.Read.val_main_v168 (F := Ideal) (m' (c, Cert.ProjRefIdeal.main_arg0)) (m' (c, Cert.ProjRefIdeal.main_arg1)) (m' (c, Cert.ProjRefIdeal.main_arg2)) (m' (c, Cert.ProjRefIdeal.main_arg3)) (m' (c, Cert.ProjRefIdeal.main_arg4)) (m' (c, Cert.ProjRefIdeal.main_arg5)) (m' (c, Cert.ProjRefIdeal.main_arg6)) (m' (c, Cert.ProjRefIdeal.main_arg7)) = res3 (argsRef m' c) (m' (c, Cert.ProjRefIdeal.main_arg0)) := v168_eq (m' (c, Cert.ProjRefIdeal.main_arg0)) (m' (c, Cert.ProjRefIdeal.main_arg1)) (m' (c, Cert.ProjRefIdeal.main_arg2)) (m' (c, Cert.ProjRefIdeal.main_arg3)) (m' (c, Cert.ProjRefIdeal.main_arg4)) (m' (c, Cert.ProjRefIdeal.main_arg5)) (m' (c, Cert.ProjRefIdeal.main_arg6)) (m' (c, Cert.ProjRefIdeal.main_arg7)) (m' (c, Cert.ProjRefIdeal.main_arg8)) (m' (c, Cert.ProjRefIdeal.main_arg9)) (m' (c, Cert.ProjRefIdeal.main_arg10)) (m' (c, Cert.ProjRefIdeal.main_arg11))
theorem ref4 : Cert.ProjRefIdeal.Read.val_main_v170 (F := Ideal) (m' (c, Cert.ProjRefIdeal.main_arg0)) (m' (c, Cert.ProjRefIdeal.main_arg1)) (m' (c, Cert.ProjRefIdeal.main_arg2)) (m' (c, Cert.ProjRefIdeal.main_arg3)) (m' (c, Cert.ProjRefIdeal.main_arg4)) (m' (c, Cert.ProjRefIdeal.main_arg5)) (m' (c, Cert.ProjRefIdeal.main_arg6)) (m' (c, Cert.ProjRefIdeal.main_arg7)) (m' (c, Cert.ProjRefIdeal.main_arg8)) (m' (c, Cert.ProjRefIdeal.main_arg9)) = res4 (argsRef m' c) (m' (c, Cert.ProjRefIdeal.main_arg0)) := v170_eq (m' (c, Cert.ProjRefIdeal.main_arg0)) (m' (c, Cert.ProjRefIdeal.main_arg1)) (m' (c, Cert.ProjRefIdeal.main_arg2)) (m' (c, Cert.ProjRefIdeal.main_arg3)) (m' (c, Cert.ProjRefIdeal.main_arg4)) (m' (c, Cert.ProjRefIdeal.main_arg5)) (m' (c, Cert.ProjRefIdeal.main_arg6)) (m' (c, Cert.ProjRefIdeal.main_arg7)) (m' (c, Cert.ProjRefIdeal.main_arg8)) (m' (c, Cert.ProjRefIdeal.main_arg9)) (m' (c, Cert.ProjRefIdeal.main_arg10)) (m' (c, Cert.ProjRefIdeal.main_arg11))
theorem ref5 : Cert.ProjRefIdeal.Read.val_main_v172 (F := Ideal) (m' (c, Cert.ProjRefIdeal.main_arg0)) (m' (c, Cert.ProjRefIdeal.main_arg1)) (m' (c, Cert.ProjRefIdeal.main_arg2)) (m' (c, Cert.ProjRefIdeal.main_arg3)) (m' (c, Cert.ProjRefIdeal.main_arg4)) (m' (c, Cert.ProjRefIdeal.main_arg5)) (m' (c, Cert.ProjRefIdeal.main_arg6)) (m' (c, Cert.ProjRefIdeal.main_arg7)) (m' (c, Cert.ProjRefIdeal.main_arg10)) (m' (c, Cert.ProjRefIdeal.main_arg11)) = res5 (argsRef m' c) (m' (c, Cert.ProjRefIdeal.main_arg0)) := v172_eq (m' (c, Cert.ProjRefIdeal.main_arg0)) (m' (c, Cert.ProjRefIdeal.main_arg1)) (m' (c, Cert.ProjRefIdeal.main_arg2)) (m' (c, Cert.ProjRefIdeal.main_arg3)) (m' (c, Cert.ProjRefIdeal.main_arg4)) (m' (c, Cert.ProjRefIdeal.main_arg5)) (m' (c, Cert.ProjRefIdeal.main_arg6)) (m' (c, Cert.ProjRefIdeal.main_arg7)) (m' (c, Cert.ProjRefIdeal.main_arg8)) (m' (c, Cert.ProjRefIdeal.main_arg9)) (m' (c, Cert.ProjRefIdeal.main_arg10)) (m' (c, Cert.ProjRefIdeal.main_arg11))
theorem ref6 : Cert.ProjRefIdeal.Read.val_main_v175 (F := Ideal) (m' (c, Cert.ProjRefIdeal.main_arg0)) (m' (c, Cert.ProjRefIdeal.main_arg1)) (m' (c, Cert.ProjRefIdeal.main_arg2)) (m' (c, Cert.ProjRefIdeal.main_arg3)) (m' (c, Cert.ProjRefIdeal.main_arg4)) (m' (c, Cert.ProjRefIdeal.main_arg5)) (m' (c, Cert.ProjRefIdeal.main_arg6)) (m' (c, Cert.ProjRefIdeal.main_arg7)) (m' (c, Cert.ProjRefIdeal.main_arg10)) (m' (c, Cert.ProjRefIdeal.main_arg11)) = res6 (argsRef m' c) (m' (c, Cert.ProjRefIdeal.main_arg0)) := v175_eq (m' (c, Cert.ProjRefIdeal.main_arg0)) (m' (c, Cert.ProjRefIdeal.main_arg1)) (m' (c, Cert.ProjRefIdeal.main_arg2)) (m' (c, Cert.ProjRefIdeal.main_arg3)) (m' (c, Cert.ProjRefIdeal.main_arg4)) (m' (c, Cert.ProjRefIdeal.main_arg5)) (m' (c, Cert.ProjRefIdeal.main_arg6)) (m' (c, Cert.ProjRefIdeal.main_arg7)) (m' (c, Cert.ProjRefIdeal.main_arg8)) (m' (c, Cert.ProjRefIdeal.main_arg9)) (m' (c, Cert.ProjRefIdeal.main_arg10)) (m' (c, Cert.ProjRefIdeal.main_arg11))
end

/-- Equal arguments hold equal weights. -/
theorem args_eq (m : (ℓ : Loc Cert.ProjIdeal.nD Cert.ProjIdeal.τ Cert.ProjIdeal.sig) → Buf (Elt Ideal) ℓ) (m' : (ℓ : Loc Cert.ProjRefIdeal.nD Cert.ProjRefIdeal.τ Cert.ProjRefIdeal.sig) → Buf (Elt Ideal) ℓ) (c : Dev Cert.ProjIdeal.nD)
    (a1 : m' (c, Cert.ProjRefIdeal.main_arg1) = m (c, Cert.ProjIdeal.main_arg1)) (a2 : m' (c, Cert.ProjRefIdeal.main_arg2) = m (c, Cert.ProjIdeal.main_arg2)) (a3 : m' (c, Cert.ProjRefIdeal.main_arg3) = m (c, Cert.ProjIdeal.main_arg3)) (a4 : m' (c, Cert.ProjRefIdeal.main_arg4) = m (c, Cert.ProjIdeal.main_arg4)) (a5 : m' (c, Cert.ProjRefIdeal.main_arg5) = m (c, Cert.ProjIdeal.main_arg5)) (a6 : m' (c, Cert.ProjRefIdeal.main_arg6) = m (c, Cert.ProjIdeal.main_arg6)) (a7 : m' (c, Cert.ProjRefIdeal.main_arg7) = m (c, Cert.ProjIdeal.main_arg7)) (a8 : m' (c, Cert.ProjRefIdeal.main_arg8) = m (c, Cert.ProjIdeal.main_arg8)) (a9 : m' (c, Cert.ProjRefIdeal.main_arg9) = m (c, Cert.ProjIdeal.main_arg9)) (a10 : m' (c, Cert.ProjRefIdeal.main_arg10) = m (c, Cert.ProjIdeal.main_arg10)) (a11 : m' (c, Cert.ProjRefIdeal.main_arg11) = m (c, Cert.ProjIdeal.main_arg11)) : argsRef m' c = args m c := by
  unfold argsRef args
  rw [a1, a2, a3, a4, a5, a6, a7, a8, a9, a10, a11]

/-- From equal arguments, with finite inputs and weights (the latent keys' own weights may be anything), kernel and reference end
    with the same seven results: the row after the feed-forward, and both attentions' queries, keys and values. -/
theorem algebraic : Cert.algebraic_ProjIdeal_ProjRefIdeal_pre_proj_finite := by
  intro m ρ m' ρ' hpre hag
  refine ⟨fun c => res0 (args m c) (m (c, Cert.ProjIdeal.main_arg0)), fun c => res1 (args m c) (m (c, Cert.ProjIdeal.main_arg0)), fun c => res2 (args m c) (m (c, Cert.ProjIdeal.main_arg0)), fun c => res3 (args m c) (m (c, Cert.ProjIdeal.main_arg0)), fun c => res4 (args m c) (m (c, Cert.ProjIdeal.main_arg0)), fun c => res5 (args m c) (m (c, Cert.ProjIdeal.main_arg0)), fun c => res6 (args m c) (m (c, Cert.ProjIdeal.main_arg0)), ?_, ?_⟩
  · refine (θ_run Cert.ProjIdeal.defs _ _).mono (fun r h c => ?_) (Cert.ProjIdeal.Value.run_blocks m ρ)
    obtain ⟨h0, h1, h2, h3, h4, h5, h6, ha⟩ := h c
    obtain ⟨hf, hx⟩ := real_args m hpre c
    exact ⟨h0.trans (arr14 m c), h1.trans (arr15 m c), h2.trans (arr16 m c), h3.trans (arr17 m c), h4.trans (arr18 m c hf hx), h5.trans (arr19 m c hf hx), h6.trans (arr20 m c), ha⟩
  · refine (θ_run Cert.ProjRefIdeal.defs _ _).mono (fun r h c => ?_) (Cert.ProjRefIdeal.Value.run (F := Ideal) m' ρ')
    obtain ⟨h0, h1, h2, h3, h4, h5, h6, ha⟩ := h c
    obtain ⟨a0, a1, a2, a3, a4, a5, a6, a7, a8, a9, a10, a11⟩ := hag c
    have e := args_eq m m' c a1 a2 a3 a4 a5 a6 a7 a8 a9 a10 a11
    refine ⟨h0.trans ((Cert.ProjRefIdeal.Read.val_main_v33_eq _).trans ((ref0 m' c).trans ?_)), h1.trans ((Cert.ProjRefIdeal.Read.val_main_v166_eq _).trans ((ref1 m' c).trans ?_)),
      h2.trans ((Cert.ProjRefIdeal.Read.val_main_v167_eq _).trans ((ref2 m' c).trans ?_)), h3.trans ((Cert.ProjRefIdeal.Read.val_main_v168_eq _).trans ((ref3 m' c).trans ?_)),
      h4.trans ((Cert.ProjRefIdeal.Read.val_main_v170_eq _).trans ((ref4 m' c).trans ?_)), h5.trans ((Cert.ProjRefIdeal.Read.val_main_v172_eq _).trans ((ref5 m' c).trans ?_)),
      h6.trans ((Cert.ProjRefIdeal.Read.val_main_v175_eq _).trans ((ref6 m' c).trans ?_)), ha⟩
    · exact (congrArg (fun W => res0 W _) e).trans (congrArg (res0 _) a0)
    · exact (congrArg (fun W => res1 W _) e).trans (congrArg (res1 _) a0)
    · exact (congrArg (fun W => res2 W _) e).trans (congrArg (res2 _) a0)
    · exact (congrArg (fun W => res3 W _) e).trans (congrArg (res3 _) a0)
    · exact (congrArg (fun W => res4 W _) e).trans (congrArg (res4 _) a0)
    · exact (congrArg (fun W => res5 W _) e).trans (congrArg (res5 _) a0)
    · exact (congrArg (fun W => res6 W _) e).trans (congrArg (res6 _) a0)

end Cert.Proof.ProjClaims

end
-- ==== Proof.lean ====
module

public import proofs.«01_k».proof.Defs
public import proofs.«01_k».proof.Proof.Gen.Mla
public import proofs.«01_k».proof.Proof.Gen.Mla.Skeleton
public import proofs.«01_k».proof.Proof.Gen.Mla.Launch
public import proofs.«01_k».proof.Proof.Gen.Mla.Points
public import proofs.«01_k».proof.Proof.Gen.Mla.Frame
public import proofs.«01_k».proof.Proof.Gen.MlaIdeal
public import proofs.«01_k».proof.Proof.Gen.MlaIdeal.Skeleton
public import proofs.«01_k».proof.Proof.Gen.MlaIdeal.Launch
public import proofs.«01_k».proof.Proof.Gen.MlaIdeal.Points
public import proofs.«01_k».proof.Proof.Gen.MlaIdeal.Frame
public import proofs.«01_k».proof.Proof.Gen.MlaRefIdeal
public import proofs.«01_k».proof.Proof.Gen.Sb
public import proofs.«01_k».proof.Proof.Gen.Sb.Skeleton
public import proofs.«01_k».proof.Proof.Gen.Sb.Launch
public import proofs.«01_k».proof.Proof.Gen.Sb.Points
public import proofs.«01_k».proof.Proof.Gen.Sb.Frame
public import proofs.«01_k».proof.Proof.Gen.SbIdeal
public import proofs.«01_k».proof.Proof.Gen.SbIdeal.Skeleton
public import proofs.«01_k».proof.Proof.Gen.SbIdeal.Launch
public import proofs.«01_k».proof.Proof.Gen.SbIdeal.Points
public import proofs.«01_k».proof.Proof.Gen.SbIdeal.Frame
public import proofs.«01_k».proof.Proof.Gen.SbRefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.Pre_mla_finite
public import proofs.«01_k».proof.Proof.Gen.Pre_proj_finite
public import proofs.«01_k».proof.Proof.Gen.Pre_sb_finite
public import proofs.«01_k».proof.Proof.Gen.MlaIdeal.Value
public import proofs.«01_k».proof.Proof.Gen.MlaRefIdeal.Run
public import proofs.«01_k».proof.Proof.Gen.MlaRefIdeal.Read
public import proofs.«01_k».proof.Proof.Gen.SbIdeal.Value
public import proofs.«01_k».proof.Proof.Gen.SbRefIdeal.Run
public import proofs.«01_k».proof.Proof.Gen.SbRefIdeal.Read
public import proofs.«01_k».proof.Proof.Gen.MergeIdeal.Value
public import proofs.«01_k».proof.Proof.Gen.MergeRefIdeal.Run
public import proofs.«01_k».proof.Proof.Gen.MergeRefIdeal.Read
public import proofs.«01_k».proof.Proof.Gen.ProjIdeal.Value
public import proofs.«01_k».proof.Proof.Gen.ProjRefIdeal.Run
public import proofs.«01_k».proof.Proof.Gen.ProjRefIdeal.Read
public import proofs.«01_k».proof.Proof.MlaClaims
public import proofs.«01_k».proof.Proof.SbClaims
public import proofs.«01_k».proof.Proof.MergeClaims
public import proofs.«01_k».proof.Proof.ProjClaims
public import Idealize.ShloMosaic.Adequacy
public import Idealize.ShloMosaic.Init

@[expose] public section

noncomputable section

namespace Cert.Proof

open Idealize.ShloMosaic Idealize.SL.Sem Cert.Mla

/-- Every claim about the four calls: the frames, the named constants, and the values. -/
theorem claim : Cert.Claim := ⟨Cert.Mla.Gen.facts, Cert.MlaIdeal.Gen.facts, Cert.MlaRefIdeal.Gen.facts, Cert.Sb.Gen.facts, Cert.SbIdeal.Gen.facts, Cert.SbRefIdeal.Gen.facts, Cert.Merge.Gen.facts, Cert.MergeIdeal.Gen.facts, Cert.MergeRefIdeal.Gen.facts, Cert.Proj.Gen.facts, Cert.ProjIdeal.Gen.facts, Cert.ProjRefIdeal.Gen.facts, Cert.Pre_mla_finite.Gen.facts, Cert.Pre_sb_finite.Gen.facts, Cert.Pre_proj_finite.Gen.facts,
  MlaClaims.frame_kernel, MlaClaims.frame_ideal, MlaClaims.frame_ideal_pre, MlaClaims.frame_ref, MlaClaims.frame_ref_pre,
  SbClaims.frame_kernel, SbClaims.frame_ideal, SbClaims.frame_ideal_pre, SbClaims.frame_ref, SbClaims.frame_ref_pre,
  MergeClaims.frame_kernel, MergeClaims.frame_ideal, MergeClaims.frame_ref,
  ProjClaims.frame_kernel, ProjClaims.frame_ideal, ProjClaims.frame_ideal_pre, ProjClaims.frame_ref, ProjClaims.frame_ref_pre,
  MlaClaims.preserves, MlaClaims.algebraic,
  SbClaims.preserves, SbClaims.algebraic, trivial, MergeClaims.algebraic, trivial, ProjClaims.algebraic⟩

end Cert.Proof

end
